-- ==== Defs.lean ====
def Pre_KernelLast (m : (ℓ : Loc Cert.KernelLast.nD Cert.KernelLast.τ Cert.KernelLast.sig) → Buf (Elt Bits) ℓ) : Prop :=
  True

def Pre_KernelLastIdeal (m : (ℓ : Loc Cert.KernelLastIdeal.nD Cert.KernelLastIdeal.τ Cert.KernelLastIdeal.sig) → Buf (Elt Ideal) ℓ) : Prop :=
  True

def Pre_ReferenceLastIdeal (m : (ℓ : Loc Cert.ReferenceLastIdeal.nD Cert.ReferenceLastIdeal.τ Cert.ReferenceLastIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelSgu (m : (ℓ : Loc Cert.KernelSgu.nD Cert.KernelSgu.τ Cert.KernelSgu.sig) → Buf (Elt Bits) ℓ) : Prop :=
  True

def Pre_KernelSguIdeal (m : (ℓ : Loc Cert.KernelSguIdeal.nD Cert.KernelSguIdeal.τ Cert.KernelSguIdeal.sig) → Buf (Elt Ideal) ℓ) : Prop :=
  True

def Pre_ReferenceSguIdeal (m : (ℓ : Loc Cert.ReferenceSguIdeal.nD Cert.ReferenceSguIdeal.τ Cert.ReferenceSguIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelLastSample (m : (ℓ : Loc Cert.KernelLastSample.nD Cert.KernelLastSample.τ Cert.KernelLastSample.sig) → Buf (Elt Bits) ℓ) : Prop :=
  True

def Pre_KernelLastSampleIdeal (m : (ℓ : Loc Cert.KernelLastSampleIdeal.nD Cert.KernelLastSampleIdeal.τ Cert.KernelLastSampleIdeal.sig) → Buf (Elt Ideal) ℓ) : Prop :=
  True

def Pre_ReferenceLastSampleIdeal (m : (ℓ : Loc Cert.ReferenceLastSampleIdeal.nD Cert.ReferenceLastSampleIdeal.τ Cert.ReferenceLastSampleIdeal.sig) → Buf (Elt Ideal) ℓ) : Prop :=
  True

def Pre_KernelSguSample (m : (ℓ : Loc Cert.KernelSguSample.nD Cert.KernelSguSample.τ Cert.KernelSguSample.sig) → Buf (Elt Bits) ℓ) : Prop :=
  True

def Pre_KernelSguSampleIdeal (m : (ℓ : Loc Cert.KernelSguSampleIdeal.nD Cert.KernelSguSampleIdeal.τ Cert.KernelSguSampleIdeal.sig) → Buf (Elt Ideal) ℓ) : Prop :=
  True

def Pre_ReferenceSguSampleIdeal (m : (ℓ : Loc Cert.ReferenceSguSampleIdeal.nD Cert.ReferenceSguSampleIdeal.τ Cert.ReferenceSguSampleIdeal.sig) → Buf (Elt Ideal) ℓ) : Prop :=
  True

def Pre_KernelQkvSample (m : (ℓ : Loc Cert.KernelQkvSample.nD Cert.KernelQkvSample.τ Cert.KernelQkvSample.sig) → Buf (Elt Bits) ℓ) : Prop :=
  True

def Pre_KernelQkvSampleIdeal (m : (ℓ : Loc Cert.KernelQkvSampleIdeal.nD Cert.KernelQkvSampleIdeal.τ Cert.KernelQkvSampleIdeal.sig) → Buf (Elt Ideal) ℓ) : Prop :=
  True

def Pre_ReferenceQkvSampleIdeal (m : (ℓ : Loc Cert.ReferenceQkvSampleIdeal.nD Cert.ReferenceQkvSampleIdeal.τ Cert.ReferenceQkvSampleIdeal.sig) → Buf (Elt Ideal) ℓ) : Prop :=
  True

def Pre_KernelMla (m : (ℓ : Loc Cert.KernelMla.nD Cert.KernelMla.τ Cert.KernelMla.sig) → Buf (Elt Bits) ℓ) : Prop :=
  True

def Pre_KernelMlaIdeal (m : (ℓ : Loc Cert.KernelMlaIdeal.nD Cert.KernelMlaIdeal.τ Cert.KernelMlaIdeal.sig) → Buf (Elt Ideal) ℓ) : Prop :=
  True

def Pre_ReferenceMlaIdeal (m : (ℓ : Loc Cert.ReferenceMlaIdeal.nD Cert.ReferenceMlaIdeal.τ Cert.ReferenceMlaIdeal.sig) → Buf (Elt Ideal) ℓ) : Prop :=
  True

def Pre_KernelMlaSample (m : (ℓ : Loc Cert.KernelMlaSample.nD Cert.KernelMlaSample.τ Cert.KernelMlaSample.sig) → Buf (Elt Bits) ℓ) : Prop :=
  True

def Pre_KernelMlaSampleIdeal (m : (ℓ : Loc Cert.KernelMlaSampleIdeal.nD Cert.KernelMlaSampleIdeal.τ Cert.KernelMlaSampleIdeal.sig) → Buf (Elt Ideal) ℓ) : Prop :=
  True

def Pre_ReferenceMlaSampleIdeal (m : (ℓ : Loc Cert.ReferenceMlaSampleIdeal.nD Cert.ReferenceMlaSampleIdeal.τ Cert.ReferenceMlaSampleIdeal.sig) → Buf (Elt Ideal) ℓ) : Prop :=
  True

def quiescent_KernelLast [hKernelLast : Cert.KernelLast.Facts] : Prop :=
  ∀ (m : (ℓ : Loc Cert.KernelLast.nD Cert.KernelLast.τ Cert.KernelLast.sig) → Buf (Elt Bits) ℓ) (g : Dev Cert.KernelLast.nD → PrngReg), Pre_KernelLast m →
    θ_run (Cert.KernelLast.defs (F := Bits)) (onTc (τ := Cert.KernelLast.τ) (Cert.KernelLast.main (F := Bits))) ⟨m, fun _ => 0, g⟩ (fun r => (∀ c : Dev Cert.KernelLast.nD,
      r.2.mem ((c.tc : Thread Cert.KernelLast.nD Cert.KernelLast.τ).loc Cert.KernelLast.main_arg0) = m ((c.tc : Thread Cert.KernelLast.nD Cert.KernelLast.τ).loc Cert.KernelLast.main_arg0)
      ∧ r.2.mem ((c.tc : Thread Cert.KernelLast.nD Cert.KernelLast.τ).loc Cert.KernelLast.main_arg1) = m ((c.tc : Thread Cert.KernelLast.nD Cert.KernelLast.τ).loc Cert.KernelLast.main_arg1)
      ∧ r.2.mem ((c.tc : Thread Cert.KernelLast.nD Cert.KernelLast.τ).loc Cert.KernelLast.main_arg2) = m ((c.tc : Thread Cert.KernelLast.nD Cert.KernelLast.τ).loc Cert.KernelLast.main_arg2)
      ∧ r.2.mem ((c.tc : Thread Cert.KernelLast.nD Cert.KernelLast.τ).loc Cert.KernelLast.main_arg3) = m ((c.tc : Thread Cert.KernelLast.nD Cert.KernelLast.τ).loc Cert.KernelLast.main_arg3)
      ∧ r.2.mem ((c.tc : Thread Cert.KernelLast.nD Cert.KernelLast.τ).loc Cert.KernelLast.main_arg4) = m ((c.tc : Thread Cert.KernelLast.nD Cert.KernelLast.τ).loc Cert.KernelLast.main_arg4)
      ∧ r.2.mem ((c.tc : Thread Cert.KernelLast.nD Cert.KernelLast.τ).loc Cert.KernelLast.main_arg5) = m ((c.tc : Thread Cert.KernelLast.nD Cert.KernelLast.τ).loc Cert.KernelLast.main_arg5)
      ∧ r.2.mem ((c.tc : Thread Cert.KernelLast.nD Cert.KernelLast.τ).loc Cert.KernelLast.main_arg6) = m ((c.tc : Thread Cert.KernelLast.nD Cert.KernelLast.τ).loc Cert.KernelLast.main_arg6)
      ∧ r.2.mem ((c.tc : Thread Cert.KernelLast.nD Cert.KernelLast.τ).loc Cert.KernelLast.main_arg7) = m ((c.tc : Thread Cert.KernelLast.nD Cert.KernelLast.τ).loc Cert.KernelLast.main_arg7))
      ∧ r.2.sem = fun _ => 0)

def quiescent_KernelLastIdeal [hKernelLastIdeal : Cert.KernelLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
      ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
      ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3)
      ∧ r.2.mem ((c.tc : Thread Cert.KernelLastIdeal.nD Cert.KernelLastIdeal.τ).loc Cert.KernelLastIdeal.main_arg4) = m ((c.tc : Thread Cert.KernelLastIdeal.nD Cert.KernelLastIdeal.τ).loc Cert.KernelLastIdeal.main_arg4)
      ∧ r.2.mem ((c.tc : Thread Cert.KernelLastIdeal.nD Cert.KernelLastIdeal.τ).loc Cert.KernelLastIdeal.main_arg5) = m ((c.tc : Thread Cert.KernelLastIdeal.nD Cert.KernelLastIdeal.τ).loc Cert.KernelLastIdeal.main_arg5)
      ∧ r.2.mem ((c.tc : Thread Cert.KernelLastIdeal.nD Cert.KernelLastIdeal.τ).loc Cert.KernelLastIdeal.main_arg6) = m ((c.tc : Thread Cert.KernelLastIdeal.nD Cert.KernelLastIdeal.τ).loc Cert.KernelLastIdeal.main_arg6)
      ∧ r.2.mem ((c.tc : Thread Cert.KernelLastIdeal.nD Cert.KernelLastIdeal.τ).loc Cert.KernelLastIdeal.main_arg7) = m ((c.tc : Thread Cert.KernelLastIdeal.nD Cert.KernelLastIdeal.τ).loc Cert.KernelLastIdeal.main_arg7))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1)
      ∧ r.2.mem ((c.tc : Thread Cert.ReferenceLastIdeal.nD Cert.ReferenceLastIdeal.τ).loc Cert.ReferenceLastIdeal.main_arg2) = m ((c.tc : Thread Cert.ReferenceLastIdeal.nD Cert.ReferenceLastIdeal.τ).loc Cert.ReferenceLastIdeal.main_arg2)
      ∧ r.2.mem ((c.tc : Thread Cert.ReferenceLastIdeal.nD Cert.ReferenceLastIdeal.τ).loc Cert.ReferenceLastIdeal.main_arg3) = m ((c.tc : Thread Cert.ReferenceLastIdeal.nD Cert.ReferenceLastIdeal.τ).loc Cert.ReferenceLastIdeal.main_arg3)
      ∧ r.2.mem ((c.tc : Thread Cert.ReferenceLastIdeal.nD Cert.ReferenceLastIdeal.τ).loc Cert.ReferenceLastIdeal.main_arg4) = m ((c.tc : Thread Cert.ReferenceLastIdeal.nD Cert.ReferenceLastIdeal.τ).loc Cert.ReferenceLastIdeal.main_arg4)
      ∧ r.2.mem ((c.tc : Thread Cert.ReferenceLastIdeal.nD Cert.ReferenceLastIdeal.τ).loc Cert.ReferenceLastIdeal.main_arg5) = m ((c.tc : Thread Cert.ReferenceLastIdeal.nD Cert.ReferenceLastIdeal.τ).loc Cert.ReferenceLastIdeal.main_arg5)
      ∧ r.2.mem ((c.tc : Thread Cert.ReferenceLastIdeal.nD Cert.ReferenceLastIdeal.τ).loc Cert.ReferenceLastIdeal.main_arg6) = m ((c.tc : Thread Cert.ReferenceLastIdeal.nD Cert.ReferenceLastIdeal.τ).loc Cert.ReferenceLastIdeal.main_arg6)
      ∧ r.2.mem ((c.tc : Thread Cert.ReferenceLastIdeal.nD Cert.ReferenceLastIdeal.τ).loc Cert.ReferenceLastIdeal.main_arg7) = m ((c.tc : Thread Cert.ReferenceLastIdeal.nD Cert.ReferenceLastIdeal.τ).loc Cert.ReferenceLastIdeal.main_arg7))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4)
      ∧ r.2.mem ((c.tc : Thread Cert.KernelProj.nD Cert.KernelProj.τ).loc Cert.KernelProj.main_arg5) = m ((c.tc : Thread Cert.KernelProj.nD Cert.KernelProj.τ).loc Cert.KernelProj.main_arg5)
      ∧ r.2.mem ((c.tc : Thread Cert.KernelProj.nD Cert.KernelProj.τ).loc Cert.KernelProj.main_arg6) = m ((c.tc : Thread Cert.KernelProj.nD Cert.KernelProj.τ).loc Cert.KernelProj.main_arg6)
      ∧ r.2.mem ((c.tc : Thread Cert.KernelProj.nD Cert.KernelProj.τ).loc Cert.KernelProj.main_arg7) = m ((c.tc : Thread Cert.KernelProj.nD Cert.KernelProj.τ).loc Cert.KernelProj.main_arg7)
      ∧ r.2.mem ((c.tc : Thread Cert.KernelProj.nD Cert.KernelProj.τ).loc Cert.KernelProj.main_arg8) = m ((c.tc : Thread Cert.KernelProj.nD Cert.KernelProj.τ).loc Cert.KernelProj.main_arg8)
      ∧ r.2.mem ((c.tc : Thread Cert.KernelProj.nD Cert.KernelProj.τ).loc Cert.KernelProj.main_arg9) = m ((c.tc : Thread Cert.KernelProj.nD Cert.KernelProj.τ).loc Cert.KernelProj.main_arg9)
      ∧ r.2.mem ((c.tc : Thread Cert.KernelProj.nD Cert.KernelProj.τ).loc Cert.KernelProj.main_arg10) = m ((c.tc : Thread Cert.KernelProj.nD Cert.KernelProj.τ).loc Cert.KernelProj.main_arg10))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
      ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
      ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
      ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8)
      ∧ r.2.mem ((c.tc : Thread Cert.KernelProjIdeal.nD Cert.KernelProjIdeal.τ).loc Cert.KernelProjIdeal.main_arg9) = m ((c.tc : Thread Cert.KernelProjIdeal.nD Cert.KernelProjIdeal.τ).loc Cert.KernelProjIdeal.main_arg9)
      ∧ r.2.mem ((c.tc : Thread Cert.KernelProjIdeal.nD Cert.KernelProjIdeal.τ).loc Cert.KernelProjIdeal.main_arg10) = m ((c.tc : Thread Cert.KernelProjIdeal.nD Cert.KernelProjIdeal.τ).loc Cert.KernelProjIdeal.main_arg10))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5)
      ∧ r.2.mem ((c.tc : Thread Cert.ReferenceProjIdeal.nD Cert.ReferenceProjIdeal.τ).loc Cert.ReferenceProjIdeal.main_arg6) = m ((c.tc : Thread Cert.ReferenceProjIdeal.nD Cert.ReferenceProjIdeal.τ).loc Cert.ReferenceProjIdeal.main_arg6)
      ∧ r.2.mem ((c.tc : Thread Cert.ReferenceProjIdeal.nD Cert.ReferenceProjIdeal.τ).loc Cert.ReferenceProjIdeal.main_arg7) = m ((c.tc : Thread Cert.ReferenceProjIdeal.nD Cert.ReferenceProjIdeal.τ).loc Cert.ReferenceProjIdeal.main_arg7)
      ∧ r.2.mem ((c.tc : Thread Cert.ReferenceProjIdeal.nD Cert.ReferenceProjIdeal.τ).loc Cert.ReferenceProjIdeal.main_arg8) = m ((c.tc : Thread Cert.ReferenceProjIdeal.nD Cert.ReferenceProjIdeal.τ).loc Cert.ReferenceProjIdeal.main_arg8)
      ∧ r.2.mem ((c.tc : Thread Cert.ReferenceProjIdeal.nD Cert.ReferenceProjIdeal.τ).loc Cert.ReferenceProjIdeal.main_arg9) = m ((c.tc : Thread Cert.ReferenceProjIdeal.nD Cert.ReferenceProjIdeal.τ).loc Cert.ReferenceProjIdeal.main_arg9)
      ∧ r.2.mem ((c.tc : Thread Cert.ReferenceProjIdeal.nD Cert.ReferenceProjIdeal.τ).loc Cert.ReferenceProjIdeal.main_arg10) = m ((c.tc : Thread Cert.ReferenceProjIdeal.nD Cert.ReferenceProjIdeal.τ).loc Cert.ReferenceProjIdeal.main_arg10))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1)
      ∧ r.2.mem ((c.tc : Thread Cert.KernelGlu.nD Cert.KernelGlu.τ).loc Cert.KernelGlu.main_arg2) = m ((c.tc : Thread Cert.KernelGlu.nD Cert.KernelGlu.τ).loc Cert.KernelGlu.main_arg2)
      ∧ r.2.mem ((c.tc : Thread Cert.KernelGlu.nD Cert.KernelGlu.τ).loc Cert.KernelGlu.main_arg3) = m ((c.tc : Thread Cert.KernelGlu.nD Cert.KernelGlu.τ).loc Cert.KernelGlu.main_arg3)
      ∧ r.2.mem ((c.tc : Thread Cert.KernelGlu.nD Cert.KernelGlu.τ).loc Cert.KernelGlu.main_arg4) = m ((c.tc : Thread Cert.KernelGlu.nD Cert.KernelGlu.τ).loc Cert.KernelGlu.main_arg4)
      ∧ r.2.mem ((c.tc : Thread Cert.KernelGlu.nD Cert.KernelGlu.τ).loc Cert.KernelGlu.main_arg5) = m ((c.tc : Thread Cert.KernelGlu.nD Cert.KernelGlu.τ).loc Cert.KernelGlu.main_arg5)
      ∧ r.2.mem ((c.tc : Thread Cert.KernelGlu.nD Cert.KernelGlu.τ).loc Cert.KernelGlu.main_arg6) = m ((c.tc : Thread Cert.KernelGlu.nD Cert.KernelGlu.τ).loc Cert.KernelGlu.main_arg6)
      ∧ r.2.mem ((c.tc : Thread Cert.KernelGlu.nD Cert.KernelGlu.τ).loc Cert.KernelGlu.main_arg7) = m ((c.tc : Thread Cert.KernelGlu.nD Cert.KernelGlu.τ).loc Cert.KernelGlu.main_arg7)
      ∧ r.2.mem ((c.tc : Thread Cert.KernelGlu.nD Cert.KernelGlu.τ).loc Cert.KernelGlu.main_arg8) = m ((c.tc : Thread Cert.KernelGlu.nD Cert.KernelGlu.τ).loc Cert.KernelGlu.main_arg8)
      ∧ r.2.mem ((c.tc : Thread Cert.KernelGlu.nD Cert.KernelGlu.τ).loc Cert.KernelGlu.main_arg9) = m ((c.tc : Thread Cert.KernelGlu.nD Cert.KernelGlu.τ).loc Cert.KernelGlu.main_arg9)
      ∧ r.2.mem ((c.tc : Thread Cert.KernelGlu.nD Cert.KernelGlu.τ).loc Cert.KernelGlu.main_arg10) = m ((c.tc : Thread Cert.KernelGlu.nD Cert.KernelGlu.τ).loc Cert.KernelGlu.main_arg10)
      ∧ r.2.mem ((c.tc : Thread Cert.KernelGlu.nD Cert.KernelGlu.τ).loc Cert.KernelGlu.main_arg11) = m ((c.tc : Thread Cert.KernelGlu.nD Cert.KernelGlu.τ).loc Cert.KernelGlu.main_arg11)
      ∧ r.2.mem ((c.tc : Thread Cert.KernelGlu.nD Cert.KernelGlu.τ).loc Cert.KernelGlu.main_arg12) = m ((c.tc : Thread Cert.KernelGlu.nD Cert.KernelGlu.τ).loc Cert.KernelGlu.main_arg12)
      ∧ r.2.mem ((c.tc : Thread Cert.KernelGlu.nD Cert.KernelGlu.τ).loc Cert.KernelGlu.main_arg13) = m ((c.tc : Thread Cert.KernelGlu.nD Cert.KernelGlu.τ).loc Cert.KernelGlu.main_arg13))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
      ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
      ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3)
      ∧ r.2.mem ((c.tc : Thread Cert.KernelGluIdeal.nD Cert.KernelGluIdeal.τ).loc Cert.KernelGluIdeal.main_arg4) = m ((c.tc : Thread Cert.KernelGluIdeal.nD Cert.KernelGluIdeal.τ).loc Cert.KernelGluIdeal.main_arg4)
      ∧ r.2.mem ((c.tc : Thread Cert.KernelGluIdeal.nD Cert.KernelGluIdeal.τ).loc Cert.KernelGluIdeal.main_arg5) = m ((c.tc : Thread Cert.KernelGluIdeal.nD Cert.KernelGluIdeal.τ).loc Cert.KernelGluIdeal.main_arg5)
      ∧ r.2.mem ((c.tc : Thread Cert.KernelGluIdeal.nD Cert.KernelGluIdeal.τ).loc Cert.KernelGluIdeal.main_arg6) = m ((c.tc : Thread Cert.KernelGluIdeal.nD Cert.KernelGluIdeal.τ).loc Cert.KernelGluIdeal.main_arg6)
      ∧ r.2.mem ((c.tc : Thread Cert.KernelGluIdeal.nD Cert.KernelGluIdeal.τ).loc Cert.KernelGluIdeal.main_arg7) = m ((c.tc : Thread Cert.KernelGluIdeal.nD Cert.KernelGluIdeal.τ).loc Cert.KernelGluIdeal.main_arg7)
      ∧ r.2.mem ((c.tc : Thread Cert.KernelGluIdeal.nD Cert.KernelGluIdeal.τ).loc Cert.KernelGluIdeal.main_arg8) = m ((c.tc : Thread Cert.KernelGluIdeal.nD Cert.KernelGluIdeal.τ).loc Cert.KernelGluIdeal.main_arg8)
      ∧ r.2.mem ((c.tc : Thread Cert.KernelGluIdeal.nD Cert.KernelGluIdeal.τ).loc Cert.KernelGluIdeal.main_arg9) = m ((c.tc : Thread Cert.KernelGluIdeal.nD Cert.KernelGluIdeal.τ).loc Cert.KernelGluIdeal.main_arg9)
      ∧ r.2.mem ((c.tc : Thread Cert.KernelGluIdeal.nD Cert.KernelGluIdeal.τ).loc Cert.KernelGluIdeal.main_arg10) = m ((c.tc : Thread Cert.KernelGluIdeal.nD Cert.KernelGluIdeal.τ).loc Cert.KernelGluIdeal.main_arg10)
      ∧ r.2.mem ((c.tc : Thread Cert.KernelGluIdeal.nD Cert.KernelGluIdeal.τ).loc Cert.KernelGluIdeal.main_arg11) = m ((c.tc : Thread Cert.KernelGluIdeal.nD Cert.KernelGluIdeal.τ).loc Cert.KernelGluIdeal.main_arg11)
      ∧ r.2.mem ((c.tc : Thread Cert.KernelGluIdeal.nD Cert.KernelGluIdeal.τ).loc Cert.KernelGluIdeal.main_arg12) = m ((c.tc : Thread Cert.KernelGluIdeal.nD Cert.KernelGluIdeal.τ).loc Cert.KernelGluIdeal.main_arg12)
      ∧ r.2.mem ((c.tc : Thread Cert.KernelGluIdeal.nD Cert.KernelGluIdeal.τ).loc Cert.KernelGluIdeal.main_arg13) = m ((c.tc : Thread Cert.KernelGluIdeal.nD Cert.KernelGluIdeal.τ).loc Cert.KernelGluIdeal.main_arg13))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1)
      ∧ r.2.mem ((c.tc : Thread Cert.ReferenceGluIdeal.nD Cert.ReferenceGluIdeal.τ).loc Cert.ReferenceGluIdeal.main_arg2) = m ((c.tc : Thread Cert.ReferenceGluIdeal.nD Cert.ReferenceGluIdeal.τ).loc Cert.ReferenceGluIdeal.main_arg2)
      ∧ r.2.mem ((c.tc : Thread Cert.ReferenceGluIdeal.nD Cert.ReferenceGluIdeal.τ).loc Cert.ReferenceGluIdeal.main_arg3) = m ((c.tc : Thread Cert.ReferenceGluIdeal.nD Cert.ReferenceGluIdeal.τ).loc Cert.ReferenceGluIdeal.main_arg3)
      ∧ r.2.mem ((c.tc : Thread Cert.ReferenceGluIdeal.nD Cert.ReferenceGluIdeal.τ).loc Cert.ReferenceGluIdeal.main_arg4) = m ((c.tc : Thread Cert.ReferenceGluIdeal.nD Cert.ReferenceGluIdeal.τ).loc Cert.ReferenceGluIdeal.main_arg4)
      ∧ r.2.mem ((c.tc : Thread Cert.ReferenceGluIdeal.nD Cert.ReferenceGluIdeal.τ).loc Cert.ReferenceGluIdeal.main_arg5) = m ((c.tc : Thread Cert.ReferenceGluIdeal.nD Cert.ReferenceGluIdeal.τ).loc Cert.ReferenceGluIdeal.main_arg5)
      ∧ r.2.mem ((c.tc : Thread Cert.ReferenceGluIdeal.nD Cert.ReferenceGluIdeal.τ).loc Cert.ReferenceGluIdeal.main_arg6) = m ((c.tc : Thread Cert.ReferenceGluIdeal.nD Cert.ReferenceGluIdeal.τ).loc Cert.ReferenceGluIdeal.main_arg6)
      ∧ r.2.mem ((c.tc : Thread Cert.ReferenceGluIdeal.nD Cert.ReferenceGluIdeal.τ).loc Cert.ReferenceGluIdeal.main_arg7) = m ((c.tc : Thread Cert.ReferenceGluIdeal.nD Cert.ReferenceGluIdeal.τ).loc Cert.ReferenceGluIdeal.main_arg7)
      ∧ r.2.mem ((c.tc : Thread Cert.ReferenceGluIdeal.nD Cert.ReferenceGluIdeal.τ).loc Cert.ReferenceGluIdeal.main_arg8) = m ((c.tc : Thread Cert.ReferenceGluIdeal.nD Cert.ReferenceGluIdeal.τ).loc Cert.ReferenceGluIdeal.main_arg8)
      ∧ r.2.mem ((c.tc : Thread Cert.ReferenceGluIdeal.nD Cert.ReferenceGluIdeal.τ).loc Cert.ReferenceGluIdeal.main_arg9) = m ((c.tc : Thread Cert.ReferenceGluIdeal.nD Cert.ReferenceGluIdeal.τ).loc Cert.ReferenceGluIdeal.main_arg9)
      ∧ r.2.mem ((c.tc : Thread Cert.ReferenceGluIdeal.nD Cert.ReferenceGluIdeal.τ).loc Cert.ReferenceGluIdeal.main_arg10) = m ((c.tc : Thread Cert.ReferenceGluIdeal.nD Cert.ReferenceGluIdeal.τ).loc Cert.ReferenceGluIdeal.main_arg10)
      ∧ r.2.mem ((c.tc : Thread Cert.ReferenceGluIdeal.nD Cert.ReferenceGluIdeal.τ).loc Cert.ReferenceGluIdeal.main_arg11) = m ((c.tc : Thread Cert.ReferenceGluIdeal.nD Cert.ReferenceGluIdeal.τ).loc Cert.ReferenceGluIdeal.main_arg11)
      ∧ r.2.mem ((c.tc : Thread Cert.ReferenceGluIdeal.nD Cert.ReferenceGluIdeal.τ).loc Cert.ReferenceGluIdeal.main_arg12) = m ((c.tc : Thread Cert.ReferenceGluIdeal.nD Cert.ReferenceGluIdeal.τ).loc Cert.ReferenceGluIdeal.main_arg12)
      ∧ r.2.mem ((c.tc : Thread Cert.ReferenceGluIdeal.nD Cert.ReferenceGluIdeal.τ).loc Cert.ReferenceGluIdeal.main_arg13) = m ((c.tc : Thread Cert.ReferenceGluIdeal.nD Cert.ReferenceGluIdeal.τ).loc Cert.ReferenceGluIdeal.main_arg13))
      ∧ r.2.sem = fun _ => 0)

def quiescent_KernelSgu [hKernelSgu : Cert.KernelSgu.Facts] : Prop :=
  ∀ (m : (ℓ : Loc Cert.KernelSgu.nD Cert.KernelSgu.τ Cert.KernelSgu.sig) → Buf (Elt Bits) ℓ) (g : Dev Cert.KernelSgu.nD → PrngReg), Pre_KernelSgu m →
    θ_run (Cert.KernelSgu.defs (F := Bits)) (onTc (τ := Cert.KernelSgu.τ) (Cert.KernelSgu.main (F := Bits))) ⟨m, fun _ => 0, g⟩ (fun r => (∀ c : Dev Cert.KernelSgu.nD,
      r.2.mem ((c.tc : Thread Cert.KernelSgu.nD Cert.KernelSgu.τ).loc Cert.KernelSgu.main_arg0) = m ((c.tc : Thread Cert.KernelSgu.nD Cert.KernelSgu.τ).loc Cert.KernelSgu.main_arg0)
      ∧ r.2.mem ((c.tc : Thread Cert.KernelSgu.nD Cert.KernelSgu.τ).loc Cert.KernelSgu.main_arg1) = m ((c.tc : Thread Cert.KernelSgu.nD Cert.KernelSgu.τ).loc Cert.KernelSgu.main_arg1)
      ∧ r.2.mem ((c.tc : Thread Cert.KernelSgu.nD Cert.KernelSgu.τ).loc Cert.KernelSgu.main_arg2) = m ((c.tc : Thread Cert.KernelSgu.nD Cert.KernelSgu.τ).loc Cert.KernelSgu.main_arg2)
      ∧ r.2.mem ((c.tc : Thread Cert.KernelSgu.nD Cert.KernelSgu.τ).loc Cert.KernelSgu.main_arg3) = m ((c.tc : Thread Cert.KernelSgu.nD Cert.KernelSgu.τ).loc Cert.KernelSgu.main_arg3)
      ∧ r.2.mem ((c.tc : Thread Cert.KernelSgu.nD Cert.KernelSgu.τ).loc Cert.KernelSgu.main_arg4) = m ((c.tc : Thread Cert.KernelSgu.nD Cert.KernelSgu.τ).loc Cert.KernelSgu.main_arg4)
      ∧ r.2.mem ((c.tc : Thread Cert.KernelSgu.nD Cert.KernelSgu.τ).loc Cert.KernelSgu.main_arg5) = m ((c.tc : Thread Cert.KernelSgu.nD Cert.KernelSgu.τ).loc Cert.KernelSgu.main_arg5)
      ∧ r.2.mem ((c.tc : Thread Cert.KernelSgu.nD Cert.KernelSgu.τ).loc Cert.KernelSgu.main_arg6) = m ((c.tc : Thread Cert.KernelSgu.nD Cert.KernelSgu.τ).loc Cert.KernelSgu.main_arg6)
      ∧ r.2.mem ((c.tc : Thread Cert.KernelSgu.nD Cert.KernelSgu.τ).loc Cert.KernelSgu.main_arg7) = m ((c.tc : Thread Cert.KernelSgu.nD Cert.KernelSgu.τ).loc Cert.KernelSgu.main_arg7)
      ∧ r.2.mem ((c.tc : Thread Cert.KernelSgu.nD Cert.KernelSgu.τ).loc Cert.KernelSgu.main_arg8) = m ((c.tc : Thread Cert.KernelSgu.nD Cert.KernelSgu.τ).loc Cert.KernelSgu.main_arg8)
      ∧ r.2.mem ((c.tc : Thread Cert.KernelSgu.nD Cert.KernelSgu.τ).loc Cert.KernelSgu.main_arg9) = m ((c.tc : Thread Cert.KernelSgu.nD Cert.KernelSgu.τ).loc Cert.KernelSgu.main_arg9))
      ∧ r.2.sem = fun _ => 0)

def quiescent_KernelSguIdeal [hKernelSguIdeal : Cert.KernelSguIdeal.Facts] : Prop :=
  ∀ (m : (ℓ : Loc Cert.KernelSguIdeal.nD Cert.KernelSguIdeal.τ Cert.KernelSguIdeal.sig) → Buf (Elt Ideal) ℓ) (g : Dev Cert.KernelSguIdeal.nD → PrngReg), Pre_KernelSguIdeal m →
    θ_run (Cert.KernelSguIdeal.defs (F := Ideal)) (onTc (τ := Cert.KernelSguIdeal.τ) (Cert.KernelSguIdeal.main (F := Ideal))) ⟨m, fun _ => 0, g⟩ (fun r => (∀ c : Dev Cert.KernelSguIdeal.nD,
      r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
      ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
      ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
      ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3)
      ∧ r.2.mem ((c.tc : Thread Cert.KernelSguIdeal.nD Cert.KernelSguIdeal.τ).loc Cert.KernelSguIdeal.main_arg4) = m ((c.tc : Thread Cert.KernelSguIdeal.nD Cert.KernelSguIdeal.τ).loc Cert.KernelSguIdeal.main_arg4)
      ∧ r.2.mem ((c.tc : Thread Cert.KernelSguIdeal.nD Cert.KernelSguIdeal.τ).loc Cert.KernelSguIdeal.main_arg5) = m ((c.tc : Thread Cert.KernelSguIdeal.nD Cert.KernelSguIdeal.τ).loc Cert.KernelSguIdeal.main_arg5)
      ∧ r.2.mem ((c.tc : Thread Cert.KernelSguIdeal.nD Cert.KernelSguIdeal.τ).loc Cert.KernelSguIdeal.main_arg6) = m ((c.tc : Thread Cert.KernelSguIdeal.nD Cert.KernelSguIdeal.τ).loc Cert.KernelSguIdeal.main_arg6)
      ∧ r.2.mem ((c.tc : Thread Cert.KernelSguIdeal.nD Cert.KernelSguIdeal.τ).loc Cert.KernelSguIdeal.main_arg7) = m ((c.tc : Thread Cert.KernelSguIdeal.nD Cert.KernelSguIdeal.τ).loc Cert.KernelSguIdeal.main_arg7)
      ∧ r.2.mem ((c.tc : Thread Cert.KernelSguIdeal.nD Cert.KernelSguIdeal.τ).loc Cert.KernelSguIdeal.main_arg8) = m ((c.tc : Thread Cert.KernelSguIdeal.nD Cert.KernelSguIdeal.τ).loc Cert.KernelSguIdeal.main_arg8)
      ∧ r.2.mem ((c.tc : Thread Cert.KernelSguIdeal.nD Cert.KernelSguIdeal.τ).loc Cert.KernelSguIdeal.main_arg9) = m ((c.tc : Thread Cert.KernelSguIdeal.nD Cert.KernelSguIdeal.τ).loc Cert.KernelSguIdeal.main_arg9))
      ∧ r.2.sem = fun _ => 0)

def quiescent_ReferenceSguIdeal [hReferenceSguIdeal : Cert.ReferenceSguIdeal.Facts] : Prop :=
  ∀ (m : (ℓ : Loc Cert.ReferenceSguIdeal.nD Cert.ReferenceSguIdeal.τ Cert.ReferenceSguIdeal.sig) → Buf (Elt Ideal) ℓ) (g : Dev Cert.ReferenceSguIdeal.nD → PrngReg), Pre_ReferenceSguIdeal m →
    θ_run (Cert.ReferenceSguIdeal.defs (F := Ideal)) (onTc (τ := Cert.ReferenceSguIdeal.τ) (Cert.ReferenceSguIdeal.main (F := Ideal))) ⟨m, fun _ => 0, g⟩ (fun r => (∀ c : Dev Cert.ReferenceSguIdeal.nD,
      r.2.mem ((c.tc : Thread Cert.ReferenceSguIdeal.nD Cert.ReferenceSguIdeal.τ).loc Cert.ReferenceSguIdeal.main_arg0) = m ((c.tc : Thread Cert.ReferenceSguIdeal.nD Cert.ReferenceSguIdeal.τ).loc Cert.ReferenceSguIdeal.main_arg0)
      ∧ r.2.mem ((c.tc : Thread Cert.ReferenceSguIdeal.nD Cert.ReferenceSguIdeal.τ).loc Cert.ReferenceSguIdeal.main_arg1) = m ((c.tc : Thread Cert.ReferenceSguIdeal.nD Cert.ReferenceSguIdeal.τ).loc Cert.ReferenceSguIdeal.main_arg1)
      ∧ r.2.mem ((c.tc : Thread Cert.ReferenceSguIdeal.nD Cert.ReferenceSguIdeal.τ).loc Cert.ReferenceSguIdeal.main_arg2) = m ((c.tc : Thread Cert.ReferenceSguIdeal.nD Cert.ReferenceSguIdeal.τ).loc Cert.ReferenceSguIdeal.main_arg2)
      ∧ r.2.mem ((c.tc : Thread Cert.ReferenceSguIdeal.nD Cert.ReferenceSguIdeal.τ).loc Cert.ReferenceSguIdeal.main_arg3) = m ((c.tc : Thread Cert.ReferenceSguIdeal.nD Cert.ReferenceSguIdeal.τ).loc Cert.ReferenceSguIdeal.main_arg3)
      ∧ r.2.mem ((c.tc : Thread Cert.ReferenceSguIdeal.nD Cert.ReferenceSguIdeal.τ).loc Cert.ReferenceSguIdeal.main_arg4) = m ((c.tc : Thread Cert.ReferenceSguIdeal.nD Cert.ReferenceSguIdeal.τ).loc Cert.ReferenceSguIdeal.main_arg4)
      ∧ r.2.mem ((c.tc : Thread Cert.ReferenceSguIdeal.nD Cert.ReferenceSguIdeal.τ).loc Cert.ReferenceSguIdeal.main_arg5) = m ((c.tc : Thread Cert.ReferenceSguIdeal.nD Cert.ReferenceSguIdeal.τ).loc Cert.ReferenceSguIdeal.main_arg5)
      ∧ r.2.mem ((c.tc : Thread Cert.ReferenceSguIdeal.nD Cert.ReferenceSguIdeal.τ).loc Cert.ReferenceSguIdeal.main_arg6) = m ((c.tc : Thread Cert.ReferenceSguIdeal.nD Cert.ReferenceSguIdeal.τ).loc Cert.ReferenceSguIdeal.main_arg6)
      ∧ r.2.mem ((c.tc : Thread Cert.ReferenceSguIdeal.nD Cert.ReferenceSguIdeal.τ).loc Cert.ReferenceSguIdeal.main_arg7) = m ((c.tc : Thread Cert.ReferenceSguIdeal.nD Cert.ReferenceSguIdeal.τ).loc Cert.ReferenceSguIdeal.main_arg7)
      ∧ r.2.mem ((c.tc : Thread Cert.ReferenceSguIdeal.nD Cert.ReferenceSguIdeal.τ).loc Cert.ReferenceSguIdeal.main_arg8) = m ((c.tc : Thread Cert.ReferenceSguIdeal.nD Cert.ReferenceSguIdeal.τ).loc Cert.ReferenceSguIdeal.main_arg8)
      ∧ r.2.mem ((c.tc : Thread Cert.ReferenceSguIdeal.nD Cert.ReferenceSguIdeal.τ).loc Cert.ReferenceSguIdeal.main_arg9) = m ((c.tc : Thread Cert.ReferenceSguIdeal.nD Cert.ReferenceSguIdeal.τ).loc Cert.ReferenceSguIdeal.main_arg9))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3)
      ∧ r.2.mem ((c.tc : Thread Cert.KernelQkv.nD Cert.KernelQkv.τ).loc Cert.KernelQkv.main_arg4) = m ((c.tc : Thread Cert.KernelQkv.nD Cert.KernelQkv.τ).loc Cert.KernelQkv.main_arg4))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4))
      ∧ r.2.sem = fun _ => 0)

def quiescent_KernelLastSample [hKernelLastSample : Cert.KernelLastSample.Facts] : Prop :=
  ∀ (m : (ℓ : Loc Cert.KernelLastSample.nD Cert.KernelLastSample.τ Cert.KernelLastSample.sig) → Buf (Elt Bits) ℓ) (g : Dev Cert.KernelLastSample.nD → PrngReg), Pre_KernelLastSample m →
    θ_run (Cert.KernelLastSample.defs (F := Bits)) (onTc (τ := Cert.KernelLastSample.τ) (Cert.KernelLastSample.main (F := Bits))) ⟨m, fun _ => 0, g⟩ (fun r => (∀ c : Dev Cert.KernelLastSample.nD,
      r.2.mem ((c.tc : Thread Cert.KernelLastSample.nD Cert.KernelLastSample.τ).loc Cert.KernelLastSample.main_arg0) = m ((c.tc : Thread Cert.KernelLastSample.nD Cert.KernelLastSample.τ).loc Cert.KernelLastSample.main_arg0)
      ∧ r.2.mem ((c.tc : Thread Cert.KernelLastSample.nD Cert.KernelLastSample.τ).loc Cert.KernelLastSample.main_arg1) = m ((c.tc : Thread Cert.KernelLastSample.nD Cert.KernelLastSample.τ).loc Cert.KernelLastSample.main_arg1)
      ∧ r.2.mem ((c.tc : Thread Cert.KernelLastSample.nD Cert.KernelLastSample.τ).loc Cert.KernelLastSample.main_arg2) = m ((c.tc : Thread Cert.KernelLastSample.nD Cert.KernelLastSample.τ).loc Cert.KernelLastSample.main_arg2)
      ∧ r.2.mem ((c.tc : Thread Cert.KernelLastSample.nD Cert.KernelLastSample.τ).loc Cert.KernelLastSample.main_arg3) = m ((c.tc : Thread Cert.KernelLastSample.nD Cert.KernelLastSample.τ).loc Cert.KernelLastSample.main_arg3)
      ∧ r.2.mem ((c.tc : Thread Cert.KernelLastSample.nD Cert.KernelLastSample.τ).loc Cert.KernelLastSample.main_arg4) = m ((c.tc : Thread Cert.KernelLastSample.nD Cert.KernelLastSample.τ).loc Cert.KernelLastSample.main_arg4)
      ∧ r.2.mem ((c.tc : Thread Cert.KernelLastSample.nD Cert.KernelLastSample.τ).loc Cert.KernelLastSample.main_arg5) = m ((c.tc : Thread Cert.KernelLastSample.nD Cert.KernelLastSample.τ).loc Cert.KernelLastSample.main_arg5)
      ∧ r.2.mem ((c.tc : Thread Cert.KernelLastSample.nD Cert.KernelLastSample.τ).loc Cert.KernelLastSample.main_arg6) = m ((c.tc : Thread Cert.KernelLastSample.nD Cert.KernelLastSample.τ).loc Cert.KernelLastSample.main_arg6)
      ∧ r.2.mem ((c.tc : Thread Cert.KernelLastSample.nD Cert.KernelLastSample.τ).loc Cert.KernelLastSample.main_arg7) = m ((c.tc : Thread Cert.KernelLastSample.nD Cert.KernelLastSample.τ).loc Cert.KernelLastSample.main_arg7))
      ∧ r.2.sem = fun _ => 0)

def quiescent_KernelLastSampleIdeal [hKernelLastSampleIdeal : Cert.KernelLastSampleIdeal.Facts] : Prop :=
  ∀ (m : (ℓ : Loc Cert.KernelLastSampleIdeal.nD Cert.KernelLastSampleIdeal.τ Cert.KernelLastSampleIdeal.sig) → Buf (Elt Ideal) ℓ) (g : Dev Cert.KernelLastSampleIdeal.nD → PrngReg), Pre_KernelLastSampleIdeal m →
    θ_run (Cert.KernelLastSampleIdeal.defs (F := Ideal)) (onTc (τ := Cert.KernelLastSampleIdeal.τ) (Cert.KernelLastSampleIdeal.main (F := Ideal))) ⟨m, fun _ => 0, g⟩ (fun r => (∀ c : Dev Cert.KernelLastSampleIdeal.nD,
      r.2.mem ((c.tc : Thread Cert.KernelLastSampleIdeal.nD Cert.KernelLastSampleIdeal.τ).loc Cert.KernelLastSampleIdeal.main_arg0) = m ((c.tc : Thread Cert.KernelLastSampleIdeal.nD Cert.KernelLastSampleIdeal.τ).loc Cert.KernelLastSampleIdeal.main_arg0)
      ∧ r.2.mem ((c.tc : Thread Cert.KernelLastSampleIdeal.nD Cert.KernelLastSampleIdeal.τ).loc Cert.KernelLastSampleIdeal.main_arg1) = m ((c.tc : Thread Cert.KernelLastSampleIdeal.nD Cert.KernelLastSampleIdeal.τ).loc Cert.KernelLastSampleIdeal.main_arg1)
      ∧ r.2.mem ((c.tc : Thread Cert.KernelLastSampleIdeal.nD Cert.KernelLastSampleIdeal.τ).loc Cert.KernelLastSampleIdeal.main_arg2) = m ((c.tc : Thread Cert.KernelLastSampleIdeal.nD Cert.KernelLastSampleIdeal.τ).loc Cert.KernelLastSampleIdeal.main_arg2)
      ∧ r.2.mem ((c.tc : Thread Cert.KernelLastSampleIdeal.nD Cert.KernelLastSampleIdeal.τ).loc Cert.KernelLastSampleIdeal.main_arg3) = m ((c.tc : Thread Cert.KernelLastSampleIdeal.nD Cert.KernelLastSampleIdeal.τ).loc Cert.KernelLastSampleIdeal.main_arg3)
      ∧ r.2.mem ((c.tc : Thread Cert.KernelLastSampleIdeal.nD Cert.KernelLastSampleIdeal.τ).loc Cert.KernelLastSampleIdeal.main_arg4) = m ((c.tc : Thread Cert.KernelLastSampleIdeal.nD Cert.KernelLastSampleIdeal.τ).loc Cert.KernelLastSampleIdeal.main_arg4)
      ∧ r.2.mem ((c.tc : Thread Cert.KernelLastSampleIdeal.nD Cert.KernelLastSampleIdeal.τ).loc Cert.KernelLastSampleIdeal.main_arg5) = m ((c.tc : Thread Cert.KernelLastSampleIdeal.nD Cert.KernelLastSampleIdeal.τ).loc Cert.KernelLastSampleIdeal.main_arg5)
      ∧ r.2.mem ((c.tc : Thread Cert.KernelLastSampleIdeal.nD Cert.KernelLastSampleIdeal.τ).loc Cert.KernelLastSampleIdeal.main_arg6) = m ((c.tc : Thread Cert.KernelLastSampleIdeal.nD Cert.KernelLastSampleIdeal.τ).loc Cert.KernelLastSampleIdeal.main_arg6)
      ∧ r.2.mem ((c.tc : Thread Cert.KernelLastSampleIdeal.nD Cert.KernelLastSampleIdeal.τ).loc Cert.KernelLastSampleIdeal.main_arg7) = m ((c.tc : Thread Cert.KernelLastSampleIdeal.nD Cert.KernelLastSampleIdeal.τ).loc Cert.KernelLastSampleIdeal.main_arg7))
      ∧ r.2.sem = fun _ => 0)

def quiescent_ReferenceLastSampleIdeal [hReferenceLastSampleIdeal : Cert.ReferenceLastSampleIdeal.Facts] : Prop :=
  ∀ (m : (ℓ : Loc Cert.ReferenceLastSampleIdeal.nD Cert.ReferenceLastSampleIdeal.τ Cert.ReferenceLastSampleIdeal.sig) → Buf (Elt Ideal) ℓ) (g : Dev Cert.ReferenceLastSampleIdeal.nD → PrngReg), Pre_ReferenceLastSampleIdeal m →
    θ_run (Cert.ReferenceLastSampleIdeal.defs (F := Ideal)) (onTc (τ := Cert.ReferenceLastSampleIdeal.τ) (Cert.ReferenceLastSampleIdeal.main (F := Ideal))) ⟨m, fun _ => 0, g⟩ (fun r => (∀ c : Dev Cert.ReferenceLastSampleIdeal.nD,
      r.2.mem ((c.tc : Thread Cert.ReferenceLastSampleIdeal.nD Cert.ReferenceLastSampleIdeal.τ).loc Cert.ReferenceLastSampleIdeal.main_arg0) = m ((c.tc : Thread Cert.ReferenceLastSampleIdeal.nD Cert.ReferenceLastSampleIdeal.τ).loc Cert.ReferenceLastSampleIdeal.main_arg0)
      ∧ r.2.mem ((c.tc : Thread Cert.ReferenceLastSampleIdeal.nD Cert.ReferenceLastSampleIdeal.τ).loc Cert.ReferenceLastSampleIdeal.main_arg1) = m ((c.tc : Thread Cert.ReferenceLastSampleIdeal.nD Cert.ReferenceLastSampleIdeal.τ).loc Cert.ReferenceLastSampleIdeal.main_arg1)
      ∧ r.2.mem ((c.tc : Thread Cert.ReferenceLastSampleIdeal.nD Cert.ReferenceLastSampleIdeal.τ).loc Cert.ReferenceLastSampleIdeal.main_arg2) = m ((c.tc : Thread Cert.ReferenceLastSampleIdeal.nD Cert.ReferenceLastSampleIdeal.τ).loc Cert.ReferenceLastSampleIdeal.main_arg2)
      ∧ r.2.mem ((c.tc : Thread Cert.ReferenceLastSampleIdeal.nD Cert.ReferenceLastSampleIdeal.τ).loc Cert.ReferenceLastSampleIdeal.main_arg3) = m ((c.tc : Thread Cert.ReferenceLastSampleIdeal.nD Cert.ReferenceLastSampleIdeal.τ).loc Cert.ReferenceLastSampleIdeal.main_arg3)
      ∧ r.2.mem ((c.tc : Thread Cert.ReferenceLastSampleIdeal.nD Cert.ReferenceLastSampleIdeal.τ).loc Cert.ReferenceLastSampleIdeal.main_arg4) = m ((c.tc : Thread Cert.ReferenceLastSampleIdeal.nD Cert.ReferenceLastSampleIdeal.τ).loc Cert.ReferenceLastSampleIdeal.main_arg4)
      ∧ r.2.mem ((c.tc : Thread Cert.ReferenceLastSampleIdeal.nD Cert.ReferenceLastSampleIdeal.τ).loc Cert.ReferenceLastSampleIdeal.main_arg5) = m ((c.tc : Thread Cert.ReferenceLastSampleIdeal.nD Cert.ReferenceLastSampleIdeal.τ).loc Cert.ReferenceLastSampleIdeal.main_arg5)
      ∧ r.2.mem ((c.tc : Thread Cert.ReferenceLastSampleIdeal.nD Cert.ReferenceLastSampleIdeal.τ).loc Cert.ReferenceLastSampleIdeal.main_arg6) = m ((c.tc : Thread Cert.ReferenceLastSampleIdeal.nD Cert.ReferenceLastSampleIdeal.τ).loc Cert.ReferenceLastSampleIdeal.main_arg6)
      ∧ r.2.mem ((c.tc : Thread Cert.ReferenceLastSampleIdeal.nD Cert.ReferenceLastSampleIdeal.τ).loc Cert.ReferenceLastSampleIdeal.main_arg7) = m ((c.tc : Thread Cert.ReferenceLastSampleIdeal.nD Cert.ReferenceLastSampleIdeal.τ).loc Cert.ReferenceLastSampleIdeal.main_arg7))
      ∧ r.2.sem = fun _ => 0)

def quiescent_KernelSguSample [hKernelSguSample : Cert.KernelSguSample.Facts] : Prop :=
  ∀ (m : (ℓ : Loc Cert.KernelSguSample.nD Cert.KernelSguSample.τ Cert.KernelSguSample.sig) → Buf (Elt Bits) ℓ) (g : Dev Cert.KernelSguSample.nD → PrngReg), Pre_KernelSguSample m →
    θ_run (Cert.KernelSguSample.defs (F := Bits)) (onTc (τ := Cert.KernelSguSample.τ) (Cert.KernelSguSample.main (F := Bits))) ⟨m, fun _ => 0, g⟩ (fun r => (∀ c : Dev Cert.KernelSguSample.nD,
      r.2.mem ((c.tc : Thread Cert.KernelSguSample.nD Cert.KernelSguSample.τ).loc Cert.KernelSguSample.main_arg0) = m ((c.tc : Thread Cert.KernelSguSample.nD Cert.KernelSguSample.τ).loc Cert.KernelSguSample.main_arg0)
      ∧ r.2.mem ((c.tc : Thread Cert.KernelSguSample.nD Cert.KernelSguSample.τ).loc Cert.KernelSguSample.main_arg1) = m ((c.tc : Thread Cert.KernelSguSample.nD Cert.KernelSguSample.τ).loc Cert.KernelSguSample.main_arg1)
      ∧ r.2.mem ((c.tc : Thread Cert.KernelSguSample.nD Cert.KernelSguSample.τ).loc Cert.KernelSguSample.main_arg2) = m ((c.tc : Thread Cert.KernelSguSample.nD Cert.KernelSguSample.τ).loc Cert.KernelSguSample.main_arg2)
      ∧ r.2.mem ((c.tc : Thread Cert.KernelSguSample.nD Cert.KernelSguSample.τ).loc Cert.KernelSguSample.main_arg3) = m ((c.tc : Thread Cert.KernelSguSample.nD Cert.KernelSguSample.τ).loc Cert.KernelSguSample.main_arg3)
      ∧ r.2.mem ((c.tc : Thread Cert.KernelSguSample.nD Cert.KernelSguSample.τ).loc Cert.KernelSguSample.main_arg4) = m ((c.tc : Thread Cert.KernelSguSample.nD Cert.KernelSguSample.τ).loc Cert.KernelSguSample.main_arg4)
      ∧ r.2.mem ((c.tc : Thread Cert.KernelSguSample.nD Cert.KernelSguSample.τ).loc Cert.KernelSguSample.main_arg5) = m ((c.tc : Thread Cert.KernelSguSample.nD Cert.KernelSguSample.τ).loc Cert.KernelSguSample.main_arg5)
      ∧ r.2.mem ((c.tc : Thread Cert.KernelSguSample.nD Cert.KernelSguSample.τ).loc Cert.KernelSguSample.main_arg6) = m ((c.tc : Thread Cert.KernelSguSample.nD Cert.KernelSguSample.τ).loc Cert.KernelSguSample.main_arg6)
      ∧ r.2.mem ((c.tc : Thread Cert.KernelSguSample.nD Cert.KernelSguSample.τ).loc Cert.KernelSguSample.main_arg7) = m ((c.tc : Thread Cert.KernelSguSample.nD Cert.KernelSguSample.τ).loc Cert.KernelSguSample.main_arg7)
      ∧ r.2.mem ((c.tc : Thread Cert.KernelSguSample.nD Cert.KernelSguSample.τ).loc Cert.KernelSguSample.main_arg8) = m ((c.tc : Thread Cert.KernelSguSample.nD Cert.KernelSguSample.τ).loc Cert.KernelSguSample.main_arg8)
      ∧ r.2.mem ((c.tc : Thread Cert.KernelSguSample.nD Cert.KernelSguSample.τ).loc Cert.KernelSguSample.main_arg9) = m ((c.tc : Thread Cert.KernelSguSample.nD Cert.KernelSguSample.τ).loc Cert.KernelSguSample.main_arg9))
      ∧ r.2.sem = fun _ => 0)

def quiescent_KernelSguSampleIdeal [hKernelSguSampleIdeal : Cert.KernelSguSampleIdeal.Facts] : Prop :=
  ∀ (m : (ℓ : Loc Cert.KernelSguSampleIdeal.nD Cert.KernelSguSampleIdeal.τ Cert.KernelSguSampleIdeal.sig) → Buf (Elt Ideal) ℓ) (g : Dev Cert.KernelSguSampleIdeal.nD → PrngReg), Pre_KernelSguSampleIdeal m →
    θ_run (Cert.KernelSguSampleIdeal.defs (F := Ideal)) (onTc (τ := Cert.KernelSguSampleIdeal.τ) (Cert.KernelSguSampleIdeal.main (F := Ideal))) ⟨m, fun _ => 0, g⟩ (fun r => (∀ c : Dev Cert.KernelSguSampleIdeal.nD,
      r.2.mem ((c.tc : Thread Cert.KernelSguSampleIdeal.nD Cert.KernelSguSampleIdeal.τ).loc Cert.KernelSguSampleIdeal.main_arg0) = m ((c.tc : Thread Cert.KernelSguSampleIdeal.nD Cert.KernelSguSampleIdeal.τ).loc Cert.KernelSguSampleIdeal.main_arg0)
      ∧ r.2.mem ((c.tc : Thread Cert.KernelSguSampleIdeal.nD Cert.KernelSguSampleIdeal.τ).loc Cert.KernelSguSampleIdeal.main_arg1) = m ((c.tc : Thread Cert.KernelSguSampleIdeal.nD Cert.KernelSguSampleIdeal.τ).loc Cert.KernelSguSampleIdeal.main_arg1)
      ∧ r.2.mem ((c.tc : Thread Cert.KernelSguSampleIdeal.nD Cert.KernelSguSampleIdeal.τ).loc Cert.KernelSguSampleIdeal.main_arg2) = m ((c.tc : Thread Cert.KernelSguSampleIdeal.nD Cert.KernelSguSampleIdeal.τ).loc Cert.KernelSguSampleIdeal.main_arg2)
      ∧ r.2.mem ((c.tc : Thread Cert.KernelSguSampleIdeal.nD Cert.KernelSguSampleIdeal.τ).loc Cert.KernelSguSampleIdeal.main_arg3) = m ((c.tc : Thread Cert.KernelSguSampleIdeal.nD Cert.KernelSguSampleIdeal.τ).loc Cert.KernelSguSampleIdeal.main_arg3)
      ∧ r.2.mem ((c.tc : Thread Cert.KernelSguSampleIdeal.nD Cert.KernelSguSampleIdeal.τ).loc Cert.KernelSguSampleIdeal.main_arg4) = m ((c.tc : Thread Cert.KernelSguSampleIdeal.nD Cert.KernelSguSampleIdeal.τ).loc Cert.KernelSguSampleIdeal.main_arg4)
      ∧ r.2.mem ((c.tc : Thread Cert.KernelSguSampleIdeal.nD Cert.KernelSguSampleIdeal.τ).loc Cert.KernelSguSampleIdeal.main_arg5) = m ((c.tc : Thread Cert.KernelSguSampleIdeal.nD Cert.KernelSguSampleIdeal.τ).loc Cert.KernelSguSampleIdeal.main_arg5)
      ∧ r.2.mem ((c.tc : Thread Cert.KernelSguSampleIdeal.nD Cert.KernelSguSampleIdeal.τ).loc Cert.KernelSguSampleIdeal.main_arg6) = m ((c.tc : Thread Cert.KernelSguSampleIdeal.nD Cert.KernelSguSampleIdeal.τ).loc Cert.KernelSguSampleIdeal.main_arg6)
      ∧ r.2.mem ((c.tc : Thread Cert.KernelSguSampleIdeal.nD Cert.KernelSguSampleIdeal.τ).loc Cert.KernelSguSampleIdeal.main_arg7) = m ((c.tc : Thread Cert.KernelSguSampleIdeal.nD Cert.KernelSguSampleIdeal.τ).loc Cert.KernelSguSampleIdeal.main_arg7)
      ∧ r.2.mem ((c.tc : Thread Cert.KernelSguSampleIdeal.nD Cert.KernelSguSampleIdeal.τ).loc Cert.KernelSguSampleIdeal.main_arg8) = m ((c.tc : Thread Cert.KernelSguSampleIdeal.nD Cert.KernelSguSampleIdeal.τ).loc Cert.KernelSguSampleIdeal.main_arg8)
      ∧ r.2.mem ((c.tc : Thread Cert.KernelSguSampleIdeal.nD Cert.KernelSguSampleIdeal.τ).loc Cert.KernelSguSampleIdeal.main_arg9) = m ((c.tc : Thread Cert.KernelSguSampleIdeal.nD Cert.KernelSguSampleIdeal.τ).loc Cert.KernelSguSampleIdeal.main_arg9))
      ∧ r.2.sem = fun _ => 0)

def quiescent_ReferenceSguSampleIdeal [hReferenceSguSampleIdeal : Cert.ReferenceSguSampleIdeal.Facts] : Prop :=
  ∀ (m : (ℓ : Loc Cert.ReferenceSguSampleIdeal.nD Cert.ReferenceSguSampleIdeal.τ Cert.ReferenceSguSampleIdeal.sig) → Buf (Elt Ideal) ℓ) (g : Dev Cert.ReferenceSguSampleIdeal.nD → PrngReg), Pre_ReferenceSguSampleIdeal m →
    θ_run (Cert.ReferenceSguSampleIdeal.defs (F := Ideal)) (onTc (τ := Cert.ReferenceSguSampleIdeal.τ) (Cert.ReferenceSguSampleIdeal.main (F := Ideal))) ⟨m, fun _ => 0, g⟩ (fun r => (∀ c : Dev Cert.ReferenceSguSampleIdeal.nD,
      r.2.mem ((c.tc : Thread Cert.ReferenceSguSampleIdeal.nD Cert.ReferenceSguSampleIdeal.τ).loc Cert.ReferenceSguSampleIdeal.main_arg0) = m ((c.tc : Thread Cert.ReferenceSguSampleIdeal.nD Cert.ReferenceSguSampleIdeal.τ).loc Cert.ReferenceSguSampleIdeal.main_arg0)
      ∧ r.2.mem ((c.tc : Thread Cert.ReferenceSguSampleIdeal.nD Cert.ReferenceSguSampleIdeal.τ).loc Cert.ReferenceSguSampleIdeal.main_arg1) = m ((c.tc : Thread Cert.ReferenceSguSampleIdeal.nD Cert.ReferenceSguSampleIdeal.τ).loc Cert.ReferenceSguSampleIdeal.main_arg1)
      ∧ r.2.mem ((c.tc : Thread Cert.ReferenceSguSampleIdeal.nD Cert.ReferenceSguSampleIdeal.τ).loc Cert.ReferenceSguSampleIdeal.main_arg2) = m ((c.tc : Thread Cert.ReferenceSguSampleIdeal.nD Cert.ReferenceSguSampleIdeal.τ).loc Cert.ReferenceSguSampleIdeal.main_arg2)
      ∧ r.2.mem ((c.tc : Thread Cert.ReferenceSguSampleIdeal.nD Cert.ReferenceSguSampleIdeal.τ).loc Cert.ReferenceSguSampleIdeal.main_arg3) = m ((c.tc : Thread Cert.ReferenceSguSampleIdeal.nD Cert.ReferenceSguSampleIdeal.τ).loc Cert.ReferenceSguSampleIdeal.main_arg3)
      ∧ r.2.mem ((c.tc : Thread Cert.ReferenceSguSampleIdeal.nD Cert.ReferenceSguSampleIdeal.τ).loc Cert.ReferenceSguSampleIdeal.main_arg4) = m ((c.tc : Thread Cert.ReferenceSguSampleIdeal.nD Cert.ReferenceSguSampleIdeal.τ).loc Cert.ReferenceSguSampleIdeal.main_arg4)
      ∧ r.2.mem ((c.tc : Thread Cert.ReferenceSguSampleIdeal.nD Cert.ReferenceSguSampleIdeal.τ).loc Cert.ReferenceSguSampleIdeal.main_arg5) = m ((c.tc : Thread Cert.ReferenceSguSampleIdeal.nD Cert.ReferenceSguSampleIdeal.τ).loc Cert.ReferenceSguSampleIdeal.main_arg5)
      ∧ r.2.mem ((c.tc : Thread Cert.ReferenceSguSampleIdeal.nD Cert.ReferenceSguSampleIdeal.τ).loc Cert.ReferenceSguSampleIdeal.main_arg6) = m ((c.tc : Thread Cert.ReferenceSguSampleIdeal.nD Cert.ReferenceSguSampleIdeal.τ).loc Cert.ReferenceSguSampleIdeal.main_arg6)
      ∧ r.2.mem ((c.tc : Thread Cert.ReferenceSguSampleIdeal.nD Cert.ReferenceSguSampleIdeal.τ).loc Cert.ReferenceSguSampleIdeal.main_arg7) = m ((c.tc : Thread Cert.ReferenceSguSampleIdeal.nD Cert.ReferenceSguSampleIdeal.τ).loc Cert.ReferenceSguSampleIdeal.main_arg7)
      ∧ r.2.mem ((c.tc : Thread Cert.ReferenceSguSampleIdeal.nD Cert.ReferenceSguSampleIdeal.τ).loc Cert.ReferenceSguSampleIdeal.main_arg8) = m ((c.tc : Thread Cert.ReferenceSguSampleIdeal.nD Cert.ReferenceSguSampleIdeal.τ).loc Cert.ReferenceSguSampleIdeal.main_arg8)
      ∧ r.2.mem ((c.tc : Thread Cert.ReferenceSguSampleIdeal.nD Cert.ReferenceSguSampleIdeal.τ).loc Cert.ReferenceSguSampleIdeal.main_arg9) = m ((c.tc : Thread Cert.ReferenceSguSampleIdeal.nD Cert.ReferenceSguSampleIdeal.τ).loc Cert.ReferenceSguSampleIdeal.main_arg9))
      ∧ r.2.sem = fun _ => 0)

def quiescent_KernelQkvSample [hKernelQkvSample : Cert.KernelQkvSample.Facts] : Prop :=
  ∀ (m : (ℓ : Loc Cert.KernelQkvSample.nD Cert.KernelQkvSample.τ Cert.KernelQkvSample.sig) → Buf (Elt Bits) ℓ) (g : Dev Cert.KernelQkvSample.nD → PrngReg), Pre_KernelQkvSample m →
    θ_run (Cert.KernelQkvSample.defs (F := Bits)) (onTc (τ := Cert.KernelQkvSample.τ) (Cert.KernelQkvSample.main (F := Bits))) ⟨m, fun _ => 0, g⟩ (fun r => (∀ c : Dev Cert.KernelQkvSample.nD,
      r.2.mem ((c.tc : Thread Cert.KernelQkvSample.nD Cert.KernelQkvSample.τ).loc Cert.KernelQkvSample.main_arg0) = m ((c.tc : Thread Cert.KernelQkvSample.nD Cert.KernelQkvSample.τ).loc Cert.KernelQkvSample.main_arg0)
      ∧ r.2.mem ((c.tc : Thread Cert.KernelQkvSample.nD Cert.KernelQkvSample.τ).loc Cert.KernelQkvSample.main_arg1) = m ((c.tc : Thread Cert.KernelQkvSample.nD Cert.KernelQkvSample.τ).loc Cert.KernelQkvSample.main_arg1)
      ∧ r.2.mem ((c.tc : Thread Cert.KernelQkvSample.nD Cert.KernelQkvSample.τ).loc Cert.KernelQkvSample.main_arg2) = m ((c.tc : Thread Cert.KernelQkvSample.nD Cert.KernelQkvSample.τ).loc Cert.KernelQkvSample.main_arg2)
      ∧ r.2.mem ((c.tc : Thread Cert.KernelQkvSample.nD Cert.KernelQkvSample.τ).loc Cert.KernelQkvSample.main_arg3) = m ((c.tc : Thread Cert.KernelQkvSample.nD Cert.KernelQkvSample.τ).loc Cert.KernelQkvSample.main_arg3)
      ∧ r.2.mem ((c.tc : Thread Cert.KernelQkvSample.nD Cert.KernelQkvSample.τ).loc Cert.KernelQkvSample.main_arg4) = m ((c.tc : Thread Cert.KernelQkvSample.nD Cert.KernelQkvSample.τ).loc Cert.KernelQkvSample.main_arg4))
      ∧ r.2.sem = fun _ => 0)

def quiescent_KernelQkvSampleIdeal [hKernelQkvSampleIdeal : Cert.KernelQkvSampleIdeal.Facts] : Prop :=
  ∀ (m : (ℓ : Loc Cert.KernelQkvSampleIdeal.nD Cert.KernelQkvSampleIdeal.τ Cert.KernelQkvSampleIdeal.sig) → Buf (Elt Ideal) ℓ) (g : Dev Cert.KernelQkvSampleIdeal.nD → PrngReg), Pre_KernelQkvSampleIdeal m →
    θ_run (Cert.KernelQkvSampleIdeal.defs (F := Ideal)) (onTc (τ := Cert.KernelQkvSampleIdeal.τ) (Cert.KernelQkvSampleIdeal.main (F := Ideal))) ⟨m, fun _ => 0, g⟩ (fun r => (∀ c : Dev Cert.KernelQkvSampleIdeal.nD,
      r.2.mem ((c.tc : Thread Cert.KernelQkvSampleIdeal.nD Cert.KernelQkvSampleIdeal.τ).loc Cert.KernelQkvSampleIdeal.main_arg0) = m ((c.tc : Thread Cert.KernelQkvSampleIdeal.nD Cert.KernelQkvSampleIdeal.τ).loc Cert.KernelQkvSampleIdeal.main_arg0)
      ∧ r.2.mem ((c.tc : Thread Cert.KernelQkvSampleIdeal.nD Cert.KernelQkvSampleIdeal.τ).loc Cert.KernelQkvSampleIdeal.main_arg1) = m ((c.tc : Thread Cert.KernelQkvSampleIdeal.nD Cert.KernelQkvSampleIdeal.τ).loc Cert.KernelQkvSampleIdeal.main_arg1)
      ∧ r.2.mem ((c.tc : Thread Cert.KernelQkvSampleIdeal.nD Cert.KernelQkvSampleIdeal.τ).loc Cert.KernelQkvSampleIdeal.main_arg2) = m ((c.tc : Thread Cert.KernelQkvSampleIdeal.nD Cert.KernelQkvSampleIdeal.τ).loc Cert.KernelQkvSampleIdeal.main_arg2)
      ∧ r.2.mem ((c.tc : Thread Cert.KernelQkvSampleIdeal.nD Cert.KernelQkvSampleIdeal.τ).loc Cert.KernelQkvSampleIdeal.main_arg3) = m ((c.tc : Thread Cert.KernelQkvSampleIdeal.nD Cert.KernelQkvSampleIdeal.τ).loc Cert.KernelQkvSampleIdeal.main_arg3)
      ∧ r.2.mem ((c.tc : Thread Cert.KernelQkvSampleIdeal.nD Cert.KernelQkvSampleIdeal.τ).loc Cert.KernelQkvSampleIdeal.main_arg4) = m ((c.tc : Thread Cert.KernelQkvSampleIdeal.nD Cert.KernelQkvSampleIdeal.τ).loc Cert.KernelQkvSampleIdeal.main_arg4))
      ∧ r.2.sem = fun _ => 0)

def quiescent_ReferenceQkvSampleIdeal [hReferenceQkvSampleIdeal : Cert.ReferenceQkvSampleIdeal.Facts] : Prop :=
  ∀ (m : (ℓ : Loc Cert.ReferenceQkvSampleIdeal.nD Cert.ReferenceQkvSampleIdeal.τ Cert.ReferenceQkvSampleIdeal.sig) → Buf (Elt Ideal) ℓ) (g : Dev Cert.ReferenceQkvSampleIdeal.nD → PrngReg), Pre_ReferenceQkvSampleIdeal m →
    θ_run (Cert.ReferenceQkvSampleIdeal.defs (F := Ideal)) (onTc (τ := Cert.ReferenceQkvSampleIdeal.τ) (Cert.ReferenceQkvSampleIdeal.main (F := Ideal))) ⟨m, fun _ => 0, g⟩ (fun r => (∀ c : Dev Cert.ReferenceQkvSampleIdeal.nD,
      r.2.mem ((c.tc : Thread Cert.ReferenceQkvSampleIdeal.nD Cert.ReferenceQkvSampleIdeal.τ).loc Cert.ReferenceQkvSampleIdeal.main_arg0) = m ((c.tc : Thread Cert.ReferenceQkvSampleIdeal.nD Cert.ReferenceQkvSampleIdeal.τ).loc Cert.ReferenceQkvSampleIdeal.main_arg0)
      ∧ r.2.mem ((c.tc : Thread Cert.ReferenceQkvSampleIdeal.nD Cert.ReferenceQkvSampleIdeal.τ).loc Cert.ReferenceQkvSampleIdeal.main_arg1) = m ((c.tc : Thread Cert.ReferenceQkvSampleIdeal.nD Cert.ReferenceQkvSampleIdeal.τ).loc Cert.ReferenceQkvSampleIdeal.main_arg1)
      ∧ r.2.mem ((c.tc : Thread Cert.ReferenceQkvSampleIdeal.nD Cert.ReferenceQkvSampleIdeal.τ).loc Cert.ReferenceQkvSampleIdeal.main_arg2) = m ((c.tc : Thread Cert.ReferenceQkvSampleIdeal.nD Cert.ReferenceQkvSampleIdeal.τ).loc Cert.ReferenceQkvSampleIdeal.main_arg2)
      ∧ r.2.mem ((c.tc : Thread Cert.ReferenceQkvSampleIdeal.nD Cert.ReferenceQkvSampleIdeal.τ).loc Cert.ReferenceQkvSampleIdeal.main_arg3) = m ((c.tc : Thread Cert.ReferenceQkvSampleIdeal.nD Cert.ReferenceQkvSampleIdeal.τ).loc Cert.ReferenceQkvSampleIdeal.main_arg3)
      ∧ r.2.mem ((c.tc : Thread Cert.ReferenceQkvSampleIdeal.nD Cert.ReferenceQkvSampleIdeal.τ).loc Cert.ReferenceQkvSampleIdeal.main_arg4) = m ((c.tc : Thread Cert.ReferenceQkvSampleIdeal.nD Cert.ReferenceQkvSampleIdeal.τ).loc Cert.ReferenceQkvSampleIdeal.main_arg4))
      ∧ r.2.sem = fun _ => 0)

def quiescent_KernelMla [hKernelMla : Cert.KernelMla.Facts] : Prop :=
  ∀ (m : (ℓ : Loc Cert.KernelMla.nD Cert.KernelMla.τ Cert.KernelMla.sig) → Buf (Elt Bits) ℓ) (g : Dev Cert.KernelMla.nD → PrngReg), Pre_KernelMla m →
    θ_run (Cert.KernelMla.defs (F := Bits)) (onTc (τ := Cert.KernelMla.τ) (Cert.KernelMla.main (F := Bits))) ⟨m, fun _ => 0, g⟩ (fun r => (∀ c : Dev Cert.KernelMla.nD,
      r.2.mem ((c.tc : Thread Cert.KernelMla.nD Cert.KernelMla.τ).loc Cert.KernelMla.main_arg0) = m ((c.tc : Thread Cert.KernelMla.nD Cert.KernelMla.τ).loc Cert.KernelMla.main_arg0)
      ∧ r.2.mem ((c.tc : Thread Cert.KernelMla.nD Cert.KernelMla.τ).loc Cert.KernelMla.main_arg1) = m ((c.tc : Thread Cert.KernelMla.nD Cert.KernelMla.τ).loc Cert.KernelMla.main_arg1)
      ∧ r.2.mem ((c.tc : Thread Cert.KernelMla.nD Cert.KernelMla.τ).loc Cert.KernelMla.main_arg2) = m ((c.tc : Thread Cert.KernelMla.nD Cert.KernelMla.τ).loc Cert.KernelMla.main_arg2)
      ∧ r.2.mem ((c.tc : Thread Cert.KernelMla.nD Cert.KernelMla.τ).loc Cert.KernelMla.main_arg3) = m ((c.tc : Thread Cert.KernelMla.nD Cert.KernelMla.τ).loc Cert.KernelMla.main_arg3)
      ∧ r.2.mem ((c.tc : Thread Cert.KernelMla.nD Cert.KernelMla.τ).loc Cert.KernelMla.main_arg4) = m ((c.tc : Thread Cert.KernelMla.nD Cert.KernelMla.τ).loc Cert.KernelMla.main_arg4)
      ∧ r.2.mem ((c.tc : Thread Cert.KernelMla.nD Cert.KernelMla.τ).loc Cert.KernelMla.main_arg5) = m ((c.tc : Thread Cert.KernelMla.nD Cert.KernelMla.τ).loc Cert.KernelMla.main_arg5)
      ∧ r.2.mem ((c.tc : Thread Cert.KernelMla.nD Cert.KernelMla.τ).loc Cert.KernelMla.main_arg6) = m ((c.tc : Thread Cert.KernelMla.nD Cert.KernelMla.τ).loc Cert.KernelMla.main_arg6)
      ∧ r.2.mem ((c.tc : Thread Cert.KernelMla.nD Cert.KernelMla.τ).loc Cert.KernelMla.main_arg7) = m ((c.tc : Thread Cert.KernelMla.nD Cert.KernelMla.τ).loc Cert.KernelMla.main_arg7)
      ∧ r.2.mem ((c.tc : Thread Cert.KernelMla.nD Cert.KernelMla.τ).loc Cert.KernelMla.main_arg8) = m ((c.tc : Thread Cert.KernelMla.nD Cert.KernelMla.τ).loc Cert.KernelMla.main_arg8)
      ∧ r.2.mem ((c.tc : Thread Cert.KernelMla.nD Cert.KernelMla.τ).loc Cert.KernelMla.main_arg9) = m ((c.tc : Thread Cert.KernelMla.nD Cert.KernelMla.τ).loc Cert.KernelMla.main_arg9)
      ∧ r.2.mem ((c.tc : Thread Cert.KernelMla.nD Cert.KernelMla.τ).loc Cert.KernelMla.main_arg10) = m ((c.tc : Thread Cert.KernelMla.nD Cert.KernelMla.τ).loc Cert.KernelMla.main_arg10))
      ∧ r.2.sem = fun _ => 0)

def quiescent_KernelMlaIdeal [hKernelMlaIdeal : Cert.KernelMlaIdeal.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg), Pre_KernelMlaIdeal m →
    θ_run (Cert.KernelMlaIdeal.defs (F := Ideal)) (onTc (τ := Cert.KernelMlaIdeal.τ) (Cert.KernelMlaIdeal.main (F := Ideal))) ⟨m, fun _ => 0, g⟩ (fun r => (∀ c : Dev Cert.KernelMlaIdeal.nD,
      r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
      ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
      ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2)
      ∧ r.2.mem ((c.tc : Thread Cert.KernelMlaIdeal.nD Cert.KernelMlaIdeal.τ).loc Cert.KernelMlaIdeal.main_arg3) = m ((c.tc : Thread Cert.KernelMlaIdeal.nD Cert.KernelMlaIdeal.τ).loc Cert.KernelMlaIdeal.main_arg3)
      ∧ r.2.mem ((c.tc : Thread Cert.KernelMlaIdeal.nD Cert.KernelMlaIdeal.τ).loc Cert.KernelMlaIdeal.main_arg4) = m ((c.tc : Thread Cert.KernelMlaIdeal.nD Cert.KernelMlaIdeal.τ).loc Cert.KernelMlaIdeal.main_arg4)
      ∧ r.2.mem ((c.tc : Thread Cert.KernelMlaIdeal.nD Cert.KernelMlaIdeal.τ).loc Cert.KernelMlaIdeal.main_arg5) = m ((c.tc : Thread Cert.KernelMlaIdeal.nD Cert.KernelMlaIdeal.τ).loc Cert.KernelMlaIdeal.main_arg5)
      ∧ r.2.mem ((c.tc : Thread Cert.KernelMlaIdeal.nD Cert.KernelMlaIdeal.τ).loc Cert.KernelMlaIdeal.main_arg6) = m ((c.tc : Thread Cert.KernelMlaIdeal.nD Cert.KernelMlaIdeal.τ).loc Cert.KernelMlaIdeal.main_arg6)
      ∧ r.2.mem ((c.tc : Thread Cert.KernelMlaIdeal.nD Cert.KernelMlaIdeal.τ).loc Cert.KernelMlaIdeal.main_arg7) = m ((c.tc : Thread Cert.KernelMlaIdeal.nD Cert.KernelMlaIdeal.τ).loc Cert.KernelMlaIdeal.main_arg7)
      ∧ r.2.mem ((c.tc : Thread Cert.KernelMlaIdeal.nD Cert.KernelMlaIdeal.τ).loc Cert.KernelMlaIdeal.main_arg8) = m ((c.tc : Thread Cert.KernelMlaIdeal.nD Cert.KernelMlaIdeal.τ).loc Cert.KernelMlaIdeal.main_arg8)
      ∧ r.2.mem ((c.tc : Thread Cert.KernelMlaIdeal.nD Cert.KernelMlaIdeal.τ).loc Cert.KernelMlaIdeal.main_arg9) = m ((c.tc : Thread Cert.KernelMlaIdeal.nD Cert.KernelMlaIdeal.τ).loc Cert.KernelMlaIdeal.main_arg9)
      ∧ r.2.mem ((c.tc : Thread Cert.KernelMlaIdeal.nD Cert.KernelMlaIdeal.τ).loc Cert.KernelMlaIdeal.main_arg10) = m ((c.tc : Thread Cert.KernelMlaIdeal.nD Cert.KernelMlaIdeal.τ).loc Cert.KernelMlaIdeal.main_arg10))
      ∧ r.2.sem = fun _ => 0)

def quiescent_ReferenceMlaIdeal [hReferenceMlaIdeal : Cert.ReferenceMlaIdeal.Facts] : Prop :=
  ∀ (m : (ℓ : Loc Cert.ReferenceMlaIdeal.nD Cert.ReferenceMlaIdeal.τ Cert.ReferenceMlaIdeal.sig) → Buf (Elt Ideal) ℓ) (g : Dev Cert.ReferenceMlaIdeal.nD → PrngReg), Pre_ReferenceMlaIdeal m →
    θ_run (Cert.ReferenceMlaIdeal.defs (F := Ideal)) (onTc (τ := Cert.ReferenceMlaIdeal.τ) (Cert.ReferenceMlaIdeal.main (F := Ideal))) ⟨m, fun _ => 0, g⟩ (fun r => (∀ c : Dev Cert.ReferenceMlaIdeal.nD,
      r.2.mem ((c.tc : Thread Cert.ReferenceMlaIdeal.nD Cert.ReferenceMlaIdeal.τ).loc Cert.ReferenceMlaIdeal.main_arg0) = m ((c.tc : Thread Cert.ReferenceMlaIdeal.nD Cert.ReferenceMlaIdeal.τ).loc Cert.ReferenceMlaIdeal.main_arg0)
      ∧ r.2.mem ((c.tc : Thread Cert.ReferenceMlaIdeal.nD Cert.ReferenceMlaIdeal.τ).loc Cert.ReferenceMlaIdeal.main_arg1) = m ((c.tc : Thread Cert.ReferenceMlaIdeal.nD Cert.ReferenceMlaIdeal.τ).loc Cert.ReferenceMlaIdeal.main_arg1)
      ∧ r.2.mem ((c.tc : Thread Cert.ReferenceMlaIdeal.nD Cert.ReferenceMlaIdeal.τ).loc Cert.ReferenceMlaIdeal.main_arg2) = m ((c.tc : Thread Cert.ReferenceMlaIdeal.nD Cert.ReferenceMlaIdeal.τ).loc Cert.ReferenceMlaIdeal.main_arg2)
      ∧ r.2.mem ((c.tc : Thread Cert.ReferenceMlaIdeal.nD Cert.ReferenceMlaIdeal.τ).loc Cert.ReferenceMlaIdeal.main_arg3) = m ((c.tc : Thread Cert.ReferenceMlaIdeal.nD Cert.ReferenceMlaIdeal.τ).loc Cert.ReferenceMlaIdeal.main_arg3)
      ∧ r.2.mem ((c.tc : Thread Cert.ReferenceMlaIdeal.nD Cert.ReferenceMlaIdeal.τ).loc Cert.ReferenceMlaIdeal.main_arg4) = m ((c.tc : Thread Cert.ReferenceMlaIdeal.nD Cert.ReferenceMlaIdeal.τ).loc Cert.ReferenceMlaIdeal.main_arg4)
      ∧ r.2.mem ((c.tc : Thread Cert.ReferenceMlaIdeal.nD Cert.ReferenceMlaIdeal.τ).loc Cert.ReferenceMlaIdeal.main_arg5) = m ((c.tc : Thread Cert.ReferenceMlaIdeal.nD Cert.ReferenceMlaIdeal.τ).loc Cert.ReferenceMlaIdeal.main_arg5)
      ∧ r.2.mem ((c.tc : Thread Cert.ReferenceMlaIdeal.nD Cert.ReferenceMlaIdeal.τ).loc Cert.ReferenceMlaIdeal.main_arg6) = m ((c.tc : Thread Cert.ReferenceMlaIdeal.nD Cert.ReferenceMlaIdeal.τ).loc Cert.ReferenceMlaIdeal.main_arg6)
      ∧ r.2.mem ((c.tc : Thread Cert.ReferenceMlaIdeal.nD Cert.ReferenceMlaIdeal.τ).loc Cert.ReferenceMlaIdeal.main_arg7) = m ((c.tc : Thread Cert.ReferenceMlaIdeal.nD Cert.ReferenceMlaIdeal.τ).loc Cert.ReferenceMlaIdeal.main_arg7)
      ∧ r.2.mem ((c.tc : Thread Cert.ReferenceMlaIdeal.nD Cert.ReferenceMlaIdeal.τ).loc Cert.ReferenceMlaIdeal.main_arg8) = m ((c.tc : Thread Cert.ReferenceMlaIdeal.nD Cert.ReferenceMlaIdeal.τ).loc Cert.ReferenceMlaIdeal.main_arg8)
      ∧ r.2.mem ((c.tc : Thread Cert.ReferenceMlaIdeal.nD Cert.ReferenceMlaIdeal.τ).loc Cert.ReferenceMlaIdeal.main_arg9) = m ((c.tc : Thread Cert.ReferenceMlaIdeal.nD Cert.ReferenceMlaIdeal.τ).loc Cert.ReferenceMlaIdeal.main_arg9)
      ∧ r.2.mem ((c.tc : Thread Cert.ReferenceMlaIdeal.nD Cert.ReferenceMlaIdeal.τ).loc Cert.ReferenceMlaIdeal.main_arg10) = m ((c.tc : Thread Cert.ReferenceMlaIdeal.nD Cert.ReferenceMlaIdeal.τ).loc Cert.ReferenceMlaIdeal.main_arg10))
      ∧ r.2.sem = fun _ => 0)

def quiescent_KernelMlaSample [hKernelMlaSample : Cert.KernelMlaSample.Facts] : Prop :=
  ∀ (m : (ℓ : Loc Cert.KernelMlaSample.nD Cert.KernelMlaSample.τ Cert.KernelMlaSample.sig) → Buf (Elt Bits) ℓ) (g : Dev Cert.KernelMlaSample.nD → PrngReg), Pre_KernelMlaSample m →
    θ_run (Cert.KernelMlaSample.defs (F := Bits)) (onTc (τ := Cert.KernelMlaSample.τ) (Cert.KernelMlaSample.main (F := Bits))) ⟨m, fun _ => 0, g⟩ (fun r => (∀ c : Dev Cert.KernelMlaSample.nD,
      r.2.mem ((c.tc : Thread Cert.KernelMlaSample.nD Cert.KernelMlaSample.τ).loc Cert.KernelMlaSample.main_arg0) = m ((c.tc : Thread Cert.KernelMlaSample.nD Cert.KernelMlaSample.τ).loc Cert.KernelMlaSample.main_arg0)
      ∧ r.2.mem ((c.tc : Thread Cert.KernelMlaSample.nD Cert.KernelMlaSample.τ).loc Cert.KernelMlaSample.main_arg1) = m ((c.tc : Thread Cert.KernelMlaSample.nD Cert.KernelMlaSample.τ).loc Cert.KernelMlaSample.main_arg1)
      ∧ r.2.mem ((c.tc : Thread Cert.KernelMlaSample.nD Cert.KernelMlaSample.τ).loc Cert.KernelMlaSample.main_arg2) = m ((c.tc : Thread Cert.KernelMlaSample.nD Cert.KernelMlaSample.τ).loc Cert.KernelMlaSample.main_arg2)
      ∧ r.2.mem ((c.tc : Thread Cert.KernelMlaSample.nD Cert.KernelMlaSample.τ).loc Cert.KernelMlaSample.main_arg3) = m ((c.tc : Thread Cert.KernelMlaSample.nD Cert.KernelMlaSample.τ).loc Cert.KernelMlaSample.main_arg3)
      ∧ r.2.mem ((c.tc : Thread Cert.KernelMlaSample.nD Cert.KernelMlaSample.τ).loc Cert.KernelMlaSample.main_arg4) = m ((c.tc : Thread Cert.KernelMlaSample.nD Cert.KernelMlaSample.τ).loc Cert.KernelMlaSample.main_arg4)
      ∧ r.2.mem ((c.tc : Thread Cert.KernelMlaSample.nD Cert.KernelMlaSample.τ).loc Cert.KernelMlaSample.main_arg5) = m ((c.tc : Thread Cert.KernelMlaSample.nD Cert.KernelMlaSample.τ).loc Cert.KernelMlaSample.main_arg5)
      ∧ r.2.mem ((c.tc : Thread Cert.KernelMlaSample.nD Cert.KernelMlaSample.τ).loc Cert.KernelMlaSample.main_arg6) = m ((c.tc : Thread Cert.KernelMlaSample.nD Cert.KernelMlaSample.τ).loc Cert.KernelMlaSample.main_arg6)
      ∧ r.2.mem ((c.tc : Thread Cert.KernelMlaSample.nD Cert.KernelMlaSample.τ).loc Cert.KernelMlaSample.main_arg7) = m ((c.tc : Thread Cert.KernelMlaSample.nD Cert.KernelMlaSample.τ).loc Cert.KernelMlaSample.main_arg7)
      ∧ r.2.mem ((c.tc : Thread Cert.KernelMlaSample.nD Cert.KernelMlaSample.τ).loc Cert.KernelMlaSample.main_arg8) = m ((c.tc : Thread Cert.KernelMlaSample.nD Cert.KernelMlaSample.τ).loc Cert.KernelMlaSample.main_arg8)
      ∧ r.2.mem ((c.tc : Thread Cert.KernelMlaSample.nD Cert.KernelMlaSample.τ).loc Cert.KernelMlaSample.main_arg9) = m ((c.tc : Thread Cert.KernelMlaSample.nD Cert.KernelMlaSample.τ).loc Cert.KernelMlaSample.main_arg9)
      ∧ r.2.mem ((c.tc : Thread Cert.KernelMlaSample.nD Cert.KernelMlaSample.τ).loc Cert.KernelMlaSample.main_arg10) = m ((c.tc : Thread Cert.KernelMlaSample.nD Cert.KernelMlaSample.τ).loc Cert.KernelMlaSample.main_arg10))
      ∧ r.2.sem = fun _ => 0)

def quiescent_KernelMlaSampleIdeal [hKernelMlaSampleIdeal : Cert.KernelMlaSampleIdeal.Facts] : Prop :=
  ∀ (m : (ℓ : Loc Cert.KernelMlaSampleIdeal.nD Cert.KernelMlaSampleIdeal.τ Cert.KernelMlaSampleIdeal.sig) → Buf (Elt Ideal) ℓ) (g : Dev Cert.KernelMlaSampleIdeal.nD → PrngReg), Pre_KernelMlaSampleIdeal m →
    θ_run (Cert.KernelMlaSampleIdeal.defs (F := Ideal)) (onTc (τ := Cert.KernelMlaSampleIdeal.τ) (Cert.KernelMlaSampleIdeal.main (F := Ideal))) ⟨m, fun _ => 0, g⟩ (fun r => (∀ c : Dev Cert.KernelMlaSampleIdeal.nD,
      r.2.mem ((c.tc : Thread Cert.KernelMlaSampleIdeal.nD Cert.KernelMlaSampleIdeal.τ).loc Cert.KernelMlaSampleIdeal.main_arg0) = m ((c.tc : Thread Cert.KernelMlaSampleIdeal.nD Cert.KernelMlaSampleIdeal.τ).loc Cert.KernelMlaSampleIdeal.main_arg0)
      ∧ r.2.mem ((c.tc : Thread Cert.KernelMlaSampleIdeal.nD Cert.KernelMlaSampleIdeal.τ).loc Cert.KernelMlaSampleIdeal.main_arg1) = m ((c.tc : Thread Cert.KernelMlaSampleIdeal.nD Cert.KernelMlaSampleIdeal.τ).loc Cert.KernelMlaSampleIdeal.main_arg1)
      ∧ r.2.mem ((c.tc : Thread Cert.KernelMlaSampleIdeal.nD Cert.KernelMlaSampleIdeal.τ).loc Cert.KernelMlaSampleIdeal.main_arg2) = m ((c.tc : Thread Cert.KernelMlaSampleIdeal.nD Cert.KernelMlaSampleIdeal.τ).loc Cert.KernelMlaSampleIdeal.main_arg2)
      ∧ r.2.mem ((c.tc : Thread Cert.KernelMlaSampleIdeal.nD Cert.KernelMlaSampleIdeal.τ).loc Cert.KernelMlaSampleIdeal.main_arg3) = m ((c.tc : Thread Cert.KernelMlaSampleIdeal.nD Cert.KernelMlaSampleIdeal.τ).loc Cert.KernelMlaSampleIdeal.main_arg3)
      ∧ r.2.mem ((c.tc : Thread Cert.KernelMlaSampleIdeal.nD Cert.KernelMlaSampleIdeal.τ).loc Cert.KernelMlaSampleIdeal.main_arg4) = m ((c.tc : Thread Cert.KernelMlaSampleIdeal.nD Cert.KernelMlaSampleIdeal.τ).loc Cert.KernelMlaSampleIdeal.main_arg4)
      ∧ r.2.mem ((c.tc : Thread Cert.KernelMlaSampleIdeal.nD Cert.KernelMlaSampleIdeal.τ).loc Cert.KernelMlaSampleIdeal.main_arg5) = m ((c.tc : Thread Cert.KernelMlaSampleIdeal.nD Cert.KernelMlaSampleIdeal.τ).loc Cert.KernelMlaSampleIdeal.main_arg5)
      ∧ r.2.mem ((c.tc : Thread Cert.KernelMlaSampleIdeal.nD Cert.KernelMlaSampleIdeal.τ).loc Cert.KernelMlaSampleIdeal.main_arg6) = m ((c.tc : Thread Cert.KernelMlaSampleIdeal.nD Cert.KernelMlaSampleIdeal.τ).loc Cert.KernelMlaSampleIdeal.main_arg6)
      ∧ r.2.mem ((c.tc : Thread Cert.KernelMlaSampleIdeal.nD Cert.KernelMlaSampleIdeal.τ).loc Cert.KernelMlaSampleIdeal.main_arg7) = m ((c.tc : Thread Cert.KernelMlaSampleIdeal.nD Cert.KernelMlaSampleIdeal.τ).loc Cert.KernelMlaSampleIdeal.main_arg7)
      ∧ r.2.mem ((c.tc : Thread Cert.KernelMlaSampleIdeal.nD Cert.KernelMlaSampleIdeal.τ).loc Cert.KernelMlaSampleIdeal.main_arg8) = m ((c.tc : Thread Cert.KernelMlaSampleIdeal.nD Cert.KernelMlaSampleIdeal.τ).loc Cert.KernelMlaSampleIdeal.main_arg8)
      ∧ r.2.mem ((c.tc : Thread Cert.KernelMlaSampleIdeal.nD Cert.KernelMlaSampleIdeal.τ).loc Cert.KernelMlaSampleIdeal.main_arg9) = m ((c.tc : Thread Cert.KernelMlaSampleIdeal.nD Cert.KernelMlaSampleIdeal.τ).loc Cert.KernelMlaSampleIdeal.main_arg9)
      ∧ r.2.mem ((c.tc : Thread Cert.KernelMlaSampleIdeal.nD Cert.KernelMlaSampleIdeal.τ).loc Cert.KernelMlaSampleIdeal.main_arg10) = m ((c.tc : Thread Cert.KernelMlaSampleIdeal.nD Cert.KernelMlaSampleIdeal.τ).loc Cert.KernelMlaSampleIdeal.main_arg10))
      ∧ r.2.sem = fun _ => 0)

def quiescent_ReferenceMlaSampleIdeal [hReferenceMlaSampleIdeal : Cert.ReferenceMlaSampleIdeal.Facts] : Prop :=
  ∀ (m : (ℓ : Loc Cert.ReferenceMlaSampleIdeal.nD Cert.ReferenceMlaSampleIdeal.τ Cert.ReferenceMlaSampleIdeal.sig) → Buf (Elt Ideal) ℓ) (g : Dev Cert.ReferenceMlaSampleIdeal.nD → PrngReg), Pre_ReferenceMlaSampleIdeal m →
    θ_run (Cert.ReferenceMlaSampleIdeal.defs (F := Ideal)) (onTc (τ := Cert.ReferenceMlaSampleIdeal.τ) (Cert.ReferenceMlaSampleIdeal.main (F := Ideal))) ⟨m, fun _ => 0, g⟩ (fun r => (∀ c : Dev Cert.ReferenceMlaSampleIdeal.nD,
      r.2.mem ((c.tc : Thread Cert.ReferenceMlaSampleIdeal.nD Cert.ReferenceMlaSampleIdeal.τ).loc Cert.ReferenceMlaSampleIdeal.main_arg0) = m ((c.tc : Thread Cert.ReferenceMlaSampleIdeal.nD Cert.ReferenceMlaSampleIdeal.τ).loc Cert.ReferenceMlaSampleIdeal.main_arg0)
      ∧ r.2.mem ((c.tc : Thread Cert.ReferenceMlaSampleIdeal.nD Cert.ReferenceMlaSampleIdeal.τ).loc Cert.ReferenceMlaSampleIdeal.main_arg1) = m ((c.tc : Thread Cert.ReferenceMlaSampleIdeal.nD Cert.ReferenceMlaSampleIdeal.τ).loc Cert.ReferenceMlaSampleIdeal.main_arg1)
      ∧ r.2.mem ((c.tc : Thread Cert.ReferenceMlaSampleIdeal.nD Cert.ReferenceMlaSampleIdeal.τ).loc Cert.ReferenceMlaSampleIdeal.main_arg2) = m ((c.tc : Thread Cert.ReferenceMlaSampleIdeal.nD Cert.ReferenceMlaSampleIdeal.τ).loc Cert.ReferenceMlaSampleIdeal.main_arg2)
      ∧ r.2.mem ((c.tc : Thread Cert.ReferenceMlaSampleIdeal.nD Cert.ReferenceMlaSampleIdeal.τ).loc Cert.ReferenceMlaSampleIdeal.main_arg3) = m ((c.tc : Thread Cert.ReferenceMlaSampleIdeal.nD Cert.ReferenceMlaSampleIdeal.τ).loc Cert.ReferenceMlaSampleIdeal.main_arg3)
      ∧ r.2.mem ((c.tc : Thread Cert.ReferenceMlaSampleIdeal.nD Cert.ReferenceMlaSampleIdeal.τ).loc Cert.ReferenceMlaSampleIdeal.main_arg4) = m ((c.tc : Thread Cert.ReferenceMlaSampleIdeal.nD Cert.ReferenceMlaSampleIdeal.τ).loc Cert.ReferenceMlaSampleIdeal.main_arg4)
      ∧ r.2.mem ((c.tc : Thread Cert.ReferenceMlaSampleIdeal.nD Cert.ReferenceMlaSampleIdeal.τ).loc Cert.ReferenceMlaSampleIdeal.main_arg5) = m ((c.tc : Thread Cert.ReferenceMlaSampleIdeal.nD Cert.ReferenceMlaSampleIdeal.τ).loc Cert.ReferenceMlaSampleIdeal.main_arg5)
      ∧ r.2.mem ((c.tc : Thread Cert.ReferenceMlaSampleIdeal.nD Cert.ReferenceMlaSampleIdeal.τ).loc Cert.ReferenceMlaSampleIdeal.main_arg6) = m ((c.tc : Thread Cert.ReferenceMlaSampleIdeal.nD Cert.ReferenceMlaSampleIdeal.τ).loc Cert.ReferenceMlaSampleIdeal.main_arg6)
      ∧ r.2.mem ((c.tc : Thread Cert.ReferenceMlaSampleIdeal.nD Cert.ReferenceMlaSampleIdeal.τ).loc Cert.ReferenceMlaSampleIdeal.main_arg7) = m ((c.tc : Thread Cert.ReferenceMlaSampleIdeal.nD Cert.ReferenceMlaSampleIdeal.τ).loc Cert.ReferenceMlaSampleIdeal.main_arg7)
      ∧ r.2.mem ((c.tc : Thread Cert.ReferenceMlaSampleIdeal.nD Cert.ReferenceMlaSampleIdeal.τ).loc Cert.ReferenceMlaSampleIdeal.main_arg8) = m ((c.tc : Thread Cert.ReferenceMlaSampleIdeal.nD Cert.ReferenceMlaSampleIdeal.τ).loc Cert.ReferenceMlaSampleIdeal.main_arg8)
      ∧ r.2.mem ((c.tc : Thread Cert.ReferenceMlaSampleIdeal.nD Cert.ReferenceMlaSampleIdeal.τ).loc Cert.ReferenceMlaSampleIdeal.main_arg9) = m ((c.tc : Thread Cert.ReferenceMlaSampleIdeal.nD Cert.ReferenceMlaSampleIdeal.τ).loc Cert.ReferenceMlaSampleIdeal.main_arg9)
      ∧ r.2.mem ((c.tc : Thread Cert.ReferenceMlaSampleIdeal.nD Cert.ReferenceMlaSampleIdeal.τ).loc Cert.ReferenceMlaSampleIdeal.main_arg10) = m ((c.tc : Thread Cert.ReferenceMlaSampleIdeal.nD Cert.ReferenceMlaSampleIdeal.τ).loc Cert.ReferenceMlaSampleIdeal.main_arg10))
      ∧ r.2.sem = fun _ => 0)

def preserves_KernelLast_KernelLastIdeal : Prop :=
  True

def algebraic_KernelLastIdeal_ReferenceLastIdeal [hKernelLastIdeal : Cert.KernelLastIdeal.Facts] [hReferenceLastIdeal : Cert.ReferenceLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_KernelLastIdeal m →
    (∀ c : Dev Cert.KernelLastIdeal.nD,
      m' ((c.tc : Thread Cert.ReferenceLastIdeal.nD Cert.ReferenceLastIdeal.τ).loc Cert.ReferenceLastIdeal.main_arg0) = m ((c.tc : Thread Cert.KernelLastIdeal.nD Cert.KernelLastIdeal.τ).loc Cert.KernelLastIdeal.main_arg0)
      ∧ m' ((c.tc : Thread Cert.ReferenceLastIdeal.nD Cert.ReferenceLastIdeal.τ).loc Cert.ReferenceLastIdeal.main_arg1) = m ((c.tc : Thread Cert.KernelLastIdeal.nD Cert.KernelLastIdeal.τ).loc Cert.KernelLastIdeal.main_arg1)
      ∧ m' ((c.tc : Thread Cert.ReferenceLastIdeal.nD Cert.ReferenceLastIdeal.τ).loc Cert.ReferenceLastIdeal.main_arg2) = m ((c.tc : Thread Cert.KernelLastIdeal.nD Cert.KernelLastIdeal.τ).loc Cert.KernelLastIdeal.main_arg2)
      ∧ m' ((c.tc : Thread Cert.ReferenceLastIdeal.nD Cert.ReferenceLastIdeal.τ).loc Cert.ReferenceLastIdeal.main_arg3) = m ((c.tc : Thread Cert.KernelLastIdeal.nD Cert.KernelLastIdeal.τ).loc Cert.KernelLastIdeal.main_arg3)
      ∧ m' ((c.tc : Thread Cert.ReferenceLastIdeal.nD Cert.ReferenceLastIdeal.τ).loc Cert.ReferenceLastIdeal.main_arg4) = m ((c.tc : Thread Cert.KernelLastIdeal.nD Cert.KernelLastIdeal.τ).loc Cert.KernelLastIdeal.main_arg4)
      ∧ m' ((c.tc : Thread Cert.ReferenceLastIdeal.nD Cert.ReferenceLastIdeal.τ).loc Cert.ReferenceLastIdeal.main_arg5) = m ((c.tc : Thread Cert.KernelLastIdeal.nD Cert.KernelLastIdeal.τ).loc Cert.KernelLastIdeal.main_arg5)
      ∧ m' ((c.tc : Thread Cert.ReferenceLastIdeal.nD Cert.ReferenceLastIdeal.τ).loc Cert.ReferenceLastIdeal.main_arg6) = m ((c.tc : Thread Cert.KernelLastIdeal.nD Cert.KernelLastIdeal.τ).loc Cert.KernelLastIdeal.main_arg6)
      ∧ m' ((c.tc : Thread Cert.ReferenceLastIdeal.nD Cert.ReferenceLastIdeal.τ).loc Cert.ReferenceLastIdeal.main_arg7) = m ((c.tc : Thread Cert.KernelLastIdeal.nD Cert.KernelLastIdeal.τ).loc Cert.KernelLastIdeal.main_arg7)) →
    ∃ (v0 : (c : Dev Cert.KernelLastIdeal.nD) → Buf (Elt Ideal) ((c.tc : Thread Cert.KernelLastIdeal.nD Cert.KernelLastIdeal.τ).loc Cert.KernelLastIdeal.main_v7)),
      θ_run (Cert.KernelLastIdeal.defs (F := Ideal)) (onTc (τ := Cert.KernelLastIdeal.τ) (Cert.KernelLastIdeal.main (F := Ideal))) ⟨m, fun _ => 0, g⟩ (fun r => ∀ c : Dev Cert.KernelLastIdeal.nD,
          r.2.mem ((c.tc : Thread Cert.KernelLastIdeal.nD Cert.KernelLastIdeal.τ).loc Cert.KernelLastIdeal.main_v7) = v0 c
          ∧ r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
          ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
          ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
          ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3)
          ∧ r.2.mem ((c.tc : Thread Cert.KernelLastIdeal.nD Cert.KernelLastIdeal.τ).loc Cert.KernelLastIdeal.main_arg4) = m ((c.tc : Thread Cert.KernelLastIdeal.nD Cert.KernelLastIdeal.τ).loc Cert.KernelLastIdeal.main_arg4)
          ∧ r.2.mem ((c.tc : Thread Cert.KernelLastIdeal.nD Cert.KernelLastIdeal.τ).loc Cert.KernelLastIdeal.main_arg5) = m ((c.tc : Thread Cert.KernelLastIdeal.nD Cert.KernelLastIdeal.τ).loc Cert.KernelLastIdeal.main_arg5)
          ∧ r.2.mem ((c.tc : Thread Cert.KernelLastIdeal.nD Cert.KernelLastIdeal.τ).loc Cert.KernelLastIdeal.main_arg6) = m ((c.tc : Thread Cert.KernelLastIdeal.nD Cert.KernelLastIdeal.τ).loc Cert.KernelLastIdeal.main_arg6)
          ∧ r.2.mem ((c.tc : Thread Cert.KernelLastIdeal.nD Cert.KernelLastIdeal.τ).loc Cert.KernelLastIdeal.main_arg7) = m ((c.tc : Thread Cert.KernelLastIdeal.nD Cert.KernelLastIdeal.τ).loc Cert.KernelLastIdeal.main_arg7))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v43) = v0 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1)
          ∧ r.2.mem ((c.tc : Thread Cert.ReferenceLastIdeal.nD Cert.ReferenceLastIdeal.τ).loc Cert.ReferenceLastIdeal.main_arg2) = m' ((c.tc : Thread Cert.ReferenceLastIdeal.nD Cert.ReferenceLastIdeal.τ).loc Cert.ReferenceLastIdeal.main_arg2)
          ∧ r.2.mem ((c.tc : Thread Cert.ReferenceLastIdeal.nD Cert.ReferenceLastIdeal.τ).loc Cert.ReferenceLastIdeal.main_arg3) = m' ((c.tc : Thread Cert.ReferenceLastIdeal.nD Cert.ReferenceLastIdeal.τ).loc Cert.ReferenceLastIdeal.main_arg3)
          ∧ r.2.mem ((c.tc : Thread Cert.ReferenceLastIdeal.nD Cert.ReferenceLastIdeal.τ).loc Cert.ReferenceLastIdeal.main_arg4) = m' ((c.tc : Thread Cert.ReferenceLastIdeal.nD Cert.ReferenceLastIdeal.τ).loc Cert.ReferenceLastIdeal.main_arg4)
          ∧ r.2.mem ((c.tc : Thread Cert.ReferenceLastIdeal.nD Cert.ReferenceLastIdeal.τ).loc Cert.ReferenceLastIdeal.main_arg5) = m' ((c.tc : Thread Cert.ReferenceLastIdeal.nD Cert.ReferenceLastIdeal.τ).loc Cert.ReferenceLastIdeal.main_arg5)
          ∧ r.2.mem ((c.tc : Thread Cert.ReferenceLastIdeal.nD Cert.ReferenceLastIdeal.τ).loc Cert.ReferenceLastIdeal.main_arg6) = m' ((c.tc : Thread Cert.ReferenceLastIdeal.nD Cert.ReferenceLastIdeal.τ).loc Cert.ReferenceLastIdeal.main_arg6)
          ∧ r.2.mem ((c.tc : Thread Cert.ReferenceLastIdeal.nD Cert.ReferenceLastIdeal.τ).loc Cert.ReferenceLastIdeal.main_arg7) = m' ((c.tc : Thread Cert.ReferenceLastIdeal.nD Cert.ReferenceLastIdeal.τ).loc Cert.ReferenceLastIdeal.main_arg7))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)
      ∧ m' ((c.tc : Thread Cert.ReferenceProjIdeal.nD Cert.ReferenceProjIdeal.τ).loc Cert.ReferenceProjIdeal.main_arg5) = m ((c.tc : Thread Cert.KernelProjIdeal.nD Cert.KernelProjIdeal.τ).loc Cert.KernelProjIdeal.main_arg5)
      ∧ m' ((c.tc : Thread Cert.ReferenceProjIdeal.nD Cert.ReferenceProjIdeal.τ).loc Cert.ReferenceProjIdeal.main_arg6) = m ((c.tc : Thread Cert.KernelProjIdeal.nD Cert.KernelProjIdeal.τ).loc Cert.KernelProjIdeal.main_arg6)
      ∧ m' ((c.tc : Thread Cert.ReferenceProjIdeal.nD Cert.ReferenceProjIdeal.τ).loc Cert.ReferenceProjIdeal.main_arg7) = m ((c.tc : Thread Cert.KernelProjIdeal.nD Cert.KernelProjIdeal.τ).loc Cert.KernelProjIdeal.main_arg7)
      ∧ m' ((c.tc : Thread Cert.ReferenceProjIdeal.nD Cert.ReferenceProjIdeal.τ).loc Cert.ReferenceProjIdeal.main_arg8) = m ((c.tc : Thread Cert.KernelProjIdeal.nD Cert.KernelProjIdeal.τ).loc Cert.KernelProjIdeal.main_arg8)
      ∧ m' ((c.tc : Thread Cert.ReferenceProjIdeal.nD Cert.ReferenceProjIdeal.τ).loc Cert.ReferenceProjIdeal.main_arg9) = m ((c.tc : Thread Cert.KernelProjIdeal.nD Cert.KernelProjIdeal.τ).loc Cert.KernelProjIdeal.main_arg9)
      ∧ m' ((c.tc : Thread Cert.ReferenceProjIdeal.nD Cert.ReferenceProjIdeal.τ).loc Cert.ReferenceProjIdeal.main_arg10) = m ((c.tc : Thread Cert.KernelProjIdeal.nD Cert.KernelProjIdeal.τ).loc Cert.KernelProjIdeal.main_arg10)) →
    ∃ (v0 : (c : Dev Cert.KernelProjIdeal.nD) → Buf (Elt Ideal) ((c.tc : Thread Cert.KernelProjIdeal.nD Cert.KernelProjIdeal.τ).loc Cert.KernelProjIdeal.main_v9)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v9) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
          ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
          ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
          ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
          ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8)
          ∧ r.2.mem ((c.tc : Thread Cert.KernelProjIdeal.nD Cert.KernelProjIdeal.τ).loc Cert.KernelProjIdeal.main_arg9) = m ((c.tc : Thread Cert.KernelProjIdeal.nD Cert.KernelProjIdeal.τ).loc Cert.KernelProjIdeal.main_arg9)
          ∧ r.2.mem ((c.tc : Thread Cert.KernelProjIdeal.nD Cert.KernelProjIdeal.τ).loc Cert.KernelProjIdeal.main_arg10) = m ((c.tc : Thread Cert.KernelProjIdeal.nD Cert.KernelProjIdeal.τ).loc Cert.KernelProjIdeal.main_arg10))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v38) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4)
          ∧ r.2.mem ((c.tc : Thread Cert.ReferenceProjIdeal.nD Cert.ReferenceProjIdeal.τ).loc Cert.ReferenceProjIdeal.main_arg5) = m' ((c.tc : Thread Cert.ReferenceProjIdeal.nD Cert.ReferenceProjIdeal.τ).loc Cert.ReferenceProjIdeal.main_arg5)
          ∧ r.2.mem ((c.tc : Thread Cert.ReferenceProjIdeal.nD Cert.ReferenceProjIdeal.τ).loc Cert.ReferenceProjIdeal.main_arg6) = m' ((c.tc : Thread Cert.ReferenceProjIdeal.nD Cert.ReferenceProjIdeal.τ).loc Cert.ReferenceProjIdeal.main_arg6)
          ∧ r.2.mem ((c.tc : Thread Cert.ReferenceProjIdeal.nD Cert.ReferenceProjIdeal.τ).loc Cert.ReferenceProjIdeal.main_arg7) = m' ((c.tc : Thread Cert.ReferenceProjIdeal.nD Cert.ReferenceProjIdeal.τ).loc Cert.ReferenceProjIdeal.main_arg7)
          ∧ r.2.mem ((c.tc : Thread Cert.ReferenceProjIdeal.nD Cert.ReferenceProjIdeal.τ).loc Cert.ReferenceProjIdeal.main_arg8) = m' ((c.tc : Thread Cert.ReferenceProjIdeal.nD Cert.ReferenceProjIdeal.τ).loc Cert.ReferenceProjIdeal.main_arg8)
          ∧ r.2.mem ((c.tc : Thread Cert.ReferenceProjIdeal.nD Cert.ReferenceProjIdeal.τ).loc Cert.ReferenceProjIdeal.main_arg9) = m' ((c.tc : Thread Cert.ReferenceProjIdeal.nD Cert.ReferenceProjIdeal.τ).loc Cert.ReferenceProjIdeal.main_arg9)
          ∧ r.2.mem ((c.tc : Thread Cert.ReferenceProjIdeal.nD Cert.ReferenceProjIdeal.τ).loc Cert.ReferenceProjIdeal.main_arg10) = m' ((c.tc : Thread Cert.ReferenceProjIdeal.nD Cert.ReferenceProjIdeal.τ).loc Cert.ReferenceProjIdeal.main_arg10))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)
      ∧ m' ((c.tc : Thread Cert.ReferenceGluIdeal.nD Cert.ReferenceGluIdeal.τ).loc Cert.ReferenceGluIdeal.main_arg2) = m ((c.tc : Thread Cert.KernelGluIdeal.nD Cert.KernelGluIdeal.τ).loc Cert.KernelGluIdeal.main_arg2)
      ∧ m' ((c.tc : Thread Cert.ReferenceGluIdeal.nD Cert.ReferenceGluIdeal.τ).loc Cert.ReferenceGluIdeal.main_arg3) = m ((c.tc : Thread Cert.KernelGluIdeal.nD Cert.KernelGluIdeal.τ).loc Cert.KernelGluIdeal.main_arg3)
      ∧ m' ((c.tc : Thread Cert.ReferenceGluIdeal.nD Cert.ReferenceGluIdeal.τ).loc Cert.ReferenceGluIdeal.main_arg4) = m ((c.tc : Thread Cert.KernelGluIdeal.nD Cert.KernelGluIdeal.τ).loc Cert.KernelGluIdeal.main_arg4)
      ∧ m' ((c.tc : Thread Cert.ReferenceGluIdeal.nD Cert.ReferenceGluIdeal.τ).loc Cert.ReferenceGluIdeal.main_arg5) = m ((c.tc : Thread Cert.KernelGluIdeal.nD Cert.KernelGluIdeal.τ).loc Cert.KernelGluIdeal.main_arg5)
      ∧ m' ((c.tc : Thread Cert.ReferenceGluIdeal.nD Cert.ReferenceGluIdeal.τ).loc Cert.ReferenceGluIdeal.main_arg6) = m ((c.tc : Thread Cert.KernelGluIdeal.nD Cert.KernelGluIdeal.τ).loc Cert.KernelGluIdeal.main_arg6)
      ∧ m' ((c.tc : Thread Cert.ReferenceGluIdeal.nD Cert.ReferenceGluIdeal.τ).loc Cert.ReferenceGluIdeal.main_arg7) = m ((c.tc : Thread Cert.KernelGluIdeal.nD Cert.KernelGluIdeal.τ).loc Cert.KernelGluIdeal.main_arg7)
      ∧ m' ((c.tc : Thread Cert.ReferenceGluIdeal.nD Cert.ReferenceGluIdeal.τ).loc Cert.ReferenceGluIdeal.main_arg8) = m ((c.tc : Thread Cert.KernelGluIdeal.nD Cert.KernelGluIdeal.τ).loc Cert.KernelGluIdeal.main_arg8)
      ∧ m' ((c.tc : Thread Cert.ReferenceGluIdeal.nD Cert.ReferenceGluIdeal.τ).loc Cert.ReferenceGluIdeal.main_arg9) = m ((c.tc : Thread Cert.KernelGluIdeal.nD Cert.KernelGluIdeal.τ).loc Cert.KernelGluIdeal.main_arg9)
      ∧ m' ((c.tc : Thread Cert.ReferenceGluIdeal.nD Cert.ReferenceGluIdeal.τ).loc Cert.ReferenceGluIdeal.main_arg10) = m ((c.tc : Thread Cert.KernelGluIdeal.nD Cert.KernelGluIdeal.τ).loc Cert.KernelGluIdeal.main_arg10)
      ∧ m' ((c.tc : Thread Cert.ReferenceGluIdeal.nD Cert.ReferenceGluIdeal.τ).loc Cert.ReferenceGluIdeal.main_arg11) = m ((c.tc : Thread Cert.KernelGluIdeal.nD Cert.KernelGluIdeal.τ).loc Cert.KernelGluIdeal.main_arg11)
      ∧ m' ((c.tc : Thread Cert.ReferenceGluIdeal.nD Cert.ReferenceGluIdeal.τ).loc Cert.ReferenceGluIdeal.main_arg12) = m ((c.tc : Thread Cert.KernelGluIdeal.nD Cert.KernelGluIdeal.τ).loc Cert.KernelGluIdeal.main_arg12)
      ∧ m' ((c.tc : Thread Cert.ReferenceGluIdeal.nD Cert.ReferenceGluIdeal.τ).loc Cert.ReferenceGluIdeal.main_arg13) = m ((c.tc : Thread Cert.KernelGluIdeal.nD Cert.KernelGluIdeal.τ).loc Cert.KernelGluIdeal.main_arg13)) →
    ∃ (v0 : (c : Dev Cert.KernelGluIdeal.nD) → Buf (Elt Ideal) ((c.tc : Thread Cert.KernelGluIdeal.nD Cert.KernelGluIdeal.τ).loc Cert.KernelGluIdeal.main_v11)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v11) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
          ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
          ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3)
          ∧ r.2.mem ((c.tc : Thread Cert.KernelGluIdeal.nD Cert.KernelGluIdeal.τ).loc Cert.KernelGluIdeal.main_arg4) = m ((c.tc : Thread Cert.KernelGluIdeal.nD Cert.KernelGluIdeal.τ).loc Cert.KernelGluIdeal.main_arg4)
          ∧ r.2.mem ((c.tc : Thread Cert.KernelGluIdeal.nD Cert.KernelGluIdeal.τ).loc Cert.KernelGluIdeal.main_arg5) = m ((c.tc : Thread Cert.KernelGluIdeal.nD Cert.KernelGluIdeal.τ).loc Cert.KernelGluIdeal.main_arg5)
          ∧ r.2.mem ((c.tc : Thread Cert.KernelGluIdeal.nD Cert.KernelGluIdeal.τ).loc Cert.KernelGluIdeal.main_arg6) = m ((c.tc : Thread Cert.KernelGluIdeal.nD Cert.KernelGluIdeal.τ).loc Cert.KernelGluIdeal.main_arg6)
          ∧ r.2.mem ((c.tc : Thread Cert.KernelGluIdeal.nD Cert.KernelGluIdeal.τ).loc Cert.KernelGluIdeal.main_arg7) = m ((c.tc : Thread Cert.KernelGluIdeal.nD Cert.KernelGluIdeal.τ).loc Cert.KernelGluIdeal.main_arg7)
          ∧ r.2.mem ((c.tc : Thread Cert.KernelGluIdeal.nD Cert.KernelGluIdeal.τ).loc Cert.KernelGluIdeal.main_arg8) = m ((c.tc : Thread Cert.KernelGluIdeal.nD Cert.KernelGluIdeal.τ).loc Cert.KernelGluIdeal.main_arg8)
          ∧ r.2.mem ((c.tc : Thread Cert.KernelGluIdeal.nD Cert.KernelGluIdeal.τ).loc Cert.KernelGluIdeal.main_arg9) = m ((c.tc : Thread Cert.KernelGluIdeal.nD Cert.KernelGluIdeal.τ).loc Cert.KernelGluIdeal.main_arg9)
          ∧ r.2.mem ((c.tc : Thread Cert.KernelGluIdeal.nD Cert.KernelGluIdeal.τ).loc Cert.KernelGluIdeal.main_arg10) = m ((c.tc : Thread Cert.KernelGluIdeal.nD Cert.KernelGluIdeal.τ).loc Cert.KernelGluIdeal.main_arg10)
          ∧ r.2.mem ((c.tc : Thread Cert.KernelGluIdeal.nD Cert.KernelGluIdeal.τ).loc Cert.KernelGluIdeal.main_arg11) = m ((c.tc : Thread Cert.KernelGluIdeal.nD Cert.KernelGluIdeal.τ).loc Cert.KernelGluIdeal.main_arg11)
          ∧ r.2.mem ((c.tc : Thread Cert.KernelGluIdeal.nD Cert.KernelGluIdeal.τ).loc Cert.KernelGluIdeal.main_arg12) = m ((c.tc : Thread Cert.KernelGluIdeal.nD Cert.KernelGluIdeal.τ).loc Cert.KernelGluIdeal.main_arg12)
          ∧ r.2.mem ((c.tc : Thread Cert.KernelGluIdeal.nD Cert.KernelGluIdeal.τ).loc Cert.KernelGluIdeal.main_arg13) = m ((c.tc : Thread Cert.KernelGluIdeal.nD Cert.KernelGluIdeal.τ).loc Cert.KernelGluIdeal.main_arg13))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v62) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1)
          ∧ r.2.mem ((c.tc : Thread Cert.ReferenceGluIdeal.nD Cert.ReferenceGluIdeal.τ).loc Cert.ReferenceGluIdeal.main_arg2) = m' ((c.tc : Thread Cert.ReferenceGluIdeal.nD Cert.ReferenceGluIdeal.τ).loc Cert.ReferenceGluIdeal.main_arg2)
          ∧ r.2.mem ((c.tc : Thread Cert.ReferenceGluIdeal.nD Cert.ReferenceGluIdeal.τ).loc Cert.ReferenceGluIdeal.main_arg3) = m' ((c.tc : Thread Cert.ReferenceGluIdeal.nD Cert.ReferenceGluIdeal.τ).loc Cert.ReferenceGluIdeal.main_arg3)
          ∧ r.2.mem ((c.tc : Thread Cert.ReferenceGluIdeal.nD Cert.ReferenceGluIdeal.τ).loc Cert.ReferenceGluIdeal.main_arg4) = m' ((c.tc : Thread Cert.ReferenceGluIdeal.nD Cert.ReferenceGluIdeal.τ).loc Cert.ReferenceGluIdeal.main_arg4)
          ∧ r.2.mem ((c.tc : Thread Cert.ReferenceGluIdeal.nD Cert.ReferenceGluIdeal.τ).loc Cert.ReferenceGluIdeal.main_arg5) = m' ((c.tc : Thread Cert.ReferenceGluIdeal.nD Cert.ReferenceGluIdeal.τ).loc Cert.ReferenceGluIdeal.main_arg5)
          ∧ r.2.mem ((c.tc : Thread Cert.ReferenceGluIdeal.nD Cert.ReferenceGluIdeal.τ).loc Cert.ReferenceGluIdeal.main_arg6) = m' ((c.tc : Thread Cert.ReferenceGluIdeal.nD Cert.ReferenceGluIdeal.τ).loc Cert.ReferenceGluIdeal.main_arg6)
          ∧ r.2.mem ((c.tc : Thread Cert.ReferenceGluIdeal.nD Cert.ReferenceGluIdeal.τ).loc Cert.ReferenceGluIdeal.main_arg7) = m' ((c.tc : Thread Cert.ReferenceGluIdeal.nD Cert.ReferenceGluIdeal.τ).loc Cert.ReferenceGluIdeal.main_arg7)
          ∧ r.2.mem ((c.tc : Thread Cert.ReferenceGluIdeal.nD Cert.ReferenceGluIdeal.τ).loc Cert.ReferenceGluIdeal.main_arg8) = m' ((c.tc : Thread Cert.ReferenceGluIdeal.nD Cert.ReferenceGluIdeal.τ).loc Cert.ReferenceGluIdeal.main_arg8)
          ∧ r.2.mem ((c.tc : Thread Cert.ReferenceGluIdeal.nD Cert.ReferenceGluIdeal.τ).loc Cert.ReferenceGluIdeal.main_arg9) = m' ((c.tc : Thread Cert.ReferenceGluIdeal.nD Cert.ReferenceGluIdeal.τ).loc Cert.ReferenceGluIdeal.main_arg9)
          ∧ r.2.mem ((c.tc : Thread Cert.ReferenceGluIdeal.nD Cert.ReferenceGluIdeal.τ).loc Cert.ReferenceGluIdeal.main_arg10) = m' ((c.tc : Thread Cert.ReferenceGluIdeal.nD Cert.ReferenceGluIdeal.τ).loc Cert.ReferenceGluIdeal.main_arg10)
          ∧ r.2.mem ((c.tc : Thread Cert.ReferenceGluIdeal.nD Cert.ReferenceGluIdeal.τ).loc Cert.ReferenceGluIdeal.main_arg11) = m' ((c.tc : Thread Cert.ReferenceGluIdeal.nD Cert.ReferenceGluIdeal.τ).loc Cert.ReferenceGluIdeal.main_arg11)
          ∧ r.2.mem ((c.tc : Thread Cert.ReferenceGluIdeal.nD Cert.ReferenceGluIdeal.τ).loc Cert.ReferenceGluIdeal.main_arg12) = m' ((c.tc : Thread Cert.ReferenceGluIdeal.nD Cert.ReferenceGluIdeal.τ).loc Cert.ReferenceGluIdeal.main_arg12)
          ∧ r.2.mem ((c.tc : Thread Cert.ReferenceGluIdeal.nD Cert.ReferenceGluIdeal.τ).loc Cert.ReferenceGluIdeal.main_arg13) = m' ((c.tc : Thread Cert.ReferenceGluIdeal.nD Cert.ReferenceGluIdeal.τ).loc Cert.ReferenceGluIdeal.main_arg13))

def preserves_KernelSgu_KernelSguIdeal : Prop :=
  True

def algebraic_KernelSguIdeal_ReferenceSguIdeal [hKernelSguIdeal : Cert.KernelSguIdeal.Facts] [hReferenceSguIdeal : Cert.ReferenceSguIdeal.Facts] : Prop :=
  ∀ (m : (ℓ : Loc Cert.KernelSguIdeal.nD Cert.KernelSguIdeal.τ Cert.KernelSguIdeal.sig) → Buf (Elt Ideal) ℓ) (g : Dev Cert.KernelSguIdeal.nD → PrngReg)
    (m' : (ℓ : Loc Cert.ReferenceSguIdeal.nD Cert.ReferenceSguIdeal.τ Cert.ReferenceSguIdeal.sig) → Buf (Elt Ideal) ℓ) (g' : Dev Cert.ReferenceSguIdeal.nD → PrngReg), Pre_KernelSguIdeal m →
    (∀ c : Dev Cert.KernelSguIdeal.nD,
      m' ((c.tc : Thread Cert.ReferenceSguIdeal.nD Cert.ReferenceSguIdeal.τ).loc Cert.ReferenceSguIdeal.main_arg0) = m ((c.tc : Thread Cert.KernelSguIdeal.nD Cert.KernelSguIdeal.τ).loc Cert.KernelSguIdeal.main_arg0)
      ∧ m' ((c.tc : Thread Cert.ReferenceSguIdeal.nD Cert.ReferenceSguIdeal.τ).loc Cert.ReferenceSguIdeal.main_arg1) = m ((c.tc : Thread Cert.KernelSguIdeal.nD Cert.KernelSguIdeal.τ).loc Cert.KernelSguIdeal.main_arg1)
      ∧ m' ((c.tc : Thread Cert.ReferenceSguIdeal.nD Cert.ReferenceSguIdeal.τ).loc Cert.ReferenceSguIdeal.main_arg2) = m ((c.tc : Thread Cert.KernelSguIdeal.nD Cert.KernelSguIdeal.τ).loc Cert.KernelSguIdeal.main_arg2)
      ∧ m' ((c.tc : Thread Cert.ReferenceSguIdeal.nD Cert.ReferenceSguIdeal.τ).loc Cert.ReferenceSguIdeal.main_arg3) = m ((c.tc : Thread Cert.KernelSguIdeal.nD Cert.KernelSguIdeal.τ).loc Cert.KernelSguIdeal.main_arg3)
      ∧ m' ((c.tc : Thread Cert.ReferenceSguIdeal.nD Cert.ReferenceSguIdeal.τ).loc Cert.ReferenceSguIdeal.main_arg4) = m ((c.tc : Thread Cert.KernelSguIdeal.nD Cert.KernelSguIdeal.τ).loc Cert.KernelSguIdeal.main_arg4)
      ∧ m' ((c.tc : Thread Cert.ReferenceSguIdeal.nD Cert.ReferenceSguIdeal.τ).loc Cert.ReferenceSguIdeal.main_arg5) = m ((c.tc : Thread Cert.KernelSguIdeal.nD Cert.KernelSguIdeal.τ).loc Cert.KernelSguIdeal.main_arg5)
      ∧ m' ((c.tc : Thread Cert.ReferenceSguIdeal.nD Cert.ReferenceSguIdeal.τ).loc Cert.ReferenceSguIdeal.main_arg6) = m ((c.tc : Thread Cert.KernelSguIdeal.nD Cert.KernelSguIdeal.τ).loc Cert.KernelSguIdeal.main_arg6)
      ∧ m' ((c.tc : Thread Cert.ReferenceSguIdeal.nD Cert.ReferenceSguIdeal.τ).loc Cert.ReferenceSguIdeal.main_arg7) = m ((c.tc : Thread Cert.KernelSguIdeal.nD Cert.KernelSguIdeal.τ).loc Cert.KernelSguIdeal.main_arg7)
      ∧ m' ((c.tc : Thread Cert.ReferenceSguIdeal.nD Cert.ReferenceSguIdeal.τ).loc Cert.ReferenceSguIdeal.main_arg8) = m ((c.tc : Thread Cert.KernelSguIdeal.nD Cert.KernelSguIdeal.τ).loc Cert.KernelSguIdeal.main_arg8)
      ∧ m' ((c.tc : Thread Cert.ReferenceSguIdeal.nD Cert.ReferenceSguIdeal.τ).loc Cert.ReferenceSguIdeal.main_arg9) = m ((c.tc : Thread Cert.KernelSguIdeal.nD Cert.KernelSguIdeal.τ).loc Cert.KernelSguIdeal.main_arg9)) →
    ∃ (v0 : (c : Dev Cert.KernelSguIdeal.nD) → Buf (Elt Ideal) ((c.tc : Thread Cert.KernelSguIdeal.nD Cert.KernelSguIdeal.τ).loc Cert.KernelSguIdeal.main_v12)),
      θ_run (Cert.KernelSguIdeal.defs (F := Ideal)) (onTc (τ := Cert.KernelSguIdeal.τ) (Cert.KernelSguIdeal.main (F := Ideal))) ⟨m, fun _ => 0, g⟩ (fun r => ∀ c : Dev Cert.KernelSguIdeal.nD,
          r.2.mem ((c.tc : Thread Cert.KernelSguIdeal.nD Cert.KernelSguIdeal.τ).loc Cert.KernelSguIdeal.main_v12) = v0 c
          ∧ r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
          ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
          ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
          ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3)
          ∧ r.2.mem ((c.tc : Thread Cert.KernelSguIdeal.nD Cert.KernelSguIdeal.τ).loc Cert.KernelSguIdeal.main_arg4) = m ((c.tc : Thread Cert.KernelSguIdeal.nD Cert.KernelSguIdeal.τ).loc Cert.KernelSguIdeal.main_arg4)
          ∧ r.2.mem ((c.tc : Thread Cert.KernelSguIdeal.nD Cert.KernelSguIdeal.τ).loc Cert.KernelSguIdeal.main_arg5) = m ((c.tc : Thread Cert.KernelSguIdeal.nD Cert.KernelSguIdeal.τ).loc Cert.KernelSguIdeal.main_arg5)
          ∧ r.2.mem ((c.tc : Thread Cert.KernelSguIdeal.nD Cert.KernelSguIdeal.τ).loc Cert.KernelSguIdeal.main_arg6) = m ((c.tc : Thread Cert.KernelSguIdeal.nD Cert.KernelSguIdeal.τ).loc Cert.KernelSguIdeal.main_arg6)
          ∧ r.2.mem ((c.tc : Thread Cert.KernelSguIdeal.nD Cert.KernelSguIdeal.τ).loc Cert.KernelSguIdeal.main_arg7) = m ((c.tc : Thread Cert.KernelSguIdeal.nD Cert.KernelSguIdeal.τ).loc Cert.KernelSguIdeal.main_arg7)
          ∧ r.2.mem ((c.tc : Thread Cert.KernelSguIdeal.nD Cert.KernelSguIdeal.τ).loc Cert.KernelSguIdeal.main_arg8) = m ((c.tc : Thread Cert.KernelSguIdeal.nD Cert.KernelSguIdeal.τ).loc Cert.KernelSguIdeal.main_arg8)
          ∧ r.2.mem ((c.tc : Thread Cert.KernelSguIdeal.nD Cert.KernelSguIdeal.τ).loc Cert.KernelSguIdeal.main_arg9) = m ((c.tc : Thread Cert.KernelSguIdeal.nD Cert.KernelSguIdeal.τ).loc Cert.KernelSguIdeal.main_arg9))
      ∧ θ_run (Cert.ReferenceSguIdeal.defs (F := Ideal)) (onTc (τ := Cert.ReferenceSguIdeal.τ) (Cert.ReferenceSguIdeal.main (F := Ideal))) ⟨m', fun _ => 0, g'⟩ (fun r => ∀ c : Dev Cert.ReferenceSguIdeal.nD,
          r.2.mem ((c.tc : Thread Cert.ReferenceSguIdeal.nD Cert.ReferenceSguIdeal.τ).loc Cert.ReferenceSguIdeal.main_v67) = v0 c
          ∧ r.2.mem ((c.tc : Thread Cert.ReferenceSguIdeal.nD Cert.ReferenceSguIdeal.τ).loc Cert.ReferenceSguIdeal.main_arg0) = m' ((c.tc : Thread Cert.ReferenceSguIdeal.nD Cert.ReferenceSguIdeal.τ).loc Cert.ReferenceSguIdeal.main_arg0)
          ∧ r.2.mem ((c.tc : Thread Cert.ReferenceSguIdeal.nD Cert.ReferenceSguIdeal.τ).loc Cert.ReferenceSguIdeal.main_arg1) = m' ((c.tc : Thread Cert.ReferenceSguIdeal.nD Cert.ReferenceSguIdeal.τ).loc Cert.ReferenceSguIdeal.main_arg1)
          ∧ r.2.mem ((c.tc : Thread Cert.ReferenceSguIdeal.nD Cert.ReferenceSguIdeal.τ).loc Cert.ReferenceSguIdeal.main_arg2) = m' ((c.tc : Thread Cert.ReferenceSguIdeal.nD Cert.ReferenceSguIdeal.τ).loc Cert.ReferenceSguIdeal.main_arg2)
          ∧ r.2.mem ((c.tc : Thread Cert.ReferenceSguIdeal.nD Cert.ReferenceSguIdeal.τ).loc Cert.ReferenceSguIdeal.main_arg3) = m' ((c.tc : Thread Cert.ReferenceSguIdeal.nD Cert.ReferenceSguIdeal.τ).loc Cert.ReferenceSguIdeal.main_arg3)
          ∧ r.2.mem ((c.tc : Thread Cert.ReferenceSguIdeal.nD Cert.ReferenceSguIdeal.τ).loc Cert.ReferenceSguIdeal.main_arg4) = m' ((c.tc : Thread Cert.ReferenceSguIdeal.nD Cert.ReferenceSguIdeal.τ).loc Cert.ReferenceSguIdeal.main_arg4)
          ∧ r.2.mem ((c.tc : Thread Cert.ReferenceSguIdeal.nD Cert.ReferenceSguIdeal.τ).loc Cert.ReferenceSguIdeal.main_arg5) = m' ((c.tc : Thread Cert.ReferenceSguIdeal.nD Cert.ReferenceSguIdeal.τ).loc Cert.ReferenceSguIdeal.main_arg5)
          ∧ r.2.mem ((c.tc : Thread Cert.ReferenceSguIdeal.nD Cert.ReferenceSguIdeal.τ).loc Cert.ReferenceSguIdeal.main_arg6) = m' ((c.tc : Thread Cert.ReferenceSguIdeal.nD Cert.ReferenceSguIdeal.τ).loc Cert.ReferenceSguIdeal.main_arg6)
          ∧ r.2.mem ((c.tc : Thread Cert.ReferenceSguIdeal.nD Cert.ReferenceSguIdeal.τ).loc Cert.ReferenceSguIdeal.main_arg7) = m' ((c.tc : Thread Cert.ReferenceSguIdeal.nD Cert.ReferenceSguIdeal.τ).loc Cert.ReferenceSguIdeal.main_arg7)
          ∧ r.2.mem ((c.tc : Thread Cert.ReferenceSguIdeal.nD Cert.ReferenceSguIdeal.τ).loc Cert.ReferenceSguIdeal.main_arg8) = m' ((c.tc : Thread Cert.ReferenceSguIdeal.nD Cert.ReferenceSguIdeal.τ).loc Cert.ReferenceSguIdeal.main_arg8)
          ∧ r.2.mem ((c.tc : Thread Cert.ReferenceSguIdeal.nD Cert.ReferenceSguIdeal.τ).loc Cert.ReferenceSguIdeal.main_arg9) = m' ((c.tc : Thread Cert.ReferenceSguIdeal.nD Cert.ReferenceSguIdeal.τ).loc Cert.ReferenceSguIdeal.main_arg9))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)
      ∧ m' ((c.tc : Thread Cert.ReferenceQkvIdeal.nD Cert.ReferenceQkvIdeal.τ).loc Cert.ReferenceQkvIdeal.main_arg4) = m ((c.tc : Thread Cert.KernelQkvIdeal.nD Cert.KernelQkvIdeal.τ).loc Cert.KernelQkvIdeal.main_arg4)) →
    ∃ (v0 : (c : Dev Cert.KernelQkvIdeal.nD) → Buf (Elt Ideal) ((c.tc : Thread Cert.KernelQkvIdeal.nD Cert.KernelQkvIdeal.τ).loc Cert.KernelQkvIdeal.main_v30_0)) (v1 : (c : Dev Cert.KernelQkvIdeal.nD) → Buf (Elt Ideal) ((c.tc : Thread Cert.KernelQkvIdeal.nD Cert.KernelQkvIdeal.τ).loc Cert.KernelQkvIdeal.main_v30_1)) (v2 : (c : Dev Cert.KernelQkvIdeal.nD) → Buf (Elt Ideal) ((c.tc : Thread Cert.KernelQkvIdeal.nD Cert.KernelQkvIdeal.τ).loc Cert.KernelQkvIdeal.main_v30_2)) (v3 : (c : Dev Cert.KernelQkvIdeal.nD) → Buf (Elt Ideal) ((c.tc : Thread Cert.KernelQkvIdeal.nD Cert.KernelQkvIdeal.τ).loc Cert.KernelQkvIdeal.main_v30_3)) (v4 : (c : Dev Cert.KernelQkvIdeal.nD) → Buf (Elt Ideal) ((c.tc : Thread Cert.KernelQkvIdeal.nD Cert.KernelQkvIdeal.τ).loc Cert.KernelQkvIdeal.main_v30_4)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v30_0) = v0 c
          ∧ r.2.mem ((c.tc : Thread Cert.KernelQkvIdeal.nD Cert.KernelQkvIdeal.τ).loc Cert.KernelQkvIdeal.main_v30_1) = v1 c
          ∧ r.2.mem ((c.tc : Thread Cert.KernelQkvIdeal.nD Cert.KernelQkvIdeal.τ).loc Cert.KernelQkvIdeal.main_v30_2) = v2 c
          ∧ r.2.mem ((c.tc : Thread Cert.KernelQkvIdeal.nD Cert.KernelQkvIdeal.τ).loc Cert.KernelQkvIdeal.main_v30_3) = v3 c
          ∧ r.2.mem ((c.tc : Thread Cert.KernelQkvIdeal.nD Cert.KernelQkvIdeal.τ).loc Cert.KernelQkvIdeal.main_v30_4) = v4 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
          ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v98) = v0 c
          ∧ r.2.mem ((c.tc : Thread Cert.ReferenceQkvIdeal.nD Cert.ReferenceQkvIdeal.τ).loc Cert.ReferenceQkvIdeal.main_v99) = v1 c
          ∧ r.2.mem ((c.tc : Thread Cert.ReferenceQkvIdeal.nD Cert.ReferenceQkvIdeal.τ).loc Cert.ReferenceQkvIdeal.main_v102) = v2 c
          ∧ r.2.mem ((c.tc : Thread Cert.ReferenceQkvIdeal.nD Cert.ReferenceQkvIdeal.τ).loc Cert.ReferenceQkvIdeal.main_v103) = v3 c
          ∧ r.2.mem ((c.tc : Thread Cert.ReferenceQkvIdeal.nD Cert.ReferenceQkvIdeal.τ).loc Cert.ReferenceQkvIdeal.main_v104) = v4 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3)
          ∧ r.2.mem ((c.tc : Thread Cert.ReferenceQkvIdeal.nD Cert.ReferenceQkvIdeal.τ).loc Cert.ReferenceQkvIdeal.main_arg4) = m' ((c.tc : Thread Cert.ReferenceQkvIdeal.nD Cert.ReferenceQkvIdeal.τ).loc Cert.ReferenceQkvIdeal.main_arg4))

def preserves_KernelLastSample_KernelLastSampleIdeal : Prop :=
  True

def algebraic_KernelLastSampleIdeal_ReferenceLastSampleIdeal [hKernelLastSampleIdeal : Cert.KernelLastSampleIdeal.Facts] [hReferenceLastSampleIdeal : Cert.ReferenceLastSampleIdeal.Facts] : Prop :=
  ∀ (m : (ℓ : Loc Cert.KernelLastSampleIdeal.nD Cert.KernelLastSampleIdeal.τ Cert.KernelLastSampleIdeal.sig) → Buf (Elt Ideal) ℓ) (g : Dev Cert.KernelLastSampleIdeal.nD → PrngReg)
    (m' : (ℓ : Loc Cert.ReferenceLastSampleIdeal.nD Cert.ReferenceLastSampleIdeal.τ Cert.ReferenceLastSampleIdeal.sig) → Buf (Elt Ideal) ℓ) (g' : Dev Cert.ReferenceLastSampleIdeal.nD → PrngReg), Pre_KernelLastSampleIdeal m →
    (∀ c : Dev Cert.KernelLastSampleIdeal.nD,
      m' ((c.tc : Thread Cert.ReferenceLastSampleIdeal.nD Cert.ReferenceLastSampleIdeal.τ).loc Cert.ReferenceLastSampleIdeal.main_arg0) = m ((c.tc : Thread Cert.KernelLastSampleIdeal.nD Cert.KernelLastSampleIdeal.τ).loc Cert.KernelLastSampleIdeal.main_arg0)
      ∧ m' ((c.tc : Thread Cert.ReferenceLastSampleIdeal.nD Cert.ReferenceLastSampleIdeal.τ).loc Cert.ReferenceLastSampleIdeal.main_arg1) = m ((c.tc : Thread Cert.KernelLastSampleIdeal.nD Cert.KernelLastSampleIdeal.τ).loc Cert.KernelLastSampleIdeal.main_arg1)
      ∧ m' ((c.tc : Thread Cert.ReferenceLastSampleIdeal.nD Cert.ReferenceLastSampleIdeal.τ).loc Cert.ReferenceLastSampleIdeal.main_arg2) = m ((c.tc : Thread Cert.KernelLastSampleIdeal.nD Cert.KernelLastSampleIdeal.τ).loc Cert.KernelLastSampleIdeal.main_arg2)
      ∧ m' ((c.tc : Thread Cert.ReferenceLastSampleIdeal.nD Cert.ReferenceLastSampleIdeal.τ).loc Cert.ReferenceLastSampleIdeal.main_arg3) = m ((c.tc : Thread Cert.KernelLastSampleIdeal.nD Cert.KernelLastSampleIdeal.τ).loc Cert.KernelLastSampleIdeal.main_arg3)
      ∧ m' ((c.tc : Thread Cert.ReferenceLastSampleIdeal.nD Cert.ReferenceLastSampleIdeal.τ).loc Cert.ReferenceLastSampleIdeal.main_arg4) = m ((c.tc : Thread Cert.KernelLastSampleIdeal.nD Cert.KernelLastSampleIdeal.τ).loc Cert.KernelLastSampleIdeal.main_arg4)
      ∧ m' ((c.tc : Thread Cert.ReferenceLastSampleIdeal.nD Cert.ReferenceLastSampleIdeal.τ).loc Cert.ReferenceLastSampleIdeal.main_arg5) = m ((c.tc : Thread Cert.KernelLastSampleIdeal.nD Cert.KernelLastSampleIdeal.τ).loc Cert.KernelLastSampleIdeal.main_arg5)
      ∧ m' ((c.tc : Thread Cert.ReferenceLastSampleIdeal.nD Cert.ReferenceLastSampleIdeal.τ).loc Cert.ReferenceLastSampleIdeal.main_arg6) = m ((c.tc : Thread Cert.KernelLastSampleIdeal.nD Cert.KernelLastSampleIdeal.τ).loc Cert.KernelLastSampleIdeal.main_arg6)
      ∧ m' ((c.tc : Thread Cert.ReferenceLastSampleIdeal.nD Cert.ReferenceLastSampleIdeal.τ).loc Cert.ReferenceLastSampleIdeal.main_arg7) = m ((c.tc : Thread Cert.KernelLastSampleIdeal.nD Cert.KernelLastSampleIdeal.τ).loc Cert.KernelLastSampleIdeal.main_arg7)) →
    ∃ (v0 : (c : Dev Cert.KernelLastSampleIdeal.nD) → Buf (Elt Ideal) ((c.tc : Thread Cert.KernelLastSampleIdeal.nD Cert.KernelLastSampleIdeal.τ).loc Cert.KernelLastSampleIdeal.main_v7)),
      θ_run (Cert.KernelLastSampleIdeal.defs (F := Ideal)) (onTc (τ := Cert.KernelLastSampleIdeal.τ) (Cert.KernelLastSampleIdeal.main (F := Ideal))) ⟨m, fun _ => 0, g⟩ (fun r => ∀ c : Dev Cert.KernelLastSampleIdeal.nD,
          r.2.mem ((c.tc : Thread Cert.KernelLastSampleIdeal.nD Cert.KernelLastSampleIdeal.τ).loc Cert.KernelLastSampleIdeal.main_v7) = v0 c
          ∧ r.2.mem ((c.tc : Thread Cert.KernelLastSampleIdeal.nD Cert.KernelLastSampleIdeal.τ).loc Cert.KernelLastSampleIdeal.main_arg0) = m ((c.tc : Thread Cert.KernelLastSampleIdeal.nD Cert.KernelLastSampleIdeal.τ).loc Cert.KernelLastSampleIdeal.main_arg0)
          ∧ r.2.mem ((c.tc : Thread Cert.KernelLastSampleIdeal.nD Cert.KernelLastSampleIdeal.τ).loc Cert.KernelLastSampleIdeal.main_arg1) = m ((c.tc : Thread Cert.KernelLastSampleIdeal.nD Cert.KernelLastSampleIdeal.τ).loc Cert.KernelLastSampleIdeal.main_arg1)
          ∧ r.2.mem ((c.tc : Thread Cert.KernelLastSampleIdeal.nD Cert.KernelLastSampleIdeal.τ).loc Cert.KernelLastSampleIdeal.main_arg2) = m ((c.tc : Thread Cert.KernelLastSampleIdeal.nD Cert.KernelLastSampleIdeal.τ).loc Cert.KernelLastSampleIdeal.main_arg2)
          ∧ r.2.mem ((c.tc : Thread Cert.KernelLastSampleIdeal.nD Cert.KernelLastSampleIdeal.τ).loc Cert.KernelLastSampleIdeal.main_arg3) = m ((c.tc : Thread Cert.KernelLastSampleIdeal.nD Cert.KernelLastSampleIdeal.τ).loc Cert.KernelLastSampleIdeal.main_arg3)
          ∧ r.2.mem ((c.tc : Thread Cert.KernelLastSampleIdeal.nD Cert.KernelLastSampleIdeal.τ).loc Cert.KernelLastSampleIdeal.main_arg4) = m ((c.tc : Thread Cert.KernelLastSampleIdeal.nD Cert.KernelLastSampleIdeal.τ).loc Cert.KernelLastSampleIdeal.main_arg4)
          ∧ r.2.mem ((c.tc : Thread Cert.KernelLastSampleIdeal.nD Cert.KernelLastSampleIdeal.τ).loc Cert.KernelLastSampleIdeal.main_arg5) = m ((c.tc : Thread Cert.KernelLastSampleIdeal.nD Cert.KernelLastSampleIdeal.τ).loc Cert.KernelLastSampleIdeal.main_arg5)
          ∧ r.2.mem ((c.tc : Thread Cert.KernelLastSampleIdeal.nD Cert.KernelLastSampleIdeal.τ).loc Cert.KernelLastSampleIdeal.main_arg6) = m ((c.tc : Thread Cert.KernelLastSampleIdeal.nD Cert.KernelLastSampleIdeal.τ).loc Cert.KernelLastSampleIdeal.main_arg6)
          ∧ r.2.mem ((c.tc : Thread Cert.KernelLastSampleIdeal.nD Cert.KernelLastSampleIdeal.τ).loc Cert.KernelLastSampleIdeal.main_arg7) = m ((c.tc : Thread Cert.KernelLastSampleIdeal.nD Cert.KernelLastSampleIdeal.τ).loc Cert.KernelLastSampleIdeal.main_arg7))
      ∧ θ_run (Cert.ReferenceLastSampleIdeal.defs (F := Ideal)) (onTc (τ := Cert.ReferenceLastSampleIdeal.τ) (Cert.ReferenceLastSampleIdeal.main (F := Ideal))) ⟨m', fun _ => 0, g'⟩ (fun r => ∀ c : Dev Cert.ReferenceLastSampleIdeal.nD,
          r.2.mem ((c.tc : Thread Cert.ReferenceLastSampleIdeal.nD Cert.ReferenceLastSampleIdeal.τ).loc Cert.ReferenceLastSampleIdeal.main_v43) = v0 c
          ∧ r.2.mem ((c.tc : Thread Cert.ReferenceLastSampleIdeal.nD Cert.ReferenceLastSampleIdeal.τ).loc Cert.ReferenceLastSampleIdeal.main_arg0) = m' ((c.tc : Thread Cert.ReferenceLastSampleIdeal.nD Cert.ReferenceLastSampleIdeal.τ).loc Cert.ReferenceLastSampleIdeal.main_arg0)
          ∧ r.2.mem ((c.tc : Thread Cert.ReferenceLastSampleIdeal.nD Cert.ReferenceLastSampleIdeal.τ).loc Cert.ReferenceLastSampleIdeal.main_arg1) = m' ((c.tc : Thread Cert.ReferenceLastSampleIdeal.nD Cert.ReferenceLastSampleIdeal.τ).loc Cert.ReferenceLastSampleIdeal.main_arg1)
          ∧ r.2.mem ((c.tc : Thread Cert.ReferenceLastSampleIdeal.nD Cert.ReferenceLastSampleIdeal.τ).loc Cert.ReferenceLastSampleIdeal.main_arg2) = m' ((c.tc : Thread Cert.ReferenceLastSampleIdeal.nD Cert.ReferenceLastSampleIdeal.τ).loc Cert.ReferenceLastSampleIdeal.main_arg2)
          ∧ r.2.mem ((c.tc : Thread Cert.ReferenceLastSampleIdeal.nD Cert.ReferenceLastSampleIdeal.τ).loc Cert.ReferenceLastSampleIdeal.main_arg3) = m' ((c.tc : Thread Cert.ReferenceLastSampleIdeal.nD Cert.ReferenceLastSampleIdeal.τ).loc Cert.ReferenceLastSampleIdeal.main_arg3)
          ∧ r.2.mem ((c.tc : Thread Cert.ReferenceLastSampleIdeal.nD Cert.ReferenceLastSampleIdeal.τ).loc Cert.ReferenceLastSampleIdeal.main_arg4) = m' ((c.tc : Thread Cert.ReferenceLastSampleIdeal.nD Cert.ReferenceLastSampleIdeal.τ).loc Cert.ReferenceLastSampleIdeal.main_arg4)
          ∧ r.2.mem ((c.tc : Thread Cert.ReferenceLastSampleIdeal.nD Cert.ReferenceLastSampleIdeal.τ).loc Cert.ReferenceLastSampleIdeal.main_arg5) = m' ((c.tc : Thread Cert.ReferenceLastSampleIdeal.nD Cert.ReferenceLastSampleIdeal.τ).loc Cert.ReferenceLastSampleIdeal.main_arg5)
          ∧ r.2.mem ((c.tc : Thread Cert.ReferenceLastSampleIdeal.nD Cert.ReferenceLastSampleIdeal.τ).loc Cert.ReferenceLastSampleIdeal.main_arg6) = m' ((c.tc : Thread Cert.ReferenceLastSampleIdeal.nD Cert.ReferenceLastSampleIdeal.τ).loc Cert.ReferenceLastSampleIdeal.main_arg6)
          ∧ r.2.mem ((c.tc : Thread Cert.ReferenceLastSampleIdeal.nD Cert.ReferenceLastSampleIdeal.τ).loc Cert.ReferenceLastSampleIdeal.main_arg7) = m' ((c.tc : Thread Cert.ReferenceLastSampleIdeal.nD Cert.ReferenceLastSampleIdeal.τ).loc Cert.ReferenceLastSampleIdeal.main_arg7))

def preserves_KernelSguSample_KernelSguSampleIdeal : Prop :=
  True

def algebraic_KernelSguSampleIdeal_ReferenceSguSampleIdeal [hKernelSguSampleIdeal : Cert.KernelSguSampleIdeal.Facts] [hReferenceSguSampleIdeal : Cert.ReferenceSguSampleIdeal.Facts] : Prop :=
  ∀ (m : (ℓ : Loc Cert.KernelSguSampleIdeal.nD Cert.KernelSguSampleIdeal.τ Cert.KernelSguSampleIdeal.sig) → Buf (Elt Ideal) ℓ) (g : Dev Cert.KernelSguSampleIdeal.nD → PrngReg)
    (m' : (ℓ : Loc Cert.ReferenceSguSampleIdeal.nD Cert.ReferenceSguSampleIdeal.τ Cert.ReferenceSguSampleIdeal.sig) → Buf (Elt Ideal) ℓ) (g' : Dev Cert.ReferenceSguSampleIdeal.nD → PrngReg), Pre_KernelSguSampleIdeal m →
    (∀ c : Dev Cert.KernelSguSampleIdeal.nD,
      m' ((c.tc : Thread Cert.ReferenceSguSampleIdeal.nD Cert.ReferenceSguSampleIdeal.τ).loc Cert.ReferenceSguSampleIdeal.main_arg0) = m ((c.tc : Thread Cert.KernelSguSampleIdeal.nD Cert.KernelSguSampleIdeal.τ).loc Cert.KernelSguSampleIdeal.main_arg0)
      ∧ m' ((c.tc : Thread Cert.ReferenceSguSampleIdeal.nD Cert.ReferenceSguSampleIdeal.τ).loc Cert.ReferenceSguSampleIdeal.main_arg1) = m ((c.tc : Thread Cert.KernelSguSampleIdeal.nD Cert.KernelSguSampleIdeal.τ).loc Cert.KernelSguSampleIdeal.main_arg1)
      ∧ m' ((c.tc : Thread Cert.ReferenceSguSampleIdeal.nD Cert.ReferenceSguSampleIdeal.τ).loc Cert.ReferenceSguSampleIdeal.main_arg2) = m ((c.tc : Thread Cert.KernelSguSampleIdeal.nD Cert.KernelSguSampleIdeal.τ).loc Cert.KernelSguSampleIdeal.main_arg2)
      ∧ m' ((c.tc : Thread Cert.ReferenceSguSampleIdeal.nD Cert.ReferenceSguSampleIdeal.τ).loc Cert.ReferenceSguSampleIdeal.main_arg3) = m ((c.tc : Thread Cert.KernelSguSampleIdeal.nD Cert.KernelSguSampleIdeal.τ).loc Cert.KernelSguSampleIdeal.main_arg3)
      ∧ m' ((c.tc : Thread Cert.ReferenceSguSampleIdeal.nD Cert.ReferenceSguSampleIdeal.τ).loc Cert.ReferenceSguSampleIdeal.main_arg4) = m ((c.tc : Thread Cert.KernelSguSampleIdeal.nD Cert.KernelSguSampleIdeal.τ).loc Cert.KernelSguSampleIdeal.main_arg4)
      ∧ m' ((c.tc : Thread Cert.ReferenceSguSampleIdeal.nD Cert.ReferenceSguSampleIdeal.τ).loc Cert.ReferenceSguSampleIdeal.main_arg5) = m ((c.tc : Thread Cert.KernelSguSampleIdeal.nD Cert.KernelSguSampleIdeal.τ).loc Cert.KernelSguSampleIdeal.main_arg5)
      ∧ m' ((c.tc : Thread Cert.ReferenceSguSampleIdeal.nD Cert.ReferenceSguSampleIdeal.τ).loc Cert.ReferenceSguSampleIdeal.main_arg6) = m ((c.tc : Thread Cert.KernelSguSampleIdeal.nD Cert.KernelSguSampleIdeal.τ).loc Cert.KernelSguSampleIdeal.main_arg6)
      ∧ m' ((c.tc : Thread Cert.ReferenceSguSampleIdeal.nD Cert.ReferenceSguSampleIdeal.τ).loc Cert.ReferenceSguSampleIdeal.main_arg7) = m ((c.tc : Thread Cert.KernelSguSampleIdeal.nD Cert.KernelSguSampleIdeal.τ).loc Cert.KernelSguSampleIdeal.main_arg7)
      ∧ m' ((c.tc : Thread Cert.ReferenceSguSampleIdeal.nD Cert.ReferenceSguSampleIdeal.τ).loc Cert.ReferenceSguSampleIdeal.main_arg8) = m ((c.tc : Thread Cert.KernelSguSampleIdeal.nD Cert.KernelSguSampleIdeal.τ).loc Cert.KernelSguSampleIdeal.main_arg8)
      ∧ m' ((c.tc : Thread Cert.ReferenceSguSampleIdeal.nD Cert.ReferenceSguSampleIdeal.τ).loc Cert.ReferenceSguSampleIdeal.main_arg9) = m ((c.tc : Thread Cert.KernelSguSampleIdeal.nD Cert.KernelSguSampleIdeal.τ).loc Cert.KernelSguSampleIdeal.main_arg9)) →
    ∃ (v0 : (c : Dev Cert.KernelSguSampleIdeal.nD) → Buf (Elt Ideal) ((c.tc : Thread Cert.KernelSguSampleIdeal.nD Cert.KernelSguSampleIdeal.τ).loc Cert.KernelSguSampleIdeal.main_v14_0)) (v1 : (c : Dev Cert.KernelSguSampleIdeal.nD) → Buf (Elt Ideal) ((c.tc : Thread Cert.KernelSguSampleIdeal.nD Cert.KernelSguSampleIdeal.τ).loc Cert.KernelSguSampleIdeal.main_v14_1)),
      θ_run (Cert.KernelSguSampleIdeal.defs (F := Ideal)) (onTc (τ := Cert.KernelSguSampleIdeal.τ) (Cert.KernelSguSampleIdeal.main (F := Ideal))) ⟨m, fun _ => 0, g⟩ (fun r => ∀ c : Dev Cert.KernelSguSampleIdeal.nD,
          r.2.mem ((c.tc : Thread Cert.KernelSguSampleIdeal.nD Cert.KernelSguSampleIdeal.τ).loc Cert.KernelSguSampleIdeal.main_v14_0) = v0 c
          ∧ r.2.mem ((c.tc : Thread Cert.KernelSguSampleIdeal.nD Cert.KernelSguSampleIdeal.τ).loc Cert.KernelSguSampleIdeal.main_v14_1) = v1 c
          ∧ r.2.mem ((c.tc : Thread Cert.KernelSguSampleIdeal.nD Cert.KernelSguSampleIdeal.τ).loc Cert.KernelSguSampleIdeal.main_arg0) = m ((c.tc : Thread Cert.KernelSguSampleIdeal.nD Cert.KernelSguSampleIdeal.τ).loc Cert.KernelSguSampleIdeal.main_arg0)
          ∧ r.2.mem ((c.tc : Thread Cert.KernelSguSampleIdeal.nD Cert.KernelSguSampleIdeal.τ).loc Cert.KernelSguSampleIdeal.main_arg1) = m ((c.tc : Thread Cert.KernelSguSampleIdeal.nD Cert.KernelSguSampleIdeal.τ).loc Cert.KernelSguSampleIdeal.main_arg1)
          ∧ r.2.mem ((c.tc : Thread Cert.KernelSguSampleIdeal.nD Cert.KernelSguSampleIdeal.τ).loc Cert.KernelSguSampleIdeal.main_arg2) = m ((c.tc : Thread Cert.KernelSguSampleIdeal.nD Cert.KernelSguSampleIdeal.τ).loc Cert.KernelSguSampleIdeal.main_arg2)
          ∧ r.2.mem ((c.tc : Thread Cert.KernelSguSampleIdeal.nD Cert.KernelSguSampleIdeal.τ).loc Cert.KernelSguSampleIdeal.main_arg3) = m ((c.tc : Thread Cert.KernelSguSampleIdeal.nD Cert.KernelSguSampleIdeal.τ).loc Cert.KernelSguSampleIdeal.main_arg3)
          ∧ r.2.mem ((c.tc : Thread Cert.KernelSguSampleIdeal.nD Cert.KernelSguSampleIdeal.τ).loc Cert.KernelSguSampleIdeal.main_arg4) = m ((c.tc : Thread Cert.KernelSguSampleIdeal.nD Cert.KernelSguSampleIdeal.τ).loc Cert.KernelSguSampleIdeal.main_arg4)
          ∧ r.2.mem ((c.tc : Thread Cert.KernelSguSampleIdeal.nD Cert.KernelSguSampleIdeal.τ).loc Cert.KernelSguSampleIdeal.main_arg5) = m ((c.tc : Thread Cert.KernelSguSampleIdeal.nD Cert.KernelSguSampleIdeal.τ).loc Cert.KernelSguSampleIdeal.main_arg5)
          ∧ r.2.mem ((c.tc : Thread Cert.KernelSguSampleIdeal.nD Cert.KernelSguSampleIdeal.τ).loc Cert.KernelSguSampleIdeal.main_arg6) = m ((c.tc : Thread Cert.KernelSguSampleIdeal.nD Cert.KernelSguSampleIdeal.τ).loc Cert.KernelSguSampleIdeal.main_arg6)
          ∧ r.2.mem ((c.tc : Thread Cert.KernelSguSampleIdeal.nD Cert.KernelSguSampleIdeal.τ).loc Cert.KernelSguSampleIdeal.main_arg7) = m ((c.tc : Thread Cert.KernelSguSampleIdeal.nD Cert.KernelSguSampleIdeal.τ).loc Cert.KernelSguSampleIdeal.main_arg7)
          ∧ r.2.mem ((c.tc : Thread Cert.KernelSguSampleIdeal.nD Cert.KernelSguSampleIdeal.τ).loc Cert.KernelSguSampleIdeal.main_arg8) = m ((c.tc : Thread Cert.KernelSguSampleIdeal.nD Cert.KernelSguSampleIdeal.τ).loc Cert.KernelSguSampleIdeal.main_arg8)
          ∧ r.2.mem ((c.tc : Thread Cert.KernelSguSampleIdeal.nD Cert.KernelSguSampleIdeal.τ).loc Cert.KernelSguSampleIdeal.main_arg9) = m ((c.tc : Thread Cert.KernelSguSampleIdeal.nD Cert.KernelSguSampleIdeal.τ).loc Cert.KernelSguSampleIdeal.main_arg9))
      ∧ θ_run (Cert.ReferenceSguSampleIdeal.defs (F := Ideal)) (onTc (τ := Cert.ReferenceSguSampleIdeal.τ) (Cert.ReferenceSguSampleIdeal.main (F := Ideal))) ⟨m', fun _ => 0, g'⟩ (fun r => ∀ c : Dev Cert.ReferenceSguSampleIdeal.nD,
          r.2.mem ((c.tc : Thread Cert.ReferenceSguSampleIdeal.nD Cert.ReferenceSguSampleIdeal.τ).loc Cert.ReferenceSguSampleIdeal.main_v69) = v0 c
          ∧ r.2.mem ((c.tc : Thread Cert.ReferenceSguSampleIdeal.nD Cert.ReferenceSguSampleIdeal.τ).loc Cert.ReferenceSguSampleIdeal.main_v49) = v1 c
          ∧ r.2.mem ((c.tc : Thread Cert.ReferenceSguSampleIdeal.nD Cert.ReferenceSguSampleIdeal.τ).loc Cert.ReferenceSguSampleIdeal.main_arg0) = m' ((c.tc : Thread Cert.ReferenceSguSampleIdeal.nD Cert.ReferenceSguSampleIdeal.τ).loc Cert.ReferenceSguSampleIdeal.main_arg0)
          ∧ r.2.mem ((c.tc : Thread Cert.ReferenceSguSampleIdeal.nD Cert.ReferenceSguSampleIdeal.τ).loc Cert.ReferenceSguSampleIdeal.main_arg1) = m' ((c.tc : Thread Cert.ReferenceSguSampleIdeal.nD Cert.ReferenceSguSampleIdeal.τ).loc Cert.ReferenceSguSampleIdeal.main_arg1)
          ∧ r.2.mem ((c.tc : Thread Cert.ReferenceSguSampleIdeal.nD Cert.ReferenceSguSampleIdeal.τ).loc Cert.ReferenceSguSampleIdeal.main_arg2) = m' ((c.tc : Thread Cert.ReferenceSguSampleIdeal.nD Cert.ReferenceSguSampleIdeal.τ).loc Cert.ReferenceSguSampleIdeal.main_arg2)
          ∧ r.2.mem ((c.tc : Thread Cert.ReferenceSguSampleIdeal.nD Cert.ReferenceSguSampleIdeal.τ).loc Cert.ReferenceSguSampleIdeal.main_arg3) = m' ((c.tc : Thread Cert.ReferenceSguSampleIdeal.nD Cert.ReferenceSguSampleIdeal.τ).loc Cert.ReferenceSguSampleIdeal.main_arg3)
          ∧ r.2.mem ((c.tc : Thread Cert.ReferenceSguSampleIdeal.nD Cert.ReferenceSguSampleIdeal.τ).loc Cert.ReferenceSguSampleIdeal.main_arg4) = m' ((c.tc : Thread Cert.ReferenceSguSampleIdeal.nD Cert.ReferenceSguSampleIdeal.τ).loc Cert.ReferenceSguSampleIdeal.main_arg4)
          ∧ r.2.mem ((c.tc : Thread Cert.ReferenceSguSampleIdeal.nD Cert.ReferenceSguSampleIdeal.τ).loc Cert.ReferenceSguSampleIdeal.main_arg5) = m' ((c.tc : Thread Cert.ReferenceSguSampleIdeal.nD Cert.ReferenceSguSampleIdeal.τ).loc Cert.ReferenceSguSampleIdeal.main_arg5)
          ∧ r.2.mem ((c.tc : Thread Cert.ReferenceSguSampleIdeal.nD Cert.ReferenceSguSampleIdeal.τ).loc Cert.ReferenceSguSampleIdeal.main_arg6) = m' ((c.tc : Thread Cert.ReferenceSguSampleIdeal.nD Cert.ReferenceSguSampleIdeal.τ).loc Cert.ReferenceSguSampleIdeal.main_arg6)
          ∧ r.2.mem ((c.tc : Thread Cert.ReferenceSguSampleIdeal.nD Cert.ReferenceSguSampleIdeal.τ).loc Cert.ReferenceSguSampleIdeal.main_arg7) = m' ((c.tc : Thread Cert.ReferenceSguSampleIdeal.nD Cert.ReferenceSguSampleIdeal.τ).loc Cert.ReferenceSguSampleIdeal.main_arg7)
          ∧ r.2.mem ((c.tc : Thread Cert.ReferenceSguSampleIdeal.nD Cert.ReferenceSguSampleIdeal.τ).loc Cert.ReferenceSguSampleIdeal.main_arg8) = m' ((c.tc : Thread Cert.ReferenceSguSampleIdeal.nD Cert.ReferenceSguSampleIdeal.τ).loc Cert.ReferenceSguSampleIdeal.main_arg8)
          ∧ r.2.mem ((c.tc : Thread Cert.ReferenceSguSampleIdeal.nD Cert.ReferenceSguSampleIdeal.τ).loc Cert.ReferenceSguSampleIdeal.main_arg9) = m' ((c.tc : Thread Cert.ReferenceSguSampleIdeal.nD Cert.ReferenceSguSampleIdeal.τ).loc Cert.ReferenceSguSampleIdeal.main_arg9))

def preserves_KernelQkvSample_KernelQkvSampleIdeal : Prop :=
  True

def algebraic_KernelQkvSampleIdeal_ReferenceQkvSampleIdeal [hKernelQkvSampleIdeal : Cert.KernelQkvSampleIdeal.Facts] [hReferenceQkvSampleIdeal : Cert.ReferenceQkvSampleIdeal.Facts] : Prop :=
  ∀ (m : (ℓ : Loc Cert.KernelQkvSampleIdeal.nD Cert.KernelQkvSampleIdeal.τ Cert.KernelQkvSampleIdeal.sig) → Buf (Elt Ideal) ℓ) (g : Dev Cert.KernelQkvSampleIdeal.nD → PrngReg)
    (m' : (ℓ : Loc Cert.ReferenceQkvSampleIdeal.nD Cert.ReferenceQkvSampleIdeal.τ Cert.ReferenceQkvSampleIdeal.sig) → Buf (Elt Ideal) ℓ) (g' : Dev Cert.ReferenceQkvSampleIdeal.nD → PrngReg), Pre_KernelQkvSampleIdeal m →
    (∀ c : Dev Cert.KernelQkvSampleIdeal.nD,
      m' ((c.tc : Thread Cert.ReferenceQkvSampleIdeal.nD Cert.ReferenceQkvSampleIdeal.τ).loc Cert.ReferenceQkvSampleIdeal.main_arg0) = m ((c.tc : Thread Cert.KernelQkvSampleIdeal.nD Cert.KernelQkvSampleIdeal.τ).loc Cert.KernelQkvSampleIdeal.main_arg0)
      ∧ m' ((c.tc : Thread Cert.ReferenceQkvSampleIdeal.nD Cert.ReferenceQkvSampleIdeal.τ).loc Cert.ReferenceQkvSampleIdeal.main_arg1) = m ((c.tc : Thread Cert.KernelQkvSampleIdeal.nD Cert.KernelQkvSampleIdeal.τ).loc Cert.KernelQkvSampleIdeal.main_arg1)
      ∧ m' ((c.tc : Thread Cert.ReferenceQkvSampleIdeal.nD Cert.ReferenceQkvSampleIdeal.τ).loc Cert.ReferenceQkvSampleIdeal.main_arg2) = m ((c.tc : Thread Cert.KernelQkvSampleIdeal.nD Cert.KernelQkvSampleIdeal.τ).loc Cert.KernelQkvSampleIdeal.main_arg2)
      ∧ m' ((c.tc : Thread Cert.ReferenceQkvSampleIdeal.nD Cert.ReferenceQkvSampleIdeal.τ).loc Cert.ReferenceQkvSampleIdeal.main_arg3) = m ((c.tc : Thread Cert.KernelQkvSampleIdeal.nD Cert.KernelQkvSampleIdeal.τ).loc Cert.KernelQkvSampleIdeal.main_arg3)
      ∧ m' ((c.tc : Thread Cert.ReferenceQkvSampleIdeal.nD Cert.ReferenceQkvSampleIdeal.τ).loc Cert.ReferenceQkvSampleIdeal.main_arg4) = m ((c.tc : Thread Cert.KernelQkvSampleIdeal.nD Cert.KernelQkvSampleIdeal.τ).loc Cert.KernelQkvSampleIdeal.main_arg4)) →
    ∃ (v0 : (c : Dev Cert.KernelQkvSampleIdeal.nD) → Buf (Elt Ideal) ((c.tc : Thread Cert.KernelQkvSampleIdeal.nD Cert.KernelQkvSampleIdeal.τ).loc Cert.KernelQkvSampleIdeal.main_v30_0)) (v1 : (c : Dev Cert.KernelQkvSampleIdeal.nD) → Buf (Elt Ideal) ((c.tc : Thread Cert.KernelQkvSampleIdeal.nD Cert.KernelQkvSampleIdeal.τ).loc Cert.KernelQkvSampleIdeal.main_v30_1)) (v2 : (c : Dev Cert.KernelQkvSampleIdeal.nD) → Buf (Elt Ideal) ((c.tc : Thread Cert.KernelQkvSampleIdeal.nD Cert.KernelQkvSampleIdeal.τ).loc Cert.KernelQkvSampleIdeal.main_v30_2)) (v3 : (c : Dev Cert.KernelQkvSampleIdeal.nD) → Buf (Elt Ideal) ((c.tc : Thread Cert.KernelQkvSampleIdeal.nD Cert.KernelQkvSampleIdeal.τ).loc Cert.KernelQkvSampleIdeal.main_v30_3)) (v4 : (c : Dev Cert.KernelQkvSampleIdeal.nD) → Buf (Elt Ideal) ((c.tc : Thread Cert.KernelQkvSampleIdeal.nD Cert.KernelQkvSampleIdeal.τ).loc Cert.KernelQkvSampleIdeal.main_v30_4)),
      θ_run (Cert.KernelQkvSampleIdeal.defs (F := Ideal)) (onTc (τ := Cert.KernelQkvSampleIdeal.τ) (Cert.KernelQkvSampleIdeal.main (F := Ideal))) ⟨m, fun _ => 0, g⟩ (fun r => ∀ c : Dev Cert.KernelQkvSampleIdeal.nD,
          r.2.mem ((c.tc : Thread Cert.KernelQkvSampleIdeal.nD Cert.KernelQkvSampleIdeal.τ).loc Cert.KernelQkvSampleIdeal.main_v30_0) = v0 c
          ∧ r.2.mem ((c.tc : Thread Cert.KernelQkvSampleIdeal.nD Cert.KernelQkvSampleIdeal.τ).loc Cert.KernelQkvSampleIdeal.main_v30_1) = v1 c
          ∧ r.2.mem ((c.tc : Thread Cert.KernelQkvSampleIdeal.nD Cert.KernelQkvSampleIdeal.τ).loc Cert.KernelQkvSampleIdeal.main_v30_2) = v2 c
          ∧ r.2.mem ((c.tc : Thread Cert.KernelQkvSampleIdeal.nD Cert.KernelQkvSampleIdeal.τ).loc Cert.KernelQkvSampleIdeal.main_v30_3) = v3 c
          ∧ r.2.mem ((c.tc : Thread Cert.KernelQkvSampleIdeal.nD Cert.KernelQkvSampleIdeal.τ).loc Cert.KernelQkvSampleIdeal.main_v30_4) = v4 c
          ∧ r.2.mem ((c.tc : Thread Cert.KernelQkvSampleIdeal.nD Cert.KernelQkvSampleIdeal.τ).loc Cert.KernelQkvSampleIdeal.main_arg0) = m ((c.tc : Thread Cert.KernelQkvSampleIdeal.nD Cert.KernelQkvSampleIdeal.τ).loc Cert.KernelQkvSampleIdeal.main_arg0)
          ∧ r.2.mem ((c.tc : Thread Cert.KernelQkvSampleIdeal.nD Cert.KernelQkvSampleIdeal.τ).loc Cert.KernelQkvSampleIdeal.main_arg1) = m ((c.tc : Thread Cert.KernelQkvSampleIdeal.nD Cert.KernelQkvSampleIdeal.τ).loc Cert.KernelQkvSampleIdeal.main_arg1)
          ∧ r.2.mem ((c.tc : Thread Cert.KernelQkvSampleIdeal.nD Cert.KernelQkvSampleIdeal.τ).loc Cert.KernelQkvSampleIdeal.main_arg2) = m ((c.tc : Thread Cert.KernelQkvSampleIdeal.nD Cert.KernelQkvSampleIdeal.τ).loc Cert.KernelQkvSampleIdeal.main_arg2)
          ∧ r.2.mem ((c.tc : Thread Cert.KernelQkvSampleIdeal.nD Cert.KernelQkvSampleIdeal.τ).loc Cert.KernelQkvSampleIdeal.main_arg3) = m ((c.tc : Thread Cert.KernelQkvSampleIdeal.nD Cert.KernelQkvSampleIdeal.τ).loc Cert.KernelQkvSampleIdeal.main_arg3)
          ∧ r.2.mem ((c.tc : Thread Cert.KernelQkvSampleIdeal.nD Cert.KernelQkvSampleIdeal.τ).loc Cert.KernelQkvSampleIdeal.main_arg4) = m ((c.tc : Thread Cert.KernelQkvSampleIdeal.nD Cert.KernelQkvSampleIdeal.τ).loc Cert.KernelQkvSampleIdeal.main_arg4))
      ∧ θ_run (Cert.ReferenceQkvSampleIdeal.defs (F := Ideal)) (onTc (τ := Cert.ReferenceQkvSampleIdeal.τ) (Cert.ReferenceQkvSampleIdeal.main (F := Ideal))) ⟨m', fun _ => 0, g'⟩ (fun r => ∀ c : Dev Cert.ReferenceQkvSampleIdeal.nD,
          r.2.mem ((c.tc : Thread Cert.ReferenceQkvSampleIdeal.nD Cert.ReferenceQkvSampleIdeal.τ).loc Cert.ReferenceQkvSampleIdeal.main_v98) = v0 c
          ∧ r.2.mem ((c.tc : Thread Cert.ReferenceQkvSampleIdeal.nD Cert.ReferenceQkvSampleIdeal.τ).loc Cert.ReferenceQkvSampleIdeal.main_v99) = v1 c
          ∧ r.2.mem ((c.tc : Thread Cert.ReferenceQkvSampleIdeal.nD Cert.ReferenceQkvSampleIdeal.τ).loc Cert.ReferenceQkvSampleIdeal.main_v102) = v2 c
          ∧ r.2.mem ((c.tc : Thread Cert.ReferenceQkvSampleIdeal.nD Cert.ReferenceQkvSampleIdeal.τ).loc Cert.ReferenceQkvSampleIdeal.main_v103) = v3 c
          ∧ r.2.mem ((c.tc : Thread Cert.ReferenceQkvSampleIdeal.nD Cert.ReferenceQkvSampleIdeal.τ).loc Cert.ReferenceQkvSampleIdeal.main_v104) = v4 c
          ∧ r.2.mem ((c.tc : Thread Cert.ReferenceQkvSampleIdeal.nD Cert.ReferenceQkvSampleIdeal.τ).loc Cert.ReferenceQkvSampleIdeal.main_arg0) = m' ((c.tc : Thread Cert.ReferenceQkvSampleIdeal.nD Cert.ReferenceQkvSampleIdeal.τ).loc Cert.ReferenceQkvSampleIdeal.main_arg0)
          ∧ r.2.mem ((c.tc : Thread Cert.ReferenceQkvSampleIdeal.nD Cert.ReferenceQkvSampleIdeal.τ).loc Cert.ReferenceQkvSampleIdeal.main_arg1) = m' ((c.tc : Thread Cert.ReferenceQkvSampleIdeal.nD Cert.ReferenceQkvSampleIdeal.τ).loc Cert.ReferenceQkvSampleIdeal.main_arg1)
          ∧ r.2.mem ((c.tc : Thread Cert.ReferenceQkvSampleIdeal.nD Cert.ReferenceQkvSampleIdeal.τ).loc Cert.ReferenceQkvSampleIdeal.main_arg2) = m' ((c.tc : Thread Cert.ReferenceQkvSampleIdeal.nD Cert.ReferenceQkvSampleIdeal.τ).loc Cert.ReferenceQkvSampleIdeal.main_arg2)
          ∧ r.2.mem ((c.tc : Thread Cert.ReferenceQkvSampleIdeal.nD Cert.ReferenceQkvSampleIdeal.τ).loc Cert.ReferenceQkvSampleIdeal.main_arg3) = m' ((c.tc : Thread Cert.ReferenceQkvSampleIdeal.nD Cert.ReferenceQkvSampleIdeal.τ).loc Cert.ReferenceQkvSampleIdeal.main_arg3)
          ∧ r.2.mem ((c.tc : Thread Cert.ReferenceQkvSampleIdeal.nD Cert.ReferenceQkvSampleIdeal.τ).loc Cert.ReferenceQkvSampleIdeal.main_arg4) = m' ((c.tc : Thread Cert.ReferenceQkvSampleIdeal.nD Cert.ReferenceQkvSampleIdeal.τ).loc Cert.ReferenceQkvSampleIdeal.main_arg4))

def preserves_KernelMla_KernelMlaIdeal : Prop :=
  True

def algebraic_KernelMlaIdeal_ReferenceMlaIdeal [hKernelMlaIdeal : Cert.KernelMlaIdeal.Facts] [hReferenceMlaIdeal : Cert.ReferenceMlaIdeal.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg)
    (m' : (ℓ : Loc Cert.ReferenceMlaIdeal.nD Cert.ReferenceMlaIdeal.τ Cert.ReferenceMlaIdeal.sig) → Buf (Elt Ideal) ℓ) (g' : Dev Cert.ReferenceMlaIdeal.nD → PrngReg), Pre_KernelMlaIdeal m →
    (∀ c : Dev Cert.KernelMlaIdeal.nD,
      m' ((c.tc : Thread Cert.ReferenceMlaIdeal.nD Cert.ReferenceMlaIdeal.τ).loc Cert.ReferenceMlaIdeal.main_arg0) = m ((c.tc : Thread Cert.KernelMlaIdeal.nD Cert.KernelMlaIdeal.τ).loc Cert.KernelMlaIdeal.main_arg0)
      ∧ m' ((c.tc : Thread Cert.ReferenceMlaIdeal.nD Cert.ReferenceMlaIdeal.τ).loc Cert.ReferenceMlaIdeal.main_arg1) = m ((c.tc : Thread Cert.KernelMlaIdeal.nD Cert.KernelMlaIdeal.τ).loc Cert.KernelMlaIdeal.main_arg1)
      ∧ m' ((c.tc : Thread Cert.ReferenceMlaIdeal.nD Cert.ReferenceMlaIdeal.τ).loc Cert.ReferenceMlaIdeal.main_arg2) = m ((c.tc : Thread Cert.KernelMlaIdeal.nD Cert.KernelMlaIdeal.τ).loc Cert.KernelMlaIdeal.main_arg2)
      ∧ m' ((c.tc : Thread Cert.ReferenceMlaIdeal.nD Cert.ReferenceMlaIdeal.τ).loc Cert.ReferenceMlaIdeal.main_arg3) = m ((c.tc : Thread Cert.KernelMlaIdeal.nD Cert.KernelMlaIdeal.τ).loc Cert.KernelMlaIdeal.main_arg3)
      ∧ m' ((c.tc : Thread Cert.ReferenceMlaIdeal.nD Cert.ReferenceMlaIdeal.τ).loc Cert.ReferenceMlaIdeal.main_arg4) = m ((c.tc : Thread Cert.KernelMlaIdeal.nD Cert.KernelMlaIdeal.τ).loc Cert.KernelMlaIdeal.main_arg4)
      ∧ m' ((c.tc : Thread Cert.ReferenceMlaIdeal.nD Cert.ReferenceMlaIdeal.τ).loc Cert.ReferenceMlaIdeal.main_arg5) = m ((c.tc : Thread Cert.KernelMlaIdeal.nD Cert.KernelMlaIdeal.τ).loc Cert.KernelMlaIdeal.main_arg5)
      ∧ m' ((c.tc : Thread Cert.ReferenceMlaIdeal.nD Cert.ReferenceMlaIdeal.τ).loc Cert.ReferenceMlaIdeal.main_arg6) = m ((c.tc : Thread Cert.KernelMlaIdeal.nD Cert.KernelMlaIdeal.τ).loc Cert.KernelMlaIdeal.main_arg6)
      ∧ m' ((c.tc : Thread Cert.ReferenceMlaIdeal.nD Cert.ReferenceMlaIdeal.τ).loc Cert.ReferenceMlaIdeal.main_arg7) = m ((c.tc : Thread Cert.KernelMlaIdeal.nD Cert.KernelMlaIdeal.τ).loc Cert.KernelMlaIdeal.main_arg7)
      ∧ m' ((c.tc : Thread Cert.ReferenceMlaIdeal.nD Cert.ReferenceMlaIdeal.τ).loc Cert.ReferenceMlaIdeal.main_arg8) = m ((c.tc : Thread Cert.KernelMlaIdeal.nD Cert.KernelMlaIdeal.τ).loc Cert.KernelMlaIdeal.main_arg8)
      ∧ m' ((c.tc : Thread Cert.ReferenceMlaIdeal.nD Cert.ReferenceMlaIdeal.τ).loc Cert.ReferenceMlaIdeal.main_arg9) = m ((c.tc : Thread Cert.KernelMlaIdeal.nD Cert.KernelMlaIdeal.τ).loc Cert.KernelMlaIdeal.main_arg9)
      ∧ m' ((c.tc : Thread Cert.ReferenceMlaIdeal.nD Cert.ReferenceMlaIdeal.τ).loc Cert.ReferenceMlaIdeal.main_arg10) = m ((c.tc : Thread Cert.KernelMlaIdeal.nD Cert.KernelMlaIdeal.τ).loc Cert.KernelMlaIdeal.main_arg10)) →
    ∃ (v0 : (c : Dev Cert.KernelMlaIdeal.nD) → Buf (Elt Ideal) ((c.tc : Thread Cert.KernelMlaIdeal.nD Cert.KernelMlaIdeal.τ).loc Cert.KernelMlaIdeal.main_v87_0)),
      θ_run (Cert.KernelMlaIdeal.defs (F := Ideal)) (onTc (τ := Cert.KernelMlaIdeal.τ) (Cert.KernelMlaIdeal.main (F := Ideal))) ⟨m, fun _ => 0, g⟩ (fun r => ∀ c : Dev Cert.KernelMlaIdeal.nD,
          r.2.mem ((c.tc : Thread Cert.KernelMlaIdeal.nD Cert.KernelMlaIdeal.τ).loc Cert.KernelMlaIdeal.main_v87_0) = v0 c
          ∧ r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
          ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
          ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2)
          ∧ r.2.mem ((c.tc : Thread Cert.KernelMlaIdeal.nD Cert.KernelMlaIdeal.τ).loc Cert.KernelMlaIdeal.main_arg3) = m ((c.tc : Thread Cert.KernelMlaIdeal.nD Cert.KernelMlaIdeal.τ).loc Cert.KernelMlaIdeal.main_arg3)
          ∧ r.2.mem ((c.tc : Thread Cert.KernelMlaIdeal.nD Cert.KernelMlaIdeal.τ).loc Cert.KernelMlaIdeal.main_arg4) = m ((c.tc : Thread Cert.KernelMlaIdeal.nD Cert.KernelMlaIdeal.τ).loc Cert.KernelMlaIdeal.main_arg4)
          ∧ r.2.mem ((c.tc : Thread Cert.KernelMlaIdeal.nD Cert.KernelMlaIdeal.τ).loc Cert.KernelMlaIdeal.main_arg5) = m ((c.tc : Thread Cert.KernelMlaIdeal.nD Cert.KernelMlaIdeal.τ).loc Cert.KernelMlaIdeal.main_arg5)
          ∧ r.2.mem ((c.tc : Thread Cert.KernelMlaIdeal.nD Cert.KernelMlaIdeal.τ).loc Cert.KernelMlaIdeal.main_arg6) = m ((c.tc : Thread Cert.KernelMlaIdeal.nD Cert.KernelMlaIdeal.τ).loc Cert.KernelMlaIdeal.main_arg6)
          ∧ r.2.mem ((c.tc : Thread Cert.KernelMlaIdeal.nD Cert.KernelMlaIdeal.τ).loc Cert.KernelMlaIdeal.main_arg7) = m ((c.tc : Thread Cert.KernelMlaIdeal.nD Cert.KernelMlaIdeal.τ).loc Cert.KernelMlaIdeal.main_arg7)
          ∧ r.2.mem ((c.tc : Thread Cert.KernelMlaIdeal.nD Cert.KernelMlaIdeal.τ).loc Cert.KernelMlaIdeal.main_arg8) = m ((c.tc : Thread Cert.KernelMlaIdeal.nD Cert.KernelMlaIdeal.τ).loc Cert.KernelMlaIdeal.main_arg8)
          ∧ r.2.mem ((c.tc : Thread Cert.KernelMlaIdeal.nD Cert.KernelMlaIdeal.τ).loc Cert.KernelMlaIdeal.main_arg9) = m ((c.tc : Thread Cert.KernelMlaIdeal.nD Cert.KernelMlaIdeal.τ).loc Cert.KernelMlaIdeal.main_arg9)
          ∧ r.2.mem ((c.tc : Thread Cert.KernelMlaIdeal.nD Cert.KernelMlaIdeal.τ).loc Cert.KernelMlaIdeal.main_arg10) = m ((c.tc : Thread Cert.KernelMlaIdeal.nD Cert.KernelMlaIdeal.τ).loc Cert.KernelMlaIdeal.main_arg10))
      ∧ θ_run (Cert.ReferenceMlaIdeal.defs (F := Ideal)) (onTc (τ := Cert.ReferenceMlaIdeal.τ) (Cert.ReferenceMlaIdeal.main (F := Ideal))) ⟨m', fun _ => 0, g'⟩ (fun r => ∀ c : Dev Cert.ReferenceMlaIdeal.nD,
          r.2.mem ((c.tc : Thread Cert.ReferenceMlaIdeal.nD Cert.ReferenceMlaIdeal.τ).loc Cert.ReferenceMlaIdeal.main_v35) = v0 c
          ∧ r.2.mem ((c.tc : Thread Cert.ReferenceMlaIdeal.nD Cert.ReferenceMlaIdeal.τ).loc Cert.ReferenceMlaIdeal.main_arg0) = m' ((c.tc : Thread Cert.ReferenceMlaIdeal.nD Cert.ReferenceMlaIdeal.τ).loc Cert.ReferenceMlaIdeal.main_arg0)
          ∧ r.2.mem ((c.tc : Thread Cert.ReferenceMlaIdeal.nD Cert.ReferenceMlaIdeal.τ).loc Cert.ReferenceMlaIdeal.main_arg1) = m' ((c.tc : Thread Cert.ReferenceMlaIdeal.nD Cert.ReferenceMlaIdeal.τ).loc Cert.ReferenceMlaIdeal.main_arg1)
          ∧ r.2.mem ((c.tc : Thread Cert.ReferenceMlaIdeal.nD Cert.ReferenceMlaIdeal.τ).loc Cert.ReferenceMlaIdeal.main_arg2) = m' ((c.tc : Thread Cert.ReferenceMlaIdeal.nD Cert.ReferenceMlaIdeal.τ).loc Cert.ReferenceMlaIdeal.main_arg2)
          ∧ r.2.mem ((c.tc : Thread Cert.ReferenceMlaIdeal.nD Cert.ReferenceMlaIdeal.τ).loc Cert.ReferenceMlaIdeal.main_arg3) = m' ((c.tc : Thread Cert.ReferenceMlaIdeal.nD Cert.ReferenceMlaIdeal.τ).loc Cert.ReferenceMlaIdeal.main_arg3)
          ∧ r.2.mem ((c.tc : Thread Cert.ReferenceMlaIdeal.nD Cert.ReferenceMlaIdeal.τ).loc Cert.ReferenceMlaIdeal.main_arg4) = m' ((c.tc : Thread Cert.ReferenceMlaIdeal.nD Cert.ReferenceMlaIdeal.τ).loc Cert.ReferenceMlaIdeal.main_arg4)
          ∧ r.2.mem ((c.tc : Thread Cert.ReferenceMlaIdeal.nD Cert.ReferenceMlaIdeal.τ).loc Cert.ReferenceMlaIdeal.main_arg5) = m' ((c.tc : Thread Cert.ReferenceMlaIdeal.nD Cert.ReferenceMlaIdeal.τ).loc Cert.ReferenceMlaIdeal.main_arg5)
          ∧ r.2.mem ((c.tc : Thread Cert.ReferenceMlaIdeal.nD Cert.ReferenceMlaIdeal.τ).loc Cert.ReferenceMlaIdeal.main_arg6) = m' ((c.tc : Thread Cert.ReferenceMlaIdeal.nD Cert.ReferenceMlaIdeal.τ).loc Cert.ReferenceMlaIdeal.main_arg6)
          ∧ r.2.mem ((c.tc : Thread Cert.ReferenceMlaIdeal.nD Cert.ReferenceMlaIdeal.τ).loc Cert.ReferenceMlaIdeal.main_arg7) = m' ((c.tc : Thread Cert.ReferenceMlaIdeal.nD Cert.ReferenceMlaIdeal.τ).loc Cert.ReferenceMlaIdeal.main_arg7)
          ∧ r.2.mem ((c.tc : Thread Cert.ReferenceMlaIdeal.nD Cert.ReferenceMlaIdeal.τ).loc Cert.ReferenceMlaIdeal.main_arg8) = m' ((c.tc : Thread Cert.ReferenceMlaIdeal.nD Cert.ReferenceMlaIdeal.τ).loc Cert.ReferenceMlaIdeal.main_arg8)
          ∧ r.2.mem ((c.tc : Thread Cert.ReferenceMlaIdeal.nD Cert.ReferenceMlaIdeal.τ).loc Cert.ReferenceMlaIdeal.main_arg9) = m' ((c.tc : Thread Cert.ReferenceMlaIdeal.nD Cert.ReferenceMlaIdeal.τ).loc Cert.ReferenceMlaIdeal.main_arg9)
          ∧ r.2.mem ((c.tc : Thread Cert.ReferenceMlaIdeal.nD Cert.ReferenceMlaIdeal.τ).loc Cert.ReferenceMlaIdeal.main_arg10) = m' ((c.tc : Thread Cert.ReferenceMlaIdeal.nD Cert.ReferenceMlaIdeal.τ).loc Cert.ReferenceMlaIdeal.main_arg10))

def preserves_KernelMlaSample_KernelMlaSampleIdeal : Prop :=
  True

def algebraic_KernelMlaSampleIdeal_ReferenceMlaSampleIdeal [hKernelMlaSampleIdeal : Cert.KernelMlaSampleIdeal.Facts] [hReferenceMlaSampleIdeal : Cert.ReferenceMlaSampleIdeal.Facts] : Prop :=
  ∀ (m : (ℓ : Loc Cert.KernelMlaSampleIdeal.nD Cert.KernelMlaSampleIdeal.τ Cert.KernelMlaSampleIdeal.sig) → Buf (Elt Ideal) ℓ) (g : Dev Cert.KernelMlaSampleIdeal.nD → PrngReg)
    (m' : (ℓ : Loc Cert.ReferenceMlaSampleIdeal.nD Cert.ReferenceMlaSampleIdeal.τ Cert.ReferenceMlaSampleIdeal.sig) → Buf (Elt Ideal) ℓ) (g' : Dev Cert.ReferenceMlaSampleIdeal.nD → PrngReg), Pre_KernelMlaSampleIdeal m →
    (∀ c : Dev Cert.KernelMlaSampleIdeal.nD,
      m' ((c.tc : Thread Cert.ReferenceMlaSampleIdeal.nD Cert.ReferenceMlaSampleIdeal.τ).loc Cert.ReferenceMlaSampleIdeal.main_arg0) = m ((c.tc : Thread Cert.KernelMlaSampleIdeal.nD Cert.KernelMlaSampleIdeal.τ).loc Cert.KernelMlaSampleIdeal.main_arg0)
      ∧ m' ((c.tc : Thread Cert.ReferenceMlaSampleIdeal.nD Cert.ReferenceMlaSampleIdeal.τ).loc Cert.ReferenceMlaSampleIdeal.main_arg1) = m ((c.tc : Thread Cert.KernelMlaSampleIdeal.nD Cert.KernelMlaSampleIdeal.τ).loc Cert.KernelMlaSampleIdeal.main_arg1)
      ∧ m' ((c.tc : Thread Cert.ReferenceMlaSampleIdeal.nD Cert.ReferenceMlaSampleIdeal.τ).loc Cert.ReferenceMlaSampleIdeal.main_arg2) = m ((c.tc : Thread Cert.KernelMlaSampleIdeal.nD Cert.KernelMlaSampleIdeal.τ).loc Cert.KernelMlaSampleIdeal.main_arg2)
      ∧ m' ((c.tc : Thread Cert.ReferenceMlaSampleIdeal.nD Cert.ReferenceMlaSampleIdeal.τ).loc Cert.ReferenceMlaSampleIdeal.main_arg3) = m ((c.tc : Thread Cert.KernelMlaSampleIdeal.nD Cert.KernelMlaSampleIdeal.τ).loc Cert.KernelMlaSampleIdeal.main_arg3)
      ∧ m' ((c.tc : Thread Cert.ReferenceMlaSampleIdeal.nD Cert.ReferenceMlaSampleIdeal.τ).loc Cert.ReferenceMlaSampleIdeal.main_arg4) = m ((c.tc : Thread Cert.KernelMlaSampleIdeal.nD Cert.KernelMlaSampleIdeal.τ).loc Cert.KernelMlaSampleIdeal.main_arg4)
      ∧ m' ((c.tc : Thread Cert.ReferenceMlaSampleIdeal.nD Cert.ReferenceMlaSampleIdeal.τ).loc Cert.ReferenceMlaSampleIdeal.main_arg5) = m ((c.tc : Thread Cert.KernelMlaSampleIdeal.nD Cert.KernelMlaSampleIdeal.τ).loc Cert.KernelMlaSampleIdeal.main_arg5)
      ∧ m' ((c.tc : Thread Cert.ReferenceMlaSampleIdeal.nD Cert.ReferenceMlaSampleIdeal.τ).loc Cert.ReferenceMlaSampleIdeal.main_arg6) = m ((c.tc : Thread Cert.KernelMlaSampleIdeal.nD Cert.KernelMlaSampleIdeal.τ).loc Cert.KernelMlaSampleIdeal.main_arg6)
      ∧ m' ((c.tc : Thread Cert.ReferenceMlaSampleIdeal.nD Cert.ReferenceMlaSampleIdeal.τ).loc Cert.ReferenceMlaSampleIdeal.main_arg7) = m ((c.tc : Thread Cert.KernelMlaSampleIdeal.nD Cert.KernelMlaSampleIdeal.τ).loc Cert.KernelMlaSampleIdeal.main_arg7)
      ∧ m' ((c.tc : Thread Cert.ReferenceMlaSampleIdeal.nD Cert.ReferenceMlaSampleIdeal.τ).loc Cert.ReferenceMlaSampleIdeal.main_arg8) = m ((c.tc : Thread Cert.KernelMlaSampleIdeal.nD Cert.KernelMlaSampleIdeal.τ).loc Cert.KernelMlaSampleIdeal.main_arg8)
      ∧ m' ((c.tc : Thread Cert.ReferenceMlaSampleIdeal.nD Cert.ReferenceMlaSampleIdeal.τ).loc Cert.ReferenceMlaSampleIdeal.main_arg9) = m ((c.tc : Thread Cert.KernelMlaSampleIdeal.nD Cert.KernelMlaSampleIdeal.τ).loc Cert.KernelMlaSampleIdeal.main_arg9)
      ∧ m' ((c.tc : Thread Cert.ReferenceMlaSampleIdeal.nD Cert.ReferenceMlaSampleIdeal.τ).loc Cert.ReferenceMlaSampleIdeal.main_arg10) = m ((c.tc : Thread Cert.KernelMlaSampleIdeal.nD Cert.KernelMlaSampleIdeal.τ).loc Cert.KernelMlaSampleIdeal.main_arg10)) →
    ∃ (v0 : (c : Dev Cert.KernelMlaSampleIdeal.nD) → Buf (Elt Ideal) ((c.tc : Thread Cert.KernelMlaSampleIdeal.nD Cert.KernelMlaSampleIdeal.τ).loc Cert.KernelMlaSampleIdeal.main_v87_0)),
      θ_run (Cert.KernelMlaSampleIdeal.defs (F := Ideal)) (onTc (τ := Cert.KernelMlaSampleIdeal.τ) (Cert.KernelMlaSampleIdeal.main (F := Ideal))) ⟨m, fun _ => 0, g⟩ (fun r => ∀ c : Dev Cert.KernelMlaSampleIdeal.nD,
          r.2.mem ((c.tc : Thread Cert.KernelMlaSampleIdeal.nD Cert.KernelMlaSampleIdeal.τ).loc Cert.KernelMlaSampleIdeal.main_v87_0) = v0 c
          ∧ r.2.mem ((c.tc : Thread Cert.KernelMlaSampleIdeal.nD Cert.KernelMlaSampleIdeal.τ).loc Cert.KernelMlaSampleIdeal.main_arg0) = m ((c.tc : Thread Cert.KernelMlaSampleIdeal.nD Cert.KernelMlaSampleIdeal.τ).loc Cert.KernelMlaSampleIdeal.main_arg0)
          ∧ r.2.mem ((c.tc : Thread Cert.KernelMlaSampleIdeal.nD Cert.KernelMlaSampleIdeal.τ).loc Cert.KernelMlaSampleIdeal.main_arg1) = m ((c.tc : Thread Cert.KernelMlaSampleIdeal.nD Cert.KernelMlaSampleIdeal.τ).loc Cert.KernelMlaSampleIdeal.main_arg1)
          ∧ r.2.mem ((c.tc : Thread Cert.KernelMlaSampleIdeal.nD Cert.KernelMlaSampleIdeal.τ).loc Cert.KernelMlaSampleIdeal.main_arg2) = m ((c.tc : Thread Cert.KernelMlaSampleIdeal.nD Cert.KernelMlaSampleIdeal.τ).loc Cert.KernelMlaSampleIdeal.main_arg2)
          ∧ r.2.mem ((c.tc : Thread Cert.KernelMlaSampleIdeal.nD Cert.KernelMlaSampleIdeal.τ).loc Cert.KernelMlaSampleIdeal.main_arg3) = m ((c.tc : Thread Cert.KernelMlaSampleIdeal.nD Cert.KernelMlaSampleIdeal.τ).loc Cert.KernelMlaSampleIdeal.main_arg3)
          ∧ r.2.mem ((c.tc : Thread Cert.KernelMlaSampleIdeal.nD Cert.KernelMlaSampleIdeal.τ).loc Cert.KernelMlaSampleIdeal.main_arg4) = m ((c.tc : Thread Cert.KernelMlaSampleIdeal.nD Cert.KernelMlaSampleIdeal.τ).loc Cert.KernelMlaSampleIdeal.main_arg4)
          ∧ r.2.mem ((c.tc : Thread Cert.KernelMlaSampleIdeal.nD Cert.KernelMlaSampleIdeal.τ).loc Cert.KernelMlaSampleIdeal.main_arg5) = m ((c.tc : Thread Cert.KernelMlaSampleIdeal.nD Cert.KernelMlaSampleIdeal.τ).loc Cert.KernelMlaSampleIdeal.main_arg5)
          ∧ r.2.mem ((c.tc : Thread Cert.KernelMlaSampleIdeal.nD Cert.KernelMlaSampleIdeal.τ).loc Cert.KernelMlaSampleIdeal.main_arg6) = m ((c.tc : Thread Cert.KernelMlaSampleIdeal.nD Cert.KernelMlaSampleIdeal.τ).loc Cert.KernelMlaSampleIdeal.main_arg6)
          ∧ r.2.mem ((c.tc : Thread Cert.KernelMlaSampleIdeal.nD Cert.KernelMlaSampleIdeal.τ).loc Cert.KernelMlaSampleIdeal.main_arg7) = m ((c.tc : Thread Cert.KernelMlaSampleIdeal.nD Cert.KernelMlaSampleIdeal.τ).loc Cert.KernelMlaSampleIdeal.main_arg7)
          ∧ r.2.mem ((c.tc : Thread Cert.KernelMlaSampleIdeal.nD Cert.KernelMlaSampleIdeal.τ).loc Cert.KernelMlaSampleIdeal.main_arg8) = m ((c.tc : Thread Cert.KernelMlaSampleIdeal.nD Cert.KernelMlaSampleIdeal.τ).loc Cert.KernelMlaSampleIdeal.main_arg8)
          ∧ r.2.mem ((c.tc : Thread Cert.KernelMlaSampleIdeal.nD Cert.KernelMlaSampleIdeal.τ).loc Cert.KernelMlaSampleIdeal.main_arg9) = m ((c.tc : Thread Cert.KernelMlaSampleIdeal.nD Cert.KernelMlaSampleIdeal.τ).loc Cert.KernelMlaSampleIdeal.main_arg9)
          ∧ r.2.mem ((c.tc : Thread Cert.KernelMlaSampleIdeal.nD Cert.KernelMlaSampleIdeal.τ).loc Cert.KernelMlaSampleIdeal.main_arg10) = m ((c.tc : Thread Cert.KernelMlaSampleIdeal.nD Cert.KernelMlaSampleIdeal.τ).loc Cert.KernelMlaSampleIdeal.main_arg10))
      ∧ θ_run (Cert.ReferenceMlaSampleIdeal.defs (F := Ideal)) (onTc (τ := Cert.ReferenceMlaSampleIdeal.τ) (Cert.ReferenceMlaSampleIdeal.main (F := Ideal))) ⟨m', fun _ => 0, g'⟩ (fun r => ∀ c : Dev Cert.ReferenceMlaSampleIdeal.nD,
          r.2.mem ((c.tc : Thread Cert.ReferenceMlaSampleIdeal.nD Cert.ReferenceMlaSampleIdeal.τ).loc Cert.ReferenceMlaSampleIdeal.main_v35) = v0 c
          ∧ r.2.mem ((c.tc : Thread Cert.ReferenceMlaSampleIdeal.nD Cert.ReferenceMlaSampleIdeal.τ).loc Cert.ReferenceMlaSampleIdeal.main_arg0) = m' ((c.tc : Thread Cert.ReferenceMlaSampleIdeal.nD Cert.ReferenceMlaSampleIdeal.τ).loc Cert.ReferenceMlaSampleIdeal.main_arg0)
          ∧ r.2.mem ((c.tc : Thread Cert.ReferenceMlaSampleIdeal.nD Cert.ReferenceMlaSampleIdeal.τ).loc Cert.ReferenceMlaSampleIdeal.main_arg1) = m' ((c.tc : Thread Cert.ReferenceMlaSampleIdeal.nD Cert.ReferenceMlaSampleIdeal.τ).loc Cert.ReferenceMlaSampleIdeal.main_arg1)
          ∧ r.2.mem ((c.tc : Thread Cert.ReferenceMlaSampleIdeal.nD Cert.ReferenceMlaSampleIdeal.τ).loc Cert.ReferenceMlaSampleIdeal.main_arg2) = m' ((c.tc : Thread Cert.ReferenceMlaSampleIdeal.nD Cert.ReferenceMlaSampleIdeal.τ).loc Cert.ReferenceMlaSampleIdeal.main_arg2)
          ∧ r.2.mem ((c.tc : Thread Cert.ReferenceMlaSampleIdeal.nD Cert.ReferenceMlaSampleIdeal.τ).loc Cert.ReferenceMlaSampleIdeal.main_arg3) = m' ((c.tc : Thread Cert.ReferenceMlaSampleIdeal.nD Cert.ReferenceMlaSampleIdeal.τ).loc Cert.ReferenceMlaSampleIdeal.main_arg3)
          ∧ r.2.mem ((c.tc : Thread Cert.ReferenceMlaSampleIdeal.nD Cert.ReferenceMlaSampleIdeal.τ).loc Cert.ReferenceMlaSampleIdeal.main_arg4) = m' ((c.tc : Thread Cert.ReferenceMlaSampleIdeal.nD Cert.ReferenceMlaSampleIdeal.τ).loc Cert.ReferenceMlaSampleIdeal.main_arg4)
          ∧ r.2.mem ((c.tc : Thread Cert.ReferenceMlaSampleIdeal.nD Cert.ReferenceMlaSampleIdeal.τ).loc Cert.ReferenceMlaSampleIdeal.main_arg5) = m' ((c.tc : Thread Cert.ReferenceMlaSampleIdeal.nD Cert.ReferenceMlaSampleIdeal.τ).loc Cert.ReferenceMlaSampleIdeal.main_arg5)
          ∧ r.2.mem ((c.tc : Thread Cert.ReferenceMlaSampleIdeal.nD Cert.ReferenceMlaSampleIdeal.τ).loc Cert.ReferenceMlaSampleIdeal.main_arg6) = m' ((c.tc : Thread Cert.ReferenceMlaSampleIdeal.nD Cert.ReferenceMlaSampleIdeal.τ).loc Cert.ReferenceMlaSampleIdeal.main_arg6)
          ∧ r.2.mem ((c.tc : Thread Cert.ReferenceMlaSampleIdeal.nD Cert.ReferenceMlaSampleIdeal.τ).loc Cert.ReferenceMlaSampleIdeal.main_arg7) = m' ((c.tc : Thread Cert.ReferenceMlaSampleIdeal.nD Cert.ReferenceMlaSampleIdeal.τ).loc Cert.ReferenceMlaSampleIdeal.main_arg7)
          ∧ r.2.mem ((c.tc : Thread Cert.ReferenceMlaSampleIdeal.nD Cert.ReferenceMlaSampleIdeal.τ).loc Cert.ReferenceMlaSampleIdeal.main_arg8) = m' ((c.tc : Thread Cert.ReferenceMlaSampleIdeal.nD Cert.ReferenceMlaSampleIdeal.τ).loc Cert.ReferenceMlaSampleIdeal.main_arg8)
          ∧ r.2.mem ((c.tc : Thread Cert.ReferenceMlaSampleIdeal.nD Cert.ReferenceMlaSampleIdeal.τ).loc Cert.ReferenceMlaSampleIdeal.main_arg9) = m' ((c.tc : Thread Cert.ReferenceMlaSampleIdeal.nD Cert.ReferenceMlaSampleIdeal.τ).loc Cert.ReferenceMlaSampleIdeal.main_arg9)
          ∧ r.2.mem ((c.tc : Thread Cert.ReferenceMlaSampleIdeal.nD Cert.ReferenceMlaSampleIdeal.τ).loc Cert.ReferenceMlaSampleIdeal.main_arg10) = m' ((c.tc : Thread Cert.ReferenceMlaSampleIdeal.nD Cert.ReferenceMlaSampleIdeal.τ).loc Cert.ReferenceMlaSampleIdeal.main_arg10))

def Claim : Prop :=
  ∃ (hKernelLast : Cert.KernelLast.Facts) (hKernelLastIdeal : Cert.KernelLastIdeal.Facts) (hReferenceLastIdeal : Cert.ReferenceLastIdeal.Facts) (hKernelProj : Cert.KernelProj.Facts) (hKernelProjIdeal : Cert.KernelProjIdeal.Facts) (hReferenceProjIdeal : Cert.ReferenceProjIdeal.Facts) (hKernelGlu : Cert.KernelGlu.Facts) (hKernelGluIdeal : Cert.KernelGluIdeal.Facts) (hReferenceGluIdeal : Cert.ReferenceGluIdeal.Facts) (hKernelSgu : Cert.KernelSgu.Facts) (hKernelSguIdeal : Cert.KernelSguIdeal.Facts) (hReferenceSguIdeal : Cert.ReferenceSguIdeal.Facts) (hKernelQkv : Cert.KernelQkv.Facts) (hKernelQkvIdeal : Cert.KernelQkvIdeal.Facts) (hReferenceQkvIdeal : Cert.ReferenceQkvIdeal.Facts) (hKernelLastSample : Cert.KernelLastSample.Facts) (hKernelLastSampleIdeal : Cert.KernelLastSampleIdeal.Facts) (hReferenceLastSampleIdeal : Cert.ReferenceLastSampleIdeal.Facts) (hKernelSguSample : Cert.KernelSguSample.Facts) (hKernelSguSampleIdeal : Cert.KernelSguSampleIdeal.Facts) (hReferenceSguSampleIdeal : Cert.ReferenceSguSampleIdeal.Facts) (hKernelQkvSample : Cert.KernelQkvSample.Facts) (hKernelQkvSampleIdeal : Cert.KernelQkvSampleIdeal.Facts) (hReferenceQkvSampleIdeal : Cert.ReferenceQkvSampleIdeal.Facts) (hKernelMla : Cert.KernelMla.Facts) (hKernelMlaIdeal : Cert.KernelMlaIdeal.Facts) (hReferenceMlaIdeal : Cert.ReferenceMlaIdeal.Facts) (hKernelMlaSample : Cert.KernelMlaSample.Facts) (hKernelMlaSampleIdeal : Cert.KernelMlaSampleIdeal.Facts) (hReferenceMlaSampleIdeal : Cert.ReferenceMlaSampleIdeal.Facts),
    quiescent_KernelLast (hKernelLast := hKernelLast)
    ∧ quiescent_KernelLastIdeal (hKernelLastIdeal := hKernelLastIdeal)
    ∧ quiescent_ReferenceLastIdeal (hReferenceLastIdeal := hReferenceLastIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelSgu (hKernelSgu := hKernelSgu)
    ∧ quiescent_KernelSguIdeal (hKernelSguIdeal := hKernelSguIdeal)
    ∧ quiescent_ReferenceSguIdeal (hReferenceSguIdeal := hReferenceSguIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelLastSample (hKernelLastSample := hKernelLastSample)
    ∧ quiescent_KernelLastSampleIdeal (hKernelLastSampleIdeal := hKernelLastSampleIdeal)
    ∧ quiescent_ReferenceLastSampleIdeal (hReferenceLastSampleIdeal := hReferenceLastSampleIdeal)
    ∧ quiescent_KernelSguSample (hKernelSguSample := hKernelSguSample)
    ∧ quiescent_KernelSguSampleIdeal (hKernelSguSampleIdeal := hKernelSguSampleIdeal)
    ∧ quiescent_ReferenceSguSampleIdeal (hReferenceSguSampleIdeal := hReferenceSguSampleIdeal)
    ∧ quiescent_KernelQkvSample (hKernelQkvSample := hKernelQkvSample)
    ∧ quiescent_KernelQkvSampleIdeal (hKernelQkvSampleIdeal := hKernelQkvSampleIdeal)
    ∧ quiescent_ReferenceQkvSampleIdeal (hReferenceQkvSampleIdeal := hReferenceQkvSampleIdeal)
    ∧ quiescent_KernelMla (hKernelMla := hKernelMla)
    ∧ quiescent_KernelMlaIdeal (hKernelMlaIdeal := hKernelMlaIdeal)
    ∧ quiescent_ReferenceMlaIdeal (hReferenceMlaIdeal := hReferenceMlaIdeal)
    ∧ quiescent_KernelMlaSample (hKernelMlaSample := hKernelMlaSample)
    ∧ quiescent_KernelMlaSampleIdeal (hKernelMlaSampleIdeal := hKernelMlaSampleIdeal)
    ∧ quiescent_ReferenceMlaSampleIdeal (hReferenceMlaSampleIdeal := hReferenceMlaSampleIdeal)
    ∧ preserves_KernelLast_KernelLastIdeal
    ∧ algebraic_KernelLastIdeal_ReferenceLastIdeal (hKernelLastIdeal := hKernelLastIdeal) (hReferenceLastIdeal := hReferenceLastIdeal)
    ∧ preserves_KernelProj_KernelProjIdeal
    ∧ algebraic_KernelProjIdeal_ReferenceProjIdeal (hKernelProjIdeal := hKernelProjIdeal) (hReferenceProjIdeal := hReferenceProjIdeal)
    ∧ preserves_KernelGlu_KernelGluIdeal
    ∧ algebraic_KernelGluIdeal_ReferenceGluIdeal (hKernelGluIdeal := hKernelGluIdeal) (hReferenceGluIdeal := hReferenceGluIdeal)
    ∧ preserves_KernelSgu_KernelSguIdeal
    ∧ algebraic_KernelSguIdeal_ReferenceSguIdeal (hKernelSguIdeal := hKernelSguIdeal) (hReferenceSguIdeal := hReferenceSguIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelLastSample_KernelLastSampleIdeal
    ∧ algebraic_KernelLastSampleIdeal_ReferenceLastSampleIdeal (hKernelLastSampleIdeal := hKernelLastSampleIdeal) (hReferenceLastSampleIdeal := hReferenceLastSampleIdeal)
    ∧ preserves_KernelSguSample_KernelSguSampleIdeal
    ∧ algebraic_KernelSguSampleIdeal_ReferenceSguSampleIdeal (hKernelSguSampleIdeal := hKernelSguSampleIdeal) (hReferenceSguSampleIdeal := hReferenceSguSampleIdeal)
    ∧ preserves_KernelQkvSample_KernelQkvSampleIdeal
    ∧ algebraic_KernelQkvSampleIdeal_ReferenceQkvSampleIdeal (hKernelQkvSampleIdeal := hKernelQkvSampleIdeal) (hReferenceQkvSampleIdeal := hReferenceQkvSampleIdeal)
    ∧ preserves_KernelMla_KernelMlaIdeal
    ∧ algebraic_KernelMlaIdeal_ReferenceMlaIdeal (hKernelMlaIdeal := hKernelMlaIdeal) (hReferenceMlaIdeal := hReferenceMlaIdeal)
    ∧ preserves_KernelMlaSample_KernelMlaSampleIdeal
    ∧ algebraic_KernelMlaSampleIdeal_ReferenceMlaSampleIdeal (hKernelMlaSampleIdeal := hKernelMlaSampleIdeal) (hReferenceMlaSampleIdeal := hReferenceMlaSampleIdeal)
-- ==== KernelLast.lean ====
abbrev S4x8192x1024 : Shape := ⟨3, ![4, 8192, 1024]⟩
abbrev S1024 : Shape := ⟨1, ![1024]⟩
abbrev S4x1024 : Shape := ⟨2, ![4, 1024]⟩
abbrev S1024x4096 : Shape := ⟨2, ![1024, 4096]⟩
abbrev S4096x1024 : Shape := ⟨2, ![4096, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S1x512 : Shape := ⟨2, ![1, 512]⟩
abbrev S1x512x1 : Shape := ⟨3, ![1, 512, 1]⟩
abbrev S512x1024 : Shape := ⟨2, ![512, 1024]⟩
abbrev S1024x2048 : Shape := ⟨2, ![1024, 2048]⟩
abbrev S512x2048 : Shape := ⟨2, ![512, 2048]⟩
abbrev S2048x1024 : Shape := ⟨2, ![2048, 1024]⟩

abbrev nBuf : Space → Nat
  | .hbm => 16
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelLastIdeal.lean ====
abbrev S4x8192x1024 : Shape := ⟨3, ![4, 8192, 1024]⟩
abbrev S1024 : Shape := ⟨1, ![1024]⟩
abbrev S4x1024 : Shape := ⟨2, ![4, 1024]⟩
abbrev S1024x4096 : Shape := ⟨2, ![1024, 4096]⟩
abbrev S4096x1024 : Shape := ⟨2, ![4096, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S1x512 : Shape := ⟨2, ![1, 512]⟩
abbrev S1x512x1 : Shape := ⟨3, ![1, 512, 1]⟩
abbrev S512x1024 : Shape := ⟨2, ![512, 1024]⟩
abbrev S1024x2048 : Shape := ⟨2, ![1024, 2048]⟩
abbrev S512x2048 : Shape := ⟨2, ![512, 2048]⟩
abbrev S2048x1024 : Shape := ⟨2, ![2048, 1024]⟩

abbrev nBuf : Space → Nat
  | .hbm => 16
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceLastIdeal.lean ====
abbrev S4x8192x1024 : Shape := ⟨3, ![4, 8192, 1024]⟩
abbrev S1024 : Shape := ⟨1, ![1024]⟩
abbrev S4x1024 : Shape := ⟨2, ![4, 1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x4096 : Shape := ⟨3, ![4, 8192, 4096]⟩

abbrev nBuf : Space → Nat
  | .hbm => 62
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S4x1024, .f32⟩
  | .hbm, ⟨35, _⟩ => ⟨S4x1024, .f32⟩
  | .hbm, ⟨36, _⟩ => ⟨S4x1x1024, .f32⟩
  | .hbm, ⟨37, _⟩ => ⟨S4x8192x4096, .f32⟩
  | .hbm, ⟨38, _⟩ => ⟨S_, .f32⟩
  | .hbm, ⟨39, _⟩ => ⟨S4x8192x4096, .f32⟩
  | .hbm, ⟨40, _⟩ => ⟨S4x8192x4096, .f32⟩
  | .hbm, ⟨41, _⟩ => ⟨S4x8192x4096, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S_, .f32⟩
  | .hbm, ⟨48, _⟩ => ⟨S4x8192, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S4x8192x1, .f32⟩
  | .hbm, ⟨57, _⟩ => ⟨S4x8192x1024, .f32⟩
  | .hbm, ⟨58, _⟩ => ⟨S4x8192x1024, .f32⟩
  | .hbm, ⟨59, _⟩ => ⟨S1x1x1024, .f32⟩
  | .hbm, ⟨60, _⟩ => ⟨S4x8192x1024, .f32⟩
  | .hbm, ⟨61, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== KernelProj.lean ====
abbrev S4x8192x1024 : Shape := ⟨3, ![4, 8192, 1024]⟩
abbrev S1024x1024 : Shape := ⟨2, ![1024, 1024]⟩
abbrev S4x1024 : Shape := ⟨2, ![4, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x512 : Shape := ⟨2, ![1, 512]⟩
abbrev S1x512x1 : Shape := ⟨3, ![1, 512, 1]⟩
abbrev S1024x2048 : Shape := ⟨2, ![1024, 2048]⟩
abbrev S512x2048 : Shape := ⟨2, ![512, 2048]⟩
abbrev S2048x1024 : Shape := ⟨2, ![2048, 1024]⟩

abbrev nBuf : Space → Nat
  | .hbm => 21
  | .vmem => 19
  | .smem => 0
  | _ => 0

abbrev bufTy : (tb : Table) → Fin (tcTables nBuf tb) → BufTy
  | .hbm, ⟨0, _⟩ => ⟨S4x8192x1024, .bf16⟩
  | .hbm, ⟨1, _⟩ => ⟨S1024x1024, .f32⟩
  | .hbm, ⟨2, _⟩ => ⟨S4x1024, .f32⟩
  | .hbm, ⟨3, _⟩ => ⟨S4x8192x1024, .f32⟩
  | .hbm, ⟨4, _⟩ => ⟨S1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S1024x4096, .bf16⟩
  | .hbm, ⟨16, _⟩ => ⟨S4096x1024, .bf16⟩
  | .hbm, ⟨17, _⟩ => ⟨S1x1024, .f32⟩
  | .hbm, ⟨18, _⟩ => ⟨S1024x1024, .bf16⟩
  | .hbm, ⟨19, _⟩ => ⟨S4x1x1024, .f32⟩
  | .hbm, ⟨20, _⟩ => ⟨S4x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x1x1024, .f32⟩
  | .local _ .vmem, ⟨4, _⟩ => ⟨S1x1x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x4096, .bf16⟩
  | .local _ .vmem, ⟨15, _⟩ => ⟨S4096x1024, .bf16⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceProjIdeal.lean ====
abbrev S4x8192x1024 : Shape := ⟨3, ![4, 8192, 1024]⟩
abbrev S1024x1024 : Shape := ⟨2, ![1024, 1024]⟩
abbrev S4x1024 : Shape := ⟨2, ![4, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 58
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S1024x1024, .f32⟩
  | .hbm, ⟨2, _⟩ => ⟨S4x1024, .f32⟩
  | .hbm, ⟨3, _⟩ => ⟨S4x8192x1024, .f32⟩
  | .hbm, ⟨4, _⟩ => ⟨S1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S4x8192x1024, .f32⟩
  | .hbm, ⟨12, _⟩ => ⟨S4x8192x1024, .f32⟩
  | .hbm, ⟨13, _⟩ => ⟨S_, .f32⟩
  | .hbm, ⟨14, _⟩ => ⟨S4x1024, .f32⟩
  | .hbm, ⟨15, _⟩ => ⟨S4x1024, .f32⟩
  | .hbm, ⟨16, _⟩ => ⟨S4x1x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S4x8192x1, .f32⟩
  | .hbm, ⟨31, _⟩ => ⟨S4x8192x1024, .f32⟩
  | .hbm, ⟨32, _⟩ => ⟨S4x8192x1024, .f32⟩
  | .hbm, ⟨33, _⟩ => ⟨S1x1x1024, .f32⟩
  | .hbm, ⟨34, _⟩ => ⟨S4x8192x1024, .f32⟩
  | .hbm, ⟨35, _⟩ => ⟨S4x8192x1024, .f32⟩
  | .hbm, ⟨36, _⟩ => ⟨S4x1x1024, .f32⟩
  | .hbm, ⟨37, _⟩ => ⟨S_, .f32⟩
  | .hbm, ⟨38, _⟩ => ⟨S4x1x1024, .f32⟩
  | .hbm, ⟨39, _⟩ => ⟨S4x1x1024, .f32⟩
  | .hbm, ⟨40, _⟩ => ⟨S4x8192x1024, .f32⟩
  | .hbm, ⟨41, _⟩ => ⟨S4x8192x1024, .f32⟩
  | .hbm, ⟨42, _⟩ => ⟨S4x1x1024, .f32⟩
  | .hbm, ⟨43, _⟩ => ⟨S4x8192x1024, .f32⟩
  | .hbm, ⟨44, _⟩ => ⟨S4x8192x1024, .f32⟩
  | .hbm, ⟨45, _⟩ => ⟨S_, .f32⟩
  | .hbm, ⟨46, _⟩ => ⟨S4x1024, .f32⟩
  | .hbm, ⟨47, _⟩ => ⟨S4x1024, .f32⟩
  | .hbm, ⟨48, _⟩ => ⟨S4x1x1024, .f32⟩
  | .hbm, ⟨49, _⟩ => ⟨S4x8192x4096, .f32⟩
  | .hbm, ⟨50, _⟩ => ⟨S_, .f32⟩
  | .hbm, ⟨51, _⟩ => ⟨S4x8192x4096, .f32⟩
  | .hbm, ⟨52, _⟩ => ⟨S4x8192x4096, .f32⟩
  | .hbm, ⟨53, _⟩ => ⟨S4x8192x4096, .f32⟩
  | .hbm, ⟨54, _⟩ => ⟨S4x8192x1024, .f32⟩
  | .hbm, ⟨55, _⟩ => ⟨S4x8192x1024, .f32⟩
  | .hbm, ⟨56, _⟩ => ⟨S4x8192x1024, .f32⟩
  | .hbm, ⟨57, _⟩ => ⟨S4x8192x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== KernelGlu.lean ====
abbrev S4x8192x1024 : Shape := ⟨3, ![4, 8192, 1024]⟩
abbrev S1024 : Shape := ⟨1, ![1024]⟩
abbrev S1024x1024 : Shape := ⟨2, ![1024, 1024]⟩
abbrev S4x1024 : Shape := ⟨2, ![4, 1024]⟩
abbrev S1024x4096 : Shape := ⟨2, ![1024, 4096]⟩
abbrev S4096x1024 : Shape := ⟨2, ![4096, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x512 : Shape := ⟨2, ![1, 512]⟩
abbrev S1x512x1 : Shape := ⟨3, ![1, 512, 1]⟩
abbrev S1024x2048 : Shape := ⟨2, ![1024, 2048]⟩
abbrev S512x2048 : Shape := ⟨2, ![512, 2048]⟩
abbrev S2048x1024 : Shape := ⟨2, ![2048, 1024]⟩

abbrev nBuf : Space → Nat
  | .hbm => 26
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S4x1024, .f32⟩
  | .hbm, ⟨6, _⟩ => ⟨S4x8192x1024, .f32⟩
  | .hbm, ⟨7, _⟩ => ⟨S1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S1024x4096, .bf16⟩
  | .hbm, ⟨19, _⟩ => ⟨S4096x1024, .bf16⟩
  | .hbm, ⟨20, _⟩ => ⟨S1x1024, .f32⟩
  | .hbm, ⟨21, _⟩ => ⟨S1x1024, .f32⟩
  | .hbm, ⟨22, _⟩ => ⟨S1024x1024, .bf16⟩
  | .hbm, ⟨23, _⟩ => ⟨S1024x1024, .bf16⟩
  | .hbm, ⟨24, _⟩ => ⟨S4x1x1024, .f32⟩
  | .hbm, ⟨25, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x4096, .bf16⟩
  | .local _ .vmem, ⟨19, _⟩ => ⟨S4096x1024, .bf16⟩
  | .local _ .vmem, ⟨20, _⟩ => ⟨S1x1024, .f32⟩
  | .local _ .vmem, ⟨21, _⟩ => ⟨S1x512x1024, .f32⟩
  | .local _ .vmem, ⟨22, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceGluIdeal.lean ====
abbrev S4x8192x1024 : Shape := ⟨3, ![4, 8192, 1024]⟩
abbrev S1024 : Shape := ⟨1, ![1024]⟩
abbrev S1024x1024 : Shape := ⟨2, ![1024, 1024]⟩
abbrev S4x1024 : Shape := ⟨2, ![4, 1024]⟩
abbrev S1024x4096 : Shape := ⟨2, ![1024, 4096]⟩
abbrev S4096x1024 : Shape := ⟨2, ![4096, 1024]⟩
abbrev S1x1x1024 : Shape := ⟨3, ![1, 1, 1024]⟩
abbrev S_ : Shape := ⟨0, ![]⟩
abbrev S4x1x1024 : Shape := ⟨3, ![4, 1, 1024]⟩
abbrev S4x8192 : Shape := ⟨2, ![4, 8192]⟩
abbrev S4x8192x1 : Shape := ⟨3, ![4, 8192, 1]⟩
abbrev S4x8192x4096 : Shape := ⟨3, ![4, 8192, 4096]⟩

abbrev nBuf : Space → Nat
  | .hbm => 91
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S4x1024, .f32⟩
  | .hbm, ⟨6, _⟩ => ⟨S4x8192x1024, .f32⟩
  | .hbm, ⟨7, _⟩ => ⟨S1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S1x1x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S_, .f32⟩
  | .hbm, ⟨40, _⟩ => ⟨S4x8192x1024, .f32⟩
  | .hbm, ⟨41, _⟩ => ⟨S4x8192x1024, .f32⟩
  | .hbm, ⟨42, _⟩ => ⟨S_, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S_, .f32⟩
  | .hbm, ⟨47, _⟩ => ⟨S4x1024, .f32⟩
  | .hbm, ⟨48, _⟩ => ⟨S4x1024, .f32⟩
  | .hbm, ⟨49, _⟩ => ⟨S4x1x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S_, .f32⟩
  | .hbm, ⟨55, _⟩ => ⟨S4x8192, .f32⟩
  | .hbm, ⟨56, _⟩ => ⟨S4x8192x1, .f32⟩
  | .hbm, ⟨57, _⟩ => ⟨S_, .f32⟩
  | .hbm, ⟨58, _⟩ => ⟨S4x8192x1, .f32⟩
  | .hbm, ⟨59, _⟩ => ⟨S4x8192x1, .f32⟩
  | .hbm, ⟨60, _⟩ => ⟨S_, .f32⟩
  | .hbm, ⟨61, _⟩ => ⟨S4x8192x1, .f32⟩
  | .hbm, ⟨62, _⟩ => ⟨S4x8192x1, .f32⟩
  | .hbm, ⟨63, _⟩ => ⟨S4x8192x1, .f32⟩
  | .hbm, ⟨64, _⟩ => ⟨S4x8192x1024, .f32⟩
  | .hbm, ⟨65, _⟩ => ⟨S4x8192x1024, .f32⟩
  | .hbm, ⟨66, _⟩ => ⟨S1x1x1024, .f32⟩
  | .hbm, ⟨67, _⟩ => ⟨S4x8192x1024, .f32⟩
  | .hbm, ⟨68, _⟩ => ⟨S4x8192x1024, .f32⟩
  | .hbm, ⟨69, _⟩ => ⟨S4x1x1024, .f32⟩
  | .hbm, ⟨70, _⟩ => ⟨S_, .f32⟩
  | .hbm, ⟨71, _⟩ => ⟨S4x1x1024, .f32⟩
  | .hbm, ⟨72, _⟩ => ⟨S4x1x1024, .f32⟩
  | .hbm, ⟨73, _⟩ => ⟨S4x8192x1024, .f32⟩
  | .hbm, ⟨74, _⟩ => ⟨S4x8192x1024, .f32⟩
  | .hbm, ⟨75, _⟩ => ⟨S4x1x1024, .f32⟩
  | .hbm, ⟨76, _⟩ => ⟨S4x8192x1024, .f32⟩
  | .hbm, ⟨77, _⟩ => ⟨S4x8192x1024, .f32⟩
  | .hbm, ⟨78, _⟩ => ⟨S_, .f32⟩
  | .hbm, ⟨79, _⟩ => ⟨S4x1024, .f32⟩
  | .hbm, ⟨80, _⟩ => ⟨S4x1024, .f32⟩
  | .hbm, ⟨81, _⟩ => ⟨S4x1x1024, .f32⟩
  | .hbm, ⟨82, _⟩ => ⟨S4x8192x4096, .f32⟩
  | .hbm, ⟨83, _⟩ => ⟨S_, .f32⟩
  | .hbm, ⟨84, _⟩ => ⟨S4x8192x4096, .f32⟩
  | .hbm, ⟨85, _⟩ => ⟨S4x8192x4096, .f32⟩
  | .hbm, ⟨86, _⟩ => ⟨S4x8192x4096, .f32⟩
  | .hbm, ⟨87, _⟩ => ⟨S4x8192x1024, .f32⟩
  | .hbm, ⟨88, _⟩ => ⟨S4x8192x1024, .f32⟩
  | .hbm, ⟨89, _⟩ => ⟨S4x8192x1024, .f32⟩
  | .hbm, ⟨90, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call0_cst : Ref sig .tc := ⟨.hbm, 83, rfl⟩
abbrev main_call0_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]
-- ==== KernelSgu.lean ====
abbrev S4x8192x1024 : Shape := ⟨3, ![4, 8192, 1024]⟩
abbrev S1024 : Shape := ⟨1, ![1024]⟩
abbrev S4x1024 : Shape := ⟨2, ![4, 1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S128x128 : Shape := ⟨2, ![128, 128]⟩
abbrev S_ : Shape := ⟨0, ![]⟩
abbrev S128x8 : Shape := ⟨2, ![128, 8]⟩
abbrev S128x8x256 : Shape := ⟨3, ![128, 8, 256]⟩
abbrev S128x2048 : Shape := ⟨2, ![128, 2048]⟩
abbrev S1x1024 : Shape := ⟨2, ![1, 1024]⟩
abbrev S4x1x1024 : Shape := ⟨3, ![4, 1, 1024]⟩
abbrev S1x2048 : Shape := ⟨2, ![1, 2048]⟩
abbrev S1x512x1024 : Shape := ⟨3, ![1, 512, 1024]⟩
abbrev S1x1x1024 : Shape := ⟨3, ![1, 1, 1024]⟩
abbrev S1x512 : Shape := ⟨2, ![1, 512]⟩
abbrev S1x512x1 : Shape := ⟨3, ![1, 512, 1]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S1x128x128 : Shape := ⟨3, ![1, 128, 128]⟩
abbrev S128x256 : Shape := ⟨2, ![128, 256]⟩

abbrev nBuf : Space → Nat
  | .hbm => 32
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S2048, .f32⟩
  | .hbm, ⟨7, _⟩ => ⟨S8x128x128, .f32⟩
  | .hbm, ⟨8, _⟩ => ⟨S8x128, .f32⟩
  | .hbm, ⟨9, _⟩ => ⟨S2048x1024, .f32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S8x128x128, .i1⟩
  | .hbm, ⟨17, _⟩ => ⟨S_, .f32⟩
  | .hbm, ⟨18, _⟩ => ⟨S8x128x128, .f32⟩
  | .hbm, ⟨19, _⟩ => ⟨S8x128x128, .f32⟩
  | .hbm, ⟨20, _⟩ => ⟨S8x128x128, .bf16⟩
  | .hbm, ⟨21, _⟩ => ⟨S128x8, .f32⟩
  | .hbm, ⟨22, _⟩ => ⟨S128x8x256, .f32⟩
  | .hbm, ⟨23, _⟩ => ⟨S128x2048, .f32⟩
  | .hbm, ⟨24, _⟩ => ⟨S1x1024, .f32⟩
  | .hbm, ⟨25, _⟩ => ⟨S4x1x1024, .f32⟩
  | .hbm, ⟨26, _⟩ => ⟨S4x1x1024, .f32⟩
  | .hbm, ⟨27, _⟩ => ⟨S4x1x1024, .f32⟩
  | .hbm, ⟨28, _⟩ => ⟨S1024x4096, .bf16⟩
  | .hbm, ⟨29, _⟩ => ⟨S1x2048, .f32⟩
  | .hbm, ⟨30, _⟩ => ⟨S2048x1024, .bf16⟩
  | .hbm, ⟨31, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x4096, .bf16⟩
  | .local _ .vmem, ⟨10, _⟩ => ⟨S1x2048, .f32⟩
  | .local _ .vmem, ⟨11, _⟩ => ⟨S8x128x128, .bf16⟩
  | .local _ .vmem, ⟨12, _⟩ => ⟨S128x2048, .f32⟩
  | .local _ .vmem, ⟨13, _⟩ => ⟨S2048x1024, .bf16⟩
  | .local _ .vmem, ⟨14, _⟩ => ⟨S1x512x1024, .f32⟩
  | .local _ .vmem, ⟨15, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_cst : Ref sig .tc := ⟨.hbm, 17, rfl⟩
abbrev main_call0_v6 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceSguIdeal.lean ====
abbrev S4x8192x1024 : Shape := ⟨3, ![4, 8192, 1024]⟩
abbrev S1024 : Shape := ⟨1, ![1024]⟩
abbrev S4x1024 : Shape := ⟨2, ![4, 1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x4096 : Shape := ⟨3, ![4, 8192, 4096]⟩
abbrev S4x8192x2048 : Shape := ⟨3, ![4, 8192, 2048]⟩
abbrev S1x1x2048 : Shape := ⟨3, ![1, 1, 2048]⟩
abbrev S4x64x128x8x256 : Shape := ⟨5, ![4, 64, 128, 8, 256]⟩
abbrev S128x128 : Shape := ⟨2, ![128, 128]⟩
abbrev S8x4x64x256x128 : Shape := ⟨5, ![8, 4, 64, 256, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 99
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S2048, .f32⟩
  | .hbm, ⟨7, _⟩ => ⟨S8x128x128, .f32⟩
  | .hbm, ⟨8, _⟩ => ⟨S8x128, .f32⟩
  | .hbm, ⟨9, _⟩ => ⟨S2048x1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S4x1x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x1x1024, .f32⟩
  | .hbm, ⟨33, _⟩ => ⟨S4x8192x1024, .f32⟩
  | .hbm, ⟨34, _⟩ => ⟨S4x8192x1024, .f32⟩
  | .hbm, ⟨35, _⟩ => ⟨S4x8192x4096, .f32⟩
  | .hbm, ⟨36, _⟩ => ⟨S4x8192x4096, .f32⟩
  | .hbm, ⟨37, _⟩ => ⟨S4x8192x4096, .f32⟩
  | .hbm, ⟨38, _⟩ => ⟨S_, .f32⟩
  | .hbm, ⟨39, _⟩ => ⟨S4x8192x4096, .f32⟩
  | .hbm, ⟨40, _⟩ => ⟨S4x8192x4096, .f32⟩
  | .hbm, ⟨41, _⟩ => ⟨S4x8192x4096, .f32⟩
  | .hbm, ⟨42, _⟩ => ⟨S_, .f32⟩
  | .hbm, ⟨43, _⟩ => ⟨S4x8192x4096, .f32⟩
  | .hbm, ⟨44, _⟩ => ⟨S4x8192x4096, .f32⟩
  | .hbm, ⟨45, _⟩ => ⟨S4x8192x4096, .f32⟩
  | .hbm, ⟨46, _⟩ => ⟨S_, .f32⟩
  | .hbm, ⟨47, _⟩ => ⟨S4x8192x4096, .f32⟩
  | .hbm, ⟨48, _⟩ => ⟨S4x8192x4096, .f32⟩
  | .hbm, ⟨49, _⟩ => ⟨S_, .f32⟩
  | .hbm, ⟨50, _⟩ => ⟨S4x8192x4096, .f32⟩
  | .hbm, ⟨51, _⟩ => ⟨S4x8192x4096, .f32⟩
  | .hbm, ⟨52, _⟩ => ⟨S4x8192x4096, .f32⟩
  | .hbm, ⟨53, _⟩ => ⟨S4x8192x2048, .f32⟩
  | .hbm, ⟨54, _⟩ => ⟨S4x8192x2048, .f32⟩
  | .hbm, ⟨55, _⟩ => ⟨S4x8192x2048, .f32⟩
  | .hbm, ⟨56, _⟩ => ⟨S_, .f32⟩
  | .hbm, ⟨57, _⟩ => ⟨S4x8192, .f32⟩
  | .hbm, ⟨58, _⟩ => ⟨S4x8192x1, .f32⟩
  | .hbm, ⟨59, _⟩ => ⟨S_, .f32⟩
  | .hbm, ⟨60, _⟩ => ⟨S4x8192x1, .f32⟩
  | .hbm, ⟨61, _⟩ => ⟨S4x8192x1, .f32⟩
  | .hbm, ⟨62, _⟩ => ⟨S_, .f32⟩
  | .hbm, ⟨63, _⟩ => ⟨S4x8192x1, .f32⟩
  | .hbm, ⟨64, _⟩ => ⟨S4x8192x1, .f32⟩
  | .hbm, ⟨65, _⟩ => ⟨S4x8192x1, .f32⟩
  | .hbm, ⟨66, _⟩ => ⟨S4x8192x2048, .f32⟩
  | .hbm, ⟨67, _⟩ => ⟨S4x8192x2048, .f32⟩
  | .hbm, ⟨68, _⟩ => ⟨S1x1x2048, .f32⟩
  | .hbm, ⟨69, _⟩ => ⟨S4x8192x2048, .f32⟩
  | .hbm, ⟨70, _⟩ => ⟨S4x8192x2048, .f32⟩
  | .hbm, ⟨71, _⟩ => ⟨S4x64x128x8x256, .f32⟩
  | .hbm, ⟨72, _⟩ => ⟨S128x128, .i32⟩
  | .hbm, ⟨73, _⟩ => ⟨S_, .i32⟩
  | .hbm, ⟨74, _⟩ => ⟨S128x128, .i32⟩
  | .hbm, ⟨75, _⟩ => ⟨S128x128, .i32⟩
  | .hbm, ⟨76, _⟩ => ⟨S128x128, .i32⟩
  | .hbm, ⟨77, _⟩ => ⟨S128x128, .i1⟩
  | .hbm, ⟨78, _⟩ => ⟨S8x128x128, .i1⟩
  | .hbm, ⟨79, _⟩ => ⟨S_, .f32⟩
  | .hbm, ⟨80, _⟩ => ⟨S8x128x128, .f32⟩
  | .hbm, ⟨81, _⟩ => ⟨S8x128x128, .f32⟩
  | .hbm, ⟨82, _⟩ => ⟨S8x4x64x256x128, .f32⟩
  | .hbm, ⟨83, _⟩ => ⟨S4x64x128x8x256, .f32⟩
  | .hbm, ⟨84, _⟩ => ⟨S128x8, .f32⟩
  | .hbm, ⟨85, _⟩ => ⟨S128x8x1, .f32⟩
  | .hbm, ⟨86, _⟩ => ⟨S1x1x128x8x1, .f32⟩
  | .hbm, ⟨87, _⟩ => ⟨S4x64x128x8x256, .f32⟩
  | .hbm, ⟨88, _⟩ => ⟨S4x64x128x8x256, .f32⟩
  | .hbm, ⟨89, _⟩ => ⟨S4x8192x2048, .f32⟩
  | .hbm, ⟨90, _⟩ => ⟨S4x8192x2048, .f32⟩
  | .hbm, ⟨91, _⟩ => ⟨S4x8192x1024, .f32⟩
  | .hbm, ⟨92, _⟩ => ⟨S_, .f32⟩
  | .hbm, ⟨93, _⟩ => ⟨S4x1024, .f32⟩
  | .hbm, ⟨94, _⟩ => ⟨S4x1024, .f32⟩
  | .hbm, ⟨95, _⟩ => ⟨S4x1x1024, .f32⟩
  | .hbm, ⟨96, _⟩ => ⟨S4x8192x1024, .f32⟩
  | .hbm, ⟨97, _⟩ => ⟨S4x8192x1024, .f32⟩
  | .hbm, ⟨98, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call0_v0 : Ref sig .tc := ⟨.hbm, 72, rfl⟩
abbrev main_call0_c : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_cst : Ref sig .tc := ⟨.hbm, 79, rfl⟩
abbrev main_call0_v6 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_10 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩

abbrev nD : Nat := 1
abbrev τ : Topo := Topo.v7x

variable {F : FTy → Type} [FloatOps F]
-- ==== KernelQkv.lean ====
abbrev S4x8192x1024 : Shape := ⟨3, ![4, 8192, 1024]⟩
abbrev S1024 : Shape := ⟨1, ![1024]⟩
abbrev S4x1024 : Shape := ⟨2, ![4, 1024]⟩
abbrev S1024x3072 : Shape := ⟨2, ![1024, 3072]⟩
abbrev S8192 : Shape := ⟨1, ![8192]⟩
abbrev S_ : Shape := ⟨0, ![]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S4x1x1024 : Shape := ⟨3, ![4, 1, 1024]⟩
abbrev S4x65536x128 : Shape := ⟨3, ![4, 65536, 128]⟩
abbrev S1x512x1024 : Shape := ⟨3, ![1, 512, 1024]⟩
abbrev S1x1x1024 : Shape := ⟨3, ![1, 1, 1024]⟩
abbrev S512x128 : Shape := ⟨2, ![512, 128]⟩
abbrev S1x4096x128 : Shape := ⟨3, ![1, 4096, 128]⟩
abbrev S1x512 : Shape := ⟨2, ![1, 512]⟩
abbrev S1x512x1 : Shape := ⟨3, ![1, 512, 1]⟩
abbrev S512x1024 : Shape := ⟨2, ![512, 1024]⟩
abbrev S1024x1024 : Shape := ⟨2, ![1024, 1024]⟩
abbrev S1x512x128 : Shape := ⟨3, ![1, 512, 128]⟩

abbrev nBuf : Space → Nat
  | .hbm => 43
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3072, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x64, .f32⟩
  | .hbm, ⟨26, _⟩ => ⟨S1x8192x1x64, .f32⟩
  | .hbm, ⟨27, _⟩ => ⟨S1x8192x2x64, .f32⟩
  | .hbm, ⟨28, _⟩ => ⟨S8192x128, .f32⟩
  | .hbm, ⟨29, _⟩ => ⟨S8192x32, .f32⟩
  | .hbm, ⟨30, _⟩ => ⟨S8192x64, .f32⟩
  | .hbm, ⟨31, _⟩ => ⟨S1x8192x1x64, .f32⟩
  | .hbm, ⟨32, _⟩ => ⟨S1x8192x2x64, .f32⟩
  | .hbm, ⟨33, _⟩ => ⟨S8192x128, .f32⟩
  | .hbm, ⟨34, _⟩ => ⟨S1x1024, .f32⟩
  | .hbm, ⟨35, _⟩ => ⟨S4x1x1024, .f32⟩
  | .hbm, ⟨36, _⟩ => ⟨S4x1x1024, .f32⟩
  | .hbm, ⟨37, _⟩ => ⟨S1024x3072, .bf16⟩
  | .hbm, ⟨38, _⟩ => ⟨S4x65536x128, .f32⟩
  | .hbm, ⟨39, _⟩ => ⟨S4x65536x128, .f32⟩
  | .hbm, ⟨40, _⟩ => ⟨S4x8192x1024, .bf16⟩
  | .hbm, ⟨41, _⟩ => ⟨S4x8192x1024, .bf16⟩
  | .hbm, ⟨42, _⟩ => ⟨S4x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x4096x128, .f32⟩
  | .local _ .vmem, ⟨13, _⟩ => ⟨S1x4096x128, .f32⟩
  | .local _ .vmem, ⟨14, _⟩ => ⟨S1x4096x128, .f32⟩
  | .local _ .vmem, ⟨15, _⟩ => ⟨S1x4096x128, .f32⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev main_v30_2 : Ref sig .tc := ⟨.hbm, 40, rfl⟩
abbrev main_v30_3 : Ref sig .tc := ⟨.hbm, 41, rfl⟩
abbrev main_v30_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceQkvIdeal.lean ====
abbrev S4x8192x1024 : Shape := ⟨3, ![4, 8192, 1024]⟩
abbrev S1024 : Shape := ⟨1, ![1024]⟩
abbrev S4x1024 : Shape := ⟨2, ![4, 1024]⟩
abbrev S1024x3072 : Shape := ⟨2, ![1024, 3072]⟩
abbrev S8192 : Shape := ⟨1, ![8192]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x3072 : Shape := ⟨3, ![4, 8192, 3072]⟩
abbrev S4x8192x16x64 : Shape := ⟨4, ![4, 8192, 16, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S4x8192x16x32 : Shape := ⟨4, ![4, 8192, 16, 32]⟩
abbrev S1x8192x1x32 : Shape := ⟨4, ![1, 8192, 1, 32]⟩
abbrev S4x65536x128 : Shape := ⟨3, ![4, 65536, 128]⟩

abbrev nBuf : Space → Nat
  | .hbm => 120
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3072, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S4x1x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x8192x1024, .f32⟩
  | .hbm, ⟨30, _⟩ => ⟨S4x8192x1024, .f32⟩
  | .hbm, ⟨31, _⟩ => ⟨S4x1x1024, .f32⟩
  | .hbm, ⟨32, _⟩ => ⟨S4x8192x1024, .f32⟩
  | .hbm, ⟨33, _⟩ => ⟨S4x8192x1024, .f32⟩
  | .hbm, ⟨34, _⟩ => ⟨S4x8192x3072, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S4x8192x16x64, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S8192, .f32⟩
  | .hbm, ⟨48, _⟩ => ⟨S8192x1, .f32⟩
  | .hbm, ⟨49, _⟩ => ⟨S1x32, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S8192x32, .f32⟩
  | .hbm, ⟨54, _⟩ => ⟨S8192x1x32, .f32⟩
  | .hbm, ⟨55, _⟩ => ⟨S8192x32, .f32⟩
  | .hbm, ⟨56, _⟩ => ⟨S8192x1x32, .f32⟩
  | .hbm, ⟨57, _⟩ => ⟨S4x8192x16x32, .f32⟩
  | .hbm, ⟨58, _⟩ => ⟨S4x8192x16x32, .f32⟩
  | .hbm, ⟨59, _⟩ => ⟨S1x8192x1x32, .f32⟩
  | .hbm, ⟨60, _⟩ => ⟨S4x8192x16x32, .f32⟩
  | .hbm, ⟨61, _⟩ => ⟨S4x8192x16x32, .f32⟩
  | .hbm, ⟨62, _⟩ => ⟨S1x8192x1x32, .f32⟩
  | .hbm, ⟨63, _⟩ => ⟨S4x8192x16x32, .f32⟩
  | .hbm, ⟨64, _⟩ => ⟨S4x8192x16x32, .f32⟩
  | .hbm, ⟨65, _⟩ => ⟨S4x8192x16x32, .f32⟩
  | .hbm, ⟨66, _⟩ => ⟨S1x8192x1x32, .f32⟩
  | .hbm, ⟨67, _⟩ => ⟨S4x8192x16x32, .f32⟩
  | .hbm, ⟨68, _⟩ => ⟨S4x8192x16x32, .f32⟩
  | .hbm, ⟨69, _⟩ => ⟨S1x8192x1x32, .f32⟩
  | .hbm, ⟨70, _⟩ => ⟨S4x8192x16x32, .f32⟩
  | .hbm, ⟨71, _⟩ => ⟨S4x8192x16x32, .f32⟩
  | .hbm, ⟨72, _⟩ => ⟨S4x8192x16x32, .f32⟩
  | .hbm, ⟨73, _⟩ => ⟨S4x8192x16x64, .f32⟩
  | .hbm, ⟨74, _⟩ => ⟨S4x8192x1024, .f32⟩
  | .hbm, ⟨75, _⟩ => ⟨S4x8192x16x64, .f32⟩
  | .hbm, ⟨76, _⟩ => ⟨S32, .f32⟩
  | .hbm, ⟨77, _⟩ => ⟨S32, .f32⟩
  | .hbm, ⟨78, _⟩ => ⟨S_, .f32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S8192, .f32⟩
  | .hbm, ⟨85, _⟩ => ⟨S8192x1, .f32⟩
  | .hbm, ⟨86, _⟩ => ⟨S1x32, .f32⟩
  | .hbm, ⟨87, _⟩ => ⟨S8192x32, .f32⟩
  | .hbm, ⟨88, _⟩ => ⟨S8192x32, .f32⟩
  | .hbm, ⟨89, _⟩ => ⟨S8192x32, .f32⟩
  | .hbm, ⟨90, _⟩ => ⟨S8192x32, .f32⟩
  | .hbm, ⟨91, _⟩ => ⟨S8192x1x32, .f32⟩
  | .hbm, ⟨92, _⟩ => ⟨S8192x32, .f32⟩
  | .hbm, ⟨93, _⟩ => ⟨S8192x1x32, .f32⟩
  | .hbm, ⟨94, _⟩ => ⟨S4x8192x16x32, .f32⟩
  | .hbm, ⟨95, _⟩ => ⟨S4x8192x16x32, .f32⟩
  | .hbm, ⟨96, _⟩ => ⟨S1x8192x1x32, .f32⟩
  | .hbm, ⟨97, _⟩ => ⟨S4x8192x16x32, .f32⟩
  | .hbm, ⟨98, _⟩ => ⟨S4x8192x16x32, .f32⟩
  | .hbm, ⟨99, _⟩ => ⟨S1x8192x1x32, .f32⟩
  | .hbm, ⟨100, _⟩ => ⟨S4x8192x16x32, .f32⟩
  | .hbm, ⟨101, _⟩ => ⟨S4x8192x16x32, .f32⟩
  | .hbm, ⟨102, _⟩ => ⟨S4x8192x16x32, .f32⟩
  | .hbm, ⟨103, _⟩ => ⟨S1x8192x1x32, .f32⟩
  | .hbm, ⟨104, _⟩ => ⟨S4x8192x16x32, .f32⟩
  | .hbm, ⟨105, _⟩ => ⟨S4x8192x16x32, .f32⟩
  | .hbm, ⟨106, _⟩ => ⟨S1x8192x1x32, .f32⟩
  | .hbm, ⟨107, _⟩ => ⟨S4x8192x16x32, .f32⟩
  | .hbm, ⟨108, _⟩ => ⟨S4x8192x16x32, .f32⟩
  | .hbm, ⟨109, _⟩ => ⟨S4x8192x16x32, .f32⟩
  | .hbm, ⟨110, _⟩ => ⟨S4x8192x16x64, .f32⟩
  | .hbm, ⟨111, _⟩ => ⟨S4x8192x1024, .f32⟩
  | .hbm, ⟨112, _⟩ => ⟨S4x65536x128, .f32⟩
  | .hbm, ⟨113, _⟩ => ⟨S4x65536x128, .f32⟩
  | .hbm, ⟨114, _⟩ => ⟨S_, .f32⟩
  | .hbm, ⟨115, _⟩ => ⟨S4x8192x1024, .f32⟩
  | .hbm, ⟨116, _⟩ => ⟨S4x8192x1024, .f32⟩
  | .hbm, ⟨117, _⟩ => ⟨S4x8192x1024, .bf16⟩
  | .hbm, ⟨118, _⟩ => ⟨S4x8192x1024, .bf16⟩
  | .hbm, ⟨119, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_5 : Ref sig .tc := ⟨.hbm, 78, rfl⟩
abbrev main_v66 : Ref sig .tc := ⟨.hbm, 79, rfl⟩
abbrev main_v67 : Ref sig .tc := ⟨.hbm, 80, rfl⟩
abbrev main_cst_6 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_cst_7 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩

abbrev nD : Nat := 1
abbrev τ : Topo := Topo.v7x

variable {F : FTy → Type} [FloatOps F]
-- ==== KernelLastSample.lean ====
abbrev S16x64x1024 : Shape := ⟨3, ![16, 64, 1024]⟩
abbrev S1024 : Shape := ⟨1, ![1024]⟩
abbrev S16x1024 : Shape := ⟨2, ![16, 1024]⟩
abbrev S1024x4096 : Shape := ⟨2, ![1024, 4096]⟩
abbrev S4096x1024 : Shape := ⟨2, ![4096, 1024]⟩
abbrev S1x1024 : Shape := ⟨2, ![1, 1024]⟩
abbrev S16x1x1024 : Shape := ⟨3, ![16, 1, 1024]⟩
abbrev S8x64x1024 : Shape := ⟨3, ![8, 64, 1024]⟩
abbrev S8x1x1024 : Shape := ⟨3, ![8, 1, 1024]⟩
abbrev S8x64 : Shape := ⟨2, ![8, 64]⟩
abbrev S8x64x1 : Shape := ⟨3, ![8, 64, 1]⟩
abbrev S1x1x1024 : Shape := ⟨3, ![1, 1, 1024]⟩
abbrev S512x1024 : Shape := ⟨2, ![512, 1024]⟩
abbrev S1024x2048 : Shape := ⟨2, ![1024, 2048]⟩
abbrev S512x2048 : Shape := ⟨2, ![512, 2048]⟩
abbrev S2048x1024 : Shape := ⟨2, ![2048, 1024]⟩

abbrev nBuf : Space → Nat
  | .hbm => 16
  | .vmem => 14
  | .smem => 0
  | _ => 0

abbrev bufTy : (tb : Table) → Fin (tcTables nBuf tb) → BufTy
  | .hbm, ⟨0, _⟩ => ⟨S16x64x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S16x64x1024, .f32⟩
  | .local _ .vmem, ⟨0, _⟩ => ⟨S8x64x1024, .f32⟩
  | .local _ .vmem, ⟨1, _⟩ => ⟨S8x64x1024, .f32⟩
  | .local _ .vmem, ⟨2, _⟩ => ⟨S1x1024, .f32⟩
  | .local _ .vmem, ⟨3, _⟩ => ⟨S8x1x1024, .f32⟩
  | .local _ .vmem, ⟨4, _⟩ => ⟨S8x1x1024, .f32⟩
  | .local _ .vmem, ⟨5, _⟩ => ⟨S8x1x1024, .f32⟩
  | .local _ .vmem, ⟨6, _⟩ => ⟨S8x1x1024, .f32⟩
  | .local _ .vmem, ⟨7, _⟩ => ⟨S8x1x1024, .f32⟩
  | .local _ .vmem, ⟨8, _⟩ => ⟨S8x1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S8x64x1024, .f32⟩
  | .local _ .vmem, ⟨13, _⟩ => ⟨S8x64x1024, .f32⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceLastSampleIdeal.lean ====
abbrev S16x64x1024 : Shape := ⟨3, ![16, 64, 1024]⟩
abbrev S1024 : Shape := ⟨1, ![1024]⟩
abbrev S16x1024 : Shape := ⟨2, ![16, 1024]⟩
abbrev S1024x4096 : Shape := ⟨2, ![1024, 4096]⟩
abbrev S4096x1024 : Shape := ⟨2, ![4096, 1024]⟩
abbrev S_ : Shape := ⟨0, ![]⟩
abbrev S16x64 : Shape := ⟨2, ![16, 64]⟩
abbrev S16x64x1 : Shape := ⟨3, ![16, 64, 1]⟩
abbrev S1x1x1024 : Shape := ⟨3, ![1, 1, 1024]⟩
abbrev S16x1x1024 : Shape := ⟨3, ![16, 1, 1024]⟩
abbrev S16x64x4096 : Shape := ⟨3, ![16, 64, 4096]⟩

abbrev nBuf : Space → Nat
  | .hbm => 62
  | .vmem => 0
  | .smem => 0
  | _ => 0

abbrev bufTy : (tb : Table) → Fin (tcTables nBuf tb) → BufTy
  | .hbm, ⟨0, _⟩ => ⟨S16x64x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S16x64x1024, .f32⟩
  | .hbm, ⟨9, _⟩ => ⟨S_, .f32⟩
  | .hbm, ⟨10, _⟩ => ⟨S16x64, .f32⟩
  | .hbm, ⟨11, _⟩ => ⟨S16x64x1, .f32⟩
  | .hbm, ⟨12, _⟩ => ⟨S_, .f32⟩
  | .hbm, ⟨13, _⟩ => ⟨S16x64x1, .f32⟩
  | .hbm, ⟨14, _⟩ => ⟨S16x64x1, .f32⟩
  | .hbm, ⟨15, _⟩ => ⟨S_, .f32⟩
  | .hbm, ⟨16, _⟩ => ⟨S16x64x1, .f32⟩
  | .hbm, ⟨17, _⟩ => ⟨S16x64x1, .f32⟩
  | .hbm, ⟨18, _⟩ => ⟨S16x64x1, .f32⟩
  | .hbm, ⟨19, _⟩ => ⟨S16x64x1024, .f32⟩
  | .hbm, ⟨20, _⟩ => ⟨S16x64x1024, .f32⟩
  | .hbm, ⟨21, _⟩ => ⟨S1x1x1024, .f32⟩
  | .hbm, ⟨22, _⟩ => ⟨S16x64x1024, .f32⟩
  | .hbm, ⟨23, _⟩ => ⟨S16x64x1024, .f32⟩
  | .hbm, ⟨24, _⟩ => ⟨S16x1x1024, .f32⟩
  | .hbm, ⟨25, _⟩ => ⟨S_, .f32⟩
  | .hbm, ⟨26, _⟩ => ⟨S16x1x1024, .f32⟩
  | .hbm, ⟨27, _⟩ => ⟨S16x1x1024, .f32⟩
  | .hbm, ⟨28, _⟩ => ⟨S16x64x1024, .f32⟩
  | .hbm, ⟨29, _⟩ => ⟨S16x64x1024, .f32⟩
  | .hbm, ⟨30, _⟩ => ⟨S16x1x1024, .f32⟩
  | .hbm, ⟨31, _⟩ => ⟨S16x64x1024, .f32⟩
  | .hbm, ⟨32, _⟩ => ⟨S16x64x1024, .f32⟩
  | .hbm, ⟨33, _⟩ => ⟨S_, .f32⟩
  | .hbm, ⟨34, _⟩ => ⟨S16x1024, .f32⟩
  | .hbm, ⟨35, _⟩ => ⟨S16x1024, .f32⟩
  | .hbm, ⟨36, _⟩ => ⟨S16x1x1024, .f32⟩
  | .hbm, ⟨37, _⟩ => ⟨S16x64x4096, .f32⟩
  | .hbm, ⟨38, _⟩ => ⟨S_, .f32⟩
  | .hbm, ⟨39, _⟩ => ⟨S16x64x4096, .f32⟩
  | .hbm, ⟨40, _⟩ => ⟨S16x64x4096, .f32⟩
  | .hbm, ⟨41, _⟩ => ⟨S16x64x4096, .f32⟩
  | .hbm, ⟨42, _⟩ => ⟨S16x64x1024, .f32⟩
  | .hbm, ⟨43, _⟩ => ⟨S16x64x1024, .f32⟩
  | .hbm, ⟨44, _⟩ => ⟨S16x64x1024, .f32⟩
  | .hbm, ⟨45, _⟩ => ⟨S16x64x1024, .f32⟩
  | .hbm, ⟨46, _⟩ => ⟨S16x64x1024, .f32⟩
  | .hbm, ⟨47, _⟩ => ⟨S_, .f32⟩
  | .hbm, ⟨48, _⟩ => ⟨S16x64, .f32⟩
  | .hbm, ⟨49, _⟩ => ⟨S16x64x1, .f32⟩
  | .hbm, ⟨50, _⟩ => ⟨S_, .f32⟩
  | .hbm, ⟨51, _⟩ => ⟨S16x64x1, .f32⟩
  | .hbm, ⟨52, _⟩ => ⟨S16x64x1, .f32⟩
  | .hbm, ⟨53, _⟩ => ⟨S_, .f32⟩
  | .hbm, ⟨54, _⟩ => ⟨S16x64x1, .f32⟩
  | .hbm, ⟨55, _⟩ => ⟨S16x64x1, .f32⟩
  | .hbm, ⟨56, _⟩ => ⟨S16x64x1, .f32⟩
  | .hbm, ⟨57, _⟩ => ⟨S16x64x1024, .f32⟩
  | .hbm, ⟨58, _⟩ => ⟨S16x64x1024, .f32⟩
  | .hbm, ⟨59, _⟩ => ⟨S1x1x1024, .f32⟩
  | .hbm, ⟨60, _⟩ => ⟨S16x64x1024, .f32⟩
  | .hbm, ⟨61, _⟩ => ⟨S16x64x1024, .f32⟩
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== KernelSguSample.lean ====
abbrev S16x64x1024 : Shape := ⟨3, ![16, 64, 1024]⟩
abbrev S1024 : Shape := ⟨1, ![1024]⟩
abbrev S16x1024 : Shape := ⟨2, ![16, 1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S8x64x64 : Shape := ⟨3, ![8, 64, 64]⟩
abbrev S64x64 : Shape := ⟨2, ![64, 64]⟩
abbrev S_ : Shape := ⟨0, ![]⟩
abbrev S8x64 : Shape := ⟨2, ![8, 64]⟩
abbrev S64x8 : Shape := ⟨2, ![64, 8]⟩
abbrev S64x8x256 : Shape := ⟨3, ![64, 8, 256]⟩
abbrev S64x2048 : Shape := ⟨2, ![64, 2048]⟩
abbrev S1x1024 : Shape := ⟨2, ![1, 1024]⟩
abbrev S16x1x1024 : Shape := ⟨3, ![16, 1, 1024]⟩
abbrev S1x2048 : Shape := ⟨2, ![1, 2048]⟩
abbrev S16x64x2048 : Shape := ⟨3, ![16, 64, 2048]⟩
abbrev S8x64x1024 : Shape := ⟨3, ![8, 64, 1024]⟩
abbrev S8x1x1024 : Shape := ⟨3, ![8, 1, 1024]⟩
abbrev S8x64x2048 : Shape := ⟨3, ![8, 64, 2048]⟩
abbrev S8x64x1 : Shape := ⟨3, ![8, 64, 1]⟩
abbrev S1x1x1024 : Shape := ⟨3, ![1, 1, 1024]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S1x64x64 : Shape := ⟨3, ![1, 64, 64]⟩
abbrev S64x256 : Shape := ⟨2, ![64, 256]⟩

abbrev nBuf : Space → Nat
  | .hbm => 35
  | .vmem => 18
  | .smem => 0
  | _ => 0

abbrev bufTy : (tb : Table) → Fin (tcTables nBuf tb) → BufTy
  | .hbm, ⟨0, _⟩ => ⟨S16x64x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S1024x4096, .f32⟩
  | .hbm, ⟨6, _⟩ => ⟨S2048, .f32⟩
  | .hbm, ⟨7, _⟩ => ⟨S8x128x128, .f32⟩
  | .hbm, ⟨8, _⟩ => ⟨S8x128, .f32⟩
  | .hbm, ⟨9, _⟩ => ⟨S2048x1024, .f32⟩
  | .hbm, ⟨10, _⟩ => ⟨S8x64x64, .f32⟩
  | .hbm, ⟨11, _⟩ => ⟨S64x64, .i32⟩
  | .hbm, ⟨12, _⟩ => ⟨S_, .i32⟩
  | .hbm, ⟨13, _⟩ => ⟨S64x64, .i32⟩
  | .hbm, ⟨14, _⟩ => ⟨S64x64, .i32⟩
  | .hbm, ⟨15, _⟩ => ⟨S64x64, .i32⟩
  | .hbm, ⟨16, _⟩ => ⟨S64x64, .i1⟩
  | .hbm, ⟨17, _⟩ => ⟨S8x64x64, .i1⟩
  | .hbm, ⟨18, _⟩ => ⟨S_, .f32⟩
  | .hbm, ⟨19, _⟩ => ⟨S8x64x64, .f32⟩
  | .hbm, ⟨20, _⟩ => ⟨S8x64x64, .f32⟩
  | .hbm, ⟨21, _⟩ => ⟨S8x64x64, .bf16⟩
  | .hbm, ⟨22, _⟩ => ⟨S8x64, .f32⟩
  | .hbm, ⟨23, _⟩ => ⟨S64x8, .f32⟩
  | .hbm, ⟨24, _⟩ => ⟨S64x8x256, .f32⟩
  | .hbm, ⟨25, _⟩ => ⟨S64x2048, .f32⟩
  | .hbm, ⟨26, _⟩ => ⟨S1x1024, .f32⟩
  | .hbm, ⟨27, _⟩ => ⟨S16x1x1024, .f32⟩
  | .hbm, ⟨28, _⟩ => ⟨S16x1x1024, .f32⟩
  | .hbm, ⟨29, _⟩ => ⟨S16x1x1024, .f32⟩
  | .hbm, ⟨30, _⟩ => ⟨S1024x4096, .bf16⟩
  | .hbm, ⟨31, _⟩ => ⟨S1x2048, .f32⟩
  | .hbm, ⟨32, _⟩ => ⟨S2048x1024, .bf16⟩
  | .hbm, ⟨33, _⟩ => ⟨S16x64x1024, .f32⟩
  | .hbm, ⟨34, _⟩ => ⟨S16x64x2048, .f32⟩
  | .local _ .vmem, ⟨0, _⟩ => ⟨S8x64x1024, .f32⟩
  | .local _ .vmem, ⟨1, _⟩ => ⟨S8x64x1024, .f32⟩
  | .local _ .vmem, ⟨2, _⟩ => ⟨S1x1024, .f32⟩
  | .local _ .vmem, ⟨3, _⟩ => ⟨S8x1x1024, .f32⟩
  | .local _ .vmem, ⟨4, _⟩ => ⟨S8x1x1024, .f32⟩
  | .local _ .vmem, ⟨5, _⟩ => ⟨S8x1x1024, .f32⟩
  | .local _ .vmem, ⟨6, _⟩ => ⟨S8x1x1024, .f32⟩
  | .local _ .vmem, ⟨7, _⟩ => ⟨S8x1x1024, .f32⟩
  | .local _ .vmem, ⟨8, _⟩ => ⟨S8x1x1024, .f32⟩
  | .local _ .vmem, ⟨9, _⟩ => ⟨S1024x4096, .bf16⟩
  | .local _ .vmem, ⟨10, _⟩ => ⟨S1x2048, .f32⟩
  | .local _ .vmem, ⟨11, _⟩ => ⟨S8x64x64, .bf16⟩
  | .local _ .vmem, ⟨12, _⟩ => ⟨S64x2048, .f32⟩
  | .local _ .vmem, ⟨13, _⟩ => ⟨S2048x1024, .bf16⟩
  | .local _ .vmem, ⟨14, _⟩ => ⟨S8x64x1024, .f32⟩
  | .local _ .vmem, ⟨15, _⟩ => ⟨S8x64x1024, .f32⟩
  | .local _ .vmem, ⟨16, _⟩ => ⟨S8x64x2048, .f32⟩
  | .local _ .vmem, ⟨17, _⟩ => ⟨S8x64x2048, .f32⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_cst : Ref sig .tc := ⟨.hbm, 18, rfl⟩
abbrev main_call0_v6 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14_0 : Ref sig .tc := ⟨.hbm, 33, rfl⟩
abbrev main_v14_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceSguSampleIdeal.lean ====
abbrev S16x64x1024 : Shape := ⟨3, ![16, 64, 1024]⟩
abbrev S1024 : Shape := ⟨1, ![1024]⟩
abbrev S16x1024 : Shape := ⟨2, ![16, 1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩
abbrev S16x64 : Shape := ⟨2, ![16, 64]⟩
abbrev S16x64x1 : Shape := ⟨3, ![16, 64, 1]⟩
abbrev S1x1x1024 : Shape := ⟨3, ![1, 1, 1024]⟩
abbrev S16x1x1024 : Shape := ⟨3, ![16, 1, 1024]⟩
abbrev S16x64x4096 : Shape := ⟨3, ![16, 64, 4096]⟩
abbrev S16x64x2048 : Shape := ⟨3, ![16, 64, 2048]⟩
abbrev S1x1x2048 : Shape := ⟨3, ![1, 1, 2048]⟩
abbrev S16x1x64x8x256 : Shape := ⟨5, ![16, 1, 64, 8, 256]⟩
abbrev S8x64x64 : Shape := ⟨3, ![8, 64, 64]⟩
abbrev S64x64 : Shape := ⟨2, ![64, 64]⟩
abbrev S8x16x1x256x64 : Shape := ⟨5, ![8, 16, 1, 256, 64]⟩
abbrev S8x64 : Shape := ⟨2, ![8, 64]⟩
abbrev S64x8 : Shape := ⟨2, ![64, 8]⟩
abbrev S64x8x1 : Shape := ⟨3, ![64, 8, 1]⟩
abbrev S1x1x64x8x1 : Shape := ⟨5, ![1, 1, 64, 8, 1]⟩

abbrev nBuf : Space → Nat
  | .hbm => 101
  | .vmem => 0
  | .smem => 0
  | _ => 0

abbrev bufTy : (tb : Table) → Fin (tcTables nBuf tb) → BufTy
  | .hbm, ⟨0, _⟩ => ⟨S16x64x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S1024x4096, .f32⟩
  | .hbm, ⟨6, _⟩ => ⟨S2048, .f32⟩
  | .hbm, ⟨7, _⟩ => ⟨S8x128x128, .f32⟩
  | .hbm, ⟨8, _⟩ => ⟨S8x128, .f32⟩
  | .hbm, ⟨9, _⟩ => ⟨S2048x1024, .f32⟩
  | .hbm, ⟨10, _⟩ => ⟨S16x64x1024, .f32⟩
  | .hbm, ⟨11, _⟩ => ⟨S_, .f32⟩
  | .hbm, ⟨12, _⟩ => ⟨S16x64, .f32⟩
  | .hbm, ⟨13, _⟩ => ⟨S16x64x1, .f32⟩
  | .hbm, ⟨14, _⟩ => ⟨S_, .f32⟩
  | .hbm, ⟨15, _⟩ => ⟨S16x64x1, .f32⟩
  | .hbm, ⟨16, _⟩ => ⟨S16x64x1, .f32⟩
  | .hbm, ⟨17, _⟩ => ⟨S_, .f32⟩
  | .hbm, ⟨18, _⟩ => ⟨S16x64x1, .f32⟩
  | .hbm, ⟨19, _⟩ => ⟨S16x64x1, .f32⟩
  | .hbm, ⟨20, _⟩ => ⟨S16x64x1, .f32⟩
  | .hbm, ⟨21, _⟩ => ⟨S16x64x1024, .f32⟩
  | .hbm, ⟨22, _⟩ => ⟨S16x64x1024, .f32⟩
  | .hbm, ⟨23, _⟩ => ⟨S1x1x1024, .f32⟩
  | .hbm, ⟨24, _⟩ => ⟨S16x64x1024, .f32⟩
  | .hbm, ⟨25, _⟩ => ⟨S16x64x1024, .f32⟩
  | .hbm, ⟨26, _⟩ => ⟨S16x1x1024, .f32⟩
  | .hbm, ⟨27, _⟩ => ⟨S_, .f32⟩
  | .hbm, ⟨28, _⟩ => ⟨S16x1x1024, .f32⟩
  | .hbm, ⟨29, _⟩ => ⟨S16x1x1024, .f32⟩
  | .hbm, ⟨30, _⟩ => ⟨S16x64x1024, .f32⟩
  | .hbm, ⟨31, _⟩ => ⟨S16x64x1024, .f32⟩
  | .hbm, ⟨32, _⟩ => ⟨S16x1x1024, .f32⟩
  | .hbm, ⟨33, _⟩ => ⟨S16x64x1024, .f32⟩
  | .hbm, ⟨34, _⟩ => ⟨S16x64x1024, .f32⟩
  | .hbm, ⟨35, _⟩ => ⟨S16x64x4096, .f32⟩
  | .hbm, ⟨36, _⟩ => ⟨S16x64x4096, .f32⟩
  | .hbm, ⟨37, _⟩ => ⟨S16x64x4096, .f32⟩
  | .hbm, ⟨38, _⟩ => ⟨S_, .f32⟩
  | .hbm, ⟨39, _⟩ => ⟨S16x64x4096, .f32⟩
  | .hbm, ⟨40, _⟩ => ⟨S16x64x4096, .f32⟩
  | .hbm, ⟨41, _⟩ => ⟨S16x64x4096, .f32⟩
  | .hbm, ⟨42, _⟩ => ⟨S_, .f32⟩
  | .hbm, ⟨43, _⟩ => ⟨S16x64x4096, .f32⟩
  | .hbm, ⟨44, _⟩ => ⟨S16x64x4096, .f32⟩
  | .hbm, ⟨45, _⟩ => ⟨S16x64x4096, .f32⟩
  | .hbm, ⟨46, _⟩ => ⟨S_, .f32⟩
  | .hbm, ⟨47, _⟩ => ⟨S16x64x4096, .f32⟩
  | .hbm, ⟨48, _⟩ => ⟨S16x64x4096, .f32⟩
  | .hbm, ⟨49, _⟩ => ⟨S_, .f32⟩
  | .hbm, ⟨50, _⟩ => ⟨S16x64x4096, .f32⟩
  | .hbm, ⟨51, _⟩ => ⟨S16x64x4096, .f32⟩
  | .hbm, ⟨52, _⟩ => ⟨S16x64x4096, .f32⟩
  | .hbm, ⟨53, _⟩ => ⟨S16x64x2048, .f32⟩
  | .hbm, ⟨54, _⟩ => ⟨S16x64x2048, .f32⟩
  | .hbm, ⟨55, _⟩ => ⟨S16x64x2048, .f32⟩
  | .hbm, ⟨56, _⟩ => ⟨S_, .f32⟩
  | .hbm, ⟨57, _⟩ => ⟨S16x64, .f32⟩
  | .hbm, ⟨58, _⟩ => ⟨S16x64x1, .f32⟩
  | .hbm, ⟨59, _⟩ => ⟨S_, .f32⟩
  | .hbm, ⟨60, _⟩ => ⟨S16x64x1, .f32⟩
  | .hbm, ⟨61, _⟩ => ⟨S16x64x1, .f32⟩
  | .hbm, ⟨62, _⟩ => ⟨S_, .f32⟩
  | .hbm, ⟨63, _⟩ => ⟨S16x64x1, .f32⟩
  | .hbm, ⟨64, _⟩ => ⟨S16x64x1, .f32⟩
  | .hbm, ⟨65, _⟩ => ⟨S16x64x1, .f32⟩
  | .hbm, ⟨66, _⟩ => ⟨S16x64x2048, .f32⟩
  | .hbm, ⟨67, _⟩ => ⟨S16x64x2048, .f32⟩
  | .hbm, ⟨68, _⟩ => ⟨S1x1x2048, .f32⟩
  | .hbm, ⟨69, _⟩ => ⟨S16x64x2048, .f32⟩
  | .hbm, ⟨70, _⟩ => ⟨S16x64x2048, .f32⟩
  | .hbm, ⟨71, _⟩ => ⟨S16x1x64x8x256, .f32⟩
  | .hbm, ⟨72, _⟩ => ⟨S8x64x64, .f32⟩
  | .hbm, ⟨73, _⟩ => ⟨S64x64, .i32⟩
  | .hbm, ⟨74, _⟩ => ⟨S_, .i32⟩
  | .hbm, ⟨75, _⟩ => ⟨S64x64, .i32⟩
  | .hbm, ⟨76, _⟩ => ⟨S64x64, .i32⟩
  | .hbm, ⟨77, _⟩ => ⟨S64x64, .i32⟩
  | .hbm, ⟨78, _⟩ => ⟨S64x64, .i1⟩
  | .hbm, ⟨79, _⟩ => ⟨S8x64x64, .i1⟩
  | .hbm, ⟨80, _⟩ => ⟨S_, .f32⟩
  | .hbm, ⟨81, _⟩ => ⟨S8x64x64, .f32⟩
  | .hbm, ⟨82, _⟩ => ⟨S8x64x64, .f32⟩
  | .hbm, ⟨83, _⟩ => ⟨S8x16x1x256x64, .f32⟩
  | .hbm, ⟨84, _⟩ => ⟨S16x1x64x8x256, .f32⟩
  | .hbm, ⟨85, _⟩ => ⟨S8x64, .f32⟩
  | .hbm, ⟨86, _⟩ => ⟨S64x8, .f32⟩
  | .hbm, ⟨87, _⟩ => ⟨S64x8x1, .f32⟩
  | .hbm, ⟨88, _⟩ => ⟨S1x1x64x8x1, .f32⟩
  | .hbm, ⟨89, _⟩ => ⟨S16x1x64x8x256, .f32⟩
  | .hbm, ⟨90, _⟩ => ⟨S16x1x64x8x256, .f32⟩
  | .hbm, ⟨91, _⟩ => ⟨S16x64x2048, .f32⟩
  | .hbm, ⟨92, _⟩ => ⟨S16x64x2048, .f32⟩
  | .hbm, ⟨93, _⟩ => ⟨S16x64x1024, .f32⟩
  | .hbm, ⟨94, _⟩ => ⟨S_, .f32⟩
  | .hbm, ⟨95, _⟩ => ⟨S16x1024, .f32⟩
  | .hbm, ⟨96, _⟩ => ⟨S16x1024, .f32⟩
  | .hbm, ⟨97, _⟩ => ⟨S16x1x1024, .f32⟩
  | .hbm, ⟨98, _⟩ => ⟨S16x64x1024, .f32⟩
  | .hbm, ⟨99, _⟩ => ⟨S16x64x1024, .f32⟩
  | .hbm, ⟨100, _⟩ => ⟨S16x64x1024, .f32⟩
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call0_v0 : Ref sig .tc := ⟨.hbm, 73, rfl⟩
abbrev main_call0_c : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_cst : Ref sig .tc := ⟨.hbm, 80, rfl⟩
abbrev main_call0_v6 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]
-- ==== KernelQkvSample.lean ====
abbrev S16x64x1024 : Shape := ⟨3, ![16, 64, 1024]⟩
abbrev S1024 : Shape := ⟨1, ![1024]⟩
abbrev S16x1024 : Shape := ⟨2, ![16, 1024]⟩
abbrev S1024x3072 : Shape := ⟨2, ![1024, 3072]⟩
abbrev S64 : Shape := ⟨1, ![64]⟩
abbrev S_ : Shape := ⟨0, ![]⟩
abbrev S32 : Shape := ⟨1, ![32]⟩
abbrev S64x1 : Shape := ⟨2, ![64, 1]⟩
abbrev S1x32 : Shape := ⟨2, ![1, 32]⟩
abbrev S64x32 : Shape := ⟨2, ![64, 32]⟩
abbrev S64x64 : Shape := ⟨2, ![64, 64]⟩
abbrev S1x64x1x64 : Shape := ⟨4, ![1, 64, 1, 64]⟩
abbrev S1x64x2x64 : Shape := ⟨4, ![1, 64, 2, 64]⟩
abbrev S64x128 : Shape := ⟨2, ![64, 128]⟩
abbrev S1x1024 : Shape := ⟨2, ![1, 1024]⟩
abbrev S16x1x1024 : Shape := ⟨3, ![16, 1, 1024]⟩
abbrev S16x512x128 : Shape := ⟨3, ![16, 512, 128]⟩
abbrev S8x64x1024 : Shape := ⟨3, ![8, 64, 1024]⟩
abbrev S8x1x1024 : Shape := ⟨3, ![8, 1, 1024]⟩
abbrev S8x512x128 : Shape := ⟨3, ![8, 512, 128]⟩
abbrev S8x64 : Shape := ⟨2, ![8, 64]⟩
abbrev S8x64x1 : Shape := ⟨3, ![8, 64, 1]⟩
abbrev S1x1x1024 : Shape := ⟨3, ![1, 1, 1024]⟩
abbrev S512x1024 : Shape := ⟨2, ![512, 1024]⟩
abbrev S64x1024 : Shape := ⟨2, ![64, 1024]⟩
abbrev S1x64x1024 : Shape := ⟨3, ![1, 64, 1024]⟩
abbrev S1024x1024 : Shape := ⟨2, ![1024, 1024]⟩
abbrev S8x64x128 : Shape := ⟨3, ![8, 64, 128]⟩

abbrev nBuf : Space → Nat
  | .hbm => 43
  | .vmem => 20
  | .smem => 0
  | _ => 0

abbrev bufTy : (tb : Table) → Fin (tcTables nBuf tb) → BufTy
  | .hbm, ⟨0, _⟩ => ⟨S16x64x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x3072, .f32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S64, .f32⟩
  | .hbm, ⟨18, _⟩ => ⟨S64x1, .f32⟩
  | .hbm, ⟨19, _⟩ => ⟨S1x32, .f32⟩
  | .hbm, ⟨20, _⟩ => ⟨S64x32, .f32⟩
  | .hbm, ⟨21, _⟩ => ⟨S64x32, .f32⟩
  | .hbm, ⟨22, _⟩ => ⟨S64x32, .f32⟩
  | .hbm, ⟨23, _⟩ => ⟨S64x32, .f32⟩
  | .hbm, ⟨24, _⟩ => ⟨S64x32, .f32⟩
  | .hbm, ⟨25, _⟩ => ⟨S64x64, .f32⟩
  | .hbm, ⟨26, _⟩ => ⟨S1x64x1x64, .f32⟩
  | .hbm, ⟨27, _⟩ => ⟨S1x64x2x64, .f32⟩
  | .hbm, ⟨28, _⟩ => ⟨S64x128, .f32⟩
  | .hbm, ⟨29, _⟩ => ⟨S64x32, .f32⟩
  | .hbm, ⟨30, _⟩ => ⟨S64x64, .f32⟩
  | .hbm, ⟨31, _⟩ => ⟨S1x64x1x64, .f32⟩
  | .hbm, ⟨32, _⟩ => ⟨S1x64x2x64, .f32⟩
  | .hbm, ⟨33, _⟩ => ⟨S64x128, .f32⟩
  | .hbm, ⟨34, _⟩ => ⟨S1x1024, .f32⟩
  | .hbm, ⟨35, _⟩ => ⟨S16x1x1024, .f32⟩
  | .hbm, ⟨36, _⟩ => ⟨S16x1x1024, .f32⟩
  | .hbm, ⟨37, _⟩ => ⟨S1024x3072, .bf16⟩
  | .hbm, ⟨38, _⟩ => ⟨S16x512x128, .f32⟩
  | .hbm, ⟨39, _⟩ => ⟨S16x512x128, .f32⟩
  | .hbm, ⟨40, _⟩ => ⟨S16x64x1024, .bf16⟩
  | .hbm, ⟨41, _⟩ => ⟨S16x64x1024, .bf16⟩
  | .hbm, ⟨42, _⟩ => ⟨S16x64x1024, .bf16⟩
  | .local _ .vmem, ⟨0, _⟩ => ⟨S8x64x1024, .f32⟩
  | .local _ .vmem, ⟨1, _⟩ => ⟨S8x64x1024, .f32⟩
  | .local _ .vmem, ⟨2, _⟩ => ⟨S1x1024, .f32⟩
  | .local _ .vmem, ⟨3, _⟩ => ⟨S8x1x1024, .f32⟩
  | .local _ .vmem, ⟨4, _⟩ => ⟨S8x1x1024, .f32⟩
  | .local _ .vmem, ⟨5, _⟩ => ⟨S8x1x1024, .f32⟩
  | .local _ .vmem, ⟨6, _⟩ => ⟨S8x1x1024, .f32⟩
  | .local _ .vmem, ⟨7, _⟩ => ⟨S1024x3072, .bf16⟩
  | .local _ .vmem, ⟨8, _⟩ => ⟨S64x128, .f32⟩
  | .local _ .vmem, ⟨9, _⟩ => ⟨S64x128, .f32⟩
  | .local _ .vmem, ⟨10, _⟩ => ⟨S8x512x128, .f32⟩
  | .local _ .vmem, ⟨11, _⟩ => ⟨S8x512x128, .f32⟩
  | .local _ .vmem, ⟨12, _⟩ => ⟨S8x512x128, .f32⟩
  | .local _ .vmem, ⟨13, _⟩ => ⟨S8x512x128, .f32⟩
  | .local _ .vmem, ⟨14, _⟩ => ⟨S8x64x1024, .bf16⟩
  | .local _ .vmem, ⟨15, _⟩ => ⟨S8x64x1024, .bf16⟩
  | .local _ .vmem, ⟨16, _⟩ => ⟨S8x64x1024, .bf16⟩
  | .local _ .vmem, ⟨17, _⟩ => ⟨S8x64x1024, .bf16⟩
  | .local _ .vmem, ⟨18, _⟩ => ⟨S8x64x1024, .bf16⟩
  | .local _ .vmem, ⟨19, _⟩ => ⟨S8x64x1024, .bf16⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev main_v30_2 : Ref sig .tc := ⟨.hbm, 40, rfl⟩
abbrev main_v30_3 : Ref sig .tc := ⟨.hbm, 41, rfl⟩
abbrev main_v30_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S8x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceQkvSampleIdeal.lean ====
abbrev S16x64x1024 : Shape := ⟨3, ![16, 64, 1024]⟩
abbrev S1024 : Shape := ⟨1, ![1024]⟩
abbrev S16x1024 : Shape := ⟨2, ![16, 1024]⟩
abbrev S1024x3072 : Shape := ⟨2, ![1024, 3072]⟩
abbrev S64 : Shape := ⟨1, ![64]⟩
abbrev S_ : Shape := ⟨0, ![]⟩
abbrev S16x64 : Shape := ⟨2, ![16, 64]⟩
abbrev S16x64x1 : Shape := ⟨3, ![16, 64, 1]⟩
abbrev S1x1x1024 : Shape := ⟨3, ![1, 1, 1024]⟩
abbrev S16x1x1024 : Shape := ⟨3, ![16, 1, 1024]⟩
abbrev S16x64x3072 : Shape := ⟨3, ![16, 64, 3072]⟩
abbrev S16x64x16x64 : Shape := ⟨4, ![16, 64, 16, 64]⟩
abbrev S32 : Shape := ⟨1, ![32]⟩
abbrev S64x1 : Shape := ⟨2, ![64, 1]⟩
abbrev S1x32 : Shape := ⟨2, ![1, 32]⟩
abbrev S64x32 : Shape := ⟨2, ![64, 32]⟩
abbrev S64x1x32 : Shape := ⟨3, ![64, 1, 32]⟩
abbrev S16x64x16x32 : Shape := ⟨4, ![16, 64, 16, 32]⟩
abbrev S1x64x1x32 : Shape := ⟨4, ![1, 64, 1, 32]⟩
abbrev S16x512x128 : Shape := ⟨3, ![16, 512, 128]⟩

abbrev nBuf : Space → Nat
  | .hbm => 120
  | .vmem => 0
  | .smem => 0
  | _ => 0

abbrev bufTy : (tb : Table) → Fin (tcTables nBuf tb) → BufTy
  | .hbm, ⟨0, _⟩ => ⟨S16x64x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x3072, .f32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S16x64x1024, .f32⟩
  | .hbm, ⟨10, _⟩ => ⟨S_, .f32⟩
  | .hbm, ⟨11, _⟩ => ⟨S16x64, .f32⟩
  | .hbm, ⟨12, _⟩ => ⟨S16x64x1, .f32⟩
  | .hbm, ⟨13, _⟩ => ⟨S_, .f32⟩
  | .hbm, ⟨14, _⟩ => ⟨S16x64x1, .f32⟩
  | .hbm, ⟨15, _⟩ => ⟨S16x64x1, .f32⟩
  | .hbm, ⟨16, _⟩ => ⟨S_, .f32⟩
  | .hbm, ⟨17, _⟩ => ⟨S16x64x1, .f32⟩
  | .hbm, ⟨18, _⟩ => ⟨S16x64x1, .f32⟩
  | .hbm, ⟨19, _⟩ => ⟨S16x64x1, .f32⟩
  | .hbm, ⟨20, _⟩ => ⟨S16x64x1024, .f32⟩
  | .hbm, ⟨21, _⟩ => ⟨S16x64x1024, .f32⟩
  | .hbm, ⟨22, _⟩ => ⟨S1x1x1024, .f32⟩
  | .hbm, ⟨23, _⟩ => ⟨S16x64x1024, .f32⟩
  | .hbm, ⟨24, _⟩ => ⟨S16x64x1024, .f32⟩
  | .hbm, ⟨25, _⟩ => ⟨S16x1x1024, .f32⟩
  | .hbm, ⟨26, _⟩ => ⟨S_, .f32⟩
  | .hbm, ⟨27, _⟩ => ⟨S16x1x1024, .f32⟩
  | .hbm, ⟨28, _⟩ => ⟨S16x1x1024, .f32⟩
  | .hbm, ⟨29, _⟩ => ⟨S16x64x1024, .f32⟩
  | .hbm, ⟨30, _⟩ => ⟨S16x64x1024, .f32⟩
  | .hbm, ⟨31, _⟩ => ⟨S16x1x1024, .f32⟩
  | .hbm, ⟨32, _⟩ => ⟨S16x64x1024, .f32⟩
  | .hbm, ⟨33, _⟩ => ⟨S16x64x1024, .f32⟩
  | .hbm, ⟨34, _⟩ => ⟨S16x64x3072, .f32⟩
  | .hbm, ⟨35, _⟩ => ⟨S16x64x1024, .f32⟩
  | .hbm, ⟨36, _⟩ => ⟨S16x64x1024, .f32⟩
  | .hbm, ⟨37, _⟩ => ⟨S16x64x1024, .f32⟩
  | .hbm, ⟨38, _⟩ => ⟨S16x64x16x64, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S64, .f32⟩
  | .hbm, ⟨48, _⟩ => ⟨S64x1, .f32⟩
  | .hbm, ⟨49, _⟩ => ⟨S1x32, .f32⟩
  | .hbm, ⟨50, _⟩ => ⟨S64x32, .f32⟩
  | .hbm, ⟨51, _⟩ => ⟨S64x32, .f32⟩
  | .hbm, ⟨52, _⟩ => ⟨S64x32, .f32⟩
  | .hbm, ⟨53, _⟩ => ⟨S64x32, .f32⟩
  | .hbm, ⟨54, _⟩ => ⟨S64x1x32, .f32⟩
  | .hbm, ⟨55, _⟩ => ⟨S64x32, .f32⟩
  | .hbm, ⟨56, _⟩ => ⟨S64x1x32, .f32⟩
  | .hbm, ⟨57, _⟩ => ⟨S16x64x16x32, .f32⟩
  | .hbm, ⟨58, _⟩ => ⟨S16x64x16x32, .f32⟩
  | .hbm, ⟨59, _⟩ => ⟨S1x64x1x32, .f32⟩
  | .hbm, ⟨60, _⟩ => ⟨S16x64x16x32, .f32⟩
  | .hbm, ⟨61, _⟩ => ⟨S16x64x16x32, .f32⟩
  | .hbm, ⟨62, _⟩ => ⟨S1x64x1x32, .f32⟩
  | .hbm, ⟨63, _⟩ => ⟨S16x64x16x32, .f32⟩
  | .hbm, ⟨64, _⟩ => ⟨S16x64x16x32, .f32⟩
  | .hbm, ⟨65, _⟩ => ⟨S16x64x16x32, .f32⟩
  | .hbm, ⟨66, _⟩ => ⟨S1x64x1x32, .f32⟩
  | .hbm, ⟨67, _⟩ => ⟨S16x64x16x32, .f32⟩
  | .hbm, ⟨68, _⟩ => ⟨S16x64x16x32, .f32⟩
  | .hbm, ⟨69, _⟩ => ⟨S1x64x1x32, .f32⟩
  | .hbm, ⟨70, _⟩ => ⟨S16x64x16x32, .f32⟩
  | .hbm, ⟨71, _⟩ => ⟨S16x64x16x32, .f32⟩
  | .hbm, ⟨72, _⟩ => ⟨S16x64x16x32, .f32⟩
  | .hbm, ⟨73, _⟩ => ⟨S16x64x16x64, .f32⟩
  | .hbm, ⟨74, _⟩ => ⟨S16x64x1024, .f32⟩
  | .hbm, ⟨75, _⟩ => ⟨S16x64x16x64, .f32⟩
  | .hbm, ⟨76, _⟩ => ⟨S32, .f32⟩
  | .hbm, ⟨77, _⟩ => ⟨S32, .f32⟩
  | .hbm, ⟨78, _⟩ => ⟨S_, .f32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S64, .f32⟩
  | .hbm, ⟨85, _⟩ => ⟨S64x1, .f32⟩
  | .hbm, ⟨86, _⟩ => ⟨S1x32, .f32⟩
  | .hbm, ⟨87, _⟩ => ⟨S64x32, .f32⟩
  | .hbm, ⟨88, _⟩ => ⟨S64x32, .f32⟩
  | .hbm, ⟨89, _⟩ => ⟨S64x32, .f32⟩
  | .hbm, ⟨90, _⟩ => ⟨S64x32, .f32⟩
  | .hbm, ⟨91, _⟩ => ⟨S64x1x32, .f32⟩
  | .hbm, ⟨92, _⟩ => ⟨S64x32, .f32⟩
  | .hbm, ⟨93, _⟩ => ⟨S64x1x32, .f32⟩
  | .hbm, ⟨94, _⟩ => ⟨S16x64x16x32, .f32⟩
  | .hbm, ⟨95, _⟩ => ⟨S16x64x16x32, .f32⟩
  | .hbm, ⟨96, _⟩ => ⟨S1x64x1x32, .f32⟩
  | .hbm, ⟨97, _⟩ => ⟨S16x64x16x32, .f32⟩
  | .hbm, ⟨98, _⟩ => ⟨S16x64x16x32, .f32⟩
  | .hbm, ⟨99, _⟩ => ⟨S1x64x1x32, .f32⟩
  | .hbm, ⟨100, _⟩ => ⟨S16x64x16x32, .f32⟩
  | .hbm, ⟨101, _⟩ => ⟨S16x64x16x32, .f32⟩
  | .hbm, ⟨102, _⟩ => ⟨S16x64x16x32, .f32⟩
  | .hbm, ⟨103, _⟩ => ⟨S1x64x1x32, .f32⟩
  | .hbm, ⟨104, _⟩ => ⟨S16x64x16x32, .f32⟩
  | .hbm, ⟨105, _⟩ => ⟨S16x64x16x32, .f32⟩
  | .hbm, ⟨106, _⟩ => ⟨S1x64x1x32, .f32⟩
  | .hbm, ⟨107, _⟩ => ⟨S16x64x16x32, .f32⟩
  | .hbm, ⟨108, _⟩ => ⟨S16x64x16x32, .f32⟩
  | .hbm, ⟨109, _⟩ => ⟨S16x64x16x32, .f32⟩
  | .hbm, ⟨110, _⟩ => ⟨S16x64x16x64, .f32⟩
  | .hbm, ⟨111, _⟩ => ⟨S16x64x1024, .f32⟩
  | .hbm, ⟨112, _⟩ => ⟨S16x512x128, .f32⟩
  | .hbm, ⟨113, _⟩ => ⟨S16x512x128, .f32⟩
  | .hbm, ⟨114, _⟩ => ⟨S_, .f32⟩
  | .hbm, ⟨115, _⟩ => ⟨S16x64x1024, .f32⟩
  | .hbm, ⟨116, _⟩ => ⟨S16x64x1024, .f32⟩
  | .hbm, ⟨117, _⟩ => ⟨S16x64x1024, .bf16⟩
  | .hbm, ⟨118, _⟩ => ⟨S16x64x1024, .bf16⟩
  | .hbm, ⟨119, _⟩ => ⟨S16x64x1024, .bf16⟩
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_5 : Ref sig .tc := ⟨.hbm, 78, rfl⟩
abbrev main_v66 : Ref sig .tc := ⟨.hbm, 79, rfl⟩
abbrev main_v67 : Ref sig .tc := ⟨.hbm, 80, rfl⟩
abbrev main_cst_6 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_cst_7 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩

abbrev nD : Nat := 1
abbrev τ : Topo := Topo.v7x

variable {F : FTy → Type} [FloatOps F]
-- ==== KernelMla.lean ====
abbrev S4x8192x1024 : Shape := ⟨3, ![4, 8192, 1024]⟩
abbrev S1024 : Shape := ⟨1, ![1024]⟩
abbrev S4x1024 : Shape := ⟨2, ![4, 1024]⟩
abbrev S1024x256 : Shape := ⟨2, ![1024, 256]⟩
abbrev S256 : Shape := ⟨1, ![256]⟩
abbrev S256x1536 : Shape := ⟨2, ![256, 1536]⟩
abbrev S1024x160 : Shape := ⟨2, ![1024, 160]⟩
abbrev S128 : Shape := ⟨1, ![128]⟩
abbrev S128x16x64 : Shape := ⟨3, ![128, 16, 64]⟩
abbrev S1024x128 : Shape := ⟨2, ![1024, 128]⟩
abbrev S1024x32 : Shape := ⟨2, ![1024, 32]⟩
abbrev S1024x16 : Shape := ⟨2, ![1024, 16]⟩
abbrev S1x256 : Shape := ⟨2, ![1, 256]⟩
abbrev S1x128 : Shape := ⟨2, ![1, 128]⟩
abbrev S256x16x96 : Shape := ⟨3, ![256, 16, 96]⟩
abbrev S_ : Shape := ⟨0, ![]⟩
abbrev S256x16x128 : Shape := ⟨3, ![256, 16, 128]⟩
abbrev S256x2048 : Shape := ⟨2, ![256, 2048]⟩
abbrev S256x16x64 : Shape := ⟨3, ![256, 16, 64]⟩
abbrev S256x16x16 : Shape := ⟨3, ![256, 16, 16]⟩
abbrev S128x16x128 : Shape := ⟨3, ![128, 16, 128]⟩
abbrev S128x2048 : Shape := ⟨2, ![128, 2048]⟩
abbrev S32x32 : Shape := ⟨2, ![32, 32]⟩
abbrev S32x128 : Shape := ⟨2, ![32, 128]⟩
abbrev S1x32x1x128 : Shape := ⟨4, ![1, 32, 1, 128]⟩
abbrev S1x32x16x128 : Shape := ⟨4, ![1, 32, 16, 128]⟩
abbrev S32x2048 : Shape := ⟨2, ![32, 2048]⟩
abbrev S128x1024 : Shape := ⟨2, ![128, 1024]⟩
abbrev S16x64x128 : Shape := ⟨3, ![16, 64, 128]⟩
abbrev S16x128x128 : Shape := ⟨3, ![16, 128, 128]⟩
abbrev S128x128 : Shape := ⟨2, ![128, 128]⟩
abbrev S16x128x256 : Shape := ⟨3, ![16, 128, 256]⟩
abbrev S8x128x128 : Shape := ⟨3, ![8, 128, 128]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x32 : Shape := ⟨2, ![8192, 32]⟩
abbrev S8192x128 : Shape := ⟨2, ![8192, 128]⟩
abbrev S1x1024 : Shape := ⟨2, ![1, 1024]⟩
abbrev S4x1x1024 : Shape := ⟨3, ![4, 1, 1024]⟩
abbrev S4x8192x128 : Shape := ⟨3, ![4, 8192, 128]⟩
abbrev S4x8192x32 : Shape := ⟨3, ![4, 8192, 32]⟩
abbrev S4x8192x2048 : Shape := ⟨3, ![4, 8192, 2048]⟩
abbrev S4x16x16x64x512 : Shape := ⟨5, ![4, 16, 16, 64, 512]⟩
abbrev S1x512x1024 : Shape := ⟨3, ![1, 512, 1024]⟩
abbrev S1x1x1024 : Shape := ⟨3, ![1, 1, 1024]⟩
abbrev S512x32 : Shape := ⟨2, ![512, 32]⟩
abbrev S512x128 : Shape := ⟨2, ![512, 128]⟩
abbrev S1x512x128 : Shape := ⟨3, ![1, 512, 128]⟩
abbrev S1x512x32 : Shape := ⟨3, ![1, 512, 32]⟩
abbrev S1x512x2048 : Shape := ⟨3, ![1, 512, 2048]⟩
abbrev S1x16x1x64x512 : Shape := ⟨5, ![1, 16, 1, 64, 512]⟩
abbrev S1x512 : Shape := ⟨2, ![1, 512]⟩
abbrev S1x512x1 : Shape := ⟨3, ![1, 512, 1]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x2048 : Shape := ⟨2, ![512, 2048]⟩
abbrev S128x512 : Shape := ⟨2, ![128, 512]⟩
abbrev S64x512 : Shape := ⟨2, ![64, 512]⟩
abbrev S1x1x1x64x512 : Shape := ⟨5, ![1, 1, 1, 64, 512]⟩

abbrev nBuf : Space → Nat
  | .hbm => 126
  | .vmem => 36
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x256, .f32⟩
  | .hbm, ⟨5, _⟩ => ⟨S256, .f32⟩
  | .hbm, ⟨6, _⟩ => ⟨S256x1536, .f32⟩
  | .hbm, ⟨7, _⟩ => ⟨S1024x160, .f32⟩
  | .hbm, ⟨8, _⟩ => ⟨S128, .f32⟩
  | .hbm, ⟨9, _⟩ => ⟨S128x16x64, .f32⟩
  | .hbm, ⟨10, _⟩ => ⟨S128x16x64, .f32⟩
  | .hbm, ⟨11, _⟩ => ⟨S1024x256, .bf16⟩
  | .hbm, ⟨12, _⟩ => ⟨S1024x128, .f32⟩
  | .hbm, ⟨13, _⟩ => ⟨S1024x128, .bf16⟩
  | .hbm, ⟨14, _⟩ => ⟨S1024x32, .f32⟩
  | .hbm, ⟨15, _⟩ => ⟨S1024x32, .bf16⟩
  | .hbm, ⟨16, _⟩ => ⟨S1024x16, .f32⟩
  | .hbm, ⟨17, _⟩ => ⟨S1024x16, .f32⟩
  | .hbm, ⟨18, _⟩ => ⟨S1024x16, .f32⟩
  | .hbm, ⟨19, _⟩ => ⟨S1024x32, .f32⟩
  | .hbm, ⟨20, _⟩ => ⟨S1024x32, .bf16⟩
  | .hbm, ⟨21, _⟩ => ⟨S1x256, .f32⟩
  | .hbm, ⟨22, _⟩ => ⟨S1x128, .f32⟩
  | .hbm, ⟨23, _⟩ => ⟨S256x16x96, .f32⟩
  | .hbm, ⟨24, _⟩ => ⟨S_, .i32⟩
  | .hbm, ⟨25, _⟩ => ⟨S_, .f32⟩
  | .hbm, ⟨26, _⟩ => ⟨S256x16x128, .f32⟩
  | .hbm, ⟨27, _⟩ => ⟨S256x2048, .f32⟩
  | .hbm, ⟨28, _⟩ => ⟨S256x2048, .bf16⟩
  | .hbm, ⟨29, _⟩ => ⟨S256x16x64, .f32⟩
  | .hbm, ⟨30, _⟩ => ⟨S_, .f32⟩
  | .hbm, ⟨31, _⟩ => ⟨S256x16x64, .f32⟩
  | .hbm, ⟨32, _⟩ => ⟨S256x16x16, .f32⟩
  | .hbm, ⟨33, _⟩ => ⟨S256x16x16, .f32⟩
  | .hbm, ⟨34, _⟩ => ⟨S256x16x96, .f32⟩
  | .hbm, ⟨35, _⟩ => ⟨S_, .i32⟩
  | .hbm, ⟨36, _⟩ => ⟨S_, .f32⟩
  | .hbm, ⟨37, _⟩ => ⟨S256x16x128, .f32⟩
  | .hbm, ⟨38, _⟩ => ⟨S256x2048, .f32⟩
  | .hbm, ⟨39, _⟩ => ⟨S256x2048, .bf16⟩
  | .hbm, ⟨40, _⟩ => ⟨S_, .i32⟩
  | .hbm, ⟨41, _⟩ => ⟨S_, .f32⟩
  | .hbm, ⟨42, _⟩ => ⟨S128x16x128, .f32⟩
  | .hbm, ⟨43, _⟩ => ⟨S128x2048, .f32⟩
  | .hbm, ⟨44, _⟩ => ⟨S128x2048, .bf16⟩
  | .hbm, ⟨45, _⟩ => ⟨S32x32, .i32⟩
  | .hbm, ⟨46, _⟩ => ⟨S32x32, .i32⟩
  | .hbm, ⟨47, _⟩ => ⟨S_, .i32⟩
  | .hbm, ⟨48, _⟩ => ⟨S32x32, .i32⟩
  | .hbm, ⟨49, _⟩ => ⟨S32x32, .i32⟩
  | .hbm, ⟨50, _⟩ => ⟨S32x32, .i1⟩
  | .hbm, ⟨51, _⟩ => ⟨S32x32, .f32⟩
  | .hbm, ⟨52, _⟩ => ⟨S_, .i32⟩
  | .hbm, ⟨53, _⟩ => ⟨S_, .f32⟩
  | .hbm, ⟨54, _⟩ => ⟨S32x128, .f32⟩
  | .hbm, ⟨55, _⟩ => ⟨S1x32x1x128, .f32⟩
  | .hbm, ⟨56, _⟩ => ⟨S1x32x16x128, .f32⟩
  | .hbm, ⟨57, _⟩ => ⟨S32x2048, .f32⟩
  | .hbm, ⟨58, _⟩ => ⟨S32x2048, .bf16⟩
  | .hbm, ⟨59, _⟩ => ⟨S128x1024, .f32⟩
  | .hbm, ⟨60, _⟩ => ⟨S128x1024, .bf16⟩
  | .hbm, ⟨61, _⟩ => ⟨S16x64x128, .f32⟩
  | .hbm, ⟨62, _⟩ => ⟨S_, .i32⟩
  | .hbm, ⟨63, _⟩ => ⟨S_, .f32⟩
  | .hbm, ⟨64, _⟩ => ⟨S16x128x128, .f32⟩
  | .hbm, ⟨65, _⟩ => ⟨S32x32, .i32⟩
  | .hbm, ⟨66, _⟩ => ⟨S32x32, .i32⟩
  | .hbm, ⟨67, _⟩ => ⟨S_, .i32⟩
  | .hbm, ⟨68, _⟩ => ⟨S32x32, .i32⟩
  | .hbm, ⟨69, _⟩ => ⟨S32x32, .i32⟩
  | .hbm, ⟨70, _⟩ => ⟨S32x32, .i1⟩
  | .hbm, ⟨71, _⟩ => ⟨S32x32, .f32⟩
  | .hbm, ⟨72, _⟩ => ⟨S_, .i32⟩
  | .hbm, ⟨73, _⟩ => ⟨S_, .f32⟩
  | .hbm, ⟨74, _⟩ => ⟨S128x128, .f32⟩
  | .hbm, ⟨75, _⟩ => ⟨S16x128x128, .f32⟩
  | .hbm, ⟨76, _⟩ => ⟨S16x128x256, .f32⟩
  | .hbm, ⟨77, _⟩ => ⟨S16x128x256, .bf16⟩
  | .hbm, ⟨78, _⟩ => ⟨S16x64x128, .f32⟩
  | .hbm, ⟨79, _⟩ => ⟨S8x128x128, .f32⟩
  | .hbm, ⟨80, _⟩ => ⟨S8x128x128, .bf16⟩
  | .hbm, ⟨81, _⟩ => ⟨S8192, .i32⟩
  | .hbm, ⟨82, _⟩ => ⟨S_, .i32⟩
  | .hbm, ⟨83, _⟩ => ⟨S8192, .i32⟩
  | .hbm, ⟨84, _⟩ => ⟨S8192, .i32⟩
  | .hbm, ⟨85, _⟩ => ⟨S16, .f32⟩
  | .hbm, ⟨86, _⟩ => ⟨S16, .f32⟩
  | .hbm, ⟨87, _⟩ => ⟨S_, .f32⟩
  | .hbm, ⟨88, _⟩ => ⟨S16, .f32⟩
  | .hbm, ⟨89, _⟩ => ⟨S16, .f32⟩
  | .hbm, ⟨90, _⟩ => ⟨S_, .f32⟩
  | .hbm, ⟨91, _⟩ => ⟨S16, .f32⟩
  | .hbm, ⟨92, _⟩ => ⟨S16, .f32⟩
  | .hbm, ⟨93, _⟩ => ⟨S8192, .f32⟩
  | .hbm, ⟨94, _⟩ => ⟨S8192x1, .f32⟩
  | .hbm, ⟨95, _⟩ => ⟨S1x16, .f32⟩
  | .hbm, ⟨96, _⟩ => ⟨S8192x16, .f32⟩
  | .hbm, ⟨97, _⟩ => ⟨S8192x16, .f32⟩
  | .hbm, ⟨98, _⟩ => ⟨S8192x16, .f32⟩
  | .hbm, ⟨99, _⟩ => ⟨S8192x16, .f32⟩
  | .hbm, ⟨100, _⟩ => ⟨S8192x16, .f32⟩
  | .hbm, ⟨101, _⟩ => ⟨S_, .f32⟩
  | .hbm, ⟨102, _⟩ => ⟨S8192x64, .f32⟩
  | .hbm, ⟨103, _⟩ => ⟨S_, .f32⟩
  | .hbm, ⟨104, _⟩ => ⟨S8192x64, .f32⟩
  | .hbm, ⟨105, _⟩ => ⟨S_, .f32⟩
  | .hbm, ⟨106, _⟩ => ⟨S8192x32, .f32⟩
  | .hbm, ⟨107, _⟩ => ⟨S8192x128, .f32⟩
  | .hbm, ⟨108, _⟩ => ⟨S_, .f32⟩
  | .hbm, ⟨109, _⟩ => ⟨S8192x128, .f32⟩
  | .hbm, ⟨110, _⟩ => ⟨S8192x128, .f32⟩
  | .hbm, ⟨111, _⟩ => ⟨S8192x16, .f32⟩
  | .hbm, ⟨112, _⟩ => ⟨S8192x128, .f32⟩
  | .hbm, ⟨113, _⟩ => ⟨S_, .f32⟩
  | .hbm, ⟨114, _⟩ => ⟨S8192x128, .f32⟩
  | .hbm, ⟨115, _⟩ => ⟨S8192x128, .f32⟩
  | .hbm, ⟨116, _⟩ => ⟨S8192x32, .f32⟩
  | .hbm, ⟨117, _⟩ => ⟨S8192x32, .f32⟩
  | .hbm, ⟨118, _⟩ => ⟨S1x1024, .f32⟩
  | .hbm, ⟨119, _⟩ => ⟨S4x1x1024, .f32⟩
  | .hbm, ⟨120, _⟩ => ⟨S4x1x1024, .f32⟩
  | .hbm, ⟨121, _⟩ => ⟨S4x8192x128, .f32⟩
  | .hbm, ⟨122, _⟩ => ⟨S4x8192x32, .f32⟩
  | .hbm, ⟨123, _⟩ => ⟨S4x8192x2048, .bf16⟩
  | .hbm, ⟨124, _⟩ => ⟨S4x8192x2048, .bf16⟩
  | .hbm, ⟨125, _⟩ => ⟨S4x16x16x64x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x256, .bf16⟩
  | .local _ .vmem, ⟨8, _⟩ => ⟨S1024x128, .bf16⟩
  | .local _ .vmem, ⟨9, _⟩ => ⟨S1024x32, .bf16⟩
  | .local _ .vmem, ⟨10, _⟩ => ⟨S1024x32, .bf16⟩
  | .local _ .vmem, ⟨11, _⟩ => ⟨S1x256, .f32⟩
  | .local _ .vmem, ⟨12, _⟩ => ⟨S1x128, .f32⟩
  | .local _ .vmem, ⟨13, _⟩ => ⟨S512x32, .f32⟩
  | .local _ .vmem, ⟨14, _⟩ => ⟨S512x32, .f32⟩
  | .local _ .vmem, ⟨15, _⟩ => ⟨S512x32, .f32⟩
  | .local _ .vmem, ⟨16, _⟩ => ⟨S512x32, .f32⟩
  | .local _ .vmem, ⟨17, _⟩ => ⟨S256x2048, .bf16⟩
  | .local _ .vmem, ⟨18, _⟩ => ⟨S256x2048, .bf16⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S128x2048, .bf16⟩
  | .local _ .vmem, ⟨24, _⟩ => ⟨S32x2048, .bf16⟩
  | .local _ .vmem, ⟨25, _⟩ => ⟨S128x1024, .bf16⟩
  | .local _ .vmem, ⟨26, _⟩ => ⟨S1x512x128, .f32⟩
  | .local _ .vmem, ⟨27, _⟩ => ⟨S1x512x128, .f32⟩
  | .local _ .vmem, ⟨28, _⟩ => ⟨S1x512x32, .f32⟩
  | .local _ .vmem, ⟨29, _⟩ => ⟨S1x512x32, .f32⟩
  | .local _ .vmem, ⟨30, _⟩ => ⟨S1x512x2048, .bf16⟩
  | .local _ .vmem, ⟨31, _⟩ => ⟨S1x512x2048, .bf16⟩
  | .local _ .vmem, ⟨32, _⟩ => ⟨S1x512x2048, .bf16⟩
  | .local _ .vmem, ⟨33, _⟩ => ⟨S1x512x2048, .bf16⟩
  | .local _ .vmem, ⟨34, _⟩ => ⟨S1x16x1x64x512, .bf16⟩
  | .local _ .vmem, ⟨35, _⟩ => ⟨S1x16x1x64x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_0 : Ref sig .tc := ⟨.hbm, 35, rfl⟩
abbrev main_call1_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_1 : Ref sig .tc := ⟨.hbm, 40, rfl⟩
abbrev main_call2_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_3 : Ref sig .tc := ⟨.hbm, 52, rfl⟩
abbrev main_call3_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_4 : Ref sig .tc := ⟨.hbm, 62, rfl⟩
abbrev main_call4_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_6 : Ref sig .tc := ⟨.hbm, 72, rfl⟩
abbrev main_call5_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_7 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_8 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_10 : Ref sig .tc := ⟨.hbm, 101, rfl⟩
abbrev main_v72 : Ref sig .tc := ⟨.hbm, 102, rfl⟩
abbrev main_cst_11 : Ref sig .tc := ⟨.hbm, 103, rfl⟩
abbrev main_v73 : Ref sig .tc := ⟨.hbm, 104, rfl⟩
abbrev main_cst_12 : Ref sig .tc := ⟨.hbm, 105, rfl⟩
abbrev main_v74 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_14 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87_0 : Ref sig .tc := ⟨.hbm, 121, rfl⟩
abbrev main_v87_1 : Ref sig .tc := ⟨.hbm, 122, rfl⟩
abbrev main_v87_2 : Ref sig .tc := ⟨.hbm, 123, rfl⟩
abbrev main_v87_3 : Ref sig .tc := ⟨.hbm, 124, rfl⟩
abbrev main_v87_4 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S256x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 1 → Memref sig .tc .vmem S128x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S32x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x32 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x16x1x64x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== ReferenceMlaIdeal.lean ====
abbrev S4x8192x1024 : Shape := ⟨3, ![4, 8192, 1024]⟩
abbrev S1024 : Shape := ⟨1, ![1024]⟩
abbrev S4x1024 : Shape := ⟨2, ![4, 1024]⟩
abbrev S1024x256 : Shape := ⟨2, ![1024, 256]⟩
abbrev S256 : Shape := ⟨1, ![256]⟩
abbrev S256x1536 : Shape := ⟨2, ![256, 1536]⟩
abbrev S1024x160 : Shape := ⟨2, ![1024, 160]⟩
abbrev S128 : Shape := ⟨1, ![128]⟩
abbrev S128x16x64 : Shape := ⟨3, ![128, 16, 64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x160 : Shape := ⟨3, ![4, 8192, 160]⟩
abbrev S4x8192x128 : Shape := ⟨3, ![4, 8192, 128]⟩
abbrev S1x1x128 : Shape := ⟨3, ![1, 1, 128]⟩

abbrev nBuf : Space → Nat
  | .hbm => 54
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x256, .f32⟩
  | .hbm, ⟨5, _⟩ => ⟨S256, .f32⟩
  | .hbm, ⟨6, _⟩ => ⟨S256x1536, .f32⟩
  | .hbm, ⟨7, _⟩ => ⟨S1024x160, .f32⟩
  | .hbm, ⟨8, _⟩ => ⟨S128, .f32⟩
  | .hbm, ⟨9, _⟩ => ⟨S128x16x64, .f32⟩
  | .hbm, ⟨10, _⟩ => ⟨S128x16x64, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x1x1024, .f32⟩
  | .hbm, ⟨34, _⟩ => ⟨S4x8192x1024, .f32⟩
  | .hbm, ⟨35, _⟩ => ⟨S4x8192x1024, .f32⟩
  | .hbm, ⟨36, _⟩ => ⟨S4x8192x160, .f32⟩
  | .hbm, ⟨37, _⟩ => ⟨S4x8192x128, .f32⟩
  | .hbm, ⟨38, _⟩ => ⟨S4x8192x128, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S_, .f32⟩
  | .hbm, ⟨43, _⟩ => ⟨S4x8192x1, .f32⟩
  | .hbm, ⟨44, _⟩ => ⟨S4x8192x1, .f32⟩
  | .hbm, ⟨45, _⟩ => ⟨S_, .f32⟩
  | .hbm, ⟨46, _⟩ => ⟨S4x8192x1, .f32⟩
  | .hbm, ⟨47, _⟩ => ⟨S4x8192x1, .f32⟩
  | .hbm, ⟨48, _⟩ => ⟨S4x8192x1, .f32⟩
  | .hbm, ⟨49, _⟩ => ⟨S4x8192x128, .f32⟩
  | .hbm, ⟨50, _⟩ => ⟨S4x8192x128, .f32⟩
  | .hbm, ⟨51, _⟩ => ⟨S1x1x128, .f32⟩
  | .hbm, ⟨52, _⟩ => ⟨S4x8192x128, .f32⟩
  | .hbm, ⟨53, _⟩ => ⟨S4x8192x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== KernelMlaSample.lean ====
abbrev S16x64x1024 : Shape := ⟨3, ![16, 64, 1024]⟩
abbrev S1024 : Shape := ⟨1, ![1024]⟩
abbrev S16x1024 : Shape := ⟨2, ![16, 1024]⟩
abbrev S1024x256 : Shape := ⟨2, ![1024, 256]⟩
abbrev S256 : Shape := ⟨1, ![256]⟩
abbrev S256x1536 : Shape := ⟨2, ![256, 1536]⟩
abbrev S1024x160 : Shape := ⟨2, ![1024, 160]⟩
abbrev S128 : Shape := ⟨1, ![128]⟩
abbrev S128x16x64 : Shape := ⟨3, ![128, 16, 64]⟩
abbrev S1024x128 : Shape := ⟨2, ![1024, 128]⟩
abbrev S1024x32 : Shape := ⟨2, ![1024, 32]⟩
abbrev S1024x16 : Shape := ⟨2, ![1024, 16]⟩
abbrev S1x256 : Shape := ⟨2, ![1, 256]⟩
abbrev S1x128 : Shape := ⟨2, ![1, 128]⟩
abbrev S256x16x96 : Shape := ⟨3, ![256, 16, 96]⟩
abbrev S_ : Shape := ⟨0, ![]⟩
abbrev S256x16x128 : Shape := ⟨3, ![256, 16, 128]⟩
abbrev S256x2048 : Shape := ⟨2, ![256, 2048]⟩
abbrev S256x16x64 : Shape := ⟨3, ![256, 16, 64]⟩
abbrev S256x16x16 : Shape := ⟨3, ![256, 16, 16]⟩
abbrev S128x16x128 : Shape := ⟨3, ![128, 16, 128]⟩
abbrev S128x2048 : Shape := ⟨2, ![128, 2048]⟩
abbrev S32x32 : Shape := ⟨2, ![32, 32]⟩
abbrev S32x128 : Shape := ⟨2, ![32, 128]⟩
abbrev S1x32x1x128 : Shape := ⟨4, ![1, 32, 1, 128]⟩
abbrev S1x32x16x128 : Shape := ⟨4, ![1, 32, 16, 128]⟩
abbrev S32x2048 : Shape := ⟨2, ![32, 2048]⟩
abbrev S128x1024 : Shape := ⟨2, ![128, 1024]⟩
abbrev S16x64x128 : Shape := ⟨3, ![16, 64, 128]⟩
abbrev S16x128x128 : Shape := ⟨3, ![16, 128, 128]⟩
abbrev S128x128 : Shape := ⟨2, ![128, 128]⟩
abbrev S16x128x256 : Shape := ⟨3, ![16, 128, 256]⟩
abbrev S8x128x128 : Shape := ⟨3, ![8, 128, 128]⟩
abbrev S64 : Shape := ⟨1, ![64]⟩
abbrev S16 : Shape := ⟨1, ![16]⟩
abbrev S64x1 : Shape := ⟨2, ![64, 1]⟩
abbrev S1x16 : Shape := ⟨2, ![1, 16]⟩
abbrev S64x16 : Shape := ⟨2, ![64, 16]⟩
abbrev S64x64 : Shape := ⟨2, ![64, 64]⟩
abbrev S64x32 : Shape := ⟨2, ![64, 32]⟩
abbrev S64x128 : Shape := ⟨2, ![64, 128]⟩
abbrev S1x1024 : Shape := ⟨2, ![1, 1024]⟩
abbrev S16x1x1024 : Shape := ⟨3, ![16, 1, 1024]⟩
abbrev S16x64x32 : Shape := ⟨3, ![16, 64, 32]⟩
abbrev S16x16x64x256 : Shape := ⟨4, ![16, 16, 64, 256]⟩
abbrev S8x64x1024 : Shape := ⟨3, ![8, 64, 1024]⟩
abbrev S8x1x1024 : Shape := ⟨3, ![8, 1, 1024]⟩
abbrev S8x64x128 : Shape := ⟨3, ![8, 64, 128]⟩
abbrev S8x64x32 : Shape := ⟨3, ![8, 64, 32]⟩
abbrev S8x16x64x256 : Shape := ⟨4, ![8, 16, 64, 256]⟩
abbrev S8x64 : Shape := ⟨2, ![8, 64]⟩
abbrev S8x64x1 : Shape := ⟨3, ![8, 64, 1]⟩
abbrev S1x1x1024 : Shape := ⟨3, ![1, 1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x128 : Shape := ⟨2, ![512, 128]⟩
abbrev S512x32 : Shape := ⟨2, ![512, 32]⟩
abbrev S1x64x32 : Shape := ⟨3, ![1, 64, 32]⟩
abbrev S64x2048 : Shape := ⟨2, ![64, 2048]⟩
abbrev S1x64x2048 : Shape := ⟨3, ![1, 64, 2048]⟩
abbrev S512x2048 : Shape := ⟨2, ![512, 2048]⟩
abbrev S8x64x2048 : Shape := ⟨3, ![8, 64, 2048]⟩
abbrev S1x128x256 : Shape := ⟨3, ![1, 128, 256]⟩
abbrev S128x256 : Shape := ⟨2, ![128, 256]⟩
abbrev S8x64x256 : Shape := ⟨3, ![8, 64, 256]⟩
abbrev S8x1x64x256 : Shape := ⟨4, ![8, 1, 64, 256]⟩

abbrev nBuf : Space → Nat
  | .hbm => 124
  | .vmem => 26
  | .smem => 0
  | _ => 0

abbrev bufTy : (tb : Table) → Fin (tcTables nBuf tb) → BufTy
  | .hbm, ⟨0, _⟩ => ⟨S16x64x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x256, .f32⟩
  | .hbm, ⟨5, _⟩ => ⟨S256, .f32⟩
  | .hbm, ⟨6, _⟩ => ⟨S256x1536, .f32⟩
  | .hbm, ⟨7, _⟩ => ⟨S1024x160, .f32⟩
  | .hbm, ⟨8, _⟩ => ⟨S128, .f32⟩
  | .hbm, ⟨9, _⟩ => ⟨S128x16x64, .f32⟩
  | .hbm, ⟨10, _⟩ => ⟨S128x16x64, .f32⟩
  | .hbm, ⟨11, _⟩ => ⟨S1024x256, .bf16⟩
  | .hbm, ⟨12, _⟩ => ⟨S1024x128, .f32⟩
  | .hbm, ⟨13, _⟩ => ⟨S1024x128, .bf16⟩
  | .hbm, ⟨14, _⟩ => ⟨S1024x32, .f32⟩
  | .hbm, ⟨15, _⟩ => ⟨S1024x32, .bf16⟩
  | .hbm, ⟨16, _⟩ => ⟨S1024x16, .f32⟩
  | .hbm, ⟨17, _⟩ => ⟨S1024x16, .f32⟩
  | .hbm, ⟨18, _⟩ => ⟨S1024x16, .f32⟩
  | .hbm, ⟨19, _⟩ => ⟨S1024x32, .f32⟩
  | .hbm, ⟨20, _⟩ => ⟨S1024x32, .bf16⟩
  | .hbm, ⟨21, _⟩ => ⟨S1x256, .f32⟩
  | .hbm, ⟨22, _⟩ => ⟨S1x128, .f32⟩
  | .hbm, ⟨23, _⟩ => ⟨S256x16x96, .f32⟩
  | .hbm, ⟨24, _⟩ => ⟨S_, .i32⟩
  | .hbm, ⟨25, _⟩ => ⟨S_, .f32⟩
  | .hbm, ⟨26, _⟩ => ⟨S256x16x128, .f32⟩
  | .hbm, ⟨27, _⟩ => ⟨S256x2048, .f32⟩
  | .hbm, ⟨28, _⟩ => ⟨S256x2048, .bf16⟩
  | .hbm, ⟨29, _⟩ => ⟨S256x16x64, .f32⟩
  | .hbm, ⟨30, _⟩ => ⟨S_, .f32⟩
  | .hbm, ⟨31, _⟩ => ⟨S256x16x64, .f32⟩
  | .hbm, ⟨32, _⟩ => ⟨S256x16x16, .f32⟩
  | .hbm, ⟨33, _⟩ => ⟨S256x16x16, .f32⟩
  | .hbm, ⟨34, _⟩ => ⟨S256x16x96, .f32⟩
  | .hbm, ⟨35, _⟩ => ⟨S_, .i32⟩
  | .hbm, ⟨36, _⟩ => ⟨S_, .f32⟩
  | .hbm, ⟨37, _⟩ => ⟨S256x16x128, .f32⟩
  | .hbm, ⟨38, _⟩ => ⟨S256x2048, .f32⟩
  | .hbm, ⟨39, _⟩ => ⟨S256x2048, .bf16⟩
  | .hbm, ⟨40, _⟩ => ⟨S_, .i32⟩
  | .hbm, ⟨41, _⟩ => ⟨S_, .f32⟩
  | .hbm, ⟨42, _⟩ => ⟨S128x16x128, .f32⟩
  | .hbm, ⟨43, _⟩ => ⟨S128x2048, .f32⟩
  | .hbm, ⟨44, _⟩ => ⟨S128x2048, .bf16⟩
  | .hbm, ⟨45, _⟩ => ⟨S32x32, .i32⟩
  | .hbm, ⟨46, _⟩ => ⟨S32x32, .i32⟩
  | .hbm, ⟨47, _⟩ => ⟨S_, .i32⟩
  | .hbm, ⟨48, _⟩ => ⟨S32x32, .i32⟩
  | .hbm, ⟨49, _⟩ => ⟨S32x32, .i32⟩
  | .hbm, ⟨50, _⟩ => ⟨S32x32, .i1⟩
  | .hbm, ⟨51, _⟩ => ⟨S32x32, .f32⟩
  | .hbm, ⟨52, _⟩ => ⟨S_, .i32⟩
  | .hbm, ⟨53, _⟩ => ⟨S_, .f32⟩
  | .hbm, ⟨54, _⟩ => ⟨S32x128, .f32⟩
  | .hbm, ⟨55, _⟩ => ⟨S1x32x1x128, .f32⟩
  | .hbm, ⟨56, _⟩ => ⟨S1x32x16x128, .f32⟩
  | .hbm, ⟨57, _⟩ => ⟨S32x2048, .f32⟩
  | .hbm, ⟨58, _⟩ => ⟨S32x2048, .bf16⟩
  | .hbm, ⟨59, _⟩ => ⟨S128x1024, .f32⟩
  | .hbm, ⟨60, _⟩ => ⟨S128x1024, .bf16⟩
  | .hbm, ⟨61, _⟩ => ⟨S16x64x128, .f32⟩
  | .hbm, ⟨62, _⟩ => ⟨S_, .i32⟩
  | .hbm, ⟨63, _⟩ => ⟨S_, .f32⟩
  | .hbm, ⟨64, _⟩ => ⟨S16x128x128, .f32⟩
  | .hbm, ⟨65, _⟩ => ⟨S32x32, .i32⟩
  | .hbm, ⟨66, _⟩ => ⟨S32x32, .i32⟩
  | .hbm, ⟨67, _⟩ => ⟨S_, .i32⟩
  | .hbm, ⟨68, _⟩ => ⟨S32x32, .i32⟩
  | .hbm, ⟨69, _⟩ => ⟨S32x32, .i32⟩
  | .hbm, ⟨70, _⟩ => ⟨S32x32, .i1⟩
  | .hbm, ⟨71, _⟩ => ⟨S32x32, .f32⟩
  | .hbm, ⟨72, _⟩ => ⟨S_, .i32⟩
  | .hbm, ⟨73, _⟩ => ⟨S_, .f32⟩
  | .hbm, ⟨74, _⟩ => ⟨S128x128, .f32⟩
  | .hbm, ⟨75, _⟩ => ⟨S16x128x128, .f32⟩
  | .hbm, ⟨76, _⟩ => ⟨S16x128x256, .f32⟩
  | .hbm, ⟨77, _⟩ => ⟨S16x128x256, .bf16⟩
  | .hbm, ⟨78, _⟩ => ⟨S16x64x128, .f32⟩
  | .hbm, ⟨79, _⟩ => ⟨S8x128x128, .f32⟩
  | .hbm, ⟨80, _⟩ => ⟨S8x128x128, .bf16⟩
  | .hbm, ⟨81, _⟩ => ⟨S64, .i32⟩
  | .hbm, ⟨82, _⟩ => ⟨S_, .i32⟩
  | .hbm, ⟨83, _⟩ => ⟨S64, .i32⟩
  | .hbm, ⟨84, _⟩ => ⟨S64, .i32⟩
  | .hbm, ⟨85, _⟩ => ⟨S16, .f32⟩
  | .hbm, ⟨86, _⟩ => ⟨S16, .f32⟩
  | .hbm, ⟨87, _⟩ => ⟨S_, .f32⟩
  | .hbm, ⟨88, _⟩ => ⟨S16, .f32⟩
  | .hbm, ⟨89, _⟩ => ⟨S16, .f32⟩
  | .hbm, ⟨90, _⟩ => ⟨S_, .f32⟩
  | .hbm, ⟨91, _⟩ => ⟨S16, .f32⟩
  | .hbm, ⟨92, _⟩ => ⟨S16, .f32⟩
  | .hbm, ⟨93, _⟩ => ⟨S64, .f32⟩
  | .hbm, ⟨94, _⟩ => ⟨S64x1, .f32⟩
  | .hbm, ⟨95, _⟩ => ⟨S1x16, .f32⟩
  | .hbm, ⟨96, _⟩ => ⟨S64x16, .f32⟩
  | .hbm, ⟨97, _⟩ => ⟨S64x16, .f32⟩
  | .hbm, ⟨98, _⟩ => ⟨S64x16, .f32⟩
  | .hbm, ⟨99, _⟩ => ⟨S64x16, .f32⟩
  | .hbm, ⟨100, _⟩ => ⟨S64x16, .f32⟩
  | .hbm, ⟨101, _⟩ => ⟨S_, .f32⟩
  | .hbm, ⟨102, _⟩ => ⟨S64x64, .f32⟩
  | .hbm, ⟨103, _⟩ => ⟨S_, .f32⟩
  | .hbm, ⟨104, _⟩ => ⟨S64x64, .f32⟩
  | .hbm, ⟨105, _⟩ => ⟨S_, .f32⟩
  | .hbm, ⟨106, _⟩ => ⟨S64x32, .f32⟩
  | .hbm, ⟨107, _⟩ => ⟨S64x128, .f32⟩
  | .hbm, ⟨108, _⟩ => ⟨S_, .f32⟩
  | .hbm, ⟨109, _⟩ => ⟨S64x128, .f32⟩
  | .hbm, ⟨110, _⟩ => ⟨S64x128, .f32⟩
  | .hbm, ⟨111, _⟩ => ⟨S64x16, .f32⟩
  | .hbm, ⟨112, _⟩ => ⟨S64x128, .f32⟩
  | .hbm, ⟨113, _⟩ => ⟨S_, .f32⟩
  | .hbm, ⟨114, _⟩ => ⟨S64x128, .f32⟩
  | .hbm, ⟨115, _⟩ => ⟨S64x128, .f32⟩
  | .hbm, ⟨116, _⟩ => ⟨S64x32, .f32⟩
  | .hbm, ⟨117, _⟩ => ⟨S64x32, .f32⟩
  | .hbm, ⟨118, _⟩ => ⟨S1x1024, .f32⟩
  | .hbm, ⟨119, _⟩ => ⟨S16x1x1024, .f32⟩
  | .hbm, ⟨120, _⟩ => ⟨S16x1x1024, .f32⟩
  | .hbm, ⟨121, _⟩ => ⟨S16x64x128, .f32⟩
  | .hbm, ⟨122, _⟩ => ⟨S16x64x32, .f32⟩
  | .hbm, ⟨123, _⟩ => ⟨S16x16x64x256, .bf16⟩
  | .local _ .vmem, ⟨0, _⟩ => ⟨S8x64x1024, .f32⟩
  | .local _ .vmem, ⟨1, _⟩ => ⟨S8x64x1024, .f32⟩
  | .local _ .vmem, ⟨2, _⟩ => ⟨S1x1024, .f32⟩
  | .local _ .vmem, ⟨3, _⟩ => ⟨S8x1x1024, .f32⟩
  | .local _ .vmem, ⟨4, _⟩ => ⟨S8x1x1024, .f32⟩
  | .local _ .vmem, ⟨5, _⟩ => ⟨S8x1x1024, .f32⟩
  | .local _ .vmem, ⟨6, _⟩ => ⟨S8x1x1024, .f32⟩
  | .local _ .vmem, ⟨7, _⟩ => ⟨S1024x256, .bf16⟩
  | .local _ .vmem, ⟨8, _⟩ => ⟨S1024x128, .bf16⟩
  | .local _ .vmem, ⟨9, _⟩ => ⟨S1024x32, .bf16⟩
  | .local _ .vmem, ⟨10, _⟩ => ⟨S1024x32, .bf16⟩
  | .local _ .vmem, ⟨11, _⟩ => ⟨S1x256, .f32⟩
  | .local _ .vmem, ⟨12, _⟩ => ⟨S1x128, .f32⟩
  | .local _ .vmem, ⟨13, _⟩ => ⟨S64x32, .f32⟩
  | .local _ .vmem, ⟨14, _⟩ => ⟨S64x32, .f32⟩
  | .local _ .vmem, ⟨15, _⟩ => ⟨S256x2048, .bf16⟩
  | .local _ .vmem, ⟨16, _⟩ => ⟨S256x2048, .bf16⟩
  | .local _ .vmem, ⟨17, _⟩ => ⟨S64x128, .f32⟩
  | .local _ .vmem, ⟨18, _⟩ => ⟨S64x128, .f32⟩
  | .local _ .vmem, ⟨19, _⟩ => ⟨S16x128x256, .bf16⟩
  | .local _ .vmem, ⟨20, _⟩ => ⟨S8x64x128, .f32⟩
  | .local _ .vmem, ⟨21, _⟩ => ⟨S8x64x128, .f32⟩
  | .local _ .vmem, ⟨22, _⟩ => ⟨S8x64x32, .f32⟩
  | .local _ .vmem, ⟨23, _⟩ => ⟨S8x64x32, .f32⟩
  | .local _ .vmem, ⟨24, _⟩ => ⟨S8x16x64x256, .bf16⟩
  | .local _ .vmem, ⟨25, _⟩ => ⟨S8x16x64x256, .bf16⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_0 : Ref sig .tc := ⟨.hbm, 35, rfl⟩
abbrev main_call1_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_1 : Ref sig .tc := ⟨.hbm, 40, rfl⟩
abbrev main_call2_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_3 : Ref sig .tc := ⟨.hbm, 52, rfl⟩
abbrev main_call3_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_4 : Ref sig .tc := ⟨.hbm, 62, rfl⟩
abbrev main_call4_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_6 : Ref sig .tc := ⟨.hbm, 72, rfl⟩
abbrev main_call5_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_7 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_8 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_10 : Ref sig .tc := ⟨.hbm, 101, rfl⟩
abbrev main_v72 : Ref sig .tc := ⟨.hbm, 102, rfl⟩
abbrev main_cst_11 : Ref sig .tc := ⟨.hbm, 103, rfl⟩
abbrev main_v73 : Ref sig .tc := ⟨.hbm, 104, rfl⟩
abbrev main_cst_12 : Ref sig .tc := ⟨.hbm, 105, rfl⟩
abbrev main_v74 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_14 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87_0 : Ref sig .tc := ⟨.hbm, 121, rfl⟩
abbrev main_v87_1 : Ref sig .tc := ⟨.hbm, 122, rfl⟩
abbrev main_v87_2 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 1 → Memref sig .tc .vmem S64x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 1 → Memref sig .tc .vmem S256x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, true]

abbrev stage0_15 : Fin 1 → Memref sig .tc .vmem S64x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, true]

abbrev stage0_16 : Fin 1 → Memref sig .tc .vmem S16x128x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S8x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S8x64x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S8x16x64x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceMlaSampleIdeal.lean ====
abbrev S16x64x1024 : Shape := ⟨3, ![16, 64, 1024]⟩
abbrev S1024 : Shape := ⟨1, ![1024]⟩
abbrev S16x1024 : Shape := ⟨2, ![16, 1024]⟩
abbrev S1024x256 : Shape := ⟨2, ![1024, 256]⟩
abbrev S256 : Shape := ⟨1, ![256]⟩
abbrev S256x1536 : Shape := ⟨2, ![256, 1536]⟩
abbrev S1024x160 : Shape := ⟨2, ![1024, 160]⟩
abbrev S128 : Shape := ⟨1, ![128]⟩
abbrev S128x16x64 : Shape := ⟨3, ![128, 16, 64]⟩
abbrev S_ : Shape := ⟨0, ![]⟩
abbrev S16x64 : Shape := ⟨2, ![16, 64]⟩
abbrev S16x64x1 : Shape := ⟨3, ![16, 64, 1]⟩
abbrev S1x1x1024 : Shape := ⟨3, ![1, 1, 1024]⟩
abbrev S16x1x1024 : Shape := ⟨3, ![16, 1, 1024]⟩
abbrev S16x64x160 : Shape := ⟨3, ![16, 64, 160]⟩
abbrev S16x64x128 : Shape := ⟨3, ![16, 64, 128]⟩
abbrev S1x1x128 : Shape := ⟨3, ![1, 1, 128]⟩

abbrev nBuf : Space → Nat
  | .hbm => 54
  | .vmem => 0
  | .smem => 0
  | _ => 0

abbrev bufTy : (tb : Table) → Fin (tcTables nBuf tb) → BufTy
  | .hbm, ⟨0, _⟩ => ⟨S16x64x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x256, .f32⟩
  | .hbm, ⟨5, _⟩ => ⟨S256, .f32⟩
  | .hbm, ⟨6, _⟩ => ⟨S256x1536, .f32⟩
  | .hbm, ⟨7, _⟩ => ⟨S1024x160, .f32⟩
  | .hbm, ⟨8, _⟩ => ⟨S128, .f32⟩
  | .hbm, ⟨9, _⟩ => ⟨S128x16x64, .f32⟩
  | .hbm, ⟨10, _⟩ => ⟨S128x16x64, .f32⟩
  | .hbm, ⟨11, _⟩ => ⟨S16x64x1024, .f32⟩
  | .hbm, ⟨12, _⟩ => ⟨S_, .f32⟩
  | .hbm, ⟨13, _⟩ => ⟨S16x64, .f32⟩
  | .hbm, ⟨14, _⟩ => ⟨S16x64x1, .f32⟩
  | .hbm, ⟨15, _⟩ => ⟨S_, .f32⟩
  | .hbm, ⟨16, _⟩ => ⟨S16x64x1, .f32⟩
  | .hbm, ⟨17, _⟩ => ⟨S16x64x1, .f32⟩
  | .hbm, ⟨18, _⟩ => ⟨S_, .f32⟩
  | .hbm, ⟨19, _⟩ => ⟨S16x64x1, .f32⟩
  | .hbm, ⟨20, _⟩ => ⟨S16x64x1, .f32⟩
  | .hbm, ⟨21, _⟩ => ⟨S16x64x1, .f32⟩
  | .hbm, ⟨22, _⟩ => ⟨S16x64x1024, .f32⟩
  | .hbm, ⟨23, _⟩ => ⟨S16x64x1024, .f32⟩
  | .hbm, ⟨24, _⟩ => ⟨S1x1x1024, .f32⟩
  | .hbm, ⟨25, _⟩ => ⟨S16x64x1024, .f32⟩
  | .hbm, ⟨26, _⟩ => ⟨S16x64x1024, .f32⟩
  | .hbm, ⟨27, _⟩ => ⟨S16x1x1024, .f32⟩
  | .hbm, ⟨28, _⟩ => ⟨S_, .f32⟩
  | .hbm, ⟨29, _⟩ => ⟨S16x1x1024, .f32⟩
  | .hbm, ⟨30, _⟩ => ⟨S16x1x1024, .f32⟩
  | .hbm, ⟨31, _⟩ => ⟨S16x64x1024, .f32⟩
  | .hbm, ⟨32, _⟩ => ⟨S16x64x1024, .f32⟩
  | .hbm, ⟨33, _⟩ => ⟨S16x1x1024, .f32⟩
  | .hbm, ⟨34, _⟩ => ⟨S16x64x1024, .f32⟩
  | .hbm, ⟨35, _⟩ => ⟨S16x64x1024, .f32⟩
  | .hbm, ⟨36, _⟩ => ⟨S16x64x160, .f32⟩
  | .hbm, ⟨37, _⟩ => ⟨S16x64x128, .f32⟩
  | .hbm, ⟨38, _⟩ => ⟨S16x64x128, .f32⟩
  | .hbm, ⟨39, _⟩ => ⟨S_, .f32⟩
  | .hbm, ⟨40, _⟩ => ⟨S16x64, .f32⟩
  | .hbm, ⟨41, _⟩ => ⟨S16x64x1, .f32⟩
  | .hbm, ⟨42, _⟩ => ⟨S_, .f32⟩
  | .hbm, ⟨43, _⟩ => ⟨S16x64x1, .f32⟩
  | .hbm, ⟨44, _⟩ => ⟨S16x64x1, .f32⟩
  | .hbm, ⟨45, _⟩ => ⟨S_, .f32⟩
  | .hbm, ⟨46, _⟩ => ⟨S16x64x1, .f32⟩
  | .hbm, ⟨47, _⟩ => ⟨S16x64x1, .f32⟩
  | .hbm, ⟨48, _⟩ => ⟨S16x64x1, .f32⟩
  | .hbm, ⟨49, _⟩ => ⟨S16x64x128, .f32⟩
  | .hbm, ⟨50, _⟩ => ⟨S16x64x128, .f32⟩
  | .hbm, ⟨51, _⟩ => ⟨S1x1x128, .f32⟩
  | .hbm, ⟨52, _⟩ => ⟨S16x64x128, .f32⟩
  | .hbm, ⟨53, _⟩ => ⟨S16x64x128, .f32⟩
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== Proof.Rows.lean ====
module

public import Idealize.ShloMosaic.Lib.Pointwise

/-! Rows of the squared-ReLU MLP, and of what it is fused with, over the extended reals: the functions that both the
    kernel's blocks and the reference's arrays are read to. -/

@[expose] public section

noncomputable section

namespace Cert.Rows

open Idealize.ShloMosaic

/-- A row scaled to unit mean square (`D` its length), times the gain `g`. -/
def norm {n : ℕ} (D : EReal) (x g : Fin n → EReal) (j : Fin n) : EReal :=
  x j * Ideal.rsqrt (Ideal.div (∑ k, x k * x k) D + Ideal.ofBits .f32 0x358637BD#32) * g j

/-- A row of 1024 normalised, scaled by `1 + sc` and shifted by `sh`. -/
def modulated (x g sc sh : Fin 1024 → EReal) (j : Fin 1024) : EReal :=
  norm (Ideal.ofBits .f32 0x44800000#32) x g j * (1 + sc j) + sh j

/-- The squared ReLU of one hidden unit. -/
def hidden (h : Fin 1024 → EReal) (u : Fin 1024 → Fin 4096 → EReal) (f : Fin 4096) : EReal :=
  max (∑ k, h k * u k f) 0 * max (∑ k, h k * u k f) 0

/-- The row `x` plus its gated MLP: `x + (1 + gt) * (hidden(modulated x) @ d)`. -/
def residual (x g sc sh gt : Fin 1024 → EReal) (u : Fin 1024 → Fin 4096 → EReal) (d : Fin 4096 → Fin 1024 → EReal)
    (j : Fin 1024) : EReal :=
  x j + (1 + gt j) * ∑ f, hidden (modulated x g sc sh) u f * d f j

/-- The row `x` plus the gated projection of a mixer's output `o`. -/
def projected (o x gt : Fin 1024 → EReal) (w : Fin 1024 → Fin 1024 → EReal) (j : Fin 1024) : EReal :=
  x j + (1 + gt j) * ∑ e, o e * w e j

/-- The tanh form of the gelu. -/
def gelu (v : EReal) : EReal :=
  v * (Ideal.ofBits .f32 0x3F000000#32 *
    (1 + Ideal.tanh (Ideal.ofBits .f32 0x3F4C422A#32 * (v + Ideal.ofBits .f32 0x3D372713#32 * (v * (v * v))))))

/-- The row `x` plus the gated linear unit of `gelu (y + s * h)`. -/
def glu (y h s x gt : Fin 1024 → EReal) (wa wb : Fin 1024 → Fin 1024 → EReal) (j : Fin 1024) : EReal :=
  x j + (1 + gt j) * ((∑ e, gelu (y e + s e * h e) * wa e j) *
    Ideal.div 1 (1 + Ideal.exp (-∑ e, gelu (y e + s e * h e) * wb e j)))

/-- A sum over the hidden units is the sum over the first half plus the sum over the second. -/
theorem sum_halves (F : Fin 4096 → EReal) :
    ∑ f, F f = (∑ f : Fin 2048, F ⟨f.val, by omega⟩) + ∑ f : Fin 2048, F ⟨2048 + f.val, by omega⟩ :=
  Fin.sum_univ_add (a := 2048) (b := 2048) F

end Cert.Rows

end
-- ==== Proof.Last.lean ====
module

public import proofs.«01_k».proof.Defs
public import proofs.«01_k».proof.Proof.Rows
public import proofs.«01_k».proof.Proof.Gen.KernelLastIdeal.Value
public import proofs.«01_k».proof.Proof.Gen.ReferenceLastIdeal.Run
public import Idealize.ShloMosaic.Lib.Pipeline.ValueKit
public import Idealize.ShloMosaic.Lib.Tactic.CleanTypes
public import Idealize.ShloMosaic.Lib.Quiescent

/-! The last layer's MLP with the final normalisation, at the prompt's shapes. -/

@[expose] public section

set_option maxRecDepth 16384

noncomputable section

namespace Cert.KernelLastIdeal.Hand

open Cert.KernelLastIdeal Cert.KernelLastIdeal.Gen Idealize.ShloMosaic Idealize.ShloMosaic.TcCoe Idealize.SL.Sem
open Idealize.ShloMosaic.Pipeline (Dat)
open Cert

/-- What a grid point leaves in its block of 512 rows, read at row `r`. -/
theorem out_at (x : Vec Ideal S1x512x1024 .f32) (g : Vec Ideal S1x1024 .f32) (sh : Vec Ideal S1x1x1024 .f32) (sc : Vec Ideal S1x1x1024 .f32) (gt : Vec Ideal S1x1x1024 .f32) (u : Vec Ideal S1024x4096 .bf16) (d : Vec Ideal S4096x1024 .bf16) (gf : Vec Ideal S1x1024 .f32)
    (r : Fin 512) (j : Fin 1024) :
    out0_8 x g sh sc gt u d gf (ix3 0 r j) = Rows.norm (Ideal.ofBits .f32 0x44800000#32)
      (Rows.residual (fun k => x (ix3 0 r k)) (fun k => g (ix2 0 k))
        (fun k => sc (ix3 0 0 k)) (fun k => sh (ix3 0 0 k))
        (fun k => gt (ix3 0 0 k)) (fun k f => u (ix2 k f))
        (fun f k => d (ix2 f k)))
      (fun k => gf (ix2 0 k)) j := by
  frame_out
  unfold_payloads
  pointwise [Rows.norm, Rows.residual, Rows.sum_halves, Rows.hidden, Rows.modulated, Rows.projected]

variable (m : (ℓ : Loc nD τ sig) → Buf (Elt Ideal) ℓ)

/-- Where each window's block stands, as the result's block moves. -/
theorem idx : ∀ t : Fin cfg0.N, win0_0.index t = win0_8.index t ∧ win0_1.index t = ![0, 0] ∧ win0_2.index t = ![win0_8.index t 0, 0, 0] ∧ win0_3.index t = ![win0_8.index t 0, 0, 0] ∧ win0_4.index t = ![win0_8.index t 0, 0, 0] ∧ win0_5.index t = ![0, 0] ∧ win0_6.index t = ![0, 0] ∧ win0_7.index t = ![0, 0] ∧ win0_8.index t 2 = 0 := by
  decide +kernel

/-- The result array after the run, row by row. -/
def result (c : Dev nD) : Vec Ideal S4x8192x1024 .f32 := fun i =>
  Rows.norm (Ideal.ofBits .f32 0x44800000#32)
      (Rows.residual (fun k => m ((c : Thread nD τ).loc main_arg0) (ix3 (i 0) (i 1) k)) (fun k => m ((c : Thread nD τ).loc main_arg1) (ix1 k))
        (fun k => m ((c : Thread nD τ).loc main_arg3) (ix2 (i 0) k)) (fun k => m ((c : Thread nD τ).loc main_arg2) (ix2 (i 0) k))
        (fun k => m ((c : Thread nD τ).loc main_arg4) (ix2 (i 0) k)) (fun k f => m ((c : Thread nD τ).loc main_arg5) (ix2 k f))
        (fun f k => m ((c : Thread nD τ).loc main_arg6) (ix2 f k)))
      (fun k => m ((c : Thread nD τ).loc main_arg7) (ix1 k)) (i 2)

set_option maxHeartbeats 4000000 in
theorem final (c : Dev nD) : (dats m 0 c).arrAt 8 cfg0.N = result m c := by
  refine (dats m 0 c).arrAt_eq_of_covers 8 _ (by decide +kernel) fun t hf y => ?_
  blk_simp
  rw [after0_8]
  obtain ⟨y0, r, j, rfl⟩ : ∃ (a : Fin 1) (b : Fin 512) (k : Fin 1024), y = ix3 a b k := ⟨y 0, y 1, y 2, eq_ix3 y⟩
  obtain rfl : y0 = 0 := Subsingleton.elim _ _
  rw [out_at]
  unfold result
  obtain ⟨e0, e1, e2, e3, e4, e5, e6, e7, e8⟩ := idx t
  congr 1
  · congr 1
    · funext k; blk_ext! [iblk, V, e0, e8]
    · funext k; blk_ext! [iblk, V, e1]
    · funext k; blk_ext! [iblk, V, e3]
    · funext k; blk_ext! [iblk, V, e2]
    · funext k; blk_ext! [iblk, V, e4]
    · funext k f; blk_ext! [iblk, V, e5]
    · funext f k; blk_ext! [iblk, V, e6]
  · funext k; blk_ext! [iblk, V, e7]
  · refine Fin.ext ?_
    blk_simp [e8] <;> omega

end Cert.KernelLastIdeal.Hand

namespace Cert.ReferenceLastIdeal.Hand

open Cert.ReferenceLastIdeal Idealize.ShloMosaic Idealize.ShloMosaic.TcCoe Idealize.SL.Sem
open Cert

variable (m : (ℓ : Loc nD τ sig) → Buf (Elt Ideal) ℓ)

/-- The reference's result, row by row. -/
theorem result (c : Dev nD) : Value.res_out0 m c = fun i =>
  Rows.norm (Ideal.ofBits .f32 0x44800000#32)
      (Rows.residual (fun k => m ((c : Thread nD τ).loc main_arg0) (ix3 (i 0) (i 1) k)) (fun k => m ((c : Thread nD τ).loc main_arg1) (ix1 k))
        (fun k => m ((c : Thread nD τ).loc main_arg3) (ix2 (i 0) k)) (fun k => m ((c : Thread nD τ).loc main_arg2) (ix2 (i 0) k))
        (fun k => m ((c : Thread nD τ).loc main_arg4) (ix2 (i 0) k)) (fun k f => m ((c : Thread nD τ).loc main_arg5) (ix2 k f))
        (fun f k => m ((c : Thread nD τ).loc main_arg6) (ix2 f k)))
      (fun k => m ((c : Thread nD τ).loc main_arg7) (ix1 k)) (i 2) := by
  unfold Value.res_out0 Value.res_main_v43
  clean_types
  funext i
  pointwise [Rows.norm, Rows.residual, Rows.hidden, Rows.modulated, Rows.projected, Rows.glu, Rows.gelu]

end Cert.ReferenceLastIdeal.Hand

namespace Cert.Proof.Last

open Idealize.ShloMosaic Idealize.ShloMosaic.TcCoe Idealize.SL.Sem

/-- The kernel computes the reference's function over the extended reals. -/
theorem algebraic : Cert.algebraic_KernelLastIdeal_ReferenceLastIdeal := by
  intro m ρ m' ρ' _ hag
  refine ⟨fun c => Cert.KernelLastIdeal.Hand.result m c,
    (θ_run _ _ _).mono (fun r h c => ⟨(h c).1.trans (Cert.KernelLastIdeal.Hand.final m c), (h c).2⟩) (Cert.KernelLastIdeal.Value.run_blocks m ρ), ?_⟩
  refine (θ_run _ _ _).mono (fun r h c => ⟨(h c).1.trans ?_, (h c).2⟩) (Cert.ReferenceLastIdeal.Value.run m' ρ')
  refine (Cert.ReferenceLastIdeal.Hand.result m' c).trans ?_
  obtain ⟨h0, h1, h2, h3, h4, h5, h6, h7⟩ := hag c
  unfold Cert.KernelLastIdeal.Hand.result
  rw [h0, h1, h2, h3, h4, h5, h6, h7]
  rfl

end Cert.Proof.Last

end
-- ==== Proof.Proj.lean ====
module

public import proofs.«01_k».proof.Defs
public import proofs.«01_k».proof.Proof.Rows
public import proofs.«01_k».proof.Proof.Gen.KernelProjIdeal.Value
public import proofs.«01_k».proof.Proof.Gen.ReferenceProjIdeal.Run
public import Idealize.ShloMosaic.Lib.Pipeline.ValueKit
public import Idealize.ShloMosaic.Lib.Tactic.CleanTypes
public import Idealize.ShloMosaic.Lib.Quiescent

/-! The MLP fused with an attention mixer's output projection. -/

@[expose] public section

set_option maxRecDepth 16384

noncomputable section

namespace Cert.KernelProjIdeal.Hand

open Cert.KernelProjIdeal Cert.KernelProjIdeal.Gen Idealize.ShloMosaic Idealize.ShloMosaic.TcCoe Idealize.SL.Sem
open Idealize.ShloMosaic.Pipeline (Dat)
open Cert

/-- What a grid point leaves in its block of 512 rows, read at row `r`. -/
theorem out_at (o : Vec Ideal S1x512x1024 .bf16) (w : Vec Ideal S1024x1024 .bf16) (gt1 : Vec Ideal S1x1x1024 .f32) (x : Vec Ideal S1x512x1024 .f32) (g : Vec Ideal S1x1024 .f32) (sh : Vec Ideal S1x1x1024 .f32) (sc : Vec Ideal S1x1x1024 .f32) (gt : Vec Ideal S1x1x1024 .f32) (u : Vec Ideal S1024x4096 .bf16) (d : Vec Ideal S4096x1024 .bf16) (gf : Vec Ideal S1x1024 .f32)
    (r : Fin 512) (j : Fin 1024) :
    out0_11 o w gt1 x g sh sc gt u d gf (ix3 0 r j) = Rows.residual (Rows.projected (fun k => o (ix3 0 r k)) (fun k => x (ix3 0 r k)) (fun k => gt1 (ix3 0 0 k))
        (fun e k => w (ix2 e k))) (fun k => g (ix2 0 k))
        (fun k => sc (ix3 0 0 k)) (fun k => sh (ix3 0 0 k))
        (fun k => gt (ix3 0 0 k)) (fun k f => u (ix2 k f))
        (fun f k => d (ix2 f k)) j := by
  frame_out
  unfold_payloads
  pointwise [Rows.norm, Rows.residual, Rows.sum_halves, Rows.hidden, Rows.modulated, Rows.projected]

variable (m : (ℓ : Loc nD τ sig) → Buf (Elt Ideal) ℓ)

/-- Where each window's block stands, as the result's block moves. -/
theorem idx : ∀ t : Fin cfg0.N, win0_0.index t = win0_11.index t ∧ win0_1.index t = ![0, 0] ∧ win0_2.index t = ![win0_11.index t 0, 0, 0] ∧ win0_3.index t = win0_11.index t ∧ win0_4.index t = ![0, 0] ∧ win0_5.index t = ![win0_11.index t 0, 0, 0] ∧ win0_6.index t = ![win0_11.index t 0, 0, 0] ∧ win0_7.index t = ![win0_11.index t 0, 0, 0] ∧ win0_8.index t = ![0, 0] ∧ win0_9.index t = ![0, 0] ∧ win0_10.index t = ![0, 0] ∧ win0_11.index t 2 = 0 := by
  decide +kernel

/-- The result array after the run, row by row. -/
def result (c : Dev nD) : Vec Ideal S4x8192x1024 .f32 := fun i =>
  Rows.residual (Rows.projected (fun k => m ((c : Thread nD τ).loc main_arg0) (ix3 (i 0) (i 1) k)) (fun k => m ((c : Thread nD τ).loc main_arg3) (ix3 (i 0) (i 1) k)) (fun k => m ((c : Thread nD τ).loc main_arg2) (ix2 (i 0) k))
        (fun e k => m ((c : Thread nD τ).loc main_arg1) (ix2 e k))) (fun k => m ((c : Thread nD τ).loc main_arg4) (ix1 k))
        (fun k => m ((c : Thread nD τ).loc main_arg6) (ix2 (i 0) k)) (fun k => m ((c : Thread nD τ).loc main_arg5) (ix2 (i 0) k))
        (fun k => m ((c : Thread nD τ).loc main_arg7) (ix2 (i 0) k)) (fun k f => m ((c : Thread nD τ).loc main_arg8) (ix2 k f))
        (fun f k => m ((c : Thread nD τ).loc main_arg9) (ix2 f k)) (i 2)

set_option maxHeartbeats 4000000 in
theorem final (c : Dev nD) : (dats m 0 c).arrAt 11 cfg0.N = result m c := by
  refine (dats m 0 c).arrAt_eq_of_covers 11 _ (by decide +kernel) fun t hf y => ?_
  blk_simp
  rw [after0_11]
  obtain ⟨y0, r, j, rfl⟩ : ∃ (a : Fin 1) (b : Fin 512) (k : Fin 1024), y = ix3 a b k := ⟨y 0, y 1, y 2, eq_ix3 y⟩
  obtain rfl : y0 = 0 := Subsingleton.elim _ _
  rw [out_at]
  unfold result
  obtain ⟨e0, e1, e2, e3, e4, e5, e6, e7, e8, e9, e10, e11⟩ := idx t
  congr 1
  · congr 1
    · funext k; blk_ext! [iblk, V, e0, e11]
    · funext k; blk_ext! [iblk, V, e3, e11]
    · funext k; blk_ext! [iblk, V, e2]
    · funext e k; blk_ext! [iblk, V, e1]
  · funext k; blk_ext! [iblk, V, e4]
  · funext k; blk_ext! [iblk, V, e6]
  · funext k; blk_ext! [iblk, V, e5]
  · funext k; blk_ext! [iblk, V, e7]
  · funext k f; blk_ext! [iblk, V, e8]
  · funext f k; blk_ext! [iblk, V, e9]
  · refine Fin.ext ?_
    blk_simp [e11] <;> omega

end Cert.KernelProjIdeal.Hand

namespace Cert.ReferenceProjIdeal.Hand

open Cert.ReferenceProjIdeal Idealize.ShloMosaic Idealize.ShloMosaic.TcCoe Idealize.SL.Sem
open Cert

variable (m : (ℓ : Loc nD τ sig) → Buf (Elt Ideal) ℓ)

/-- The reference's result, row by row. -/
theorem result (c : Dev nD) : Value.res_out0 m c = fun i =>
  Rows.residual (Rows.projected (fun k => m ((c : Thread nD τ).loc main_arg0) (ix3 (i 0) (i 1) k)) (fun k => m ((c : Thread nD τ).loc main_arg3) (ix3 (i 0) (i 1) k)) (fun k => m ((c : Thread nD τ).loc main_arg2) (ix2 (i 0) k))
        (fun e k => m ((c : Thread nD τ).loc main_arg1) (ix2 e k))) (fun k => m ((c : Thread nD τ).loc main_arg4) (ix1 k))
        (fun k => m ((c : Thread nD τ).loc main_arg6) (ix2 (i 0) k)) (fun k => m ((c : Thread nD τ).loc main_arg5) (ix2 (i 0) k))
        (fun k => m ((c : Thread nD τ).loc main_arg7) (ix2 (i 0) k)) (fun k f => m ((c : Thread nD τ).loc main_arg8) (ix2 k f))
        (fun f k => m ((c : Thread nD τ).loc main_arg9) (ix2 f k)) (i 2) := by
  unfold Value.res_out0 Value.res_main_v38
  clean_types
  funext i
  pointwise [Rows.norm, Rows.residual, Rows.hidden, Rows.modulated, Rows.projected, Rows.glu, Rows.gelu]

end Cert.ReferenceProjIdeal.Hand

namespace Cert.Proof.Proj

open Idealize.ShloMosaic Idealize.ShloMosaic.TcCoe Idealize.SL.Sem

/-- The kernel computes the reference's function over the extended reals. -/
theorem algebraic : Cert.algebraic_KernelProjIdeal_ReferenceProjIdeal := by
  intro m ρ m' ρ' _ hag
  refine ⟨fun c => Cert.KernelProjIdeal.Hand.result m c,
    (θ_run _ _ _).mono (fun r h c => ⟨(h c).1.trans (Cert.KernelProjIdeal.Hand.final m c), (h c).2⟩) (Cert.KernelProjIdeal.Value.run_blocks m ρ), ?_⟩
  refine (θ_run _ _ _).mono (fun r h c => ⟨(h c).1.trans ?_, (h c).2⟩) (Cert.ReferenceProjIdeal.Value.run m' ρ')
  refine (Cert.ReferenceProjIdeal.Hand.result m' c).trans ?_
  obtain ⟨h0, h1, h2, h3, h4, h5, h6, h7, h8, h9, h10⟩ := hag c
  unfold Cert.KernelProjIdeal.Hand.result
  rw [h0, h1, h2, h3, h4, h5, h6, h7, h8, h9]
  rfl

end Cert.Proof.Proj

end
-- ==== Proof.Glu.lean ====
module

public import proofs.«01_k».proof.Defs
public import proofs.«01_k».proof.Proof.Rows
public import proofs.«01_k».proof.Proof.Gen.KernelGluIdeal.Value
public import proofs.«01_k».proof.Proof.Gen.ReferenceGluIdeal.Run
public import Idealize.ShloMosaic.Lib.Pipeline.ValueKit
public import Idealize.ShloMosaic.Lib.Tactic.CleanTypes
public import Idealize.ShloMosaic.Lib.Quiescent

/-! The MLP fused with the state-space mixer's gated linear unit. -/

@[expose] public section

set_option maxRecDepth 16384

noncomputable section

namespace Cert.KernelGluIdeal.Hand

open Cert.KernelGluIdeal Cert.KernelGluIdeal.Gen Idealize.ShloMosaic Idealize.ShloMosaic.TcCoe Idealize.SL.Sem
open Idealize.ShloMosaic.Pipeline (Dat)
open Cert

/-- The activations after the mixer's gate, read at row `r`. -/
theorem gate_at (x y h : Vec Ideal S1x512x1024 .f32) (s : Vec Ideal S1x1024 .f32) (wa wb : Vec Ideal S1024x1024 .bf16)
    (gt1 : Vec Ideal S1x1x1024 .f32) (r : Fin 512) (j : Fin 1024) :
    k0_pay4 x (k0_pay2 y s h wa wb) (k0_pay3 gt1) (ix3 0 r j) =
      Rows.glu (fun k => y (ix3 0 r k)) (fun k => h (ix3 0 r k)) (fun k => s (ix2 0 k)) (fun k => x (ix3 0 r k))
        (fun k => gt1 (ix3 0 0 k)) (fun e k => wa (ix2 e k)) (fun e k => wb (ix2 e k)) j := by
  pointwise [k0_pay4, k0_pay2, k0_pay3, Rows.glu, Rows.gelu]
  rfl

/-- What a grid point leaves in its block of 512 rows, read at row `r`. -/
theorem out_at (y : Vec Ideal S1x512x1024 .f32) (h : Vec Ideal S1x512x1024 .f32) (s : Vec Ideal S1x1024 .f32) (wa : Vec Ideal S1024x1024 .bf16) (wb : Vec Ideal S1024x1024 .bf16) (gt1 : Vec Ideal S1x1x1024 .f32) (x : Vec Ideal S1x512x1024 .f32) (g : Vec Ideal S1x1024 .f32) (sh : Vec Ideal S1x1x1024 .f32) (sc : Vec Ideal S1x1x1024 .f32) (gt : Vec Ideal S1x1x1024 .f32) (u : Vec Ideal S1024x4096 .bf16) (d : Vec Ideal S4096x1024 .bf16) (gf : Vec Ideal S1x1024 .f32)
    (r : Fin 512) (j : Fin 1024) :
    out0_14 y h s wa wb gt1 x g sh sc gt u d gf (ix3 0 r j) = Rows.residual (Rows.glu (fun k => y (ix3 0 r k)) (fun k => h (ix3 0 r k)) (fun k => s (ix2 0 k))
        (fun k => x (ix3 0 r k)) (fun k => gt1 (ix3 0 0 k))
        (fun e k => wa (ix2 e k)) (fun e k => wb (ix2 e k))) (fun k => g (ix2 0 k))
        (fun k => sc (ix3 0 0 k)) (fun k => sh (ix3 0 0 k))
        (fun k => gt (ix3 0 0 k)) (fun k f => u (ix2 k f))
        (fun f k => d (ix2 f k)) j := by
  unfold_out out0_14
  frame_out
  pointwise [k0_pay1, k0_pay5, k0_pay6, gate_at, Rows.norm, Rows.residual, Rows.sum_halves, Rows.hidden, Rows.modulated]

variable (m : (ℓ : Loc nD τ sig) → Buf (Elt Ideal) ℓ)

/-- Where each window's block stands, as the result's block moves. -/
theorem idx : ∀ t : Fin cfg0.N, win0_0.index t = win0_14.index t ∧ win0_1.index t = win0_14.index t ∧ win0_2.index t = ![0, 0] ∧ win0_3.index t = ![0, 0] ∧ win0_4.index t = ![0, 0] ∧ win0_5.index t = ![win0_14.index t 0, 0, 0] ∧ win0_6.index t = win0_14.index t ∧ win0_7.index t = ![0, 0] ∧ win0_8.index t = ![win0_14.index t 0, 0, 0] ∧ win0_9.index t = ![win0_14.index t 0, 0, 0] ∧ win0_10.index t = ![win0_14.index t 0, 0, 0] ∧ win0_11.index t = ![0, 0] ∧ win0_12.index t = ![0, 0] ∧ win0_13.index t = ![0, 0] ∧ win0_14.index t 2 = 0 := by
  decide +kernel

/-- The result array after the run, row by row. -/
def result (c : Dev nD) : Vec Ideal S4x8192x1024 .f32 := fun i =>
  Rows.residual (Rows.glu (fun k => m ((c : Thread nD τ).loc main_arg0) (ix3 (i 0) (i 1) k)) (fun k => m ((c : Thread nD τ).loc main_arg1) (ix3 (i 0) (i 1) k)) (fun k => m ((c : Thread nD τ).loc main_arg2) (ix1 k))
        (fun k => m ((c : Thread nD τ).loc main_arg6) (ix3 (i 0) (i 1) k)) (fun k => m ((c : Thread nD τ).loc main_arg5) (ix2 (i 0) k))
        (fun e k => m ((c : Thread nD τ).loc main_arg3) (ix2 e k)) (fun e k => m ((c : Thread nD τ).loc main_arg4) (ix2 e k))) (fun k => m ((c : Thread nD τ).loc main_arg7) (ix1 k))
        (fun k => m ((c : Thread nD τ).loc main_arg9) (ix2 (i 0) k)) (fun k => m ((c : Thread nD τ).loc main_arg8) (ix2 (i 0) k))
        (fun k => m ((c : Thread nD τ).loc main_arg10) (ix2 (i 0) k)) (fun k f => m ((c : Thread nD τ).loc main_arg11) (ix2 k f))
        (fun f k => m ((c : Thread nD τ).loc main_arg12) (ix2 f k)) (i 2)

set_option maxHeartbeats 4000000 in
theorem final (c : Dev nD) : (dats m 0 c).arrAt 14 cfg0.N = result m c := by
  refine (dats m 0 c).arrAt_eq_of_covers 14 _ (by decide +kernel) fun t hf y => ?_
  blk_simp
  rw [after0_14]
  obtain ⟨y0, r, j, rfl⟩ : ∃ (a : Fin 1) (b : Fin 512) (k : Fin 1024), y = ix3 a b k := ⟨y 0, y 1, y 2, eq_ix3 y⟩
  obtain rfl : y0 = 0 := Subsingleton.elim _ _
  rw [out_at]
  unfold result
  obtain ⟨e0, e1, e2, e3, e4, e5, e6, e7, e8, e9, e10, e11, e12, e13, e14⟩ := idx t
  congr 1
  · congr 1
    · funext k; blk_ext! [iblk, V, e0, e14]
    · funext k; blk_ext! [iblk, V, e1, e14]
    · funext k; blk_ext! [iblk, V, e2]
    · funext k; blk_ext! [iblk, V, e6, e14]
    · funext k; blk_ext! [iblk, V, e5]
    · funext e k; blk_ext! [iblk, V, e3]
    · funext e k; blk_ext! [iblk, V, e4]
  · funext k; blk_ext! [iblk, V, e7]
  · funext k; blk_ext! [iblk, V, e9]
  · funext k; blk_ext! [iblk, V, e8]
  · funext k; blk_ext! [iblk, V, e10]
  · funext k f; blk_ext! [iblk, V, e11]
  · funext f k; blk_ext! [iblk, V, e12]
  · refine Fin.ext ?_
    blk_simp [e14] <;> omega

end Cert.KernelGluIdeal.Hand

namespace Cert.ReferenceGluIdeal.Hand

open Cert.ReferenceGluIdeal Idealize.ShloMosaic Idealize.ShloMosaic.TcCoe Idealize.SL.Sem
open Cert

variable (m : (ℓ : Loc nD τ sig) → Buf (Elt Ideal) ℓ)

/-- The reference's result, row by row. -/
theorem result (c : Dev nD) : Value.res_out0 m c = fun i =>
  Rows.residual (Rows.glu (fun k => m ((c : Thread nD τ).loc main_arg0) (ix3 (i 0) (i 1) k)) (fun k => m ((c : Thread nD τ).loc main_arg1) (ix3 (i 0) (i 1) k)) (fun k => m ((c : Thread nD τ).loc main_arg2) (ix1 k))
        (fun k => m ((c : Thread nD τ).loc main_arg6) (ix3 (i 0) (i 1) k)) (fun k => m ((c : Thread nD τ).loc main_arg5) (ix2 (i 0) k))
        (fun e k => m ((c : Thread nD τ).loc main_arg3) (ix2 e k)) (fun e k => m ((c : Thread nD τ).loc main_arg4) (ix2 e k))) (fun k => m ((c : Thread nD τ).loc main_arg7) (ix1 k))
        (fun k => m ((c : Thread nD τ).loc main_arg9) (ix2 (i 0) k)) (fun k => m ((c : Thread nD τ).loc main_arg8) (ix2 (i 0) k))
        (fun k => m ((c : Thread nD τ).loc main_arg10) (ix2 (i 0) k)) (fun k f => m ((c : Thread nD τ).loc main_arg11) (ix2 k f))
        (fun f k => m ((c : Thread nD τ).loc main_arg12) (ix2 f k)) (i 2) := by
  unfold Value.res_out0 Value.res_main_v62
  clean_types
  funext i
  pointwise! [Rows.norm, Rows.residual, Rows.hidden, Rows.modulated, Rows.projected, Rows.glu, Rows.gelu]

end Cert.ReferenceGluIdeal.Hand

namespace Cert.Proof.Glu

open Idealize.ShloMosaic Idealize.ShloMosaic.TcCoe Idealize.SL.Sem

/-- The kernel computes the reference's function over the extended reals. -/
theorem algebraic : Cert.algebraic_KernelGluIdeal_ReferenceGluIdeal := by
  intro m ρ m' ρ' _ hag
  refine ⟨fun c => Cert.KernelGluIdeal.Hand.result m c,
    (θ_run _ _ _).mono (fun r h c => ⟨(h c).1.trans (Cert.KernelGluIdeal.Hand.final m c), (h c).2⟩) (Cert.KernelGluIdeal.Value.run_blocks m ρ), ?_⟩
  refine (θ_run _ _ _).mono (fun r h c => ⟨(h c).1.trans ?_, (h c).2⟩) (Cert.ReferenceGluIdeal.Value.run m' ρ')
  refine (Cert.ReferenceGluIdeal.Hand.result m' c).trans ?_
  obtain ⟨h0, h1, h2, h3, h4, h5, h6, h7, h8, h9, h10, h11, h12, h13⟩ := hag c
  unfold Cert.KernelGluIdeal.Hand.result
  rw [h0, h1, h2, h3, h4, h5, h6, h7, h8, h9, h10, h11, h12]
  rfl

end Cert.Proof.Glu

end
-- ==== Proof.SguRows.lean ====
module

public import proofs.«01_k».proof.Proof.Rows
public import Idealize.ShloMosaic.Lib.WordCmp

/-! Rows of the spatial gating unit over the extended reals: what both its kernel's blocks and its reference's arrays
    are read to. -/

@[expose] public section

noncomputable section

namespace Cert.Rows

open Idealize.ShloMosaic

/-- One unit of the expanded row: the gelu of the normalised, modulated row times a column of the weights. -/
def expanded (x g sc sh : Fin 1024 → EReal) (w : Fin 1024 → Fin 4096 → EReal) (f : Fin 4096) : EReal :=
  gelu (∑ k, modulated x g sc sh k * w k f)

/-- The second half of the expanded row, normalised. -/
def gatev (x g sc sh : Fin 1024 → EReal) (w : Fin 1024 → Fin 4096 → EReal) (gv : Fin 2048 → EReal) (f : Fin 2048) : EReal :=
  norm (Ideal.ofBits .f32 0x45000000#32) (fun e : Fin 2048 => expanded x g sc sh w ⟨2048 + e.val, by omega⟩) gv f

/-- The spatial gate at row `t` of a chunk whose rows are `xs`: the chunk's gate values mixed along the rows by the
    weights of the column's group of 256, plus the bias. -/
def mixed {n : ℕ} (v : Fin n → Fin 2048 → EReal) (w : Fin 8 → Fin n → Fin n → EReal) (b : Fin n → Fin 2048 → EReal)
    (t : Fin n) (f : Fin 2048) : EReal :=
  (∑ s, w ⟨f.val / 256, by omega⟩ t s * v s f) + b t f

/-- The same with each product's factors exchanged. -/
theorem mixed_comm {n : ℕ} (v : Fin n → Fin 2048 → EReal) (w : Fin 8 → Fin n → Fin n → EReal) (b : Fin n → Fin 2048 → EReal)
    (t : Fin n) (f : Fin 2048) : mixed v w b t f = (∑ s, v s f * w ⟨f.val / 256, by omega⟩ t s) + b t f := by
  unfold mixed
  exact congrArg (· + b t f) (Finset.sum_congr rfl fun s _ => mul_comm _ _)

/-- The lower triangle's test on two small words is the comparison of their numbers. -/
theorem keep {t s : ℕ} (ht : t < 128) (hs : s < 128) (a : EReal) :
    Scalar.select (IntOp.cmpi .sge (IntOp.addi (BitVec.ofNat 32 t) 0#32) (BitVec.ofNat 32 s)) a 0 = if s ≤ t then a else 0 := by
  have h : IntOp.addi (BitVec.ofNat 32 t) 0#32 = BitVec.ofNat 32 t := by simp [IntOp.addi]
  unfold Scalar.select
  rw [h]
  exact if_congr (WordCmp.cmpi_sge_ofNat_eq_one_iff (by omega) (by omega)) rfl rfl

/-- Row `t` of a chunk `xs` plus its gated spatial mixing. -/
def sgu {n : ℕ} (xs : Fin n → Fin 1024 → EReal) (g sc sh gt : Fin 1024 → EReal) (wi : Fin 1024 → Fin 4096 → EReal)
    (gv : Fin 2048 → EReal) (w : Fin 8 → Fin n → Fin n → EReal) (b : Fin n → Fin 2048 → EReal)
    (wo : Fin 2048 → Fin 1024 → EReal) (t : Fin n) (j : Fin 1024) : EReal :=
  xs t j + (1 + gt j) * ∑ f : Fin 2048, (expanded (xs t) g sc sh wi ⟨f.val, by omega⟩ *
    mixed (fun s => gatev (xs s) g sc sh wi gv) w b t f) * wo f j

end Cert.Rows

end
-- ==== Proof.Sgu.lean ====
module

public import proofs.«01_k».proof.Defs
public import proofs.«01_k».proof.Proof.SguRows
public import proofs.«01_k».proof.Proof.Gen.KernelSguIdeal.Value
public import proofs.«01_k».proof.Proof.Gen.ReferenceSguIdeal.Run
public import Idealize.ShloMosaic.Lib.Pipeline.ValueKit
public import Idealize.ShloMosaic.Lib.Tactic.CleanTypes
public import Idealize.ShloMosaic.Lib.StableHlo.ReadAt
public import Idealize.ShloMosaic.Lib.Quiescent

/-! The spatial gating unit at the prompt's shapes. -/

@[expose] public section

set_option maxRecDepth 16384

noncomputable section

namespace Cert.KernelSguIdeal.Hand

open Cert.KernelSguIdeal Cert.KernelSguIdeal.Gen Idealize.ShloMosaic Idealize.ShloMosaic.TcCoe Idealize.SL.Sem
open Idealize.ShloMosaic.Pipeline (Dat)
open Cert

section Block

variable (x : Vec Ideal S1x512x1024 .f32) (g : Vec Ideal S1x1024 .f32) (sh : Vec Ideal S1x1x1024 .f32) (sc : Vec Ideal S1x1x1024 .f32) (gt : Vec Ideal S1x1x1024 .f32) (wi : Vec Ideal S1024x4096 .bf16) (gv : Vec Ideal S1x2048 .f32) (W : Vec Ideal S8x128x128 .bf16) (b : Vec Ideal S128x2048 .f32) (wo : Vec Ideal S2048x1024 .bf16)
variable (U : FVec Ideal S512x2048 .f32) (V : FVec Ideal S512x2048 .bf16) (B : FVec Ideal S128x2048 .f32)

/-- The first half of the expanded rows. -/
theorem u_at (r : Fin 512) (f : Fin 2048) :
    k0_pay34 x g sh sc gt wi gv W b wo (ix2 r f) = Rows.expanded (fun k => x (ix3 0 r k)) (fun k => g (ix2 0 k))
      (fun k => sc (ix3 0 0 k)) (fun k => sh (ix3 0 0 k)) (fun k e => wi (ix2 k e)) ⟨f.val, by omega⟩ := by
  pointwise [k0_pay34, k0_pay4, k0_pay3, k0_pay2, k0_pay1, Rows.expanded, Rows.gelu, Rows.modulated, Rows.norm]

/-- The second half, normalised. -/
theorem v_at (r : Fin 512) (f : Fin 2048) :
    k0_pay35 x g sh sc gt wi gv W b wo (ix2 r f) = Rows.gatev (fun k => x (ix3 0 r k)) (fun k => g (ix2 0 k))
      (fun k => sc (ix3 0 0 k)) (fun k => sh (ix3 0 0 k)) (fun k e => wi (ix2 k e)) (fun k => gv (ix2 0 k)) f := by
  pointwise [k0_pay35, k0_pay5, k0_pay1, Rows.gatev, Rows.expanded, Rows.gelu, Rows.modulated, Rows.norm]

/-- The gate at the rows of chunk 0 of the block. -/
theorem chunk0 (t : Fin 128) (f : Fin 2048) :
    k0_pay9 U B (k0_pay8 V (k0_pay7 (View.ld W r0_7)) (View.ld W r0_8) (View.ld W r0_9) (View.ld W r0_10) (View.ld W r0_11) (View.ld W r0_12) (View.ld W r0_13) (View.ld W r0_14)) (ix2 t f)
      = U (ix2 ⟨t.val, by omega⟩ f) * Rows.mixed (fun s f => V (ix2 ⟨s.val, by omega⟩ f)) (fun h t s => W (ix3 h t s))
          (fun t f => B (ix2 t f)) t f := by
  pointwise [k0_pay7, k0_pay8, k0_pay9, Rows.mixed]
  split_ifs <;> blk_point

/-- The gate at the rows of chunk 1 of the block. -/
theorem chunk1 (t : Fin 128) (f : Fin 2048) :
    k0_pay17 U V B (k0_pay10 V (View.ld W r0_7)) (k0_pay11 V (View.ld W r0_8)) (k0_pay12 V (View.ld W r0_9)) (k0_pay13 V (View.ld W r0_10)) (k0_pay14 V (View.ld W r0_11)) (k0_pay15 V (View.ld W r0_12)) (k0_pay16 V (View.ld W r0_13)) (View.ld W r0_14) (ix2 t f)
      = U (ix2 ⟨128 + t.val, by omega⟩ f) * Rows.mixed (fun s f => V (ix2 ⟨128 + s.val, by omega⟩ f)) (fun h t s => W (ix3 h t s))
          (fun t f => B (ix2 t f)) t f := by
  pointwise [k0_pay10, k0_pay11, k0_pay12, k0_pay13, k0_pay14, k0_pay15, k0_pay16, k0_pay17, Rows.mixed]
  split_ifs <;> blk_point

/-- The gate at the rows of chunk 2 of the block. -/
theorem chunk2 (t : Fin 128) (f : Fin 2048) :
    k0_pay25 U V B (k0_pay18 V (View.ld W r0_7)) (k0_pay19 V (View.ld W r0_8)) (k0_pay20 V (View.ld W r0_9)) (k0_pay21 V (View.ld W r0_10)) (k0_pay22 V (View.ld W r0_11)) (k0_pay23 (View.ld W r0_12)) (k0_pay24 V) (constant S128x256 .f32 0x00000000#32) (View.ld W r0_13) (View.ld W r0_14) (ix2 t f)
      = U (ix2 ⟨256 + t.val, by omega⟩ f) * Rows.mixed (fun s f => V (ix2 ⟨256 + s.val, by omega⟩ f)) (fun h t s => W (ix3 h t s))
          (fun t f => B (ix2 t f)) t f := by
  pointwise [k0_pay18, k0_pay19, k0_pay20, k0_pay21, k0_pay22, k0_pay23, k0_pay24, k0_pay25, Rows.mixed]
  split_ifs <;> blk_point

/-- The gate at the rows of chunk 3 of the block. -/
theorem chunk3 (t : Fin 128) (f : Fin 2048) :
    k0_pay32 V (k0_pay26 V (View.ld W r0_7)) (k0_pay27 V (View.ld W r0_8)) (k0_pay28 V (View.ld W r0_9)) (k0_pay29 V (View.ld W r0_10)) (k0_pay30 (View.ld W r0_11)) (k0_pay31 V) (View.ld W r0_12) (View.ld W r0_13) (View.ld W r0_14) (ix2 t f)
      = ∑ s : Fin 128, W (ix3 ⟨f.val / 256, by omega⟩ t s) * V (ix2 ⟨384 + s.val, by omega⟩ f) := by
  pointwise [k0_pay26, k0_pay27, k0_pay28, k0_pay29, k0_pay30, k0_pay31, k0_pay32]
  split_ifs <;> blk_point

/-- What a grid point leaves in its block of 512 rows, read at row `r`. -/
theorem out_at (r : Fin 512) (j : Fin 1024) :
    out0_10 x g sh sc gt wi gv W b wo (ix3 0 r j) = Rows.sgu
      (fun (s : Fin 128) k => x (ix3 0 ⟨128 * (r.val / 128) + s.val, by omega⟩ k)) (fun k => g (ix2 0 k))
      (fun k => sc (ix3 0 0 k)) (fun k => sh (ix3 0 0 k)) (fun k => gt (ix3 0 0 k)) (fun k e => wi (ix2 k e))
      (fun k => gv (ix2 0 k)) (fun h t s => W (ix3 h t s)) (fun t f => b (ix2 t f)) (fun f k => wo (ix2 f k))
      ⟨r.val % 128, by omega⟩ j := by
  have e : (⟨128 * (r.val / 128) + r.val % 128, by omega⟩ : Fin 512) = r := Fin.ext (Nat.div_add_mod _ _)
  frame_out
  pointwise [k0_pay33, k0_pay36, k0_pay6, chunk0, chunk1, chunk2, chunk3, u_at, v_at, Rows.sgu, Rows.mixed]
  simp only [e]
  split_ifs <;> blk_point

end Block

variable (m : (ℓ : Loc nD τ sig) → Buf (Elt Ideal) ℓ)

/-! What the region finds in the arrays that the host prepares, entry by entry. -/

theorem v5_at (c : Dev nD) (k : Fin 1024) : V m c main_v5 (ix2 0 k) = m ((c : Thread nD τ).loc main_arg1) (ix1 k) := by
  unfold V; simp only [List.flatten_cons, List.flatten_nil, List.append_nil, List.cons_append, List.nil_append]; after_reads_at

theorem v6_at (c : Dev nD) (a : Fin 4) (k : Fin 1024) : V m c main_v6 (ix3 a 0 k) = m ((c : Thread nD τ).loc main_arg2) (ix2 a k) := by
  unfold V; simp only [List.flatten_cons, List.flatten_nil, List.append_nil, List.cons_append, List.nil_append]; after_reads_at

theorem v7_at (c : Dev nD) (a : Fin 4) (k : Fin 1024) : V m c main_v7 (ix3 a 0 k) = m ((c : Thread nD τ).loc main_arg3) (ix2 a k) := by
  unfold V; simp only [List.flatten_cons, List.flatten_nil, List.append_nil, List.cons_append, List.nil_append]; after_reads_at

theorem v8_at (c : Dev nD) (a : Fin 4) (k : Fin 1024) : V m c main_v8 (ix3 a 0 k) = m ((c : Thread nD τ).loc main_arg4) (ix2 a k) := by
  unfold V; simp only [List.flatten_cons, List.flatten_nil, List.append_nil, List.cons_append, List.nil_append]; after_reads_at

theorem v9_at (c : Dev nD) (k : Fin 1024) (f : Fin 4096) : V m c main_v9 (ix2 k f) = m ((c : Thread nD τ).loc main_arg5) (ix2 k f) := by
  unfold V; simp only [List.flatten_cons, List.flatten_nil, List.append_nil, List.cons_append, List.nil_append]; after_reads_at

theorem v10_at (c : Dev nD) (k : Fin 2048) : V m c main_v10 (ix2 0 k) = m ((c : Thread nD τ).loc main_arg6) (ix1 k) := by
  unfold V; simp only [List.flatten_cons, List.flatten_nil, List.append_nil, List.cons_append, List.nil_append]; after_reads_at

theorem v1_at (c : Dev nD) (h : Fin 8) (t s : Fin 128) : V m c main_v1 (ix3 h t s) = if s.val ≤ t.val then (m ((c : Thread nD τ).loc main_arg7) (ix3 h t s) : EReal) else (0 : EReal) := by
  refine Eq.trans ?_ (Rows.keep t.isLt s.isLt _)
  unfold V; simp only [List.flatten_cons, List.flatten_nil, List.append_nil, List.cons_append, List.nil_append]; after_reads_at

theorem v4_at (c : Dev nD) (t : Fin 128) (f : Fin 2048) : V m c main_v4 (ix2 t f) = m ((c : Thread nD τ).loc main_arg8) (ix2 ⟨f.val / 256, by omega⟩ t) := by
  unfold V; simp only [List.flatten_cons, List.flatten_nil, List.append_nil, List.cons_append, List.nil_append]; after_reads_at

theorem v11_at (c : Dev nD) (f : Fin 2048) (k : Fin 1024) : V m c main_v11 (ix2 f k) = m ((c : Thread nD τ).loc main_arg9) (ix2 f k) := by
  unfold V; simp only [List.flatten_cons, List.flatten_nil, List.append_nil, List.cons_append, List.nil_append]; after_reads_at

/-- Where each window's block stands, as the result's block moves. -/
theorem idx : ∀ t : Fin cfg0.N, win0_0.index t = win0_10.index t ∧ win0_1.index t = ![0, 0] ∧ win0_2.index t = ![win0_10.index t 0, 0, 0] ∧ win0_3.index t = ![win0_10.index t 0, 0, 0] ∧ win0_4.index t = ![win0_10.index t 0, 0, 0] ∧ win0_5.index t = ![0, 0] ∧ win0_6.index t = ![0, 0] ∧ win0_7.index t = ![0, 0, 0] ∧ win0_8.index t = ![0, 0] ∧ win0_9.index t = ![0, 0] ∧ win0_10.index t 2 = 0 := by
  decide +kernel

/-- The result array after the run, row by row. -/
def result (c : Dev nD) : Vec Ideal S4x8192x1024 .f32 := fun i =>
  Rows.sgu (fun (s : Fin 128) k => m ((c : Thread nD τ).loc main_arg0) (ix3 (i 0) ⟨128 * ((i 1).val / 128) + s.val, by have h : (i 1).val < 8192 := (i 1).isLt; omega⟩ k))
      (fun k => m ((c : Thread nD τ).loc main_arg1) (ix1 k))
      (fun k => m ((c : Thread nD τ).loc main_arg3) (ix2 (i 0) k)) (fun k => m ((c : Thread nD τ).loc main_arg2) (ix2 (i 0) k))
      (fun k => m ((c : Thread nD τ).loc main_arg4) (ix2 (i 0) k)) (fun k f => m ((c : Thread nD τ).loc main_arg5) (ix2 k f))
      (fun k => m ((c : Thread nD τ).loc main_arg6) (ix1 k))
      (fun h t s => if s.val ≤ t.val then (m ((c : Thread nD τ).loc main_arg7) (ix3 h t s) : EReal) else (0 : EReal))
      (fun t f => m ((c : Thread nD τ).loc main_arg8) (ix2 ⟨f.val / 256, by omega⟩ t))
      (fun f k => m ((c : Thread nD τ).loc main_arg9) (ix2 f k)) ⟨(i 1).val % 128, by omega⟩ (i 2)

set_option maxHeartbeats 4000000 in
theorem final (c : Dev nD) : (dats m 0 c).arrAt 10 cfg0.N = result m c := by
  refine (dats m 0 c).arrAt_eq_of_covers 10 _ (by decide +kernel) fun t hf y => ?_
  blk_simp
  rw [after0_10]
  obtain ⟨y0, r, j, rfl⟩ : ∃ (a : Fin 1) (b : Fin 512) (k : Fin 1024), y = ix3 a b k := ⟨y 0, y 1, y 2, eq_ix3 y⟩
  obtain rfl : y0 = 0 := Subsingleton.elim _ _
  rw [out_at]
  unfold result
  obtain ⟨e0, e1, e2, e3, e4, e5, e6, e7, e8, e9, e10⟩ := idx t
  congr 1
  · funext s k; blk_ext! [iblk, V_main_arg0, e0, e10]
  · funext k; refine Eq.trans ?_ (v5_at m c k); blk_ext! [iblk, e1]
  · funext k; refine Eq.trans ?_ (v7_at m c _ k); blk_ext! [iblk, e3]
  · funext k; refine Eq.trans ?_ (v6_at m c _ k); blk_ext! [iblk, e2]
  · funext k; refine Eq.trans ?_ (v8_at m c _ k); blk_ext! [iblk, e4]
  · funext k f; refine Eq.trans ?_ (v9_at m c k f); blk_ext! [iblk, e5]
  · funext k; refine Eq.trans ?_ (v10_at m c k); blk_ext! [iblk, e6]
  · funext h p s; refine Eq.trans ?_ (v1_at m c h p s); blk_ext! [iblk, e7]
  · funext p f; refine Eq.trans ?_ (v4_at m c p f); blk_ext! [iblk, e8]
  · funext f k; refine Eq.trans ?_ (v11_at m c f k); blk_ext! [iblk, e9]
  · refine Fin.ext ?_
    show r.val % 128 = ((win0_10.blk t).view.emb (ix3 0 r j) 1).val % 128
    blk_simp
    omega
  · refine Fin.ext ?_
    blk_simp [e10] <;> omega

end Cert.KernelSguIdeal.Hand

namespace Cert.ReferenceSguIdeal.Hand

open Cert.ReferenceSguIdeal Idealize.ShloMosaic Idealize.ShloMosaic.TcCoe Idealize.SL.Sem
open Cert Cert.ReferenceSguIdeal.Gen

/-- The gelu, at one entry of the array it is taken of. -/
theorem gelu_at (D : FVec Ideal S4x8192x4096 .f32) (i) :
    (mulf D (mulf (broadcastInDim S4x8192x4096 ![] bcast_S_S4x8192x4096 (constant S_ .f32 0x3F000000#32)) (addf (broadcastInDim S4x8192x4096 ![] bcast_S_S4x8192x4096 (constant S_ .f32 0x3F800000#32)) (Host.tanh (mulf (broadcastInDim S4x8192x4096 ![] bcast_S_S4x8192x4096 (constant S_ .f32 0x3F4C422A#32)) (addf D (mulf (broadcastInDim S4x8192x4096 ![] bcast_S_S4x8192x4096 (constant S_ .f32 0x3D372713#32)) (mulf (mulf D D) D)))))))) i = Rows.gelu (D i) := by
  pointwise [Rows.gelu]
  simp only [mul_assoc]

/-- The reference from the expanded rows `E` on, at one entry. -/
theorem mix_at (x : Vec Ideal S4x8192x1024 .f32) (gt : Vec Ideal S4x1024 .f32) (gv : Vec Ideal S2048 .f32) (w : Vec Ideal S8x128x128 .f32) (b : Vec Ideal S8x128 .f32) (wo : Vec Ideal S2048x1024 .f32)
    (E D : FVec Ideal S4x8192x4096 .f32) (hE : ∀ i, E i = Rows.gelu (D i)) (i : (S4x8192x1024).Idx) :
    (addf x (mulf (broadcastInDim S4x8192x1024 ![0, 1, 2] bcast_S4x1x1024_S4x8192x1024_0_1_2 (broadcastInDim S4x1x1024 ![0, 2] bcast_S4x1024_S4x1x1024_0_2 (addf (broadcastInDim S4x1024 ![] bcast_S_S4x1024 (constant S_ .f32 0x3F800000#32)) gt))) (Host.dotGeneral (φ₂ := .f32) dot_S4x8192x2048_S2048x1024_S4x8192x1024_2_0_01_1_n_n none (mulf (extractStridedSlice S4x8192x2048 ![0, 0, 0] E slices_S4x8192x4096_S4x8192x2048_0_0_0) (shapeCast _ (addf (transpose S4x64x128x8x256 [1, 2, 4, 0, 3] (Host.dotGeneral (φ₂ := .f32) dot_S4x64x128x8x256_S8x128x128_S8x4x64x256x128_2_2_014_1_3_0 none (shapeCast _ (mulf (mulf (extractStridedSlice S4x8192x2048 ![0, 0, 2048] E slices_S4x8192x4096_S4x8192x2048_0_0_2048) (broadcastInDim S4x8192x2048 ![0, 1, 2] bcast_S4x8192x1_S4x8192x2048_0_1_2 (Host.rsqrt (addf (Host.divf (broadcastInDim S4x8192x1 ![0, 1] bcast_S4x8192_S4x8192x1_0_1 (Host.reduceAdd (mulf (extractStridedSlice S4x8192x2048 ![0, 0, 2048] E slices_S4x8192x4096_S4x8192x2048_0_0_2048) (extractStridedSlice S4x8192x2048 ![0, 0, 2048] E slices_S4x8192x4096_S4x8192x2048_0_0_2048)) (constant S_ .f32 0x00000000#32) reducesTo_S4x8192x2048_S4x8192_d2 h_S_)) (broadcastInDim S4x8192x1 ![] bcast_S_S4x8192x1 (constant S_ .f32 0x45000000#32))) (broadcastInDim S4x8192x1 ![] bcast_S_S4x8192x1 (constant S_ .f32 0x358637BD#32)))))) (broadcastInDim S4x8192x2048 ![0, 1, 2] bcast_S1x1x2048_S4x8192x2048_0_1_2 (broadcastInDim S1x1x2048 ![2] bcast_S2048_S1x1x2048_2 gv))) shapeCasts_S4x8192x2048_S4x64x128x8x256) (select (broadcastInDim S8x128x128 ![1, 2] bcast_S128x128_S8x128x128_1_2 (cmpi .sge (addi (iotaInDim S128x128 32 0) (broadcastInDim S128x128 ![] bcast_S_S128x128 (constantI S_ 32 0#32))) (iotaInDim S128x128 32 1))) w (broadcastInDim S8x128x128 ![] bcast_S_S8x128x128 (constant S_ .f32 0x00000000#32)))) transposes_S8x4x64x256x128_S4x64x128x8x256_1_2_4_0_3) (broadcastInDim S4x64x128x8x256 ![0, 1, 2, 3, 4] bcast_S1x1x128x8x1_S4x64x128x8x256_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] b transposes_S8x128_S128x8_1_0))))) shapeCasts_S4x64x128x8x256_S4x8192x2048)) wo)) : FVec Ideal S4x8192x1024 .f32) i
      = x i + (1 + gt (ix2 (i 0) (i 2))) * ∑ f : Fin 2048, (Rows.gelu (D (ix3 (i 0) (i 1) ⟨f.val, by omega⟩)) *
          Rows.mixed (fun (s : Fin 128) => Rows.norm (Ideal.ofBits .f32 0x45000000#32) (fun e : Fin 2048 => Rows.gelu (D (ix3 (i 0) ⟨128 * ((i 1).val / 128) + s.val, by have h : (i 1).val < 8192 := (i 1).isLt; omega⟩ ⟨2048 + e.val, by omega⟩))) (fun k => gv (ix1 k)))
            (fun h t s => if s.val ≤ t.val then w (ix3 h t s) else 0) (fun t f => b (ix2 ⟨f.val / 256, by omega⟩ t)) ⟨(i 1).val % 128, by omega⟩ f) * wo (ix2 f (i 2)) := by
  simp only [Rows.mixed_comm, ← hE]
  pointwise [Rows.norm]
  simp only [mul_ite, mul_zero]
  blk_point
  refine Finset.sum_congr rfl fun s _ => (Rows.keep (by omega) (by omega) _).trans ?_
  blk_point

variable (m : (ℓ : Loc nD τ sig) → Buf (Elt Ideal) ℓ)

/-- The reference's result, row by row. -/
theorem result (c : Dev nD) : Value.res_out0 m c = fun i =>
  Rows.sgu (fun (s : Fin 128) k => m ((c : Thread nD τ).loc main_arg0) (ix3 (i 0) ⟨128 * ((i 1).val / 128) + s.val, by have h : (i 1).val < 8192 := (i 1).isLt; omega⟩ k))
      (fun k => m ((c : Thread nD τ).loc main_arg1) (ix1 k))
      (fun k => m ((c : Thread nD τ).loc main_arg3) (ix2 (i 0) k)) (fun k => m ((c : Thread nD τ).loc main_arg2) (ix2 (i 0) k))
      (fun k => m ((c : Thread nD τ).loc main_arg4) (ix2 (i 0) k)) (fun k f => m ((c : Thread nD τ).loc main_arg5) (ix2 k f))
      (fun k => m ((c : Thread nD τ).loc main_arg6) (ix1 k))
      (fun h t s => if s.val ≤ t.val then (m ((c : Thread nD τ).loc main_arg7) (ix3 h t s) : EReal) else (0 : EReal))
      (fun t f => m ((c : Thread nD τ).loc main_arg8) (ix2 ⟨f.val / 256, by omega⟩ t))
      (fun f k => m ((c : Thread nD τ).loc main_arg9) (ix2 f k)) ⟨(i 1).val % 128, by omega⟩ (i 2) := by
  unfold Value.res_out0 Value.res_main_v67
  clean_types
  funext i
  refine (mix_at _ _ _ _ _ _ _ _ (gelu_at _) i).trans ?_
  unfold Rows.sgu Rows.gatev Rows.expanded
  pointwise [Rows.modulated, Rows.norm]
  blk_point
  rfl

end Cert.ReferenceSguIdeal.Hand

namespace Cert.Proof.Sgu

open Idealize.ShloMosaic Idealize.ShloMosaic.TcCoe Idealize.SL.Sem

/-- The kernel computes the reference's function over the extended reals. -/
theorem algebraic : Cert.algebraic_KernelSguIdeal_ReferenceSguIdeal := by
  intro m ρ m' ρ' _ hag
  refine ⟨fun c => Cert.KernelSguIdeal.Hand.result m c,
    (θ_run _ _ _).mono (fun r h c => ⟨(h c).1.trans (Cert.KernelSguIdeal.Hand.final m c), (h c).2⟩) (Cert.KernelSguIdeal.Value.run_blocks m ρ), ?_⟩
  refine (θ_run _ _ _).mono (fun r h c => ⟨(h c).1.trans ?_, (h c).2⟩) (Cert.ReferenceSguIdeal.Value.run m' ρ')
  refine (Cert.ReferenceSguIdeal.Hand.result m' c).trans ?_
  obtain ⟨h0, h1, h2, h3, h4, h5, h6, h7, h8, h9⟩ := hag c
  unfold Cert.KernelSguIdeal.Hand.result
  rw [h0, h1, h2, h3, h4, h5, h6, h7, h8, h9]
  rfl

end Cert.Proof.Sgu

end
-- ==== Proof.LastSample.lean ====
module

public import proofs.«01_k».proof.Defs
public import proofs.«01_k».proof.Proof.Rows
public import proofs.«01_k».proof.Proof.Gen.KernelLastSampleIdeal.Value
public import proofs.«01_k».proof.Proof.Gen.ReferenceLastSampleIdeal.Run
public import Idealize.ShloMosaic.Lib.Pipeline.ValueKit
public import Idealize.ShloMosaic.Lib.Tactic.CleanTypes
public import Idealize.ShloMosaic.Lib.Quiescent

/-! The last layer's MLP with the final normalisation, at the sample's shapes. -/

@[expose] public section

set_option maxRecDepth 16384

noncomputable section

namespace Cert.KernelLastSampleIdeal.Hand

open Cert.KernelLastSampleIdeal Cert.KernelLastSampleIdeal.Gen Idealize.ShloMosaic Idealize.ShloMosaic.TcCoe Idealize.SL.Sem
open Idealize.ShloMosaic.Pipeline (Dat)
open Cert

/-- What a grid point leaves in its block of 8 sequences of 64 rows, read at row `r` of sequence `a`. -/
theorem out_at (x : Vec Ideal S8x64x1024 .f32) (g : Vec Ideal S1x1024 .f32) (sh : Vec Ideal S8x1x1024 .f32) (sc : Vec Ideal S8x1x1024 .f32) (gt : Vec Ideal S8x1x1024 .f32) (u : Vec Ideal S1024x4096 .bf16) (d : Vec Ideal S4096x1024 .bf16) (gf : Vec Ideal S1x1024 .f32)
    (a : Fin 8) (r : Fin 64) (j : Fin 1024) :
    out0_8 x g sh sc gt u d gf (ix3 a r j) = Rows.norm (Ideal.ofBits .f32 0x44800000#32)
      (Rows.residual (fun k => x (ix3 a r k)) (fun k => g (ix2 0 k))
        (fun k => sc (ix3 a 0 k)) (fun k => sh (ix3 a 0 k))
        (fun k => gt (ix3 a 0 k)) (fun k f => u (ix2 k f))
        (fun f k => d (ix2 f k)))
      (fun k => gf (ix2 0 k)) j := by
  frame_out
  unfold_payloads
  pointwise [Rows.norm, Rows.residual, Rows.sum_halves, Rows.hidden, Rows.modulated, Rows.projected]

variable (m : (ℓ : Loc nD τ sig) → Buf (Elt Ideal) ℓ)

/-- Where each window's block stands, as the result's block moves. -/
theorem idx : ∀ t : Fin cfg0.N, win0_0.index t = win0_8.index t ∧ win0_1.index t = ![0, 0] ∧ win0_2.index t = ![win0_8.index t 0, 0, 0] ∧ win0_3.index t = ![win0_8.index t 0, 0, 0] ∧ win0_4.index t = ![win0_8.index t 0, 0, 0] ∧ win0_5.index t = ![0, 0] ∧ win0_6.index t = ![0, 0] ∧ win0_7.index t = ![0, 0] ∧ win0_8.index t 2 = 0 := by
  decide +kernel

/-- The result array after the run, row by row. -/
def result (c : Dev nD) : Vec Ideal S16x64x1024 .f32 := fun i =>
  Rows.norm (Ideal.ofBits .f32 0x44800000#32)
      (Rows.residual (fun k => m ((c : Thread nD τ).loc main_arg0) (ix3 (i 0) (i 1) k)) (fun k => m ((c : Thread nD τ).loc main_arg1) (ix1 k))
        (fun k => m ((c : Thread nD τ).loc main_arg3) (ix2 (i 0) k)) (fun k => m ((c : Thread nD τ).loc main_arg2) (ix2 (i 0) k))
        (fun k => m ((c : Thread nD τ).loc main_arg4) (ix2 (i 0) k)) (fun k f => m ((c : Thread nD τ).loc main_arg5) (ix2 k f))
        (fun f k => m ((c : Thread nD τ).loc main_arg6) (ix2 f k)))
      (fun k => m ((c : Thread nD τ).loc main_arg7) (ix1 k)) (i 2)

set_option maxHeartbeats 4000000 in
theorem final (c : Dev nD) : (dats m 0 c).arrAt 8 cfg0.N = result m c := by
  refine (dats m 0 c).arrAt_eq_of_covers 8 _ (by decide +kernel) fun t hf y => ?_
  blk_simp
  rw [after0_8]
  obtain ⟨a, r, j, rfl⟩ : ∃ (a : Fin 8) (b : Fin 64) (k : Fin 1024), y = ix3 a b k := ⟨y 0, y 1, y 2, eq_ix3 y⟩
  rw [out_at]
  unfold result
  obtain ⟨e0, e1, e2, e3, e4, e5, e6, e7, e8⟩ := idx t
  congr 1
  · congr 1
    · funext k; blk_ext! [iblk, V, e0, e8]
    · funext k; blk_ext! [iblk, V, e1]
    · funext k; blk_ext! [iblk, V, e3]
    · funext k; blk_ext! [iblk, V, e2]
    · funext k; blk_ext! [iblk, V, e4]
    · funext k f; blk_ext! [iblk, V, e5]
    · funext f k; blk_ext! [iblk, V, e6]
  · funext k; blk_ext! [iblk, V, e7]
  · refine Fin.ext ?_
    blk_simp [e8] <;> omega

end Cert.KernelLastSampleIdeal.Hand

namespace Cert.ReferenceLastSampleIdeal.Hand

open Cert.ReferenceLastSampleIdeal Idealize.ShloMosaic Idealize.ShloMosaic.TcCoe Idealize.SL.Sem
open Cert

variable (m : (ℓ : Loc nD τ sig) → Buf (Elt Ideal) ℓ)

/-- The reference's result, row by row. -/
theorem result (c : Dev nD) : Value.res_out0 m c = fun i =>
  Rows.norm (Ideal.ofBits .f32 0x44800000#32)
      (Rows.residual (fun k => m ((c : Thread nD τ).loc main_arg0) (ix3 (i 0) (i 1) k)) (fun k => m ((c : Thread nD τ).loc main_arg1) (ix1 k))
        (fun k => m ((c : Thread nD τ).loc main_arg3) (ix2 (i 0) k)) (fun k => m ((c : Thread nD τ).loc main_arg2) (ix2 (i 0) k))
        (fun k => m ((c : Thread nD τ).loc main_arg4) (ix2 (i 0) k)) (fun k f => m ((c : Thread nD τ).loc main_arg5) (ix2 k f))
        (fun f k => m ((c : Thread nD τ).loc main_arg6) (ix2 f k)))
      (fun k => m ((c : Thread nD τ).loc main_arg7) (ix1 k)) (i 2) := by
  unfold Value.res_out0 Value.res_main_v43
  clean_types
  funext i
  pointwise [Rows.norm, Rows.residual, Rows.hidden, Rows.modulated, Rows.projected, Rows.glu, Rows.gelu]

end Cert.ReferenceLastSampleIdeal.Hand

namespace Cert.Proof.LastSample

open Idealize.ShloMosaic Idealize.ShloMosaic.TcCoe Idealize.SL.Sem

/-- The kernel computes the reference's function over the extended reals. -/
theorem algebraic : Cert.algebraic_KernelLastSampleIdeal_ReferenceLastSampleIdeal := by
  intro m ρ m' ρ' _ hag
  refine ⟨fun c => Cert.KernelLastSampleIdeal.Hand.result m c,
    (θ_run _ _ _).mono (fun r h c => ⟨(h c).1.trans (Cert.KernelLastSampleIdeal.Hand.final m c), (h c).2⟩) (Cert.KernelLastSampleIdeal.Value.run_blocks m ρ), ?_⟩
  refine (θ_run _ _ _).mono (fun r h c => ⟨(h c).1.trans ?_, (h c).2⟩) (Cert.ReferenceLastSampleIdeal.Value.run m' ρ')
  refine (Cert.ReferenceLastSampleIdeal.Hand.result m' c).trans ?_
  obtain ⟨h0, h1, h2, h3, h4, h5, h6, h7⟩ := hag c
  unfold Cert.KernelLastSampleIdeal.Hand.result
  rw [h0, h1, h2, h3, h4, h5, h6, h7]
  rfl

end Cert.Proof.LastSample

end
-- ==== Proof.SguSample.lean ====
module

public import proofs.«01_k».proof.Defs
public import proofs.«01_k».proof.Proof.SguRows
public import proofs.«01_k».proof.Proof.Gen.KernelSguSampleIdeal.Frame
public import proofs.«01_k».proof.Proof.Gen.ReferenceSguSampleIdeal.Run
public import Idealize.ShloMosaic.Lib.Pipeline.ValueKit
public import Idealize.ShloMosaic.Lib.Tactic.CleanTypes
public import Idealize.ShloMosaic.Lib.StableHlo.ReadAt
public import Idealize.ShloMosaic.Lib.Quiescent

/-! The spatial gating unit at the sample's shapes. -/

@[expose] public section

set_option maxRecDepth 16384

noncomputable section

namespace Cert.KernelSguSampleIdeal.Hand

open Cert.KernelSguSampleIdeal Cert.KernelSguSampleIdeal.Gen Idealize.ShloMosaic Idealize.ShloMosaic.TcCoe Idealize.SL.Sem
open Idealize.ShloMosaic.Pipeline (Dat)
open Cert

section Block

variable (x : Vec Ideal S8x64x1024 .f32) (g : Vec Ideal S1x1024 .f32) (sh : Vec Ideal S8x1x1024 .f32) (sc : Vec Ideal S8x1x1024 .f32) (gt : Vec Ideal S8x1x1024 .f32) (wi : Vec Ideal S1024x4096 .bf16) (gv : Vec Ideal S1x2048 .f32) (W : Vec Ideal S8x64x64 .bf16) (b : Vec Ideal S64x2048 .f32) (wo : Vec Ideal S2048x1024 .bf16)
variable (U : FVec Ideal S512x2048 .f32) (V : FVec Ideal S512x2048 .bf16) (B : FVec Ideal S64x2048 .f32)

/-- The first half of the expanded rows. -/
theorem u_at (a : Fin 8) (r : Fin 64) (f : Fin 2048) :
    k0_pay57 x g sh sc gt wi gv W b wo (ix2 ⟨64 * a.val + r.val, by omega⟩ f) = Rows.expanded (fun k => x (ix3 a r k)) (fun k => g (ix2 0 k))
      (fun k => sc (ix3 a 0 k)) (fun k => sh (ix3 a 0 k)) (fun k e => wi (ix2 k e)) ⟨f.val, by omega⟩ := by
  pointwise [k0_pay57, k0_pay6, k0_pay5, k0_pay4, k0_pay3, Rows.expanded, Rows.gelu, Rows.modulated, Rows.norm]

/-- The second half, normalised. -/
theorem v_at (a : Fin 8) (r : Fin 64) (f : Fin 2048) :
    k0_pay58 x g sh sc gt wi gv W b wo (ix2 ⟨64 * a.val + r.val, by omega⟩ f) = Rows.gatev (fun k => x (ix3 a r k)) (fun k => g (ix2 0 k))
      (fun k => sc (ix3 a 0 k)) (fun k => sh (ix3 a 0 k)) (fun k e => wi (ix2 k e)) (fun k => gv (ix2 0 k)) f := by
  pointwise [k0_pay58, k0_pay9, k0_pay7, k0_pay56, k0_pay3, Rows.gatev, Rows.expanded, Rows.gelu, Rows.modulated, Rows.norm]

/-- The bias. -/
theorem b_at (t : Fin 64) (f : Fin 2048) : k0_pay59 x g sh sc gt wi gv W b wo (ix2 t f) = b (ix2 t f) := by
  pointwise [k0_pay59, k0_pay10]

/-- A gate value stated by the rows of the block's arrays. -/
theorem gate_at (a : Fin 8) (t : Fin 64) (f : Fin 2048) (C : EReal)
    (h : C = k0_pay57 x g sh sc gt wi gv W b wo (ix2 ⟨64 * a.val + t.val, by omega⟩ f) *
      Rows.mixed (fun s f => k0_pay58 x g sh sc gt wi gv W b wo (ix2 ⟨64 * a.val + s.val, by omega⟩ f)) (fun h t s => W (ix3 h t s))
        (fun t f => k0_pay59 x g sh sc gt wi gv W b wo (ix2 t f)) t f) :
    C = Rows.expanded (fun k => x (ix3 a t k)) (fun k => g (ix2 0 k)) (fun k => sc (ix3 a 0 k)) (fun k => sh (ix3 a 0 k)) (fun k e => wi (ix2 k e)) ⟨f.val, by omega⟩ *
      Rows.mixed (fun s => Rows.gatev (fun k => x (ix3 a s k)) (fun k => g (ix2 0 k)) (fun k => sc (ix3 a 0 k)) (fun k => sh (ix3 a 0 k)) (fun k e => wi (ix2 k e)) (fun k => gv (ix2 0 k)))
        (fun h t s => W (ix3 h t s)) (fun t f => b (ix2 t f)) t f := by
  simp only [u_at, v_at, b_at] at h
  exact h

/-- The gate at the rows of sequence 0 of the block. -/
theorem chunk0 (t : Fin 64) (f : Fin 2048) :
    (k0_pay18 U V B (k0_pay11 V (View.ld W r0_8)) (k0_pay12 V (View.ld W r0_9)) (k0_pay13 V (View.ld W r0_10)) (k0_pay14 V (View.ld W r0_11)) (k0_pay15 V (View.ld W r0_12)) (k0_pay16 V (View.ld W r0_13)) (k0_pay17 V (View.ld W r0_14)) (View.ld W r0_15)) (ix2 t f)
      = U (ix2 ⟨0 + t.val, by omega⟩ f) * Rows.mixed (fun s f => V (ix2 ⟨0 + s.val, by omega⟩ f)) (fun h t s => W (ix3 h t s))
          (fun t f => B (ix2 t f)) t f := by
  pointwise [k0_pay11, k0_pay12, k0_pay13, k0_pay14, k0_pay15, k0_pay16, k0_pay17, k0_pay18, Rows.mixed]
  split_ifs <;> blk_point

/-- The gate at the rows of sequence 1 of the block. -/
theorem chunk1 (t : Fin 64) (f : Fin 2048) :
    (k0_pay25 U V B (k0_pay19 V (View.ld W r0_8)) (k0_pay20 V (View.ld W r0_9)) (k0_pay21 V (View.ld W r0_10)) (k0_pay22 V (View.ld W r0_11)) (k0_pay23 V (View.ld W r0_12)) (k0_pay24 V (View.ld W r0_13)) (View.ld W r0_14) (View.ld W r0_15)) (ix2 t f)
      = U (ix2 ⟨64 + t.val, by omega⟩ f) * Rows.mixed (fun s f => V (ix2 ⟨64 + s.val, by omega⟩ f)) (fun h t s => W (ix3 h t s))
          (fun t f => B (ix2 t f)) t f := by
  pointwise [k0_pay19, k0_pay20, k0_pay21, k0_pay22, k0_pay23, k0_pay24, k0_pay25, Rows.mixed]
  split_ifs <;> blk_point

/-- The gate at the rows of sequence 2 of the block. -/
theorem chunk2 (t : Fin 64) (f : Fin 2048) :
    (k0_pay31 U V B (k0_pay26 V (View.ld W r0_8)) (k0_pay27 V (View.ld W r0_9)) (k0_pay28 V (View.ld W r0_10)) (k0_pay29 V (View.ld W r0_11)) (k0_pay30 V (View.ld W r0_12)) (View.ld W r0_13) (View.ld W r0_14) (View.ld W r0_15)) (ix2 t f)
      = U (ix2 ⟨128 + t.val, by omega⟩ f) * Rows.mixed (fun s f => V (ix2 ⟨128 + s.val, by omega⟩ f)) (fun h t s => W (ix3 h t s))
          (fun t f => B (ix2 t f)) t f := by
  pointwise [k0_pay26, k0_pay27, k0_pay28, k0_pay29, k0_pay30, k0_pay31, Rows.mixed]
  split_ifs <;> blk_point

/-- The gate at the rows of sequence 3 of the block. -/
theorem chunk3 (t : Fin 64) (f : Fin 2048) :
    (k0_pay36 U V B (k0_pay32 V (View.ld W r0_8)) (k0_pay33 V (View.ld W r0_9)) (k0_pay34 V (View.ld W r0_10)) (k0_pay35 V (View.ld W r0_11)) (View.ld W r0_12) (View.ld W r0_13) (View.ld W r0_14) (View.ld W r0_15)) (ix2 t f)
      = U (ix2 ⟨192 + t.val, by omega⟩ f) * Rows.mixed (fun s f => V (ix2 ⟨192 + s.val, by omega⟩ f)) (fun h t s => W (ix3 h t s))
          (fun t f => B (ix2 t f)) t f := by
  pointwise [k0_pay32, k0_pay33, k0_pay34, k0_pay35, k0_pay36, Rows.mixed]
  split_ifs <;> blk_point

/-- The gate at the rows of sequence 4 of the block. -/
theorem chunk4 (t : Fin 64) (f : Fin 2048) :
    (k0_pay41 U V B (k0_pay37 V (View.ld W r0_8)) (k0_pay38 V (View.ld W r0_9)) (k0_pay39 (View.ld W r0_10)) (k0_pay40 V) (constant S64x256 .f32 0x00000000#32) (View.ld W r0_11) (View.ld W r0_12) (View.ld W r0_13) (View.ld W r0_14) (View.ld W r0_15)) (ix2 t f)
      = U (ix2 ⟨256 + t.val, by omega⟩ f) * Rows.mixed (fun s f => V (ix2 ⟨256 + s.val, by omega⟩ f)) (fun h t s => W (ix3 h t s))
          (fun t f => B (ix2 t f)) t f := by
  pointwise [k0_pay37, k0_pay38, k0_pay39, k0_pay40, k0_pay41, Rows.mixed]
  split_ifs <;> blk_point

/-- The gate at the rows of sequence 5 of the block. -/
theorem chunk5 (t : Fin 64) (f : Fin 2048) :
    (k0_pay45 U V B (k0_pay42 V (View.ld W r0_8)) (k0_pay43 (View.ld W r0_9)) (k0_pay44 V) (View.ld W r0_10) (View.ld W r0_11) (View.ld W r0_12) (View.ld W r0_13) (View.ld W r0_14) (View.ld W r0_15)) (ix2 t f)
      = U (ix2 ⟨320 + t.val, by omega⟩ f) * Rows.mixed (fun s f => V (ix2 ⟨320 + s.val, by omega⟩ f)) (fun h t s => W (ix3 h t s))
          (fun t f => B (ix2 t f)) t f := by
  pointwise [k0_pay42, k0_pay43, k0_pay44, k0_pay45, Rows.mixed]
  split_ifs <;> blk_point

/-- The gate at the rows of sequence 6 of the block. -/
theorem chunk6 (t : Fin 64) (f : Fin 2048) :
    (k0_pay48 U B (k0_pay47 V (k0_pay46 (View.ld W r0_8)) (View.ld W r0_9) (View.ld W r0_10) (View.ld W r0_11) (View.ld W r0_12) (View.ld W r0_13) (View.ld W r0_14) (View.ld W r0_15))) (ix2 t f)
      = U (ix2 ⟨384 + t.val, by omega⟩ f) * Rows.mixed (fun s f => V (ix2 ⟨384 + s.val, by omega⟩ f)) (fun h t s => W (ix3 h t s))
          (fun t f => B (ix2 t f)) t f := by
  pointwise [k0_pay46, k0_pay47, k0_pay48, Rows.mixed]
  split_ifs <;> blk_point

/-- The gate at the rows of sequence 7 of the block. -/
theorem chunk7 (t : Fin 64) (f : Fin 2048) :
    (k0_pay1 V B (k0_pay49 V (View.ld W r0_8)) (k0_pay50 V (View.ld W r0_9)) (k0_pay51 V (View.ld W r0_10)) (k0_pay52 V (View.ld W r0_11)) (k0_pay53 V (View.ld W r0_12)) (k0_pay54 V (View.ld W r0_13)) (k0_pay55 V (View.ld W r0_14)) (View.ld W r0_15)) (ix2 t f)
      = Rows.mixed (fun s f => V (ix2 ⟨448 + s.val, by omega⟩ f)) (fun h t s => W (ix3 h t s))
          (fun t f => B (ix2 t f)) t f := by
  pointwise [k0_pay1, k0_pay49, k0_pay50, k0_pay51, k0_pay52, k0_pay53, k0_pay54, k0_pay55, Rows.mixed]
  split_ifs <;> blk_point

set_option maxHeartbeats 4000000 in
/-- The last product over the block, from the eight sequences' gate values. -/
theorem pay_at (C0 C1 C2 C3 C4 C5 C6 : FVec Ideal S64x2048 .bf16) (C7 : FVec Ideal S64x2048 .f32) (w : Vec Ideal S2048x1024 .bf16)
    (G : Fin 8 → Fin 64 → Fin 2048 → EReal)
    (h0 : ∀ t f, C0 (ix2 t f) = G 0 t f)
    (h1 : ∀ t f, C1 (ix2 t f) = G 1 t f)
    (h2 : ∀ t f, C2 (ix2 t f) = G 2 t f)
    (h3 : ∀ t f, C3 (ix2 t f) = G 3 t f)
    (h4 : ∀ t f, C4 (ix2 t f) = G 4 t f)
    (h5 : ∀ t f, C5 (ix2 t f) = G 5 t f)
    (h6 : ∀ t f, C6 (ix2 t f) = G 6 t f)
    (h7 : ∀ (t : Fin 64) f, U (ix2 ⟨64*7 + t.val, by omega⟩ f) * C7 (ix2 t f) = G 7 t f) (a : Fin 8) (r : Fin 64) (j : Fin 1024) :
    k0_pay2 U C0 C1 C2 C3 C4 C5 C6 C7 w x gt (ix3 a r j) = x (ix3 a r j) + (1 + gt (ix3 a 0 j)) * ∑ f : Fin 2048, G a r f * w (ix2 f j) := by
  pointwise [k0_pay2]
  refine congrArg (x (ix3 a r j) + (1 + gt (ix3 a 0 j)) * ·) (Finset.sum_congr rfl fun f _ => congrArg (· * w (ix2 f j)) ?_)
  simp only [h0, h1, h2, h3, h4, h5, h6]
  have k7 : ∀ (t : Fin 64) (e : Fin 512) (he : e.val = 448 + t.val), U (ix2 e f) * C7 (ix2 t f) = G 7 t f := by
    intro t e he
    have he' : e = ⟨64*7 + t.val, by omega⟩ := Fin.ext he
    rw [he']
    exact h7 t f
  have hr := r.isLt
  have hal := a.isLt
  split_ifs <;> first
    | (have hv : a.val = 0 := by omega
       refine congrArg₂ (fun a t => G a t f) (Fin.ext hv.symm : (0 : Fin 8) = a) (Fin.ext ?_)
       dsimp only
       omega)
    | (have hv : a.val = 1 := by omega
       refine congrArg₂ (fun a t => G a t f) (Fin.ext hv.symm : (1 : Fin 8) = a) (Fin.ext ?_)
       dsimp only
       omega)
    | (have hv : a.val = 2 := by omega
       refine congrArg₂ (fun a t => G a t f) (Fin.ext hv.symm : (2 : Fin 8) = a) (Fin.ext ?_)
       dsimp only
       omega)
    | (have hv : a.val = 3 := by omega
       refine congrArg₂ (fun a t => G a t f) (Fin.ext hv.symm : (3 : Fin 8) = a) (Fin.ext ?_)
       dsimp only
       omega)
    | (have hv : a.val = 4 := by omega
       refine congrArg₂ (fun a t => G a t f) (Fin.ext hv.symm : (4 : Fin 8) = a) (Fin.ext ?_)
       dsimp only
       omega)
    | (have hv : a.val = 5 := by omega
       refine congrArg₂ (fun a t => G a t f) (Fin.ext hv.symm : (5 : Fin 8) = a) (Fin.ext ?_)
       dsimp only
       omega)
    | (have hv : a.val = 6 := by omega
       refine congrArg₂ (fun a t => G a t f) (Fin.ext hv.symm : (6 : Fin 8) = a) (Fin.ext ?_)
       dsimp only
       omega)
    | (have hv : a.val = 7 := by omega
       refine (k7 _ _ ?_).trans (congrArg₂ (fun a t => G a t f) (Fin.ext hv.symm : (7 : Fin 8) = a) (Fin.ext ?_)) <;> dsimp only <;> omega)
    | (exfalso; omega)
    | contradiction

/-- What a grid point leaves in its block of 8 sequences of 64 rows, read at row `r` of sequence `a`. -/
theorem out_at (a : Fin 8) (r : Fin 64) (j : Fin 1024) :
    out0_10 x g sh sc gt wi gv W b wo (ix3 a r j) = Rows.sgu
      (fun (s : Fin 64) k => x (ix3 a s k)) (fun k => g (ix2 0 k))
      (fun k => sc (ix3 a 0 k)) (fun k => sh (ix3 a 0 k)) (fun k => gt (ix3 a 0 k)) (fun k e => wi (ix2 k e))
      (fun k => gv (ix2 0 k)) (fun h t s => W (ix3 h t s)) (fun t f => b (ix2 t f)) (fun f k => wo (ix2 f k)) r j := by
  frame_out
  refine (pay_at _ _ _ _ _ _ _ _ _ _ _ _ (fun a t f => Rows.expanded (fun k => x (ix3 a t k)) (fun k => g (ix2 0 k)) (fun k => sc (ix3 a 0 k)) (fun k => sh (ix3 a 0 k)) (fun k e => wi (ix2 k e)) ⟨f.val, by omega⟩ *
      Rows.mixed (fun s => Rows.gatev (fun k => x (ix3 a s k)) (fun k => g (ix2 0 k)) (fun k => sc (ix3 a 0 k)) (fun k => sh (ix3 a 0 k)) (fun k e => wi (ix2 k e)) (fun k => gv (ix2 0 k)))
        (fun h t s => W (ix3 h t s)) (fun t f => b (ix2 t f)) t f)
    (fun t f => gate_at x g sh sc gt wi gv W b wo 0 t f _ (chunk0 W _ _ _ t f))
    (fun t f => gate_at x g sh sc gt wi gv W b wo 1 t f _ (chunk1 W _ _ _ t f))
    (fun t f => gate_at x g sh sc gt wi gv W b wo 2 t f _ (chunk2 W _ _ _ t f))
    (fun t f => gate_at x g sh sc gt wi gv W b wo 3 t f _ (chunk3 W _ _ _ t f))
    (fun t f => gate_at x g sh sc gt wi gv W b wo 4 t f _ (chunk4 W _ _ _ t f))
    (fun t f => gate_at x g sh sc gt wi gv W b wo 5 t f _ (chunk5 W _ _ _ t f))
    (fun t f => gate_at x g sh sc gt wi gv W b wo 6 t f _ (chunk6 W _ _ _ t f))
    (fun t f => gate_at x g sh sc gt wi gv W b wo 7 t f _ (congrArg (_ * ·) (chunk7 W _ _ t f))) a r j).trans ?_
  unfold Rows.sgu
  blk_point

/-- What a grid point leaves in its block of the gate values. -/
theorem v_out_at (a : Fin 8) (r : Fin 64) (f : Fin 2048) :
    out0_11 x g sh sc gt wi gv W b wo (ix3 a r f) = Rows.gatev (fun k => x (ix3 a r k)) (fun k => g (ix2 0 k))
      (fun k => sc (ix3 a 0 k)) (fun k => sh (ix3 a 0 k)) (fun k e => wi (ix2 k e)) (fun k => gv (ix2 0 k)) f := by
  frame_out
  pointwise [k0_pay8, k0_pay7, k0_pay56, k0_pay3, Rows.gatev, Rows.expanded, Rows.gelu, Rows.modulated, Rows.norm]

end Block

variable (m : (ℓ : Loc nD τ sig) → Buf (Elt Ideal) ℓ)

/-! What the region finds in the arrays that the host prepares, entry by entry. -/

theorem v7_at (c : Dev nD) (k : Fin 1024) : V m c main_v7 (ix2 0 k) = m ((c : Thread nD τ).loc main_arg1) (ix1 k) := by
  unfold V; simp only [List.flatten_cons, List.flatten_nil, List.append_nil, List.cons_append, List.nil_append]; after_reads_at

theorem v8_at (c : Dev nD) (a : Fin 16) (k : Fin 1024) : V m c main_v8 (ix3 a 0 k) = m ((c : Thread nD τ).loc main_arg2) (ix2 a k) := by
  unfold V; simp only [List.flatten_cons, List.flatten_nil, List.append_nil, List.cons_append, List.nil_append]; after_reads_at

theorem v9_at (c : Dev nD) (a : Fin 16) (k : Fin 1024) : V m c main_v9 (ix3 a 0 k) = m ((c : Thread nD τ).loc main_arg3) (ix2 a k) := by
  unfold V; simp only [List.flatten_cons, List.flatten_nil, List.append_nil, List.cons_append, List.nil_append]; after_reads_at

theorem v10_at (c : Dev nD) (a : Fin 16) (k : Fin 1024) : V m c main_v10 (ix3 a 0 k) = m ((c : Thread nD τ).loc main_arg4) (ix2 a k) := by
  unfold V; simp only [List.flatten_cons, List.flatten_nil, List.append_nil, List.cons_append, List.nil_append]; after_reads_at

theorem v11_at (c : Dev nD) (k : Fin 1024) (f : Fin 4096) : V m c main_v11 (ix2 k f) = m ((c : Thread nD τ).loc main_arg5) (ix2 k f) := by
  unfold V; simp only [List.flatten_cons, List.flatten_nil, List.append_nil, List.cons_append, List.nil_append]; after_reads_at

theorem v12_at (c : Dev nD) (k : Fin 2048) : V m c main_v12 (ix2 0 k) = m ((c : Thread nD τ).loc main_arg6) (ix1 k) := by
  unfold V; simp only [List.flatten_cons, List.flatten_nil, List.append_nil, List.cons_append, List.nil_append]; after_reads_at

theorem v2_at (c : Dev nD) (h : Fin 8) (t s : Fin 64) : V m c main_v2 (ix3 h t s) = if s.val ≤ t.val then (m ((c : Thread nD τ).loc main_arg7) (ix3 h ⟨t.val, by omega⟩ ⟨s.val, by omega⟩) : EReal) else (0 : EReal) := by
  refine Eq.trans ?_ (Rows.keep (by omega) (by omega) _)
  unfold V; simp only [List.flatten_cons, List.flatten_nil, List.append_nil, List.cons_append, List.nil_append]; after_reads_at

theorem v6_at (c : Dev nD) (t : Fin 64) (f : Fin 2048) : V m c main_v6 (ix2 t f) = m ((c : Thread nD τ).loc main_arg8) (ix2 ⟨f.val / 256, by omega⟩ ⟨t.val, by omega⟩) := by
  unfold V; simp only [List.flatten_cons, List.flatten_nil, List.append_nil, List.cons_append, List.nil_append]; after_reads_at

theorem v13_at (c : Dev nD) (f : Fin 2048) (k : Fin 1024) : V m c main_v13 (ix2 f k) = m ((c : Thread nD τ).loc main_arg9) (ix2 f k) := by
  unfold V; simp only [List.flatten_cons, List.flatten_nil, List.append_nil, List.cons_append, List.nil_append]; after_reads_at

/-- Where each window's block stands, as the result's block moves. -/
theorem idx : ∀ t : Fin cfg0.N, win0_0.index t = win0_10.index t ∧ win0_1.index t = ![0, 0] ∧ win0_2.index t = ![win0_10.index t 0, 0, 0] ∧ win0_3.index t = ![win0_10.index t 0, 0, 0] ∧ win0_4.index t = ![win0_10.index t 0, 0, 0] ∧ win0_5.index t = ![0, 0] ∧ win0_6.index t = ![0, 0] ∧ win0_7.index t = ![0, 0, 0] ∧ win0_8.index t = ![0, 0] ∧ win0_9.index t = ![0, 0] ∧ win0_10.index t 1 = 0 ∧ win0_10.index t 2 = 0 ∧ win0_11.index t = win0_10.index t := by
  decide +kernel

/-- The result array after the run, row by row. -/
def result (c : Dev nD) : Vec Ideal S16x64x1024 .f32 := fun i =>
  Rows.sgu (fun (s : Fin 64) k => m ((c : Thread nD τ).loc main_arg0) (ix3 (i 0) s k))
      (fun k => m ((c : Thread nD τ).loc main_arg1) (ix1 k))
      (fun k => m ((c : Thread nD τ).loc main_arg3) (ix2 (i 0) k)) (fun k => m ((c : Thread nD τ).loc main_arg2) (ix2 (i 0) k))
      (fun k => m ((c : Thread nD τ).loc main_arg4) (ix2 (i 0) k)) (fun k f => m ((c : Thread nD τ).loc main_arg5) (ix2 k f))
      (fun k => m ((c : Thread nD τ).loc main_arg6) (ix1 k))
      (fun h t s => if s.val ≤ t.val then (m ((c : Thread nD τ).loc main_arg7) (ix3 h ⟨t.val, by omega⟩ ⟨s.val, by omega⟩) : EReal) else (0 : EReal))
      (fun t f => m ((c : Thread nD τ).loc main_arg8) (ix2 ⟨f.val / 256, by omega⟩ ⟨t.val, by omega⟩))
      (fun f k => m ((c : Thread nD τ).loc main_arg9) (ix2 f k)) (i 1) (i 2)

/-- The array of gate values after the run, row by row. -/
def gates (c : Dev nD) : Vec Ideal S16x64x2048 .f32 := fun i =>
  Rows.gatev (fun k => m ((c : Thread nD τ).loc main_arg0) (ix3 (i 0) (i 1) k))
      (fun k => m ((c : Thread nD τ).loc main_arg1) (ix1 k))
      (fun k => m ((c : Thread nD τ).loc main_arg3) (ix2 (i 0) k)) (fun k => m ((c : Thread nD τ).loc main_arg2) (ix2 (i 0) k))
      (fun k f => m ((c : Thread nD τ).loc main_arg5) (ix2 k f)) (fun k => m ((c : Thread nD τ).loc main_arg6) (ix1 k)) (i 2)

set_option maxHeartbeats 4000000 in
theorem final (c : Dev nD) : (dats m 0 c).arrAt 10 cfg0.N = result m c := by
  refine (dats m 0 c).arrAt_eq_of_covers 10 _ (by decide +kernel) fun t hf y => ?_
  blk_simp
  rw [after0_10]
  obtain ⟨a, r, j, rfl⟩ : ∃ (a : Fin 8) (b : Fin 64) (k : Fin 1024), y = ix3 a b k := ⟨y 0, y 1, y 2, eq_ix3 y⟩
  rw [out_at]
  unfold result
  obtain ⟨e0, e1, e2, e3, e4, e5, e6, e7, e8, e9, eb, ec, eo⟩ := idx t
  congr 1
  · funext s k; blk_ext! [iblk, V_main_arg0, e0, eb, ec]
  · funext k; refine Eq.trans ?_ (v7_at m c k); blk_ext! [iblk, e1]
  · funext k; refine Eq.trans ?_ (v9_at m c _ k); blk_ext! [iblk, e3]
  · funext k; refine Eq.trans ?_ (v8_at m c _ k); blk_ext! [iblk, e2]
  · funext k; refine Eq.trans ?_ (v10_at m c _ k); blk_ext! [iblk, e4]
  · funext k f; refine Eq.trans ?_ (v11_at m c k f); blk_ext! [iblk, e5]
  · funext k; refine Eq.trans ?_ (v12_at m c k); blk_ext! [iblk, e6]
  · funext h p s; refine Eq.trans ?_ (v2_at m c h p s); blk_ext! [iblk, e7]
  · funext p f; refine Eq.trans ?_ (v6_at m c p f); blk_ext! [iblk, e8]
  · funext f k; refine Eq.trans ?_ (v13_at m c f k); blk_ext! [iblk, e9]
  · refine Fin.ext ?_
    blk_simp [eb] <;> omega
  · refine Fin.ext ?_
    blk_simp [ec] <;> omega

set_option maxHeartbeats 4000000 in
theorem final_gates (c : Dev nD) : (dats m 0 c).arrAt 11 cfg0.N = gates m c := by
  refine (dats m 0 c).arrAt_eq_of_covers 11 _ (by decide +kernel) fun t hf y => ?_
  blk_simp
  rw [after0_11]
  obtain ⟨a, r, j, rfl⟩ : ∃ (a : Fin 8) (b : Fin 64) (k : Fin 2048), y = ix3 a b k := ⟨y 0, y 1, y 2, eq_ix3 y⟩
  rw [v_out_at]
  unfold gates
  obtain ⟨e0, e1, e2, e3, e4, e5, e6, e7, e8, e9, eb, ec, eo⟩ := idx t
  congr 1
  · funext k; blk_ext! [iblk, V_main_arg0, e0, eb, ec, eo]
  · funext k; refine Eq.trans ?_ (v7_at m c k); blk_ext! [iblk, e1]
  · funext k; refine Eq.trans ?_ (v9_at m c _ k); blk_ext! [iblk, e3, eo]
  · funext k; refine Eq.trans ?_ (v8_at m c _ k); blk_ext! [iblk, e2, eo]
  · funext k f; refine Eq.trans ?_ (v11_at m c k f); blk_ext! [iblk, e5]
  · funext k; refine Eq.trans ?_ (v12_at m c k); blk_ext! [iblk, e6]
  · refine Fin.ext ?_
    blk_simp [eo, ec] <;> omega

variable (ρ : Dev nD → PrngReg)

/-- The run, with both output arrays named and the arguments unchanged. -/
theorem run_named : θ_run defs (onTc (τ := τ) (main (F := Ideal))) ⟨m, fun _ => 0, ρ⟩ fun r => ∀ c : Dev nD,
      r.2.mem ((c : Thread nD τ).loc main_v14_0) = (dats m 0 c).arrAt 10 cfg0.N
      ∧ r.2.mem ((c : Thread nD τ).loc main_v14_1) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1 10, (h c).1 11,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelSguSampleIdeal.Hand

namespace Cert.ReferenceSguSampleIdeal.Hand

open Cert.ReferenceSguSampleIdeal Idealize.ShloMosaic Idealize.ShloMosaic.TcCoe Idealize.SL.Sem
open Cert Cert.ReferenceSguSampleIdeal.Gen

/-- The gelu, at one entry of the array it is taken of. -/
theorem gelu_at (D : FVec Ideal S16x64x4096 .f32) (i) :
    (mulf D (mulf (broadcastInDim S16x64x4096 ![] bcast_S_S16x64x4096 (constant S_ .f32 0x3F000000#32)) (addf (broadcastInDim S16x64x4096 ![] bcast_S_S16x64x4096 (constant S_ .f32 0x3F800000#32)) (Host.tanh (mulf (broadcastInDim S16x64x4096 ![] bcast_S_S16x64x4096 (constant S_ .f32 0x3F4C422A#32)) (addf D (mulf (broadcastInDim S16x64x4096 ![] bcast_S_S16x64x4096 (constant S_ .f32 0x3D372713#32)) (mulf (mulf D D) D)))))))) i = Rows.gelu (D i) := by
  pointwise [Rows.gelu]
  simp only [mul_assoc]

/-- The reference from the expanded rows `E` on, at one entry. -/
theorem mix_at (x : Vec Ideal S16x64x1024 .f32) (gt : Vec Ideal S16x1024 .f32) (gv : Vec Ideal S2048 .f32) (w : Vec Ideal S8x128x128 .f32) (b : Vec Ideal S8x128 .f32) (wo : Vec Ideal S2048x1024 .f32)
    (E D : FVec Ideal S16x64x4096 .f32) (hE : ∀ i, E i = Rows.gelu (D i)) (a : Fin 16) (r : Fin 64) (j : Fin 1024) :
    (addf x (mulf (broadcastInDim S16x64x1024 ![0, 1, 2] bcast_S16x1x1024_S16x64x1024_0_1_2 (broadcastInDim S16x1x1024 ![0, 2] bcast_S16x1024_S16x1x1024_0_2 (addf (broadcastInDim S16x1024 ![] bcast_S_S16x1024 (constant S_ .f32 0x3F800000#32)) gt))) (Host.dotGeneral (φ₂ := .f32) dot_S16x64x2048_S2048x1024_S16x64x1024_2_0_01_1_n_n none (mulf (extractStridedSlice S16x64x2048 ![0, 0, 0] E slices_S16x64x4096_S16x64x2048_0_0_0) (shapeCast _ (addf (transpose S16x1x64x8x256 [1, 2, 4, 0, 3] (Host.dotGeneral (φ₂ := .f32) dot_S16x1x64x8x256_S8x64x64_S8x16x1x256x64_2_2_014_1_3_0 none (shapeCast _ (mulf (mulf (extractStridedSlice S16x64x2048 ![0, 0, 2048] E slices_S16x64x4096_S16x64x2048_0_0_2048) (broadcastInDim S16x64x2048 ![0, 1, 2] bcast_S16x64x1_S16x64x2048_0_1_2 (Host.rsqrt (addf (Host.divf (broadcastInDim S16x64x1 ![0, 1] bcast_S16x64_S16x64x1_0_1 (Host.reduceAdd (mulf (extractStridedSlice S16x64x2048 ![0, 0, 2048] E slices_S16x64x4096_S16x64x2048_0_0_2048) (extractStridedSlice S16x64x2048 ![0, 0, 2048] E slices_S16x64x4096_S16x64x2048_0_0_2048)) (constant S_ .f32 0x00000000#32) reducesTo_S16x64x2048_S16x64_d2 h_S_)) (broadcastInDim S16x64x1 ![] bcast_S_S16x64x1 (constant S_ .f32 0x45000000#32))) (broadcastInDim S16x64x1 ![] bcast_S_S16x64x1 (constant S_ .f32 0x358637BD#32)))))) (broadcastInDim S16x64x2048 ![0, 1, 2] bcast_S1x1x2048_S16x64x2048_0_1_2 (broadcastInDim S1x1x2048 ![2] bcast_S2048_S1x1x2048_2 gv))) shapeCasts_S16x64x2048_S16x1x64x8x256) (select (broadcastInDim S8x64x64 ![1, 2] bcast_S64x64_S8x64x64_1_2 (cmpi .sge (addi (iotaInDim S64x64 32 0) (broadcastInDim S64x64 ![] bcast_S_S64x64 (constantI S_ 32 0#32))) (iotaInDim S64x64 32 1))) (extractStridedSlice S8x64x64 ![0, 0, 0] w slices_S8x128x128_S8x64x64_0_0_0) (broadcastInDim S8x64x64 ![] bcast_S_S8x64x64 (constant S_ .f32 0x00000000#32)))) transposes_S8x16x1x256x64_S16x1x64x8x256_1_2_4_0_3) (broadcastInDim S16x1x64x8x256 ![0, 1, 2, 3, 4] bcast_S1x1x64x8x1_S16x1x64x8x256_0_1_2_3_4 (broadcastInDim S1x1x64x8x1 ![2, 3, 4] bcast_S64x8x1_S1x1x64x8x1_2_3_4 (broadcastInDim S64x8x1 ![0, 1] bcast_S64x8_S64x8x1_0_1 (transpose S64x8 [1, 0] (extractStridedSlice S8x64 ![0, 0] b slices_S8x128_S8x64_0_0) transposes_S8x64_S64x8_1_0))))) shapeCasts_S16x1x64x8x256_S16x64x2048)) wo)) : FVec Ideal S16x64x1024 .f32) (ix3 a r j)
      = x (ix3 a r j) + (1 + gt (ix2 a j)) * ∑ f : Fin 2048, (Rows.gelu (D (ix3 a r ⟨f.val, by omega⟩)) *
          Rows.mixed (fun (s : Fin 64) => Rows.norm (Ideal.ofBits .f32 0x45000000#32) (fun e : Fin 2048 => Rows.gelu (D (ix3 a s ⟨2048 + e.val, by omega⟩))) (fun k => gv (ix1 k)))
            (fun h t s => if s.val ≤ t.val then w (ix3 h ⟨t.val, by omega⟩ ⟨s.val, by omega⟩) else 0) (fun t f => b (ix2 ⟨f.val / 256, by omega⟩ ⟨t.val, by omega⟩)) r f) * wo (ix2 f j) := by
  simp only [Rows.mixed_comm, ← hE]
  pointwise [Rows.norm]
  simp only [mul_ite, mul_zero]
  blk_point
  refine Finset.sum_congr rfl fun s _ => (Rows.keep (by omega) (by omega) _).trans ?_
  blk_point

/-- The reference's gate values from the expanded rows `E` on, at one entry. -/
theorem gates_at (gv : Vec Ideal S2048 .f32) (E D : FVec Ideal S16x64x4096 .f32) (hE : ∀ i, E i = Rows.gelu (D i)) (i : (S16x64x2048).Idx) :
    (mulf (mulf (extractStridedSlice S16x64x2048 ![0, 0, 2048] E slices_S16x64x4096_S16x64x2048_0_0_2048) (broadcastInDim S16x64x2048 ![0, 1, 2] bcast_S16x64x1_S16x64x2048_0_1_2 (Host.rsqrt (addf (Host.divf (broadcastInDim S16x64x1 ![0, 1] bcast_S16x64_S16x64x1_0_1 (Host.reduceAdd (mulf (extractStridedSlice S16x64x2048 ![0, 0, 2048] E slices_S16x64x4096_S16x64x2048_0_0_2048) (extractStridedSlice S16x64x2048 ![0, 0, 2048] E slices_S16x64x4096_S16x64x2048_0_0_2048)) (constant S_ .f32 0x00000000#32) reducesTo_S16x64x2048_S16x64_d2 h_S_)) (broadcastInDim S16x64x1 ![] bcast_S_S16x64x1 (constant S_ .f32 0x45000000#32))) (broadcastInDim S16x64x1 ![] bcast_S_S16x64x1 (constant S_ .f32 0x358637BD#32)))))) (broadcastInDim S16x64x2048 ![0, 1, 2] bcast_S1x1x2048_S16x64x2048_0_1_2 (broadcastInDim S1x1x2048 ![2] bcast_S2048_S1x1x2048_2 gv)) : FVec Ideal S16x64x2048 .f32) i
      = Rows.norm (Ideal.ofBits .f32 0x45000000#32) (fun e : Fin 2048 => Rows.gelu (D (ix3 (i 0) (i 1) ⟨2048 + e.val, by omega⟩))) (fun k => gv (ix1 k)) (i 2) := by
  simp only [← hE]
  pointwise [Rows.norm]

variable (m : (ℓ : Loc nD τ sig) → Buf (Elt Ideal) ℓ)

/-- The reference's result, row by row. -/
theorem result (c : Dev nD) : Value.res_out0 m c = fun i =>
  Rows.sgu (fun (s : Fin 64) k => m ((c : Thread nD τ).loc main_arg0) (ix3 (i 0) s k))
      (fun k => m ((c : Thread nD τ).loc main_arg1) (ix1 k))
      (fun k => m ((c : Thread nD τ).loc main_arg3) (ix2 (i 0) k)) (fun k => m ((c : Thread nD τ).loc main_arg2) (ix2 (i 0) k))
      (fun k => m ((c : Thread nD τ).loc main_arg4) (ix2 (i 0) k)) (fun k f => m ((c : Thread nD τ).loc main_arg5) (ix2 k f))
      (fun k => m ((c : Thread nD τ).loc main_arg6) (ix1 k))
      (fun h t s => if s.val ≤ t.val then (m ((c : Thread nD τ).loc main_arg7) (ix3 h ⟨t.val, by omega⟩ ⟨s.val, by omega⟩) : EReal) else (0 : EReal))
      (fun t f => m ((c : Thread nD τ).loc main_arg8) (ix2 ⟨f.val / 256, by omega⟩ ⟨t.val, by omega⟩))
      (fun f k => m ((c : Thread nD τ).loc main_arg9) (ix2 f k)) (i 1) (i 2) := by
  unfold Value.res_out0 Value.res_main_v69
  clean_types
  funext i
  obtain ⟨a, r, j, rfl⟩ : ∃ (a : Fin 16) (b : Fin 64) (k : Fin 1024), i = ix3 a b k := ⟨i 0, i 1, i 2, eq_ix3 i⟩
  refine (mix_at _ _ _ _ _ _ _ _ (gelu_at _) a r j).trans ?_
  unfold Rows.sgu Rows.gatev Rows.expanded
  pointwise [Rows.modulated, Rows.norm] <;> rfl

/-- The reference's gate values, row by row. -/
theorem gates (c : Dev nD) : Value.res_out1 m c = fun i =>
  Rows.gatev (fun k => m ((c : Thread nD τ).loc main_arg0) (ix3 (i 0) (i 1) k))
      (fun k => m ((c : Thread nD τ).loc main_arg1) (ix1 k))
      (fun k => m ((c : Thread nD τ).loc main_arg3) (ix2 (i 0) k)) (fun k => m ((c : Thread nD τ).loc main_arg2) (ix2 (i 0) k))
      (fun k f => m ((c : Thread nD τ).loc main_arg5) (ix2 k f)) (fun k => m ((c : Thread nD τ).loc main_arg6) (ix1 k)) (i 2) := by
  unfold Value.res_out1 Value.res_main_v49
  clean_types
  funext i
  refine (gates_at _ _ _ (gelu_at _) i).trans ?_
  unfold Rows.gatev Rows.expanded
  pointwise [Rows.modulated, Rows.norm] <;> rfl

end Cert.ReferenceSguSampleIdeal.Hand

namespace Cert.Proof.SguSample

open Idealize.ShloMosaic Idealize.ShloMosaic.TcCoe Idealize.SL.Sem

/-- The kernel computes the reference's functions over the extended reals. -/
theorem algebraic : Cert.algebraic_KernelSguSampleIdeal_ReferenceSguSampleIdeal := by
  intro m ρ m' ρ' _ hag
  refine ⟨fun c => Cert.KernelSguSampleIdeal.Hand.result m c, fun c => Cert.KernelSguSampleIdeal.Hand.gates m c,
    (θ_run _ _ _).mono (fun r h c => ⟨(h c).1.trans (Cert.KernelSguSampleIdeal.Hand.final m c), (h c).2.1.trans (Cert.KernelSguSampleIdeal.Hand.final_gates m c), (h c).2.2⟩) (Cert.KernelSguSampleIdeal.Hand.run_named m ρ), ?_⟩
  refine (θ_run _ _ _).mono (fun r h c => ⟨(h c).1.trans ?_, (h c).2.1.trans ?_, (h c).2.2⟩) (Cert.ReferenceSguSampleIdeal.Value.run m' ρ')
  · refine (Cert.ReferenceSguSampleIdeal.Hand.result m' c).trans ?_
    obtain ⟨h0, h1, h2, h3, h4, h5, h6, h7, h8, h9⟩ := hag c
    unfold Cert.KernelSguSampleIdeal.Hand.result
    rw [h0, h1, h2, h3, h4, h5, h6, h7, h8, h9]
    rfl
  · refine (Cert.ReferenceSguSampleIdeal.Hand.gates m' c).trans ?_
    obtain ⟨h0, h1, h2, h3, h4, h5, h6, h7, h8, h9⟩ := hag c
    unfold Cert.KernelSguSampleIdeal.Hand.gates
    rw [h0, h1, h2, h3, h5, h6]
    rfl

end Cert.Proof.SguSample

end
-- ==== Proof.KernelQkvIdealFrame.lean ====
/- The run of `KernelQkvIdeal`: the body's triple, the proof data of its one pipeline, and the frame.  The body writes
   the two row arrays through eight interleaved rectangles of stride eight each, one per head, so the cover
   of those buffers is shown by residues. -/
module

public import proofs.«01_k».proof.Proof.Gen.KernelQkvIdeal.Frame
public import proofs.«01_k».proof.Proof.Gen.KernelQkvIdeal.Skeleton
public import Idealize.ShloMosaic.Lib.Claim

@[expose] public section

set_option maxRecDepth 16384

noncomputable section

namespace Cert.KernelQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev r0_0 : Rect S1x512x1024 := Rect.unit (s := S1x512x1024) ![0, 0, 0] S1x512x1024.size inb_S1x512x1024_S1x512x1024_0_0_0
abbrev r0_1 : Rect S1x1024 := Rect.unit (s := S1x1024) ![0, 0] S1x1024.size inb_S1x1024_S1x1024_0_0
abbrev r0_2 : Rect S1x1x1024 := Rect.unit (s := S1x1x1024) ![0, 0, 0] S1x1x1024.size inb_S1x1x1024_S1x1x1024_0_0_0
abbrev r0_3 : Rect S512x128 := Rect.unit (s := S512x128) ![0, 0] S512x128.size inb_S512x128_S512x128_0_0
abbrev r0_4 : Rect S1024x3072 := Rect.unit (s := S1024x3072) ![0, 0] S1024x1024.size inb_S1024x3072_S1024x1024_0_0
abbrev r0_5 : Rect S1024x3072 := Rect.unit (s := S1024x3072) ![0, 1024] S1024x1024.size inb_S1024x3072_S1024x1024_0_1024
abbrev r0_6 : Rect S1024x3072 := Rect.unit (s := S1024x3072) ![0, 2048] S1024x1024.size inb_S1024x3072_S1024x1024_0_2048
abbrev r0_7 : Rect S1x4096x128 := ⟨(⟨![0, 0, 0], S1x512x128.size, ![1, 8, 1], inb_S1x4096x128_S1x512x128_0_0_0_s_1_8_1⟩ : LoadRect S1x4096x128), spos_1_8_1⟩
abbrev r0_8 : Rect S1x4096x128 := ⟨(⟨![0, 1, 0], S1x512x128.size, ![1, 8, 1], inb_S1x4096x128_S1x512x128_0_1_0_s_1_8_1⟩ : LoadRect S1x4096x128), spos_1_8_1⟩
abbrev r0_9 : Rect S1x4096x128 := ⟨(⟨![0, 2, 0], S1x512x128.size, ![1, 8, 1], inb_S1x4096x128_S1x512x128_0_2_0_s_1_8_1⟩ : LoadRect S1x4096x128), spos_1_8_1⟩
abbrev r0_10 : Rect S1x4096x128 := ⟨(⟨![0, 3, 0], S1x512x128.size, ![1, 8, 1], inb_S1x4096x128_S1x512x128_0_3_0_s_1_8_1⟩ : LoadRect S1x4096x128), spos_1_8_1⟩
abbrev r0_11 : Rect S1x4096x128 := ⟨(⟨![0, 4, 0], S1x512x128.size, ![1, 8, 1], inb_S1x4096x128_S1x512x128_0_4_0_s_1_8_1⟩ : LoadRect S1x4096x128), spos_1_8_1⟩
abbrev r0_12 : Rect S1x4096x128 := ⟨(⟨![0, 5, 0], S1x512x128.size, ![1, 8, 1], inb_S1x4096x128_S1x512x128_0_5_0_s_1_8_1⟩ : LoadRect S1x4096x128), spos_1_8_1⟩
abbrev r0_13 : Rect S1x4096x128 := ⟨(⟨![0, 6, 0], S1x512x128.size, ![1, 8, 1], inb_S1x4096x128_S1x512x128_0_6_0_s_1_8_1⟩ : LoadRect S1x4096x128), spos_1_8_1⟩
abbrev r0_14 : Rect S1x4096x128 := ⟨(⟨![0, 7, 0], S1x512x128.size, ![1, 8, 1], inb_S1x4096x128_S1x512x128_0_7_0_s_1_8_1⟩ : LoadRect S1x4096x128), spos_1_8_1⟩

/-- What the body leaves in window 7's buffer, from the input blocks: its stores, last first. -/
def out0_7 (x0 : Vec F S1x512x1024 .f32) (x1 : Vec F S1x1024 .f32) (x2 : Vec F S1x1x1024 .f32) (x3 : Vec F S1x1x1024 .f32) (x4 : Vec F S1024x3072 .bf16) (x5 : Vec F S512x128 .f32) (x6 : Vec F S512x128 .f32) : Vec F S1x4096x128 .f32 :=
  View.canon [⟨r0_14, k0_pay4 (k0_pay11 ((k0_pay7 (View.ld x5 r0_3))) ((k0_pay8 (View.ld x6 r0_3))) ((k0_pay10 ((k0_pay6 (View.ld x0 r0_0) (View.ld x1 r0_1) (View.ld x3 r0_2) (View.ld x2 r0_2))) (View.ld x4 r0_5))) (((iota .tc S512x1024 32 [1] iota_S512x1024_d1_w32))) 64#32)⟩,
    ⟨r0_13, k0_pay2 (k0_pay11 ((k0_pay7 (View.ld x5 r0_3))) ((k0_pay8 (View.ld x6 r0_3))) ((k0_pay10 ((k0_pay6 (View.ld x0 r0_0) (View.ld x1 r0_1) (View.ld x3 r0_2) (View.ld x2 r0_2))) (View.ld x4 r0_5))) (((iota .tc S512x1024 32 [1] iota_S512x1024_d1_w32))) 64#32)⟩,
    ⟨r0_12, (k0_pay25 ((k0_pay11 ((k0_pay7 (View.ld x5 r0_3))) ((k0_pay8 (View.ld x6 r0_3))) ((k0_pay10 ((k0_pay6 (View.ld x0 r0_0) (View.ld x1 r0_1) (View.ld x3 r0_2) (View.ld x2 r0_2))) (View.ld x4 r0_5))) (((iota .tc S512x1024 32 [1] iota_S512x1024_d1_w32))) 64#32)))⟩,
    ⟨r0_11, k0_pay23 ((k0_pay11 ((k0_pay7 (View.ld x5 r0_3))) ((k0_pay8 (View.ld x6 r0_3))) ((k0_pay10 ((k0_pay6 (View.ld x0 r0_0) (View.ld x1 r0_1) (View.ld x3 r0_2) (View.ld x2 r0_2))) (View.ld x4 r0_5))) (((iota .tc S512x1024 32 [1] iota_S512x1024_d1_w32))) 64#32))⟩,
    ⟨r0_10, k0_pay21 ((k0_pay11 ((k0_pay7 (View.ld x5 r0_3))) ((k0_pay8 (View.ld x6 r0_3))) ((k0_pay10 ((k0_pay6 (View.ld x0 r0_0) (View.ld x1 r0_1) (View.ld x3 r0_2) (View.ld x2 r0_2))) (View.ld x4 r0_5))) (((iota .tc S512x1024 32 [1] iota_S512x1024_d1_w32))) 64#32))⟩,
    ⟨r0_9, k0_pay19 ((k0_pay11 ((k0_pay7 (View.ld x5 r0_3))) ((k0_pay8 (View.ld x6 r0_3))) ((k0_pay10 ((k0_pay6 (View.ld x0 r0_0) (View.ld x1 r0_1) (View.ld x3 r0_2) (View.ld x2 r0_2))) (View.ld x4 r0_5))) (((iota .tc S512x1024 32 [1] iota_S512x1024_d1_w32))) 64#32))⟩,
    ⟨r0_8, k0_pay17 ((k0_pay11 ((k0_pay7 (View.ld x5 r0_3))) ((k0_pay8 (View.ld x6 r0_3))) ((k0_pay10 ((k0_pay6 (View.ld x0 r0_0) (View.ld x1 r0_1) (View.ld x3 r0_2) (View.ld x2 r0_2))) (View.ld x4 r0_5))) (((iota .tc S512x1024 32 [1] iota_S512x1024_d1_w32))) 64#32))⟩,
    ⟨r0_7, ((k0_pay15 ((k0_pay7 (View.ld x5 r0_3))) ((k0_pay8 (View.ld x6 r0_3))) ((k0_pay10 ((k0_pay6 (View.ld x0 r0_0) (View.ld x1 r0_1) (View.ld x3 r0_2) (View.ld x2 r0_2))) (View.ld x4 r0_5))) (((iota .tc S512x1024 32 [1] iota_S512x1024_d1_w32))) 64#32))⟩]

theorem cover0_7 (p0 p1 p2 p3 p4 p5 p6 p7 : Vec F S1x512x128 .f32) (y : S1x4096x128.Idx) :
    ∃ pc ∈ ([⟨r0_14, p0⟩, ⟨r0_13, p1⟩, ⟨r0_12, p2⟩, ⟨r0_11, p3⟩, ⟨r0_10, p4⟩, ⟨r0_9, p5⟩, ⟨r0_8, p6⟩, ⟨r0_7, p7⟩] : List (View.Piece (Elt F) S1x4096x128 .f32)), y ∈ pc.1.set := by
  have h0 : (y 0 : ℕ) < 1 := (y 0).isLt
  have h1 : (y 1 : ℕ) < 4096 := (y 1).isLt
  have h2 : (y 2 : ℕ) < 128 := (y 2).isLt
  have key : ∀ (h : ℕ) (r : Rect S1x4096x128) (_ : (y 1 : ℕ) % 8 = h) (_ : r.off = ![0, h, 0]) (_ : r.size = ![1, 512, 128])
      (_ : r.stride = ![1, 8, 1]), y ∈ r.set := by
    intro h r hh ho hs hst
    refine r.mem_set.mpr fun a => ?_
    rw [ho, hs, hst]
    match a with
    | ⟨0, _⟩ => exact ⟨(y 0 : ℕ), h0, by show (y 0 : ℕ) = 0 + 1 * (y 0 : ℕ); omega⟩
    | ⟨1, _⟩ => exact ⟨(y 1 : ℕ) / 8, by show (y 1 : ℕ) / 8 < 512; omega, by show (y 1 : ℕ) = h + 8 * ((y 1 : ℕ) / 8); omega⟩
    | ⟨2, _⟩ => exact ⟨(y 2 : ℕ), h2, by show (y 2 : ℕ) = 0 + 1 * (y 2 : ℕ); omega⟩
  have hlt : (y 1 : ℕ) % 8 < 8 := Nat.mod_lt _ (by decide)
  rcases (show (y 1 : ℕ) % 8 = 0 ∨ (y 1 : ℕ) % 8 = 1 ∨ (y 1 : ℕ) % 8 = 2 ∨ (y 1 : ℕ) % 8 = 3 ∨ (y 1 : ℕ) % 8 = 4 ∨ (y 1 : ℕ) % 8 = 5
    ∨ (y 1 : ℕ) % 8 = 6 ∨ (y 1 : ℕ) % 8 = 7 by omega) with h | h | h | h | h | h | h | h
  · exact ⟨⟨r0_7, p7⟩, by simp only [List.mem_cons, true_or, or_true], key 0 r0_7 h rfl rfl rfl⟩
  · exact ⟨⟨r0_8, p6⟩, by simp only [List.mem_cons, true_or, or_true], key 1 r0_8 h rfl rfl rfl⟩
  · exact ⟨⟨r0_9, p5⟩, by simp only [List.mem_cons, true_or, or_true], key 2 r0_9 h rfl rfl rfl⟩
  · exact ⟨⟨r0_10, p4⟩, by simp only [List.mem_cons, true_or, or_true], key 3 r0_10 h rfl rfl rfl⟩
  · exact ⟨⟨r0_11, p3⟩, by simp only [List.mem_cons, true_or, or_true], key 4 r0_11 h rfl rfl rfl⟩
  · exact ⟨⟨r0_12, p2⟩, by simp only [List.mem_cons, true_or, or_true], key 5 r0_12 h rfl rfl rfl⟩
  · exact ⟨⟨r0_13, p1⟩, by simp only [List.mem_cons, true_or, or_true], key 6 r0_13 h rfl rfl rfl⟩
  · exact ⟨⟨r0_14, p0⟩, by simp only [List.mem_cons, true_or, or_true], key 7 r0_14 h rfl rfl rfl⟩

/-- What the body leaves in window 8's buffer, from the input blocks: its stores, last first. -/
def out0_8 (x0 : Vec F S1x512x1024 .f32) (x1 : Vec F S1x1024 .f32) (x2 : Vec F S1x1x1024 .f32) (x3 : Vec F S1x1x1024 .f32) (x4 : Vec F S1024x3072 .bf16) (x5 : Vec F S512x128 .f32) (x6 : Vec F S512x128 .f32) : Vec F S1x4096x128 .f32 :=
  View.canon [⟨r0_14, k0_pay5 (k0_pay13 ((k0_pay6 (View.ld x0 r0_0) (View.ld x1 r0_1) (View.ld x3 r0_2) (View.ld x2 r0_2))) (View.ld x4 r0_6))⟩,
    ⟨r0_13, k0_pay3 (k0_pay13 ((k0_pay6 (View.ld x0 r0_0) (View.ld x1 r0_1) (View.ld x3 r0_2) (View.ld x2 r0_2))) (View.ld x4 r0_6))⟩,
    ⟨r0_12, k0_pay1 (k0_pay13 ((k0_pay6 (View.ld x0 r0_0) (View.ld x1 r0_1) (View.ld x3 r0_2) (View.ld x2 r0_2))) (View.ld x4 r0_6))⟩,
    ⟨r0_11, k0_pay24 ((k0_pay13 ((k0_pay6 (View.ld x0 r0_0) (View.ld x1 r0_1) (View.ld x3 r0_2) (View.ld x2 r0_2))) (View.ld x4 r0_6)))⟩,
    ⟨r0_10, k0_pay22 ((k0_pay13 ((k0_pay6 (View.ld x0 r0_0) (View.ld x1 r0_1) (View.ld x3 r0_2) (View.ld x2 r0_2))) (View.ld x4 r0_6)))⟩,
    ⟨r0_9, k0_pay20 ((k0_pay13 ((k0_pay6 (View.ld x0 r0_0) (View.ld x1 r0_1) (View.ld x3 r0_2) (View.ld x2 r0_2))) (View.ld x4 r0_6)))⟩,
    ⟨r0_8, k0_pay18 ((k0_pay13 ((k0_pay6 (View.ld x0 r0_0) (View.ld x1 r0_1) (View.ld x3 r0_2) (View.ld x2 r0_2))) (View.ld x4 r0_6)))⟩,
    ⟨r0_7, k0_pay16 ((k0_pay13 ((k0_pay6 (View.ld x0 r0_0) (View.ld x1 r0_1) (View.ld x3 r0_2) (View.ld x2 r0_2))) (View.ld x4 r0_6)))⟩]

theorem cover0_8 (p0 p1 p2 p3 p4 p5 p6 p7 : Vec F S1x512x128 .f32) (y : S1x4096x128.Idx) :
    ∃ pc ∈ ([⟨r0_14, p0⟩, ⟨r0_13, p1⟩, ⟨r0_12, p2⟩, ⟨r0_11, p3⟩, ⟨r0_10, p4⟩, ⟨r0_9, p5⟩, ⟨r0_8, p6⟩, ⟨r0_7, p7⟩] : List (View.Piece (Elt F) S1x4096x128 .f32)), y ∈ pc.1.set := by
  have h0 : (y 0 : ℕ) < 1 := (y 0).isLt
  have h1 : (y 1 : ℕ) < 4096 := (y 1).isLt
  have h2 : (y 2 : ℕ) < 128 := (y 2).isLt
  have key : ∀ (h : ℕ) (r : Rect S1x4096x128) (_ : (y 1 : ℕ) % 8 = h) (_ : r.off = ![0, h, 0]) (_ : r.size = ![1, 512, 128])
      (_ : r.stride = ![1, 8, 1]), y ∈ r.set := by
    intro h r hh ho hs hst
    refine r.mem_set.mpr fun a => ?_
    rw [ho, hs, hst]
    match a with
    | ⟨0, _⟩ => exact ⟨(y 0 : ℕ), h0, by show (y 0 : ℕ) = 0 + 1 * (y 0 : ℕ); omega⟩
    | ⟨1, _⟩ => exact ⟨(y 1 : ℕ) / 8, by show (y 1 : ℕ) / 8 < 512; omega, by show (y 1 : ℕ) = h + 8 * ((y 1 : ℕ) / 8); omega⟩
    | ⟨2, _⟩ => exact ⟨(y 2 : ℕ), h2, by show (y 2 : ℕ) = 0 + 1 * (y 2 : ℕ); omega⟩
  have hlt : (y 1 : ℕ) % 8 < 8 := Nat.mod_lt _ (by decide)
  rcases (show (y 1 : ℕ) % 8 = 0 ∨ (y 1 : ℕ) % 8 = 1 ∨ (y 1 : ℕ) % 8 = 2 ∨ (y 1 : ℕ) % 8 = 3 ∨ (y 1 : ℕ) % 8 = 4 ∨ (y 1 : ℕ) % 8 = 5
    ∨ (y 1 : ℕ) % 8 = 6 ∨ (y 1 : ℕ) % 8 = 7 by omega) with h | h | h | h | h | h | h | h
  · exact ⟨⟨r0_7, p7⟩, by simp only [List.mem_cons, true_or, or_true], key 0 r0_7 h rfl rfl rfl⟩
  · exact ⟨⟨r0_8, p6⟩, by simp only [List.mem_cons, true_or, or_true], key 1 r0_8 h rfl rfl rfl⟩
  · exact ⟨⟨r0_9, p5⟩, by simp only [List.mem_cons, true_or, or_true], key 2 r0_9 h rfl rfl rfl⟩
  · exact ⟨⟨r0_10, p4⟩, by simp only [List.mem_cons, true_or, or_true], key 3 r0_10 h rfl rfl rfl⟩
  · exact ⟨⟨r0_11, p3⟩, by simp only [List.mem_cons, true_or, or_true], key 4 r0_11 h rfl rfl rfl⟩
  · exact ⟨⟨r0_12, p2⟩, by simp only [List.mem_cons, true_or, or_true], key 5 r0_12 h rfl rfl rfl⟩
  · exact ⟨⟨r0_13, p1⟩, by simp only [List.mem_cons, true_or, or_true], key 6 r0_13 h rfl rfl rfl⟩
  · exact ⟨⟨r0_14, p0⟩, by simp only [List.mem_cons, true_or, or_true], key 7 r0_14 h rfl rfl rfl⟩

/-- What the body leaves in window 9's buffer, from the input blocks: its stores, last first. -/
def out0_9 (x0 : Vec F S1x512x1024 .f32) (x1 : Vec F S1x1024 .f32) (x2 : Vec F S1x1x1024 .f32) (x3 : Vec F S1x1x1024 .f32) (x4 : Vec F S1024x3072 .bf16) (x5 : Vec F S512x128 .f32) (x6 : Vec F S512x128 .f32) : Vec F S1x512x1024 .bf16 :=
  View.canon [⟨r0_0, k0_pay9 ((k0_pay6 (View.ld x0 r0_0) (View.ld x1 r0_1) (View.ld x3 r0_2) (View.ld x2 r0_2))) ((k0_pay7 (View.ld x5 r0_3))) ((k0_pay8 (View.ld x6 r0_3))) (((View.ld x4 r0_4)))⟩]

theorem cover0_9 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- What the body leaves in window 10's buffer, from the input blocks: its stores, last first. -/
def out0_10 (x0 : Vec F S1x512x1024 .f32) (x1 : Vec F S1x1024 .f32) (x2 : Vec F S1x1x1024 .f32) (x3 : Vec F S1x1x1024 .f32) (x4 : Vec F S1024x3072 .bf16) (x5 : Vec F S512x128 .f32) (x6 : Vec F S512x128 .f32) : Vec F S1x512x1024 .bf16 :=
  View.canon [⟨r0_0, k0_pay12 ((k0_pay7 (View.ld x5 r0_3))) ((k0_pay8 (View.ld x6 r0_3))) ((k0_pay10 ((k0_pay6 (View.ld x0 r0_0) (View.ld x1 r0_1) (View.ld x3 r0_2) (View.ld x2 r0_2))) (View.ld x4 r0_5))) (((iota .tc S512x1024 32 [1] iota_S512x1024_d1_w32))) 64#32⟩]

theorem cover0_10 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- What the body leaves in window 11's buffer, from the input blocks: its stores, last first. -/
def out0_11 (x0 : Vec F S1x512x1024 .f32) (x1 : Vec F S1x1024 .f32) (x2 : Vec F S1x1x1024 .f32) (x3 : Vec F S1x1x1024 .f32) (x4 : Vec F S1024x3072 .bf16) (x5 : Vec F S512x128 .f32) (x6 : Vec F S512x128 .f32) : Vec F S1x512x1024 .bf16 :=
  View.canon [⟨r0_0, k0_pay14 ((k0_pay6 (View.ld x0 r0_0) (View.ld x1 r0_1) (View.ld x3 r0_2) (View.ld x2 r0_2))) (View.ld x4 r0_6)⟩]

theorem cover0_11 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

set_option maxHeartbeats 4000000 in
/-- The body on whole staging memrefs, the inputs' at read contents and the outputs' at anything, runs to the
    continuation holding the inputs' as they were and each output's at `out0_W` of the inputs'. -/
theorem sound_kernel (c : Dev nD) (E : Set ℕ) (i : grid0.Coords) (arg2 : Memref sig .tc .vmem S1x512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x1024 .bf16) (harg13 : arg13.IsWhole)
    (x0 : Vec F S1x512x1024 .f32) (x1 : Vec F S1x1024 .f32) (x2 : Vec F S1x1x1024 .f32) (x3 : Vec F S1x1x1024 .f32) (x4 : Vec F S1024x3072 .bf16) (x5 : Vec F S512x128 .f32) (x6 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6) ∗ owns (c : Thread nD τ) arg10 fullShare (out0_8 x0 x1 x2 x3 x4 x5 x6) ∗ owns (c : Thread nD τ) arg11 fullShare (out0_9 x0 x1 x2 x3 x4 x5 x6) ∗ owns (c : Thread nD τ) arg12 fullShare (out0_10 x0 x1 x2 x3 x4 x5 x6) ∗ owns (c : Thread nD τ) arg13 fullShare (out0_11 x0 x1 x2 x3 x4 x5 x6)) -∗ K ⟨⟩))
      ⊢ wp frame (wpE (defs₀ (F := F)) Variants.none c none) E (cc0_diff_qkv i arg2 harg2 arg3 harg3 arg4 harg4 arg5 harg5 arg6 harg6 arg7 harg7 arg8 harg8 arg9 harg9 arg10 harg10 arg11 harg11 arg12 harg12 arg13 harg13) K := by
  simp only [cc0_diff_qkv_eq_skeleton]; unfold cc0_diff_qkv_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _ _ _ _ _ _ _ _ )
  isplitl [H8]
  · iexists _; isplitr
    swap; · iexact H8
    ipureintro
    exact View.read_writes_eq_canon _ _ _ (cover0_8 _ _ _ _ _ _ _ _ )
  isplitl [H9]
  · iexists _; isplitr
    swap; · iexact H9
    ipureintro
    exact View.read_writes_eq_canon _ _ _ (cover0_9 _ )
  isplitl [H10]
  · iexists _; isplitr
    swap; · iexact H10
    ipureintro
    exact View.read_writes_eq_canon _ _ _ (cover0_10 _ )
  iexists _; isplitr
  swap; · iexact H11
  ipureintro
  exact View.read_writes_eq_canon _ _ _ (cover0_11 _ )

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t) (iblk m c 5 t) (iblk m c 6 t)
    | ⟨9, _⟩ => out0_9 (iblk m c 0 t) (iblk m c 1 t) (iblk m c 2 t) (iblk m c 3 t) (iblk m c 4 t) (iblk m c 5 t) (iblk m c 6 t)
    | ⟨10, _⟩ => out0_10 (iblk m c 0 t) (iblk m c 1 t) (iblk m c 2 t) (iblk m c 3 t) (iblk m c 4 t) (iblk m c 5 t) (iblk m c 6 t)
    | ⟨11, _⟩ => out0_11 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline ends at what the proof data computes, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelQkvIdeal.Gen

end
-- ==== Proof.QkvRows.lean ====
module

public import proofs.«01_k».proof.Proof.Rows
public import Idealize.ShloMosaic.Lib.Pipeline.ValueKit

/-! The rotary projections of the differential attention, row by row over the extended reals. -/

@[expose] public section

set_option maxRecDepth 16384

noncomputable section

namespace Cert.Rows

open Idealize.ShloMosaic

/-- Column `j` of the modulated row times the stacked projection. -/
def stacked (x g sc sh : Fin 1024 → EReal) (w : Fin 1024 → Fin 3072 → EReal) (j : Fin 3072) : EReal :=
  ∑ k, modulated x g sc sh k * w k j

/-- The rotation of heads of 64, with tables of 128 columns: each column meets the one 32 further on in the first
    half of its head and the one 32 before in the second. -/
def turned (t : Fin 1024 → EReal) (C S : Fin 128 → EReal) (j : Fin 1024) : EReal :=
  t j * C ⟨j.val % 128, by omega⟩
    + (if j.val % 64 < 32 then t ⟨(j.val + 32) % 1024, by omega⟩ else t ⟨(j.val + 992) % 1024, by omega⟩) * S ⟨j.val % 128, by omega⟩

/-- The rotation of heads of 64 by the cosines and sines of 32 angles. -/
def rope (t : Fin 1024 → EReal) (C S : Fin 32 → EReal) (j : Fin 1024) : EReal :=
  if j.val % 64 < 32 then t j * C ⟨j.val % 32, by omega⟩ - t ⟨(j.val + 32) % 1024, by omega⟩ * S ⟨j.val % 32, by omega⟩
  else t ⟨(j.val + 992) % 1024, by omega⟩ * S ⟨j.val % 32, by omega⟩ + t j * C ⟨j.val % 32, by omega⟩

/-- With the tables that repeat the cosines, and the sines negated in each head's first half, the first is the second. -/
theorem turned_eq (t : Fin 1024 → EReal) (C S : Fin 32 → EReal) (j : Fin 1024) :
    turned t (fun l => C ⟨l.val % 32, by omega⟩) (fun l => if l.val % 64 < 32 then -S ⟨l.val % 32, by omega⟩ else S ⟨l.val % 32, by omega⟩) j
      = rope t C S j := by
  have e : j.val % 128 % 32 = j.val % 32 := by omega
  have e' : j.val % 128 % 64 = j.val % 64 := by omega
  unfold turned rope
  simp only [e, e']
  split_ifs
  · rw [sub_eq_add_neg, mul_neg]
  · rw [add_comm]

/-- The rotary angle of position `past + l` at frequency `e`. -/
def angle (past : BitVec 32) (l e : ℕ) : EReal :=
  FloatOps.sitofp (F := Ideal) .f32 (IntOp.addi past (BitVec.ofNat 32 l)) *
    Ideal.pow (Ideal.ofBits .f32 0x461C4000#32) (Ideal.div (-FloatOps.sitofp (F := Ideal) .f32 (BitVec.ofNat 32 e)) (Ideal.ofBits .f32 0x42000000#32))

/-- A row of keys or queries rotated by its position's angles. -/
def rotated (past : BitVec 32) (l : ℕ) (t : Fin 1024 → EReal) (j : Fin 1024) : EReal :=
  turned t (fun f => Ideal.cos (angle past l (f.val % 32)))
    (fun f => if f.val % 64 < 32 then -Ideal.sin (angle past l (f.val % 32)) else Ideal.sin (angle past l (f.val % 32))) j

theorem rotated_eq (past : BitVec 32) (l : ℕ) (t : Fin 1024 → EReal) (j : Fin 1024) :
    rotated past l t j = rope t (fun e => Ideal.cos (angle past l e.val)) (fun e => Ideal.sin (angle past l e.val)) j :=
  turned_eq t (fun e => Ideal.cos (angle past l e.val)) (fun e => Ideal.sin (angle past l e.val)) j

/-- The test for the first half of a head of 64, on the column's word. -/
theorem lane : ∀ j : Fin 1024,
    IntOp.andi
            (IntOp.cmpi CmpIPredicate.sge
              (Scalar.select
                (IntOp.andi
                  (IntOp.xori
                    (IntOp.cmpi CmpIPredicate.slt
                      (IntOp.remsi ArithUnit.vector (BitVec.ofNat 32 ↑j)
                        (Scalar.select (Scalar.cmpi CmpIPredicate.eq 64#32 0#32) 1#32 64#32))
                      0#32)
                    (Scalar.cmpi CmpIPredicate.slt (Scalar.select (Scalar.cmpi CmpIPredicate.eq 64#32 0#32) 1#32 64#32)
                      0#32))
                  (IntOp.cmpi CmpIPredicate.ne
                    (IntOp.remsi ArithUnit.vector (BitVec.ofNat 32 ↑j)
                      (Scalar.select (Scalar.cmpi CmpIPredicate.eq 64#32 0#32) 1#32 64#32))
                    0#32))
                (IntOp.addi
                  (IntOp.remsi ArithUnit.vector (BitVec.ofNat 32 ↑j)
                    (Scalar.select (Scalar.cmpi CmpIPredicate.eq 64#32 0#32) 1#32 64#32))
                  (Scalar.select (Scalar.cmpi CmpIPredicate.eq 64#32 0#32) 1#32 64#32))
                (IntOp.remsi ArithUnit.vector (BitVec.ofNat 32 ↑j)
                  (Scalar.select (Scalar.cmpi CmpIPredicate.eq 64#32 0#32) 1#32 64#32)))
              0#32)
            (IntOp.cmpi CmpIPredicate.slt
              (Scalar.select
                (IntOp.andi
                  (IntOp.xori
                    (IntOp.cmpi CmpIPredicate.slt
                      (IntOp.remsi ArithUnit.vector (BitVec.ofNat 32 ↑j)
                        (Scalar.select (Scalar.cmpi CmpIPredicate.eq 64#32 0#32) 1#32 64#32))
                      0#32)
                    (Scalar.cmpi CmpIPredicate.slt (Scalar.select (Scalar.cmpi CmpIPredicate.eq 64#32 0#32) 1#32 64#32)
                      0#32))
                  (IntOp.cmpi CmpIPredicate.ne
                    (IntOp.remsi ArithUnit.vector (BitVec.ofNat 32 ↑j)
                      (Scalar.select (Scalar.cmpi CmpIPredicate.eq 64#32 0#32) 1#32 64#32))
                    0#32))
                (IntOp.addi
                  (IntOp.remsi ArithUnit.vector (BitVec.ofNat 32 ↑j)
                    (Scalar.select (Scalar.cmpi CmpIPredicate.eq 64#32 0#32) 1#32 64#32))
                  (Scalar.select (Scalar.cmpi CmpIPredicate.eq 64#32 0#32) 1#32 64#32))
                (IntOp.remsi ArithUnit.vector (BitVec.ofNat 32 ↑j)
                  (Scalar.select (Scalar.cmpi CmpIPredicate.eq 64#32 0#32) 1#32 64#32)))
              32#32)
      = if j.val % 64 < 32 then 1#1 else 0#1 := by
  decide +kernel

/-- Choosing by that test. -/
theorem select_lane (j : ℕ) (a b : EReal) : Scalar.select (if j % 64 < 32 then 1#1 else 0#1) a b = if j % 64 < 32 then a else b := by
  split_ifs <;> rfl

end Cert.Rows

end
-- ==== Proof.QkvBlock.lean ====
module

public import proofs.«01_k».proof.Defs
public import proofs.«01_k».proof.Proof.QkvRows
public import proofs.«01_k».proof.Proof.KernelQkvIdealFrame
public import Idealize.ShloMosaic.Lib.Pipeline.ValueKit
public import Idealize.ShloMosaic.Lib.Tactic.CleanTypes
public import Idealize.ShloMosaic.Lib.StableHlo.ReadAt
public import Idealize.ShloMosaic.Lib.Quiescent

@[expose] public section

set_option maxRecDepth 16384

noncomputable section

namespace Cert.KernelQkvIdeal.Hand

open Cert.KernelQkvIdeal Cert.KernelQkvIdeal.Gen Idealize.ShloMosaic Idealize.ShloMosaic.TcCoe Idealize.SL.Sem
open Idealize.ShloMosaic.Pipeline (Dat)
open Cert

section Block

variable (x : Vec Ideal S1x512x1024 .f32) (g : Vec Ideal S1x1024 .f32) (sh : Vec Ideal S1x1x1024 .f32) (sc : Vec Ideal S1x1x1024 .f32) (w : Vec Ideal S1024x1024 .bf16) (t : Vec Ideal S512x128 .f32)
variable (H : FVec Ideal S512x1024 .bf16) (T : FVec Ideal S512x1024 .f32) (C S : FVec Ideal S1x512x1024 .f32)

theorem h_at (r : Fin 512) (k : Fin 1024) :
    k0_pay6 x g sc sh (ix2 r k) = Rows.modulated (fun k => x (ix3 0 r k)) (fun k => g (ix2 0 k))
      (fun k => sc (ix3 0 0 k)) (fun k => sh (ix3 0 0 k)) k := by
  pointwise [k0_pay6, Rows.modulated, Rows.norm]

theorem cos_at (r : Fin 512) (j : Fin 1024) : k0_pay7 t (ix3 0 r j) = t (ix2 r ⟨j.val % 128, by omega⟩) := by
  pointwise [k0_pay7]
  split_ifs <;> blk_point

theorem sin_at (r : Fin 512) (j : Fin 1024) : k0_pay8 t (ix3 0 r j) = t (ix2 r ⟨j.val % 128, by omega⟩) := by
  pointwise [k0_pay8]
  split_ifs <;> blk_point

theorem prod_at (r : Fin 512) (j : Fin 1024) : k0_pay10 H w (ix2 r j) = ∑ k, H (ix2 r k) * w (ix2 k j) := by
  pointwise [k0_pay10]

theorem v_at (r : Fin 512) (j : Fin 1024) : k0_pay13 H w (ix3 0 r j) = ∑ k, H (ix2 r k) * w (ix2 k j) := by
  pointwise [k0_pay13]

theorem k_at (r : Fin 512) (j : Fin 1024) : k0_pay11 C S T (iota .tc S512x1024 32 [1] iota_S512x1024_d1_w32) 64#32 (ix3 0 r j)
     = T (ix2 r j) * C (ix3 0 r j) + (if j.val % 64 < 32 then T (ix2 r ⟨(j.val + 32) % 1024, by omega⟩) else T (ix2 r ⟨(j.val + 992) % 1024, by omega⟩)) * S (ix3 0 r j) := by
  pointwise [k0_pay11]
  rw [Rows.lane, Rows.select_lane]
  rfl

theorem kb_at (r : Fin 512) (j : Fin 1024) : k0_pay12 C S T (iota .tc S512x1024 32 [1] iota_S512x1024_d1_w32) 64#32 (ix3 0 r j)
     = T (ix2 r j) * C (ix3 0 r j) + (if j.val % 64 < 32 then T (ix2 r ⟨(j.val + 32) % 1024, by omega⟩) else T (ix2 r ⟨(j.val + 992) % 1024, by omega⟩)) * S (ix3 0 r j) := by
  pointwise [k0_pay12, k0_pay11]
  rw [Rows.lane, Rows.select_lane]
  rfl

theorem vb_at (r : Fin 512) (j : Fin 1024) : k0_pay14 H w (ix3 0 r j) = ∑ k, H (ix2 r k) * w (ix2 k j) := by
  pointwise [k0_pay14, k0_pay13]

theorem q_at (r : Fin 512) (j : Fin 1024) : k0_pay9 H C S w (ix3 0 r j)
     = ((∑ k, H (ix2 r k) * w (ix2 k j)) * C (ix3 0 r j) + (if j.val % 64 < 32 then ∑ k, H (ix2 r k) * w (ix2 k ⟨(j.val + 32) % 1024, by omega⟩) else ∑ k, H (ix2 r k) * w (ix2 k ⟨(j.val + 992) % 1024, by omega⟩)) * S (ix3 0 r j)) * Ideal.ofBits .f32 0x3E38AA3B#32 := by
  pointwise [k0_pay9]
  rw [Rows.lane, Rows.select_lane]
  rfl

/-- Interleaved slices of `v`, one per head. -/
theorem rows_at (v : FVec Ideal S1x512x1024 .f32) (y : Fin 4096) (l : Fin 128) :
    View.canon (Val := Elt Ideal) (e := .f32) [⟨r0_14, extractStridedSlice S1x512x128 ![0, 0, 896] v slices_S1x512x1024_o0_0_896_S1x512x128⟩,
      ⟨r0_13, extractStridedSlice S1x512x128 ![0, 0, 768] v slices_S1x512x1024_o0_0_768_S1x512x128⟩,
      ⟨r0_12, extractStridedSlice S1x512x128 ![0, 0, 640] v slices_S1x512x1024_o0_0_640_S1x512x128⟩,
      ⟨r0_11, extractStridedSlice S1x512x128 ![0, 0, 512] v slices_S1x512x1024_o0_0_512_S1x512x128⟩,
      ⟨r0_10, extractStridedSlice S1x512x128 ![0, 0, 384] v slices_S1x512x1024_o0_0_384_S1x512x128⟩,
      ⟨r0_9, extractStridedSlice S1x512x128 ![0, 0, 256] v slices_S1x512x1024_o0_0_256_S1x512x128⟩,
      ⟨r0_8, extractStridedSlice S1x512x128 ![0, 0, 128] v slices_S1x512x1024_o0_0_128_S1x512x128⟩,
      ⟨r0_7, extractStridedSlice S1x512x128 ![0, 0, 0] v slices_S1x512x1024_o0_0_0_S1x512x128⟩] (ix3 0 y l)
      = v (ix3 0 ⟨y.val / 8, by omega⟩ ⟨y.val % 8 * 128 + l.val, by omega⟩) := by
  refine (View.canon_apply_of_pieces (fun y : S1x4096x128.Idx => v (ix3 0 ⟨(y 1).val / 8, by have h : (y 1).val < 4096 := (y 1).isLt; omega⟩
    ⟨(y 1).val % 8 * 128 + (y 2).val, by have h : (y 2).val < 128 := (y 2).isLt; omega⟩)) _ ?_ _ (cover0_7 _ _ _ _ _ _ _ _ _)).trans rfl
  intro p hp
  simp only [List.mem_cons, List.not_mem_nil, or_false] at hp
  rcases hp with rfl | rfl | rfl | rfl | rfl | rfl | rfl | rfl
  all_goals
    intro x
    obtain ⟨a, r, l, rfl⟩ : ∃ (a : Fin 1) (r : Fin 512) (l : Fin 128), x = ix3 a r l := ⟨x 0, x 1, x 2, eq_ix3 x⟩
    pointwise []
    refine congrArg v ?_
    congr 1
    · refine Fin.ext ?_
      show r.val = (_ + 8 * r.val) / 8
      simp only [Matrix.cons_val]
      omega
    · refine Fin.ext ?_
      show _ = (_ + 8 * r.val) % 8 * 128 + (0 + 1 * l.val)
      simp only [Matrix.cons_val]
      omega

variable (W : Vec Ideal S1024x3072 .bf16) (u : Vec Ideal S512x128 .f32)

/-- Row `r` of the block of the stacked projection. -/
abbrev stackedAt (r : Fin 512) (j : Fin 3072) : EReal :=
  Rows.stacked (fun k => x (ix3 0 r k)) (fun k => g (ix2 0 k)) (fun k => sc (ix3 0 0 k)) (fun k => sh (ix3 0 0 k)) (fun k j => W (ix2 k j)) j

theorem krow (r : Fin 512) (j : Fin 1024) :
    k0_pay11 (k0_pay7 (View.ld t r0_3)) (k0_pay8 (View.ld u r0_3)) (k0_pay10 (k0_pay6 (View.ld x r0_0) (View.ld g r0_1) (View.ld sc r0_2) (View.ld sh r0_2)) (View.ld W r0_5)) (iota .tc S512x1024 32 [1] iota_S512x1024_d1_w32) 64#32 (ix3 0 r j)
      = Rows.turned (fun j => stackedAt x g sh sc W r ⟨1024 + j.val, by omega⟩) (fun l => t (ix2 r l)) (fun l => u (ix2 r l)) j := by
  rw [k_at]
  simp only [prod_at, cos_at, sin_at, h_at]
  pointwise [Rows.turned, Rows.stacked]

theorem vrow (r : Fin 512) (j : Fin 1024) :
    k0_pay13 (k0_pay6 (View.ld x r0_0) (View.ld g r0_1) (View.ld sc r0_2) (View.ld sh r0_2)) (View.ld W r0_6) (ix3 0 r j)
      = stackedAt x g sh sc W r ⟨2048 + j.val, by omega⟩ := by
  rw [v_at]
  simp only [h_at]
  pointwise [Rows.stacked]

/-- The rotated queries, scaled. -/
theorem out9_at (r : Fin 512) (j : Fin 1024) : out0_9 x g sh sc W t u (ix3 0 r j)
      = Rows.turned (fun j => stackedAt x g sh sc W r ⟨j.val, by omega⟩) (fun l => t (ix2 r l)) (fun l => u (ix2 r l)) j * Ideal.ofBits .f32 0x3E38AA3B#32 := by
  frame_out
  rw [q_at]
  simp only [cos_at, sin_at, h_at]
  pointwise [Rows.turned, Rows.stacked]

/-- The rotated keys. -/
theorem out10_at (r : Fin 512) (j : Fin 1024) : out0_10 x g sh sc W t u (ix3 0 r j)
      = Rows.turned (fun j => stackedAt x g sh sc W r ⟨1024 + j.val, by omega⟩) (fun l => t (ix2 r l)) (fun l => u (ix2 r l)) j := by
  frame_out
  rw [kb_at]
  simp only [prod_at, cos_at, sin_at, h_at]
  pointwise [Rows.turned, Rows.stacked]

/-- The values. -/
theorem out11_at (r : Fin 512) (j : Fin 1024) : out0_11 x g sh sc W t u (ix3 0 r j)
      = stackedAt x g sh sc W r ⟨2048 + j.val, by omega⟩ := by
  frame_out
  rw [vb_at]
  simp only [h_at]
  pointwise [Rows.stacked]

/-- The rotated keys, one row per head. -/
theorem out7_at (y : Fin 4096) (l : Fin 128) : out0_7 x g sh sc W t u (ix3 0 y l)
      = Rows.turned (fun j => stackedAt x g sh sc W ⟨y.val / 8, by omega⟩ ⟨1024 + j.val, by omega⟩) (fun l => t (ix2 ⟨y.val / 8, by omega⟩ l)) (fun l => u (ix2 ⟨y.val / 8, by omega⟩ l)) ⟨y.val % 8 * 128 + l.val, by omega⟩ :=
  (rows_at _ y l).trans (krow x g sh sc t W u _ _)

/-- The values, one row per head. -/
theorem out8_at (y : Fin 4096) (l : Fin 128) : out0_8 x g sh sc W t u (ix3 0 y l)
      = stackedAt x g sh sc W ⟨y.val / 8, by omega⟩ ⟨2048 + (y.val % 8 * 128 + l.val), by omega⟩ :=
  (rows_at _ y l).trans (vrow x g sh sc W _ _)

end Block

variable (m : (ℓ : Loc nD τ sig) → Buf (Elt Ideal) ℓ)

/-! What the region finds in the arrays that the host prepares, entry by entry. -/

theorem v26_at (c : Dev nD) (k : Fin 1024) : V m c main_v26 (ix2 0 k) = m ((c : Thread nD τ).loc main_arg1) (ix1 k) := by
  unfold V; after_reads_at

theorem v27_at (c : Dev nD) (a : Fin 4) (k : Fin 1024) : V m c main_v27 (ix3 a 0 k) = m ((c : Thread nD τ).loc main_arg2) (ix2 a k) := by
  unfold V; after_reads_at

theorem v28_at (c : Dev nD) (a : Fin 4) (k : Fin 1024) : V m c main_v28 (ix3 a 0 k) = m ((c : Thread nD τ).loc main_arg3) (ix2 a k) := by
  unfold V; after_reads_at

theorem v29_at (c : Dev nD) (k : Fin 1024) (f : Fin 3072) : V m c main_v29 (ix2 k f) = m ((c : Thread nD τ).loc main_arg4) (ix2 k f) := by
  unfold V; after_reads_at

theorem v20_at (c : Dev nD) (l : Fin 8192) (f : Fin 128) : V m c main_v20 (ix2 l f) = Ideal.cos (Rows.angle 0#32 l.val (f.val % 32)) := by
  unfold V; after_reads_at
  split_ifs <;> after_reads_at
  all_goals first
    | (simp only [Rows.angle, show f.val % 64 = f.val % 32 from by omega]; done)
    | simp only [Rows.angle, show f.val % 64 - 32 = f.val % 32 from by omega]

theorem v25_at (c : Dev nD) (l : Fin 8192) (f : Fin 128) : V m c main_v25 (ix2 l f)
    = if f.val % 64 < 32 then -Ideal.sin (Rows.angle 0#32 l.val (f.val % 32)) else Ideal.sin (Rows.angle 0#32 l.val (f.val % 32)) := by
  unfold V; after_reads_at
  split_ifs <;> after_reads_at
  all_goals first
    | (simp only [Rows.angle, show f.val % 64 = f.val % 32 from by omega]; done)
    | simp only [Rows.angle, show f.val % 64 - 32 = f.val % 32 from by omega]

/-- Where each window's block stands, as the result's block moves. -/
theorem idx : ∀ t : Fin cfg0.N, win0_0.index t = win0_9.index t ∧ win0_1.index t = ![0, 0] ∧ win0_2.index t = ![win0_9.index t 0, 0, 0] ∧ win0_3.index t = ![win0_9.index t 0, 0, 0] ∧ win0_4.index t = ![0, 0] ∧ win0_5.index t = ![win0_9.index t 1, 0] ∧ win0_6.index t = ![win0_9.index t 1, 0] ∧ win0_7.index t = win0_9.index t ∧ win0_8.index t = win0_9.index t ∧ win0_10.index t = win0_9.index t ∧ win0_11.index t = win0_9.index t ∧ win0_9.index t 2 = 0 ∧ win0_9.index t 0 < 4 ∧ win0_9.index t 1 < 16 := by
  decide +kernel

/-- The sequence that grid point `t` works on. -/
def seq (t : Fin cfg0.N) : Fin 4 := ⟨win0_9.index t 0, by obtain ⟨e0, e1, e2, e3, e4, e5, e6, e7, e8, e10, e11, e9, b0, b1⟩ := idx t; omega⟩

/-- The position that row `r` of grid point `t`'s block stands at. -/
def pos (t : Fin cfg0.N) (r : Fin 512) : Fin 8192 := ⟨512 * win0_9.index t 1 + r.val, by obtain ⟨e0, e1, e2, e3, e4, e5, e6, e7, e8, e10, e11, e9, b0, b1⟩ := idx t; omega⟩

/-- The stacked projection at position `l` of sequence `a`. -/
def proj (c : Dev nD) (a : Fin 4) (l : Fin 8192) (j : Fin 3072) : EReal :=
  Rows.stacked (fun k => m ((c : Thread nD τ).loc main_arg0) (ix3 a l k))
      (fun k => m ((c : Thread nD τ).loc main_arg1) (ix1 k)) (fun k => m ((c : Thread nD τ).loc main_arg3) (ix2 a k)) (fun k => m ((c : Thread nD τ).loc main_arg2) (ix2 a k))
      (fun k j => m ((c : Thread nD τ).loc main_arg4) (ix2 k j)) j

theorem in0 (c : Dev nD) (t : Fin cfg0.N) (r : Fin 512) (k : Fin 1024) : iblk m c 0 t (ix3 0 r k) = m ((c : Thread nD τ).loc main_arg0) (ix3 (seq t) (pos t r) k) := by
  obtain ⟨e0, e1, e2, e3, e4, e5, e6, e7, e8, e10, e11, e9, b0, b1⟩ := idx t
  unfold seq pos
  blk_ext! [iblk, V_main_arg0, e0, e9]

theorem in1 (c : Dev nD) (t : Fin cfg0.N) (k : Fin 1024) : iblk m c 1 t (ix2 0 k) = m ((c : Thread nD τ).loc main_arg1) (ix1 k) := by
  obtain ⟨e0, e1, e2, e3, e4, e5, e6, e7, e8, e10, e11, e9, b0, b1⟩ := idx t
  refine Eq.trans ?_ (v26_at m c k); blk_ext! [iblk, e1]

theorem in2 (c : Dev nD) (t : Fin cfg0.N) (k : Fin 1024) : iblk m c 2 t (ix3 0 0 k) = m ((c : Thread nD τ).loc main_arg2) (ix2 (seq t) k) := by
  obtain ⟨e0, e1, e2, e3, e4, e5, e6, e7, e8, e10, e11, e9, b0, b1⟩ := idx t
  refine Eq.trans ?_ (v27_at m c _ k); unfold seq; blk_ext! [iblk, e2]

theorem in3 (c : Dev nD) (t : Fin cfg0.N) (k : Fin 1024) : iblk m c 3 t (ix3 0 0 k) = m ((c : Thread nD τ).loc main_arg3) (ix2 (seq t) k) := by
  obtain ⟨e0, e1, e2, e3, e4, e5, e6, e7, e8, e10, e11, e9, b0, b1⟩ := idx t
  refine Eq.trans ?_ (v28_at m c _ k); unfold seq; blk_ext! [iblk, e3]

theorem in4 (c : Dev nD) (t : Fin cfg0.N) (k : Fin 1024) (j : Fin 3072) : iblk m c 4 t (ix2 k j) = m ((c : Thread nD τ).loc main_arg4) (ix2 k j) := by
  obtain ⟨e0, e1, e2, e3, e4, e5, e6, e7, e8, e10, e11, e9, b0, b1⟩ := idx t
  refine Eq.trans ?_ (v29_at m c k j); blk_ext! [iblk, e4]

theorem in5 (c : Dev nD) (t : Fin cfg0.N) (r : Fin 512) (f : Fin 128) : iblk m c 5 t (ix2 r f) = Ideal.cos (Rows.angle 0#32 (pos t r).val (f.val % 32)) := by
  obtain ⟨e0, e1, e2, e3, e4, e5, e6, e7, e8, e10, e11, e9, b0, b1⟩ := idx t
  refine Eq.trans ?_ (v20_at m c (pos t r) f); unfold pos; blk_ext! [iblk, e5]

theorem in6 (c : Dev nD) (t : Fin cfg0.N) (r : Fin 512) (f : Fin 128) : iblk m c 6 t (ix2 r f)
    = if f.val % 64 < 32 then -Ideal.sin (Rows.angle 0#32 (pos t r).val (f.val % 32)) else Ideal.sin (Rows.angle 0#32 (pos t r).val (f.val % 32)) := by
  obtain ⟨e0, e1, e2, e3, e4, e5, e6, e7, e8, e10, e11, e9, b0, b1⟩ := idx t
  refine Eq.trans ?_ (v25_at m c (pos t r) f); unfold pos; blk_ext! [iblk, e6]

theorem proj_at (c : Dev nD) (t : Fin cfg0.N) (r : Fin 512) (j : Fin 3072) :
    stackedAt (iblk m c 0 t) (iblk m c 1 t) (iblk m c 2 t) (iblk m c 3 t) (iblk m c 4 t) r j = proj m c (seq t) (pos t r) j := by
  unfold stackedAt proj
  congr 1
  · funext k; exact in0 m c t r k
  · funext k; exact in1 m c t k
  · funext k; exact in3 m c t k
  · funext k; exact in2 m c t k
  · funext k j; exact in4 m c t k j

theorem turned_at (c : Dev nD) (t : Fin cfg0.N) (r : Fin 512) (o : Fin 1024 → Fin 3072) (j : Fin 1024) :
    Rows.turned (fun j : Fin 1024 => stackedAt (iblk m c 0 t) (iblk m c 1 t) (iblk m c 2 t) (iblk m c 3 t) (iblk m c 4 t) r (o j))
      (fun f => iblk m c 5 t (ix2 r f)) (fun f => iblk m c 6 t (ix2 r f)) j
      = Rows.rotated 0#32 (pos t r).val (fun j => proj m c (seq t) (pos t r) (o j)) j := by
  unfold Rows.rotated
  rw [show (fun j : Fin 1024 => stackedAt (iblk m c 0 t) (iblk m c 1 t) (iblk m c 2 t) (iblk m c 3 t) (iblk m c 4 t) r (o j))
      = fun j => proj m c (seq t) (pos t r) (o j) from funext fun j => proj_at m c t r _,
    show (fun f : Fin 128 => iblk m c 5 t (ix2 r f)) = _ from funext fun f => in5 m c t r f,
    show (fun f : Fin 128 => iblk m c 6 t (ix2 r f)) = _ from funext fun f => in6 m c t r f]

theorem emb9 (t : Fin cfg0.N) (r : Fin 512) (j : Fin 1024) : (win0_9.blk t).view.emb (ix3 0 r j) = (ix3 (seq t) (pos t r) j : S4x8192x1024.Idx) := by
  obtain ⟨e0, e1, e2, e3, e4, e5, e6, e7, e8, e10, e11, e9, b0, b1⟩ := idx t
  unfold seq pos
  blk_ext! [e9, e9]

theorem emb10 (t : Fin cfg0.N) (r : Fin 512) (j : Fin 1024) : (win0_10.blk t).view.emb (ix3 0 r j) = (ix3 (seq t) (pos t r) j : S4x8192x1024.Idx) := by
  obtain ⟨e0, e1, e2, e3, e4, e5, e6, e7, e8, e10, e11, e9, b0, b1⟩ := idx t
  unfold seq pos
  blk_ext! [e10, e9]

theorem emb11 (t : Fin cfg0.N) (r : Fin 512) (j : Fin 1024) : (win0_11.blk t).view.emb (ix3 0 r j) = (ix3 (seq t) (pos t r) j : S4x8192x1024.Idx) := by
  obtain ⟨e0, e1, e2, e3, e4, e5, e6, e7, e8, e10, e11, e9, b0, b1⟩ := idx t
  unfold seq pos
  blk_ext! [e11, e9]

theorem emb7 (t : Fin cfg0.N) (y : Fin 4096) (j : Fin 128) : (win0_7.blk t).view.emb (ix3 0 y j) = (ix3 (seq t) ⟨4096 * win0_9.index t 1 + y.val, by obtain ⟨e0, e1, e2, e3, e4, e5, e6, e7, e8, e10, e11, e9, b0, b1⟩ := idx t; omega⟩ j : S4x65536x128.Idx) := by
  obtain ⟨e0, e1, e2, e3, e4, e5, e6, e7, e8, e10, e11, e9, b0, b1⟩ := idx t
  unfold seq
  blk_ext! [e7, e9]

theorem emb8 (t : Fin cfg0.N) (y : Fin 4096) (j : Fin 128) : (win0_8.blk t).view.emb (ix3 0 y j) = (ix3 (seq t) ⟨4096 * win0_9.index t 1 + y.val, by obtain ⟨e0, e1, e2, e3, e4, e5, e6, e7, e8, e10, e11, e9, b0, b1⟩ := idx t; omega⟩ j : S4x65536x128.Idx) := by
  obtain ⟨e0, e1, e2, e3, e4, e5, e6, e7, e8, e10, e11, e9, b0, b1⟩ := idx t
  unfold seq
  blk_ext! [e8, e9]

end Cert.KernelQkvIdeal.Hand

end
-- ==== Proof.QkvRef.lean ====
module

public import proofs.«01_k».proof.Defs
public import proofs.«01_k».proof.Proof.QkvRows
public import proofs.«01_k».proof.Proof.Gen.ReferenceQkvIdeal.Run
public import Idealize.ShloMosaic.Lib.Pipeline.ValueKit
public import Idealize.ShloMosaic.Lib.Tactic.CleanTypes
public import Idealize.ShloMosaic.Lib.StableHlo.ReadAt
public import Idealize.ShloMosaic.Lib.Quiescent

/-! What the reference of the rotary projections computes, row by row. -/

@[expose] public section

set_option maxRecDepth 16384

noncomputable section

namespace Cert.ReferenceQkvIdeal.Hand

open Cert.ReferenceQkvIdeal Idealize.ShloMosaic Idealize.ShloMosaic.TcCoe Idealize.SL.Sem
open Cert Cert.ReferenceQkvIdeal.Gen

/-- The rotation of a head, at one entry of it. -/
theorem head_at (X : FVec Ideal S4x8192x16x64 .f32) (A : FVec Ideal S8192x32 .f32) (a : Fin 4) (l : Fin 8192) (h : Fin 16) (e : Fin 64) :
    (concatenate S4x8192x16x64 3 [⟨S4x8192x16x32, (subf (mulf (extractStridedSlice S4x8192x16x32 ![0, 0, 0, 0] X slices_S4x8192x16x64_S4x8192x16x32_0_0_0_0) (broadcastInDim S4x8192x16x32 ![0, 1, 2, 3] bcast_S1x8192x1x32_S4x8192x16x32_0_1_2_3 (broadcastInDim S1x8192x1x32 ![1, 2, 3] bcast_S8192x1x32_S1x8192x1x32_1_2_3 (broadcastInDim S8192x1x32 ![0, 2] bcast_S8192x32_S8192x1x32_0_2 (Host.cos A))))) (mulf (extractStridedSlice S4x8192x16x32 ![0, 0, 0, 32] X slices_S4x8192x16x64_S4x8192x16x32_0_0_0_32) (broadcastInDim S4x8192x16x32 ![0, 1, 2, 3] bcast_S1x8192x1x32_S4x8192x16x32_0_1_2_3 (broadcastInDim S1x8192x1x32 ![1, 2, 3] bcast_S8192x1x32_S1x8192x1x32_1_2_3 (broadcastInDim S8192x1x32 ![0, 2] bcast_S8192x32_S8192x1x32_0_2 (Host.sin A))))))⟩, ⟨S4x8192x16x32, (addf (mulf (extractStridedSlice S4x8192x16x32 ![0, 0, 0, 0] X slices_S4x8192x16x64_S4x8192x16x32_0_0_0_0) (broadcastInDim S4x8192x16x32 ![0, 1, 2, 3] bcast_S1x8192x1x32_S4x8192x16x32_0_1_2_3 (broadcastInDim S1x8192x1x32 ![1, 2, 3] bcast_S8192x1x32_S1x8192x1x32_1_2_3 (broadcastInDim S8192x1x32 ![0, 2] bcast_S8192x32_S8192x1x32_0_2 (Host.sin A))))) (mulf (extractStridedSlice S4x8192x16x32 ![0, 0, 0, 32] X slices_S4x8192x16x64_S4x8192x16x32_0_0_0_32) (broadcastInDim S4x8192x16x32 ![0, 1, 2, 3] bcast_S1x8192x1x32_S4x8192x16x32_0_1_2_3 (broadcastInDim S1x8192x1x32 ![1, 2, 3] bcast_S8192x1x32_S1x8192x1x32_1_2_3 (broadcastInDim S8192x1x32 ![0, 2] bcast_S8192x32_S8192x1x32_0_2 (Host.cos A))))))⟩] concatenates_S4x8192x16x32_S4x8192x16x32_S4x8192x16x64_d3) (ix4 a l h e)
      = if e.val < 32 then X (ix4 a l h e) * Ideal.cos (A (ix2 l ⟨e.val % 32, by omega⟩)) - X (ix4 a l h ⟨(e.val + 32) % 64, by omega⟩) * Ideal.sin (A (ix2 l ⟨e.val % 32, by omega⟩))
        else X (ix4 a l h ⟨(e.val + 32) % 64, by omega⟩) * Ideal.sin (A (ix2 l ⟨e.val % 32, by omega⟩)) + X (ix4 a l h e) * Ideal.cos (A (ix2 l ⟨e.val % 32, by omega⟩)) := by
  pointwise []
  split_ifs <;> blk_point

/-- The angles' table. -/
theorem angle_at (l : Fin 8192) (e : Fin 32) : ((mulf (broadcastInDim S8192x32 ![0, 1] bcast_S8192x1_S8192x32_0_1 (broadcastInDim S8192x1 ![0] bcast_S8192_S8192x1_0 (sitofp .f32 (addi (broadcastInDim S8192 ![] bcast_S_S8192 (constantI S_ 32 0#32)) (iotaInDim S8192 32 0))))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))) : FVec Ideal S8192x32 .f32) (ix2 l e) = Rows.angle 0#32 l.val e.val := by
  pointwise [Rows.angle]

theorem merge_at (Z : FVec Ideal S4x8192x16x64 .f32) (a : Fin 4) (l : Fin 8192) (j : Fin 1024) :
    shapeCast S4x8192x1024 Z shapeCasts_S4x8192x16x64_S4x8192x1024 (ix3 a l j) = Z (ix4 a l ⟨j.val / 64, by omega⟩ ⟨j.val % 64, by omega⟩) := by
  pointwise []

theorem split_at' (Y : FVec Ideal S4x8192x1024 .f32) (a : Fin 4) (l : Fin 8192) (h : Fin 16) (e : Fin 64) :
    shapeCast S4x8192x16x64 Y shapeCasts_S4x8192x1024_S4x8192x16x64 (ix4 a l h e) = Y (ix3 a l ⟨h.val * 64 + e.val, by omega⟩) := by
  pointwise []

theorem rows_at (Y : FVec Ideal S4x8192x1024 .f32) (a : Fin 4) (y : Fin 65536) (l : Fin 128) :
    shapeCast S4x65536x128 Y shapeCasts_S4x8192x1024_S4x65536x128 (ix3 a y l) = Y (ix3 a ⟨y.val / 8, by omega⟩ ⟨y.val % 8 * 128 + l.val, by omega⟩) := by
  pointwise []

/-- The rotation of the whole row, at one entry. -/
theorem rope_at (Y : FVec Ideal S4x8192x1024 .f32) (A : FVec Ideal S8192x32 .f32) (hA : ∀ l e, A (ix2 l e) = Rows.angle 0#32 l.val e.val) (a : Fin 4) (l : Fin 8192) (j : Fin 1024) :
    (shapeCast S4x8192x1024 (concatenate S4x8192x16x64 3 [⟨S4x8192x16x32, (subf (mulf (extractStridedSlice S4x8192x16x32 ![0, 0, 0, 0] (shapeCast _ Y shapeCasts_S4x8192x1024_S4x8192x16x64) slices_S4x8192x16x64_S4x8192x16x32_0_0_0_0) (broadcastInDim S4x8192x16x32 ![0, 1, 2, 3] bcast_S1x8192x1x32_S4x8192x16x32_0_1_2_3 (broadcastInDim S1x8192x1x32 ![1, 2, 3] bcast_S8192x1x32_S1x8192x1x32_1_2_3 (broadcastInDim S8192x1x32 ![0, 2] bcast_S8192x32_S8192x1x32_0_2 (Host.cos A))))) (mulf (extractStridedSlice S4x8192x16x32 ![0, 0, 0, 32] (shapeCast _ Y shapeCasts_S4x8192x1024_S4x8192x16x64) slices_S4x8192x16x64_S4x8192x16x32_0_0_0_32) (broadcastInDim S4x8192x16x32 ![0, 1, 2, 3] bcast_S1x8192x1x32_S4x8192x16x32_0_1_2_3 (broadcastInDim S1x8192x1x32 ![1, 2, 3] bcast_S8192x1x32_S1x8192x1x32_1_2_3 (broadcastInDim S8192x1x32 ![0, 2] bcast_S8192x32_S8192x1x32_0_2 (Host.sin A))))))⟩, ⟨S4x8192x16x32, (addf (mulf (extractStridedSlice S4x8192x16x32 ![0, 0, 0, 0] (shapeCast _ Y shapeCasts_S4x8192x1024_S4x8192x16x64) slices_S4x8192x16x64_S4x8192x16x32_0_0_0_0) (broadcastInDim S4x8192x16x32 ![0, 1, 2, 3] bcast_S1x8192x1x32_S4x8192x16x32_0_1_2_3 (broadcastInDim S1x8192x1x32 ![1, 2, 3] bcast_S8192x1x32_S1x8192x1x32_1_2_3 (broadcastInDim S8192x1x32 ![0, 2] bcast_S8192x32_S8192x1x32_0_2 (Host.sin A))))) (mulf (extractStridedSlice S4x8192x16x32 ![0, 0, 0, 32] (shapeCast _ Y shapeCasts_S4x8192x1024_S4x8192x16x64) slices_S4x8192x16x64_S4x8192x16x32_0_0_0_32) (broadcastInDim S4x8192x16x32 ![0, 1, 2, 3] bcast_S1x8192x1x32_S4x8192x16x32_0_1_2_3 (broadcastInDim S1x8192x1x32 ![1, 2, 3] bcast_S8192x1x32_S1x8192x1x32_1_2_3 (broadcastInDim S8192x1x32 ![0, 2] bcast_S8192x32_S8192x1x32_0_2 (Host.cos A))))))⟩] concatenates_S4x8192x16x32_S4x8192x16x32_S4x8192x16x64_d3) shapeCasts_S4x8192x16x64_S4x8192x1024) (ix3 a l j)
      = Rows.rotated 0#32 l.val (fun j => Y (ix3 a l j)) j := by
  rw [Rows.rotated_eq]
  refine (merge_at _ a l j).trans ((head_at _ A a l _ _).trans ?_)
  have e1 : j.val / 64 * 64 + j.val % 64 = j.val := by omega
  have e2 : j.val % 64 % 32 = j.val % 32 := by omega
  simp only [hA, split_at', e1, e2]
  unfold Rows.rope
  split_ifs with h
  · have e3 : j.val / 64 * 64 + (j.val % 64 + 32) % 64 = (j.val + 32) % 1024 := by omega
    simp only [e3]
  · have e3 : j.val / 64 * 64 + (j.val % 64 + 32) % 64 = (j.val + 992) % 1024 := by omega
    simp only [e3]

/-- The stacked projection, at one entry. -/
theorem dot_at (m : (ℓ : Loc nD τ sig) → Buf (Elt Ideal) ℓ) (c : Dev nD) (a : Fin 4) (l : Fin 8192) (j : Fin 3072) : ((Host.dotGeneral (φ₂ := .f32) dot_S4x8192x1024_S1024x3072_S4x8192x3072_2_0_01_1_n_n none (addf (mulf (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg1))))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (m ((c.tc : Thread nD τ).loc main_arg3)))))) (broadcastInDim S4x8192x1024 ![0, 1, 2] bcast_S4x1x1024_S4x8192x1024_0_1_2 (broadcastInDim S4x1x1024 ![0, 2] bcast_S4x1024_S4x1x1024_0_2 (m ((c.tc : Thread nD τ).loc main_arg2))))) (m ((c.tc : Thread nD τ).loc main_arg4))) : FVec Ideal S4x8192x3072 .f32) (ix3 a l j)
      = Rows.stacked (fun k => m ((c.tc : Thread nD τ).loc main_arg0) (ix3 a l k)) (fun k => m ((c.tc : Thread nD τ).loc main_arg1) (ix1 k))
          (fun k => m ((c.tc : Thread nD τ).loc main_arg3) (ix2 a k)) (fun k => m ((c.tc : Thread nD τ).loc main_arg2) (ix2 a k)) (fun k j => m ((c.tc : Thread nD τ).loc main_arg4) (ix2 k j)) j := by
  clean_types
  pointwise [Rows.stacked, Rows.modulated, Rows.norm]

theorem slice0_at (D : FVec Ideal S4x8192x3072 .f32) (a : Fin 4) (l : Fin 8192) (j : Fin 1024) :
    extractStridedSlice S4x8192x1024 ![0, 0, 0] D slices_S4x8192x3072_S4x8192x1024_0_0_0 (ix3 a l j) = D (ix3 a l ⟨j.val, by omega⟩) := by
  pointwise []

theorem slice1024_at (D : FVec Ideal S4x8192x3072 .f32) (a : Fin 4) (l : Fin 8192) (j : Fin 1024) :
    extractStridedSlice S4x8192x1024 ![0, 0, 1024] D slices_S4x8192x3072_S4x8192x1024_0_0_1024 (ix3 a l j) = D (ix3 a l ⟨1024 + j.val, by omega⟩) := by
  pointwise []

theorem slice2048_at (D : FVec Ideal S4x8192x3072 .f32) (a : Fin 4) (l : Fin 8192) (j : Fin 1024) :
    extractStridedSlice S4x8192x1024 ![0, 0, 2048] D slices_S4x8192x3072_S4x8192x1024_0_0_2048 (ix3 a l j) = D (ix3 a l ⟨2048 + j.val, by omega⟩) := by
  pointwise []

theorem cast_at (Y : FVec Ideal S4x8192x1024 .f32) (a : Fin 4) (l : Fin 8192) (j : Fin 1024) :
    (truncf .bf16 Y bitsLt_bf16_f32 : FVec Ideal S4x8192x1024 .bf16) (ix3 a l j) = Y (ix3 a l j) := by
  pointwise []

theorem scaled_at (Y : FVec Ideal S4x8192x1024 .f32) (a : Fin 4) (l : Fin 8192) (j : Fin 1024) :
    (truncf .bf16 (mulf Y (broadcastInDim S4x8192x1024 ![] bcast_S_S4x8192x1024 (constant S_ .f32 0x3E38AA3B#32))) bitsLt_bf16_f32 : FVec Ideal S4x8192x1024 .bf16) (ix3 a l j)
      = Y (ix3 a l j) * Ideal.ofBits .f32 0x3E38AA3B#32 := by
  pointwise []

variable (m : (ℓ : Loc nD τ sig) → Buf (Elt Ideal) ℓ)

/-- The stacked projection at position `l` of sequence `a`. -/
def proj (c : Dev nD) (a : Fin 4) (l : Fin 8192) (j : Fin 3072) : EReal :=
  Rows.stacked (fun k => m ((c.tc : Thread nD τ).loc main_arg0) (ix3 a l k)) (fun k => m ((c.tc : Thread nD τ).loc main_arg1) (ix1 k))
          (fun k => m ((c.tc : Thread nD τ).loc main_arg3) (ix2 a k)) (fun k => m ((c.tc : Thread nD τ).loc main_arg2) (ix2 a k)) (fun k j => m ((c.tc : Thread nD τ).loc main_arg4) (ix2 k j)) j

/-- The rotated keys, one row per head. -/
theorem result0 (c : Dev nD) : Value.res_out0 m c = fun i =>
    Rows.rotated 0#32 ((i 1).val / 8) (fun j => proj m c (i 0) ⟨(i 1).val / 8, by have h : (i 1).val < 65536 := (i 1).isLt; have h2 : (i 2).val < 128 := (i 2).isLt; omega⟩ ⟨1024 + j.val, by omega⟩) ⟨(i 1).val % 8 * 128 + (i 2).val, by have h : (i 1).val < 65536 := (i 1).isLt; have h2 : (i 2).val < 128 := (i 2).isLt; omega⟩ := by
  unfold Value.res_out0 Value.res_main_v98
  funext i
  obtain ⟨a, y, l, rfl⟩ : ∃ (a : Fin 4) (b : Fin 65536) (k : Fin 128), i = ix3 a b k := ⟨i 0, i 1, i 2, eq_ix3 i⟩
  refine (rows_at _ a y l).trans ((rope_at _ _ angle_at a _ _).trans ?_)
  exact congrArg (fun T => Rows.rotated 0#32 (y.val / 8) T ⟨y.val % 8 * 128 + l.val, by omega⟩) (funext fun j => (slice1024_at _ a _ j).trans (dot_at m c a _ _))

/-- The rotated queries, scaled. -/
theorem result2 (c : Dev nD) : Value.res_out2 m c = fun i =>
    Rows.rotated 0#32 (i 1).val (fun j => proj m c (i 0) (i 1) ⟨j.val, by omega⟩) (i 2) * Ideal.ofBits .f32 0x3E38AA3B#32 := by
  unfold Value.res_out2 Value.res_main_v102
  funext i
  obtain ⟨a, l, j, rfl⟩ : ∃ (a : Fin 4) (b : Fin 8192) (k : Fin 1024), i = ix3 a b k := ⟨i 0, i 1, i 2, eq_ix3 i⟩
  refine (scaled_at _ a l j).trans (congrArg (· * Ideal.ofBits .f32 0x3E38AA3B#32) ((rope_at _ _ angle_at a l j).trans ?_))
  exact congrArg (fun T => Rows.rotated 0#32 l.val T j) (funext fun j => (slice0_at _ a l j).trans (dot_at m c a l _))

/-- The rotated keys. -/
theorem result3 (c : Dev nD) : Value.res_out3 m c = fun i =>
    Rows.rotated 0#32 (i 1).val (fun j => proj m c (i 0) (i 1) ⟨1024 + j.val, by omega⟩) (i 2) := by
  unfold Value.res_out3 Value.res_main_v103
  funext i
  obtain ⟨a, l, j, rfl⟩ : ∃ (a : Fin 4) (b : Fin 8192) (k : Fin 1024), i = ix3 a b k := ⟨i 0, i 1, i 2, eq_ix3 i⟩
  refine (cast_at _ a l j).trans ((rope_at _ _ angle_at a l j).trans ?_)
  exact congrArg (fun T => Rows.rotated 0#32 l.val T j) (funext fun j => (slice1024_at _ a l j).trans (dot_at m c a l _))

/-- The values, one row per head. -/
theorem result1 (c : Dev nD) : (shapeCast S4x65536x128 (extractStridedSlice S4x8192x1024 ![0, 0, 2048] (Host.dotGeneral (φ₂ := .f32) dot_S4x8192x1024_S1024x3072_S4x8192x3072_2_0_01_1_n_n none (addf (mulf (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg1))))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (m ((c.tc : Thread nD τ).loc main_arg3)))))) (broadcastInDim S4x8192x1024 ![0, 1, 2] bcast_S4x1x1024_S4x8192x1024_0_1_2 (broadcastInDim S4x1x1024 ![0, 2] bcast_S4x1024_S4x1x1024_0_2 (m ((c.tc : Thread nD τ).loc main_arg2))))) (m ((c.tc : Thread nD τ).loc main_arg4))) slices_S4x8192x3072_S4x8192x1024_0_0_2048) shapeCasts_S4x8192x1024_S4x65536x128 : FVec Ideal S4x65536x128 .f32) = fun i =>
    proj m c (i 0) ⟨(i 1).val / 8, by have h : (i 1).val < 65536 := (i 1).isLt; have h2 : (i 2).val < 128 := (i 2).isLt; omega⟩ ⟨2048 + ((i 1).val % 8 * 128 + (i 2).val), by have h : (i 1).val < 65536 := (i 1).isLt; have h2 : (i 2).val < 128 := (i 2).isLt; omega⟩ := by
  funext i
  obtain ⟨a, y, l, rfl⟩ : ∃ (a : Fin 4) (b : Fin 65536) (k : Fin 128), i = ix3 a b k := ⟨i 0, i 1, i 2, eq_ix3 i⟩
  exact (rows_at _ a y l).trans ((slice2048_at _ a _ _).trans (dot_at m c a _ _))

/-- The values. -/
theorem result4 (c : Dev nD) : (truncf .bf16 (extractStridedSlice S4x8192x1024 ![0, 0, 2048] (Host.dotGeneral (φ₂ := .f32) dot_S4x8192x1024_S1024x3072_S4x8192x3072_2_0_01_1_n_n none (addf (mulf (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg1))))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (m ((c.tc : Thread nD τ).loc main_arg3)))))) (broadcastInDim S4x8192x1024 ![0, 1, 2] bcast_S4x1x1024_S4x8192x1024_0_1_2 (broadcastInDim S4x1x1024 ![0, 2] bcast_S4x1024_S4x1x1024_0_2 (m ((c.tc : Thread nD τ).loc main_arg2))))) (m ((c.tc : Thread nD τ).loc main_arg4))) slices_S4x8192x3072_S4x8192x1024_0_0_2048) bitsLt_bf16_f32 : FVec Ideal S4x8192x1024 .bf16) = fun i =>
    proj m c (i 0) (i 1) ⟨2048 + (i 2).val, by have h2 : (i 2).val < 1024 := (i 2).isLt; omega⟩ := by
  funext i
  obtain ⟨a, l, j, rfl⟩ : ∃ (a : Fin 4) (b : Fin 8192) (k : Fin 1024), i = ix3 a b k := ⟨i 0, i 1, i 2, eq_ix3 i⟩
  exact (cast_at _ a l j).trans ((slice2048_at _ a l j).trans (dot_at m c a l _))

end Cert.ReferenceQkvIdeal.Hand

end
-- ==== Proof.Qkv.lean ====
module

public import proofs.«01_k».proof.Defs
public import proofs.«01_k».proof.Proof.QkvBlock
public import proofs.«01_k».proof.Proof.QkvRef
public import proofs.«01_k».proof.Proof.KernelQkvIdealFrame
public import Idealize.ShloMosaic.Lib.Pipeline.ValueKit
public import Idealize.ShloMosaic.Lib.Tactic.CleanTypes
public import Idealize.ShloMosaic.Lib.StableHlo.ReadAt
public import Idealize.ShloMosaic.Lib.Quiescent

/-! The rotary projections of the differential attention at the prompt's shapes. -/

@[expose] public section

set_option maxRecDepth 16384

noncomputable section

namespace Cert.KernelQkvIdeal.Hand

open Cert.KernelQkvIdeal Cert.KernelQkvIdeal.Gen Idealize.ShloMosaic Idealize.ShloMosaic.TcCoe Idealize.SL.Sem
open Idealize.ShloMosaic.Pipeline (Dat)
open Cert

variable (m : (ℓ : Loc nD τ sig) → Buf (Elt Ideal) ℓ)

/-! The five arrays that the run leaves. -/

/-- The rotated keys, one row per head. -/
def result7 (c : Dev nD) : Vec Ideal S4x65536x128 .f32 := fun i =>
  Rows.rotated 0#32 ((i 1).val / 8) (fun j => proj m c (i 0) ⟨(i 1).val / 8, by have h : (i 1).val < 65536 := (i 1).isLt; have h2 : (i 2).val < 128 := (i 2).isLt; omega⟩ ⟨1024 + j.val, by omega⟩) ⟨(i 1).val % 8 * 128 + (i 2).val, by have h : (i 1).val < 65536 := (i 1).isLt; have h2 : (i 2).val < 128 := (i 2).isLt; omega⟩

/-- The values, one row per head. -/
def result8 (c : Dev nD) : Vec Ideal S4x65536x128 .f32 := fun i =>
  proj m c (i 0) ⟨(i 1).val / 8, by have h : (i 1).val < 65536 := (i 1).isLt; have h2 : (i 2).val < 128 := (i 2).isLt; omega⟩ ⟨2048 + ((i 1).val % 8 * 128 + (i 2).val), by have h : (i 1).val < 65536 := (i 1).isLt; have h2 : (i 2).val < 128 := (i 2).isLt; omega⟩

/-- The rotated queries, scaled. -/
def result9 (c : Dev nD) : Vec Ideal S4x8192x1024 .bf16 := fun i =>
  Rows.rotated 0#32 (i 1).val (fun j => proj m c (i 0) (i 1) ⟨j.val, by omega⟩) (i 2) * Ideal.ofBits .f32 0x3E38AA3B#32

/-- The rotated keys. -/
def result10 (c : Dev nD) : Vec Ideal S4x8192x1024 .bf16 := fun i =>
  Rows.rotated 0#32 (i 1).val (fun j => proj m c (i 0) (i 1) ⟨1024 + j.val, by omega⟩) (i 2)

/-- The values. -/
def result11 (c : Dev nD) : Vec Ideal S4x8192x1024 .bf16 := fun i =>
  proj m c (i 0) (i 1) ⟨2048 + (i 2).val, by have h2 : (i 2).val < 1024 := (i 2).isLt; omega⟩

/-- The position of row `y` of a block that has one row per head. -/
theorem pos_row (t : Fin cfg0.N) (y : Fin 4096) (h) (h') : pos t ⟨y.val / 8, h⟩ = ⟨(4096 * win0_9.index t 1 + y.val) / 8, h'⟩ := by
  refine Fin.ext ?_
  show 512 * win0_9.index t 1 + y.val / 8 = (4096 * win0_9.index t 1 + y.val) / 8
  omega

theorem col_row (b : ℕ) (y : Fin 4096) (l : Fin 128) : (4096 * b + y.val) % 8 * 128 + l.val = y.val % 8 * 128 + l.val := by omega

set_option maxHeartbeats 4000000 in
theorem final9 (c : Dev nD) : (dats m 0 c).arrAt 9 cfg0.N = result9 m c := by
  refine (dats m 0 c).arrAt_eq_of_covers 9 _ (by decide +kernel) fun t hf y => ?_
  blk_simp
  rw [after0_9]
  obtain ⟨y0, r, j, rfl⟩ : ∃ (a : Fin 1) (b : Fin 512) (k : Fin 1024), y = ix3 a b k := ⟨y 0, y 1, y 2, eq_ix3 y⟩
  obtain rfl : y0 = 0 := Subsingleton.elim _ _
  rw [out9_at]
  refine Eq.trans ?_ (congrArg (result9 m c) (emb9 t r j)).symm
  unfold result9
  exact congrArg (· * Ideal.ofBits .f32 0x3E38AA3B#32) (turned_at m c t r (fun j => ⟨j.val, by omega⟩) j)

set_option maxHeartbeats 4000000 in
theorem final10 (c : Dev nD) : (dats m 0 c).arrAt 10 cfg0.N = result10 m c := by
  refine (dats m 0 c).arrAt_eq_of_covers 10 _ (by decide +kernel) fun t hf y => ?_
  blk_simp
  rw [after0_10]
  obtain ⟨y0, r, j, rfl⟩ : ∃ (a : Fin 1) (b : Fin 512) (k : Fin 1024), y = ix3 a b k := ⟨y 0, y 1, y 2, eq_ix3 y⟩
  obtain rfl : y0 = 0 := Subsingleton.elim _ _
  rw [out10_at]
  refine Eq.trans ?_ (congrArg (result10 m c) (emb10 t r j)).symm
  unfold result10
  exact turned_at m c t r (fun j => ⟨1024 + j.val, by omega⟩) j

set_option maxHeartbeats 4000000 in
theorem final11 (c : Dev nD) : (dats m 0 c).arrAt 11 cfg0.N = result11 m c := by
  refine (dats m 0 c).arrAt_eq_of_covers 11 _ (by decide +kernel) fun t hf y => ?_
  blk_simp
  rw [after0_11]
  obtain ⟨y0, r, j, rfl⟩ : ∃ (a : Fin 1) (b : Fin 512) (k : Fin 1024), y = ix3 a b k := ⟨y 0, y 1, y 2, eq_ix3 y⟩
  obtain rfl : y0 = 0 := Subsingleton.elim _ _
  rw [out11_at]
  refine Eq.trans ?_ (congrArg (result11 m c) (emb11 t r j)).symm
  unfold result11
  exact proj_at m c t r _

set_option maxHeartbeats 4000000 in
theorem final7 (c : Dev nD) : (dats m 0 c).arrAt 7 cfg0.N = result7 m c := by
  refine (dats m 0 c).arrAt_eq_of_covers 7 _ (by decide +kernel) fun t hf y => ?_
  blk_simp
  rw [after0_7]
  obtain ⟨y0, y, l, rfl⟩ : ∃ (a : Fin 1) (b : Fin 4096) (k : Fin 128), y = ix3 a b k := ⟨y 0, y 1, y 2, eq_ix3 y⟩
  obtain rfl : y0 = 0 := Subsingleton.elim _ _
  rw [out7_at]
  refine Eq.trans ?_ (congrArg (result7 m c) (emb7 t y l)).symm
  unfold result7
  refine (turned_at m c t ⟨y.val / 8, by omega⟩ (fun j => ⟨1024 + j.val, by omega⟩) ⟨y.val % 8 * 128 + l.val, by omega⟩).trans ?_
  rw [pos_row t y (by omega) (by obtain ⟨e0, e1, e2, e3, e4, e5, e6, e7, e8, e10, e11, e9, b0, b1⟩ := idx t; omega)]
  exact congrArg (Rows.rotated 0#32 _ _) (Fin.ext (col_row _ y l).symm)

set_option maxHeartbeats 4000000 in
theorem final8 (c : Dev nD) : (dats m 0 c).arrAt 8 cfg0.N = result8 m c := by
  refine (dats m 0 c).arrAt_eq_of_covers 8 _ (by decide +kernel) fun t hf y => ?_
  blk_simp
  rw [after0_8]
  obtain ⟨y0, y, l, rfl⟩ : ∃ (a : Fin 1) (b : Fin 4096) (k : Fin 128), y = ix3 a b k := ⟨y 0, y 1, y 2, eq_ix3 y⟩
  obtain rfl : y0 = 0 := Subsingleton.elim _ _
  rw [out8_at]
  refine Eq.trans ?_ (congrArg (result8 m c) (emb8 t y l)).symm
  unfold result8
  refine (proj_at m c t _ _).trans ?_
  rw [pos_row t y (by omega) (by obtain ⟨e0, e1, e2, e3, e4, e5, e6, e7, e8, e10, e11, e9, b0, b1⟩ := idx t; omega)]
  exact congrArg (proj m c _ _) (Fin.ext (congrArg (2048 + ·) (col_row _ y l).symm))

variable (ρ : Dev nD → PrngReg)

/-- The run, at the five arrays it leaves and the arguments it keeps. -/
theorem run_named : θ_run defs (onTc (τ := τ) (main (F := Ideal))) ⟨m, fun _ => 0, ρ⟩ fun r => ∀ c : Dev nD,
      r.2.mem ((c : Thread nD τ).loc main_v30_0) = (dats m 0 c).arrAt 7 cfg0.N
      ∧ r.2.mem ((c : Thread nD τ).loc main_v30_1) = (dats m 0 c).arrAt 8 cfg0.N
      ∧ r.2.mem ((c : Thread nD τ).loc main_v30_2) = (dats m 0 c).arrAt 9 cfg0.N
      ∧ r.2.mem ((c : Thread nD τ).loc main_v30_3) = (dats m 0 c).arrAt 10 cfg0.N
      ∧ r.2.mem ((c : Thread nD τ).loc main_v30_4) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 7, (h c).1 8, (h c).1 9, (h c).1 10, (h c).1 11,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelQkvIdeal.Hand

namespace Cert.Proof.Qkv

open Idealize.ShloMosaic Idealize.ShloMosaic.TcCoe Idealize.SL.Sem

/-- The kernel computes the reference's functions over the extended reals. -/
theorem algebraic : Cert.algebraic_KernelQkvIdeal_ReferenceQkvIdeal := by
  intro m ρ m' ρ' _ hag
  have hp : ∀ c, Cert.ReferenceQkvIdeal.Hand.proj m' c = Cert.KernelQkvIdeal.Hand.proj m c := by
    intro c
    obtain ⟨h0, h1, h2, h3, h4⟩ := hag c
    funext a l j
    unfold Cert.ReferenceQkvIdeal.Hand.proj Cert.KernelQkvIdeal.Hand.proj
    rw [h0, h1, h2, h3, h4]
  refine ⟨fun c => Cert.KernelQkvIdeal.Hand.result7 m c, fun c => Cert.KernelQkvIdeal.Hand.result8 m c, fun c => Cert.KernelQkvIdeal.Hand.result9 m c, fun c => Cert.KernelQkvIdeal.Hand.result10 m c, fun c => Cert.KernelQkvIdeal.Hand.result11 m c,
    (θ_run _ _ _).mono (fun r h c => ⟨(h c).1.trans (Cert.KernelQkvIdeal.Hand.final7 m c), (h c).2.1.trans (Cert.KernelQkvIdeal.Hand.final8 m c), (h c).2.2.1.trans (Cert.KernelQkvIdeal.Hand.final9 m c), (h c).2.2.2.1.trans (Cert.KernelQkvIdeal.Hand.final10 m c), (h c).2.2.2.2.1.trans (Cert.KernelQkvIdeal.Hand.final11 m c), (h c).2.2.2.2.2⟩) (Cert.KernelQkvIdeal.Hand.run_named m ρ), ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.ReferenceQkvIdeal.Value.run m' ρ')
  · refine (Cert.ReferenceQkvIdeal.Hand.result0 m' c).trans ?_
    rw [hp]
    rfl
  · refine (Cert.ReferenceQkvIdeal.Hand.result1 m' c).trans ?_
    rw [hp]
    rfl
  · refine (Cert.ReferenceQkvIdeal.Hand.result2 m' c).trans ?_
    rw [hp]
    rfl
  · refine (Cert.ReferenceQkvIdeal.Hand.result3 m' c).trans ?_
    rw [hp]
    rfl
  · refine (Cert.ReferenceQkvIdeal.Hand.result4 m' c).trans ?_
    rw [hp]
    rfl

end Cert.Proof.Qkv

end
-- ==== Proof.KernelQkvSampleIdealFrame.lean ====
/- The run of `KernelQkvSampleIdeal`: the body's triple, the proof data of its one pipeline, and the frame.  The body writes
   the two row arrays through eight interleaved rectangles of stride eight each, one per head, so the cover
   of those buffers is shown by residues. -/
module

public import proofs.«01_k».proof.Proof.Gen.KernelQkvSampleIdeal.Frame
public import proofs.«01_k».proof.Proof.Gen.KernelQkvSampleIdeal.Skeleton
public import Idealize.ShloMosaic.Lib.Claim

@[expose] public section

set_option maxRecDepth 16384

noncomputable section

namespace Cert.KernelQkvSampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev r0_0 : Rect S8x64x1024 := Rect.unit (s := S8x64x1024) ![0, 0, 0] S8x64x1024.size inb_S8x64x1024_S8x64x1024_0_0_0
abbrev r0_1 : Rect S1x1024 := Rect.unit (s := S1x1024) ![0, 0] S1x1024.size inb_S1x1024_S1x1024_0_0
abbrev r0_2 : Rect S8x1x1024 := Rect.unit (s := S8x1x1024) ![0, 0, 0] S8x1x1024.size inb_S8x1x1024_S8x1x1024_0_0_0
abbrev r0_3 : Rect S64x128 := Rect.unit (s := S64x128) ![0, 0] S64x128.size inb_S64x128_S64x128_0_0
abbrev r0_4 : Rect S1024x3072 := Rect.unit (s := S1024x3072) ![0, 0] S1024x1024.size inb_S1024x3072_S1024x1024_0_0
abbrev r0_5 : Rect S1024x3072 := Rect.unit (s := S1024x3072) ![0, 1024] S1024x1024.size inb_S1024x3072_S1024x1024_0_1024
abbrev r0_6 : Rect S1024x3072 := Rect.unit (s := S1024x3072) ![0, 2048] S1024x1024.size inb_S1024x3072_S1024x1024_0_2048
abbrev r0_7 : Rect S8x512x128 := ⟨(⟨![0, 0, 0], S8x64x128.size, ![1, 8, 1], inb_S8x512x128_S8x64x128_0_0_0_s_1_8_1⟩ : LoadRect S8x512x128), spos_1_8_1⟩
abbrev r0_8 : Rect S8x512x128 := ⟨(⟨![0, 1, 0], S8x64x128.size, ![1, 8, 1], inb_S8x512x128_S8x64x128_0_1_0_s_1_8_1⟩ : LoadRect S8x512x128), spos_1_8_1⟩
abbrev r0_9 : Rect S8x512x128 := ⟨(⟨![0, 2, 0], S8x64x128.size, ![1, 8, 1], inb_S8x512x128_S8x64x128_0_2_0_s_1_8_1⟩ : LoadRect S8x512x128), spos_1_8_1⟩
abbrev r0_10 : Rect S8x512x128 := ⟨(⟨![0, 3, 0], S8x64x128.size, ![1, 8, 1], inb_S8x512x128_S8x64x128_0_3_0_s_1_8_1⟩ : LoadRect S8x512x128), spos_1_8_1⟩
abbrev r0_11 : Rect S8x512x128 := ⟨(⟨![0, 4, 0], S8x64x128.size, ![1, 8, 1], inb_S8x512x128_S8x64x128_0_4_0_s_1_8_1⟩ : LoadRect S8x512x128), spos_1_8_1⟩
abbrev r0_12 : Rect S8x512x128 := ⟨(⟨![0, 5, 0], S8x64x128.size, ![1, 8, 1], inb_S8x512x128_S8x64x128_0_5_0_s_1_8_1⟩ : LoadRect S8x512x128), spos_1_8_1⟩
abbrev r0_13 : Rect S8x512x128 := ⟨(⟨![0, 6, 0], S8x64x128.size, ![1, 8, 1], inb_S8x512x128_S8x64x128_0_6_0_s_1_8_1⟩ : LoadRect S8x512x128), spos_1_8_1⟩
abbrev r0_14 : Rect S8x512x128 := ⟨(⟨![0, 7, 0], S8x64x128.size, ![1, 8, 1], inb_S8x512x128_S8x64x128_0_7_0_s_1_8_1⟩ : LoadRect S8x512x128), spos_1_8_1⟩

/-- What the body leaves in window 7's buffer, from the input blocks: its stores, last first. -/
def out0_7 (x0 : Vec F S8x64x1024 .f32) (x1 : Vec F S1x1024 .f32) (x2 : Vec F S8x1x1024 .f32) (x3 : Vec F S8x1x1024 .f32) (x4 : Vec F S1024x3072 .bf16) (x5 : Vec F S64x128 .f32) (x6 : Vec F S64x128 .f32) : Vec F S8x512x128 .f32 :=
  View.canon [⟨r0_14, k0_pay5 (k0_pay12 ((k0_pay8 (View.ld x5 r0_3))) ((k0_pay9 (View.ld x6 r0_3))) ((k0_pay11 ((k0_pay7 (View.ld x0 r0_0) (View.ld x1 r0_1) (View.ld x3 r0_2) (View.ld x2 r0_2))) (View.ld x4 r0_5))))⟩,
    ⟨r0_13, k0_pay3 (k0_pay12 ((k0_pay8 (View.ld x5 r0_3))) ((k0_pay9 (View.ld x6 r0_3))) ((k0_pay11 ((k0_pay7 (View.ld x0 r0_0) (View.ld x1 r0_1) (View.ld x3 r0_2) (View.ld x2 r0_2))) (View.ld x4 r0_5))))⟩,
    ⟨r0_12, k0_pay1 (k0_pay12 ((k0_pay8 (View.ld x5 r0_3))) ((k0_pay9 (View.ld x6 r0_3))) ((k0_pay11 ((k0_pay7 (View.ld x0 r0_0) (View.ld x1 r0_1) (View.ld x3 r0_2) (View.ld x2 r0_2))) (View.ld x4 r0_5))))⟩,
    ⟨r0_11, k0_pay24 ((k0_pay12 ((k0_pay8 (View.ld x5 r0_3))) ((k0_pay9 (View.ld x6 r0_3))) ((k0_pay11 ((k0_pay7 (View.ld x0 r0_0) (View.ld x1 r0_1) (View.ld x3 r0_2) (View.ld x2 r0_2))) (View.ld x4 r0_5)))))⟩,
    ⟨r0_10, k0_pay22 ((k0_pay12 ((k0_pay8 (View.ld x5 r0_3))) ((k0_pay9 (View.ld x6 r0_3))) ((k0_pay11 ((k0_pay7 (View.ld x0 r0_0) (View.ld x1 r0_1) (View.ld x3 r0_2) (View.ld x2 r0_2))) (View.ld x4 r0_5)))))⟩,
    ⟨r0_9, k0_pay20 ((k0_pay12 ((k0_pay8 (View.ld x5 r0_3))) ((k0_pay9 (View.ld x6 r0_3))) ((k0_pay11 ((k0_pay7 (View.ld x0 r0_0) (View.ld x1 r0_1) (View.ld x3 r0_2) (View.ld x2 r0_2))) (View.ld x4 r0_5)))))⟩,
    ⟨r0_8, k0_pay18 ((k0_pay12 ((k0_pay8 (View.ld x5 r0_3))) ((k0_pay9 (View.ld x6 r0_3))) ((k0_pay11 ((k0_pay7 (View.ld x0 r0_0) (View.ld x1 r0_1) (View.ld x3 r0_2) (View.ld x2 r0_2))) (View.ld x4 r0_5)))))⟩,
    ⟨r0_7, k0_pay16 ((k0_pay12 ((k0_pay8 (View.ld x5 r0_3))) ((k0_pay9 (View.ld x6 r0_3))) ((k0_pay11 ((k0_pay7 (View.ld x0 r0_0) (View.ld x1 r0_1) (View.ld x3 r0_2) (View.ld x2 r0_2))) (View.ld x4 r0_5)))))⟩]

theorem cover0_7 (p0 p1 p2 p3 p4 p5 p6 p7 : Vec F S8x64x128 .f32) (y : S8x512x128.Idx) :
    ∃ pc ∈ ([⟨r0_14, p0⟩, ⟨r0_13, p1⟩, ⟨r0_12, p2⟩, ⟨r0_11, p3⟩, ⟨r0_10, p4⟩, ⟨r0_9, p5⟩, ⟨r0_8, p6⟩, ⟨r0_7, p7⟩] : List (View.Piece (Elt F) S8x512x128 .f32)), y ∈ pc.1.set := by
  have h0 : (y 0 : ℕ) < 8 := (y 0).isLt
  have h1 : (y 1 : ℕ) < 512 := (y 1).isLt
  have h2 : (y 2 : ℕ) < 128 := (y 2).isLt
  have key : ∀ (h : ℕ) (r : Rect S8x512x128) (_ : (y 1 : ℕ) % 8 = h) (_ : r.off = ![0, h, 0]) (_ : r.size = ![8, 64, 128])
      (_ : r.stride = ![1, 8, 1]), y ∈ r.set := by
    intro h r hh ho hs hst
    refine r.mem_set.mpr fun a => ?_
    rw [ho, hs, hst]
    match a with
    | ⟨0, _⟩ => exact ⟨(y 0 : ℕ), h0, by show (y 0 : ℕ) = 0 + 1 * (y 0 : ℕ); omega⟩
    | ⟨1, _⟩ => exact ⟨(y 1 : ℕ) / 8, by show (y 1 : ℕ) / 8 < 64; omega, by show (y 1 : ℕ) = h + 8 * ((y 1 : ℕ) / 8); omega⟩
    | ⟨2, _⟩ => exact ⟨(y 2 : ℕ), h2, by show (y 2 : ℕ) = 0 + 1 * (y 2 : ℕ); omega⟩
  have hlt : (y 1 : ℕ) % 8 < 8 := Nat.mod_lt _ (by decide)
  rcases (show (y 1 : ℕ) % 8 = 0 ∨ (y 1 : ℕ) % 8 = 1 ∨ (y 1 : ℕ) % 8 = 2 ∨ (y 1 : ℕ) % 8 = 3 ∨ (y 1 : ℕ) % 8 = 4 ∨ (y 1 : ℕ) % 8 = 5
    ∨ (y 1 : ℕ) % 8 = 6 ∨ (y 1 : ℕ) % 8 = 7 by omega) with h | h | h | h | h | h | h | h
  · exact ⟨⟨r0_7, p7⟩, by simp only [List.mem_cons, true_or, or_true], key 0 r0_7 h rfl rfl rfl⟩
  · exact ⟨⟨r0_8, p6⟩, by simp only [List.mem_cons, true_or, or_true], key 1 r0_8 h rfl rfl rfl⟩
  · exact ⟨⟨r0_9, p5⟩, by simp only [List.mem_cons, true_or, or_true], key 2 r0_9 h rfl rfl rfl⟩
  · exact ⟨⟨r0_10, p4⟩, by simp only [List.mem_cons, true_or, or_true], key 3 r0_10 h rfl rfl rfl⟩
  · exact ⟨⟨r0_11, p3⟩, by simp only [List.mem_cons, true_or, or_true], key 4 r0_11 h rfl rfl rfl⟩
  · exact ⟨⟨r0_12, p2⟩, by simp only [List.mem_cons, true_or, or_true], key 5 r0_12 h rfl rfl rfl⟩
  · exact ⟨⟨r0_13, p1⟩, by simp only [List.mem_cons, true_or, or_true], key 6 r0_13 h rfl rfl rfl⟩
  · exact ⟨⟨r0_14, p0⟩, by simp only [List.mem_cons, true_or, or_true], key 7 r0_14 h rfl rfl rfl⟩

/-- What the body leaves in window 8's buffer, from the input blocks: its stores, last first. -/
def out0_8 (x0 : Vec F S8x64x1024 .f32) (x1 : Vec F S1x1024 .f32) (x2 : Vec F S8x1x1024 .f32) (x3 : Vec F S8x1x1024 .f32) (x4 : Vec F S1024x3072 .bf16) (x5 : Vec F S64x128 .f32) (x6 : Vec F S64x128 .f32) : Vec F S8x512x128 .f32 :=
  View.canon [⟨r0_14, k0_pay6 (k0_pay14 ((k0_pay7 (View.ld x0 r0_0) (View.ld x1 r0_1) (View.ld x3 r0_2) (View.ld x2 r0_2))) (View.ld x4 r0_6))⟩,
    ⟨r0_13, k0_pay4 (k0_pay14 ((k0_pay7 (View.ld x0 r0_0) (View.ld x1 r0_1) (View.ld x3 r0_2) (View.ld x2 r0_2))) (View.ld x4 r0_6))⟩,
    ⟨r0_12, k0_pay2 (k0_pay14 ((k0_pay7 (View.ld x0 r0_0) (View.ld x1 r0_1) (View.ld x3 r0_2) (View.ld x2 r0_2))) (View.ld x4 r0_6))⟩,
    ⟨r0_11, (k0_pay25 ((k0_pay14 ((k0_pay7 (View.ld x0 r0_0) (View.ld x1 r0_1) (View.ld x3 r0_2) (View.ld x2 r0_2))) (View.ld x4 r0_6))))⟩,
    ⟨r0_10, k0_pay23 ((k0_pay14 ((k0_pay7 (View.ld x0 r0_0) (View.ld x1 r0_1) (View.ld x3 r0_2) (View.ld x2 r0_2))) (View.ld x4 r0_6)))⟩,
    ⟨r0_9, k0_pay21 ((k0_pay14 ((k0_pay7 (View.ld x0 r0_0) (View.ld x1 r0_1) (View.ld x3 r0_2) (View.ld x2 r0_2))) (View.ld x4 r0_6)))⟩,
    ⟨r0_8, k0_pay19 ((k0_pay14 ((k0_pay7 (View.ld x0 r0_0) (View.ld x1 r0_1) (View.ld x3 r0_2) (View.ld x2 r0_2))) (View.ld x4 r0_6)))⟩,
    ⟨r0_7, k0_pay17 ((k0_pay14 ((k0_pay7 (View.ld x0 r0_0) (View.ld x1 r0_1) (View.ld x3 r0_2) (View.ld x2 r0_2))) (View.ld x4 r0_6)))⟩]

theorem cover0_8 (p0 p1 p2 p3 p4 p5 p6 p7 : Vec F S8x64x128 .f32) (y : S8x512x128.Idx) :
    ∃ pc ∈ ([⟨r0_14, p0⟩, ⟨r0_13, p1⟩, ⟨r0_12, p2⟩, ⟨r0_11, p3⟩, ⟨r0_10, p4⟩, ⟨r0_9, p5⟩, ⟨r0_8, p6⟩, ⟨r0_7, p7⟩] : List (View.Piece (Elt F) S8x512x128 .f32)), y ∈ pc.1.set := by
  have h0 : (y 0 : ℕ) < 8 := (y 0).isLt
  have h1 : (y 1 : ℕ) < 512 := (y 1).isLt
  have h2 : (y 2 : ℕ) < 128 := (y 2).isLt
  have key : ∀ (h : ℕ) (r : Rect S8x512x128) (_ : (y 1 : ℕ) % 8 = h) (_ : r.off = ![0, h, 0]) (_ : r.size = ![8, 64, 128])
      (_ : r.stride = ![1, 8, 1]), y ∈ r.set := by
    intro h r hh ho hs hst
    refine r.mem_set.mpr fun a => ?_
    rw [ho, hs, hst]
    match a with
    | ⟨0, _⟩ => exact ⟨(y 0 : ℕ), h0, by show (y 0 : ℕ) = 0 + 1 * (y 0 : ℕ); omega⟩
    | ⟨1, _⟩ => exact ⟨(y 1 : ℕ) / 8, by show (y 1 : ℕ) / 8 < 64; omega, by show (y 1 : ℕ) = h + 8 * ((y 1 : ℕ) / 8); omega⟩
    | ⟨2, _⟩ => exact ⟨(y 2 : ℕ), h2, by show (y 2 : ℕ) = 0 + 1 * (y 2 : ℕ); omega⟩
  have hlt : (y 1 : ℕ) % 8 < 8 := Nat.mod_lt _ (by decide)
  rcases (show (y 1 : ℕ) % 8 = 0 ∨ (y 1 : ℕ) % 8 = 1 ∨ (y 1 : ℕ) % 8 = 2 ∨ (y 1 : ℕ) % 8 = 3 ∨ (y 1 : ℕ) % 8 = 4 ∨ (y 1 : ℕ) % 8 = 5
    ∨ (y 1 : ℕ) % 8 = 6 ∨ (y 1 : ℕ) % 8 = 7 by omega) with h | h | h | h | h | h | h | h
  · exact ⟨⟨r0_7, p7⟩, by simp only [List.mem_cons, true_or, or_true], key 0 r0_7 h rfl rfl rfl⟩
  · exact ⟨⟨r0_8, p6⟩, by simp only [List.mem_cons, true_or, or_true], key 1 r0_8 h rfl rfl rfl⟩
  · exact ⟨⟨r0_9, p5⟩, by simp only [List.mem_cons, true_or, or_true], key 2 r0_9 h rfl rfl rfl⟩
  · exact ⟨⟨r0_10, p4⟩, by simp only [List.mem_cons, true_or, or_true], key 3 r0_10 h rfl rfl rfl⟩
  · exact ⟨⟨r0_11, p3⟩, by simp only [List.mem_cons, true_or, or_true], key 4 r0_11 h rfl rfl rfl⟩
  · exact ⟨⟨r0_12, p2⟩, by simp only [List.mem_cons, true_or, or_true], key 5 r0_12 h rfl rfl rfl⟩
  · exact ⟨⟨r0_13, p1⟩, by simp only [List.mem_cons, true_or, or_true], key 6 r0_13 h rfl rfl rfl⟩
  · exact ⟨⟨r0_14, p0⟩, by simp only [List.mem_cons, true_or, or_true], key 7 r0_14 h rfl rfl rfl⟩

/-- What the body leaves in window 9's buffer, from the input blocks: its stores, last first. -/
def out0_9 (x0 : Vec F S8x64x1024 .f32) (x1 : Vec F S1x1024 .f32) (x2 : Vec F S8x1x1024 .f32) (x3 : Vec F S8x1x1024 .f32) (x4 : Vec F S1024x3072 .bf16) (x5 : Vec F S64x128 .f32) (x6 : Vec F S64x128 .f32) : Vec F S8x64x1024 .bf16 :=
  View.canon [⟨r0_0, k0_pay10 ((k0_pay7 (View.ld x0 r0_0) (View.ld x1 r0_1) (View.ld x3 r0_2) (View.ld x2 r0_2))) ((k0_pay8 (View.ld x5 r0_3))) ((k0_pay9 (View.ld x6 r0_3))) (((View.ld x4 r0_4)))⟩]

theorem cover0_9 (p0 : Vec F S8x64x1024 .bf16) (y : S8x64x1024.Idx) :
    ∃ pc ∈ ([⟨r0_0, p0⟩] : List (View.Piece (Elt F) S8x64x1024 .bf16)), y ∈ pc.1.set :=
  View.cover_of_tiled [⟨r0_0, p0⟩] S8x64x1024.size (by rfl) y

/-- What the body leaves in window 10's buffer, from the input blocks: its stores, last first. -/
def out0_10 (x0 : Vec F S8x64x1024 .f32) (x1 : Vec F S1x1024 .f32) (x2 : Vec F S8x1x1024 .f32) (x3 : Vec F S8x1x1024 .f32) (x4 : Vec F S1024x3072 .bf16) (x5 : Vec F S64x128 .f32) (x6 : Vec F S64x128 .f32) : Vec F S8x64x1024 .bf16 :=
  View.canon [⟨r0_0, k0_pay13 ((k0_pay8 (View.ld x5 r0_3))) ((k0_pay9 (View.ld x6 r0_3))) ((k0_pay11 ((k0_pay7 (View.ld x0 r0_0) (View.ld x1 r0_1) (View.ld x3 r0_2) (View.ld x2 r0_2))) (View.ld x4 r0_5)))⟩]

theorem cover0_10 (p0 : Vec F S8x64x1024 .bf16) (y : S8x64x1024.Idx) :
    ∃ pc ∈ ([⟨r0_0, p0⟩] : List (View.Piece (Elt F) S8x64x1024 .bf16)), y ∈ pc.1.set :=
  View.cover_of_tiled [⟨r0_0, p0⟩] S8x64x1024.size (by rfl) y

/-- What the body leaves in window 11's buffer, from the input blocks: its stores, last first. -/
def out0_11 (x0 : Vec F S8x64x1024 .f32) (x1 : Vec F S1x1024 .f32) (x2 : Vec F S8x1x1024 .f32) (x3 : Vec F S8x1x1024 .f32) (x4 : Vec F S1024x3072 .bf16) (x5 : Vec F S64x128 .f32) (x6 : Vec F S64x128 .f32) : Vec F S8x64x1024 .bf16 :=
  View.canon [⟨r0_0, ((k0_pay15 ((k0_pay7 (View.ld x0 r0_0) (View.ld x1 r0_1) (View.ld x3 r0_2) (View.ld x2 r0_2))) (View.ld x4 r0_6)))⟩]

theorem cover0_11 (p0 : Vec F S8x64x1024 .bf16) (y : S8x64x1024.Idx) :
    ∃ pc ∈ ([⟨r0_0, p0⟩] : List (View.Piece (Elt F) S8x64x1024 .bf16)), y ∈ pc.1.set :=
  View.cover_of_tiled [⟨r0_0, p0⟩] S8x64x1024.size (by rfl) y

set_option maxHeartbeats 4000000 in
/-- The body on whole staging memrefs, the inputs' at read contents and the outputs' at anything, runs to the
    continuation holding the inputs' as they were and each output's at `out0_W` of the inputs'. -/
theorem sound_kernel (c : Dev nD) (E : Set ℕ) (i : grid0.Coords) (arg2 : Memref sig .tc .vmem S8x64x1024 .f32) (harg2 : arg2.IsWhole) (arg3 : Memref sig .tc .vmem S1x1024 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S1024x3072 .bf16) (harg6 : arg6.IsWhole) (arg7 : Memref sig .tc .vmem S64x128 .f32) (harg7 : arg7.IsWhole) (arg8 : Memref sig .tc .vmem S64x128 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S8x64x1024 .bf16) (harg11 : arg11.IsWhole) (arg12 : Memref sig .tc .vmem S8x64x1024 .bf16) (harg12 : arg12.IsWhole) (arg13 : Memref sig .tc .vmem S8x64x1024 .bf16) (harg13 : arg13.IsWhole)
    (x0 : Vec F S8x64x1024 .f32) (x1 : Vec F S1x1024 .f32) (x2 : Vec F S8x1x1024 .f32) (x3 : Vec F S8x1x1024 .f32) (x4 : Vec F S1024x3072 .bf16) (x5 : Vec F S64x128 .f32) (x6 : Vec F S64x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6) ∗ owns (c : Thread nD τ) arg10 fullShare (out0_8 x0 x1 x2 x3 x4 x5 x6) ∗ owns (c : Thread nD τ) arg11 fullShare (out0_9 x0 x1 x2 x3 x4 x5 x6) ∗ owns (c : Thread nD τ) arg12 fullShare (out0_10 x0 x1 x2 x3 x4 x5 x6) ∗ owns (c : Thread nD τ) arg13 fullShare (out0_11 x0 x1 x2 x3 x4 x5 x6)) -∗ K ⟨⟩))
      ⊢ wp frame (wpE (defs₀ (F := F)) Variants.none c none) E (cc0_diff_qkv i arg2 harg2 arg3 harg3 arg4 harg4 arg5 harg5 arg6 harg6 arg7 harg7 arg8 harg8 arg9 harg9 arg10 harg10 arg11 harg11 arg12 harg12 arg13 harg13) K := by
  simp only [cc0_diff_qkv_eq_skeleton]; unfold cc0_diff_qkv_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _ _ _ _ _ _ _ _ )
  isplitl [H8]
  · iexists _; isplitr
    swap; · iexact H8
    ipureintro
    exact View.read_writes_eq_canon _ _ _ (cover0_8 _ _ _ _ _ _ _ _ )
  isplitl [H9]
  · iexists _; isplitr
    swap; · iexact H9
    ipureintro
    exact View.read_writes_eq_canon _ _ _ (cover0_9 _ )
  isplitl [H10]
  · iexists _; isplitr
    swap; · iexact H10
    ipureintro
    exact View.read_writes_eq_canon _ _ _ (cover0_10 _ )
  iexists _; isplitr
  swap; · iexact H11
  ipureintro
  exact View.read_writes_eq_canon _ _ _ (cover0_11 _ )

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t) (iblk m c 5 t) (iblk m c 6 t)
    | ⟨9, _⟩ => out0_9 (iblk m c 0 t) (iblk m c 1 t) (iblk m c 2 t) (iblk m c 3 t) (iblk m c 4 t) (iblk m c 5 t) (iblk m c 6 t)
    | ⟨10, _⟩ => out0_10 (iblk m c 0 t) (iblk m c 1 t) (iblk m c 2 t) (iblk m c 3 t) (iblk m c 4 t) (iblk m c 5 t) (iblk m c 6 t)
    | ⟨11, _⟩ => out0_11 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline ends at what the proof data computes, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelQkvSampleIdeal.Gen

end
-- ==== Proof.QkvSampleBlock.lean ====
module

public import proofs.«01_k».proof.Defs
public import proofs.«01_k».proof.Proof.QkvRows
public import proofs.«01_k».proof.Proof.KernelQkvSampleIdealFrame
public import Idealize.ShloMosaic.Lib.Pipeline.ValueKit
public import Idealize.ShloMosaic.Lib.Tactic.CleanTypes
public import Idealize.ShloMosaic.Lib.StableHlo.ReadAt
public import Idealize.ShloMosaic.Lib.Quiescent

@[expose] public section

set_option maxRecDepth 16384

noncomputable section

namespace Cert.KernelQkvSampleIdeal.Hand

open Cert.KernelQkvSampleIdeal Cert.KernelQkvSampleIdeal.Gen Idealize.ShloMosaic Idealize.ShloMosaic.TcCoe Idealize.SL.Sem
open Idealize.ShloMosaic.Pipeline (Dat)
open Cert

section Block

variable (x : Vec Ideal S8x64x1024 .f32) (g : Vec Ideal S1x1024 .f32) (sh : Vec Ideal S8x1x1024 .f32) (sc : Vec Ideal S8x1x1024 .f32) (w : Vec Ideal S1024x1024 .bf16) (t : Vec Ideal S64x128 .f32)
variable (H : FVec Ideal S512x1024 .bf16) (T : FVec Ideal S512x1024 .f32) (C S : FVec Ideal S1x64x1024 .f32)

theorem h_at (a : Fin 8) (r : Fin 64) (k : Fin 1024) :
    k0_pay7 x g sc sh (ix2 ⟨a.val * 64 + r.val, by omega⟩ k) = Rows.modulated (fun k => x (ix3 a r k)) (fun k => g (ix2 0 k))
      (fun k => sc (ix3 a 0 k)) (fun k => sh (ix3 a 0 k)) k := by
  pointwise [k0_pay7, Rows.modulated, Rows.norm]

theorem cos_at (r : Fin 64) (j : Fin 1024) : k0_pay8 t (ix3 0 r j) = t (ix2 r ⟨j.val % 128, by omega⟩) := by
  pointwise [k0_pay8]
  split_ifs <;> blk_point

theorem sin_at (r : Fin 64) (j : Fin 1024) : k0_pay9 t (ix3 0 r j) = t (ix2 r ⟨j.val % 128, by omega⟩) := by
  pointwise [k0_pay9]
  split_ifs <;> blk_point

theorem prod_at (r : Fin 512) (j : Fin 1024) : k0_pay11 H w (ix2 r j) = ∑ k, H (ix2 r k) * w (ix2 k j) := by
  pointwise [k0_pay11]

theorem v_at (a : Fin 8) (r : Fin 64) (j : Fin 1024) : k0_pay14 H w (ix3 a r j) = ∑ k, H (ix2 ⟨a.val * 64 + r.val, by omega⟩ k) * w (ix2 k j) := by
  pointwise [k0_pay14]

theorem k_at (a : Fin 8) (r : Fin 64) (j : Fin 1024) : k0_pay12 C S T (ix3 a r j)
     = T (ix2 ⟨a.val * 64 + r.val, by omega⟩ j) * C (ix3 0 r j) + (if j.val % 64 < 32 then T (ix2 ⟨a.val * 64 + r.val, by omega⟩ ⟨(j.val + 32) % 1024, by omega⟩) else T (ix2 ⟨a.val * 64 + r.val, by omega⟩ ⟨(j.val + 992) % 1024, by omega⟩)) * S (ix3 0 r j) := by
  pointwise [k0_pay12]
  rw [Rows.lane, Rows.select_lane]
  rfl

theorem kb_at (a : Fin 8) (r : Fin 64) (j : Fin 1024) : k0_pay13 C S T (ix3 a r j)
     = T (ix2 ⟨a.val * 64 + r.val, by omega⟩ j) * C (ix3 0 r j) + (if j.val % 64 < 32 then T (ix2 ⟨a.val * 64 + r.val, by omega⟩ ⟨(j.val + 32) % 1024, by omega⟩) else T (ix2 ⟨a.val * 64 + r.val, by omega⟩ ⟨(j.val + 992) % 1024, by omega⟩)) * S (ix3 0 r j) := by
  pointwise [k0_pay13, k0_pay12]
  rw [Rows.lane, Rows.select_lane]
  rfl

theorem vb_at (a : Fin 8) (r : Fin 64) (j : Fin 1024) : k0_pay15 H w (ix3 a r j) = ∑ k, H (ix2 ⟨a.val * 64 + r.val, by omega⟩ k) * w (ix2 k j) := by
  pointwise [k0_pay15, k0_pay14]

theorem q_at (a : Fin 8) (r : Fin 64) (j : Fin 1024) : k0_pay10 H C S w (ix3 a r j)
     = ((∑ k, H (ix2 ⟨a.val * 64 + r.val, by omega⟩ k) * w (ix2 k j)) * C (ix3 0 r j) + (if j.val % 64 < 32 then ∑ k, H (ix2 ⟨a.val * 64 + r.val, by omega⟩ k) * w (ix2 k ⟨(j.val + 32) % 1024, by omega⟩) else ∑ k, H (ix2 ⟨a.val * 64 + r.val, by omega⟩ k) * w (ix2 k ⟨(j.val + 992) % 1024, by omega⟩)) * S (ix3 0 r j)) * Ideal.ofBits .f32 0x3E38AA3B#32 := by
  pointwise [k0_pay10]
  rw [Rows.lane, Rows.select_lane]
  rfl

/-- Interleaved slices of `v`, one per head. -/
theorem rows_at (v : FVec Ideal S8x64x1024 .f32) (a : Fin 8) (y : Fin 512) (l : Fin 128) :
    View.canon (Val := Elt Ideal) (e := .f32) [⟨r0_14, extractStridedSlice S8x64x128 ![0, 0, 896] v slices_S8x64x1024_o0_0_896_S8x64x128⟩,
      ⟨r0_13, extractStridedSlice S8x64x128 ![0, 0, 768] v slices_S8x64x1024_o0_0_768_S8x64x128⟩,
      ⟨r0_12, extractStridedSlice S8x64x128 ![0, 0, 640] v slices_S8x64x1024_o0_0_640_S8x64x128⟩,
      ⟨r0_11, extractStridedSlice S8x64x128 ![0, 0, 512] v slices_S8x64x1024_o0_0_512_S8x64x128⟩,
      ⟨r0_10, extractStridedSlice S8x64x128 ![0, 0, 384] v slices_S8x64x1024_o0_0_384_S8x64x128⟩,
      ⟨r0_9, extractStridedSlice S8x64x128 ![0, 0, 256] v slices_S8x64x1024_o0_0_256_S8x64x128⟩,
      ⟨r0_8, extractStridedSlice S8x64x128 ![0, 0, 128] v slices_S8x64x1024_o0_0_128_S8x64x128⟩,
      ⟨r0_7, extractStridedSlice S8x64x128 ![0, 0, 0] v slices_S8x64x1024_o0_0_0_S8x64x128⟩] (ix3 a y l)
      = v (ix3 a ⟨y.val / 8, by omega⟩ ⟨y.val % 8 * 128 + l.val, by omega⟩) := by
  refine (View.canon_apply_of_pieces (fun y : S8x512x128.Idx => v (ix3 (y 0) ⟨(y 1).val / 8, by have h : (y 1).val < 512 := (y 1).isLt; omega⟩
    ⟨(y 1).val % 8 * 128 + (y 2).val, by have h : (y 2).val < 128 := (y 2).isLt; omega⟩)) _ ?_ _ (cover0_7 _ _ _ _ _ _ _ _ _)).trans rfl
  intro p hp
  simp only [List.mem_cons, List.not_mem_nil, or_false] at hp
  rcases hp with rfl | rfl | rfl | rfl | rfl | rfl | rfl | rfl
  all_goals
    intro x
    obtain ⟨a, r, l, rfl⟩ : ∃ (a : Fin 8) (r : Fin 64) (l : Fin 128), x = ix3 a r l := ⟨x 0, x 1, x 2, eq_ix3 x⟩
    pointwise []
    refine congrArg v ?_
    congr 1
    · refine Fin.ext ?_
      show a.val = 0 + 1 * a.val
      omega
    · refine Fin.ext ?_
      show r.val = (_ + 8 * r.val) / 8
      simp only [Matrix.cons_val]
      omega
    · refine Fin.ext ?_
      show _ = (_ + 8 * r.val) % 8 * 128 + (0 + 1 * l.val)
      simp only [Matrix.cons_val]
      omega

variable (W : Vec Ideal S1024x3072 .bf16) (u : Vec Ideal S64x128 .f32)

/-- Row `r` of the block of the stacked projection. -/
abbrev stackedAt (a : Fin 8) (r : Fin 64) (j : Fin 3072) : EReal :=
  Rows.stacked (fun k => x (ix3 a r k)) (fun k => g (ix2 0 k)) (fun k => sc (ix3 a 0 k)) (fun k => sh (ix3 a 0 k)) (fun k j => W (ix2 k j)) j

theorem krow (a : Fin 8) (r : Fin 64) (j : Fin 1024) :
    k0_pay12 (k0_pay8 (View.ld t r0_3)) (k0_pay9 (View.ld u r0_3)) (k0_pay11 (k0_pay7 (View.ld x r0_0) (View.ld g r0_1) (View.ld sc r0_2) (View.ld sh r0_2)) (View.ld W r0_5)) (ix3 a r j)
      = Rows.turned (fun j => stackedAt x g sh sc W a r ⟨1024 + j.val, by omega⟩) (fun l => t (ix2 r l)) (fun l => u (ix2 r l)) j := by
  rw [k_at]
  simp only [prod_at, cos_at, sin_at, h_at]
  pointwise [Rows.turned, Rows.stacked]

theorem vrow (a : Fin 8) (r : Fin 64) (j : Fin 1024) :
    k0_pay14 (k0_pay7 (View.ld x r0_0) (View.ld g r0_1) (View.ld sc r0_2) (View.ld sh r0_2)) (View.ld W r0_6) (ix3 a r j)
      = stackedAt x g sh sc W a r ⟨2048 + j.val, by omega⟩ := by
  rw [v_at]
  simp only [h_at]
  pointwise [Rows.stacked]

/-- The rotated queries, scaled. -/
theorem out9_at (a : Fin 8) (r : Fin 64) (j : Fin 1024) : out0_9 x g sh sc W t u (ix3 a r j)
      = Rows.turned (fun j => stackedAt x g sh sc W a r ⟨j.val, by omega⟩) (fun l => t (ix2 r l)) (fun l => u (ix2 r l)) j * Ideal.ofBits .f32 0x3E38AA3B#32 := by
  frame_out
  rw [q_at]
  simp only [cos_at, sin_at, h_at]
  pointwise [Rows.turned, Rows.stacked]

/-- The rotated keys. -/
theorem out10_at (a : Fin 8) (r : Fin 64) (j : Fin 1024) : out0_10 x g sh sc W t u (ix3 a r j)
      = Rows.turned (fun j => stackedAt x g sh sc W a r ⟨1024 + j.val, by omega⟩) (fun l => t (ix2 r l)) (fun l => u (ix2 r l)) j := by
  frame_out
  rw [kb_at]
  simp only [prod_at, cos_at, sin_at, h_at]
  pointwise [Rows.turned, Rows.stacked]

/-- The values. -/
theorem out11_at (a : Fin 8) (r : Fin 64) (j : Fin 1024) : out0_11 x g sh sc W t u (ix3 a r j)
      = stackedAt x g sh sc W a r ⟨2048 + j.val, by omega⟩ := by
  frame_out
  rw [vb_at]
  simp only [h_at]
  pointwise [Rows.stacked]

/-- The rotated keys, one row per head. -/
theorem out7_at (a : Fin 8) (y : Fin 512) (l : Fin 128) : out0_7 x g sh sc W t u (ix3 a y l)
      = Rows.turned (fun j => stackedAt x g sh sc W a ⟨y.val / 8, by omega⟩ ⟨1024 + j.val, by omega⟩) (fun l => t (ix2 ⟨y.val / 8, by omega⟩ l)) (fun l => u (ix2 ⟨y.val / 8, by omega⟩ l)) ⟨y.val % 8 * 128 + l.val, by omega⟩ :=
  (rows_at _ a y l).trans (krow x g sh sc t W u _ _ _)

/-- The values, one row per head. -/
theorem out8_at (a : Fin 8) (y : Fin 512) (l : Fin 128) : out0_8 x g sh sc W t u (ix3 a y l)
      = stackedAt x g sh sc W a ⟨y.val / 8, by omega⟩ ⟨2048 + (y.val % 8 * 128 + l.val), by omega⟩ :=
  (rows_at _ a y l).trans (vrow x g sh sc W _ _ _)

end Block

variable (m : (ℓ : Loc nD τ sig) → Buf (Elt Ideal) ℓ)

/-! What the region finds in the arrays that the host prepares, entry by entry. -/

theorem v26_at (c : Dev nD) (k : Fin 1024) : V m c main_v26 (ix2 0 k) = m ((c : Thread nD τ).loc main_arg1) (ix1 k) := by
  unfold V; after_reads_at

theorem v27_at (c : Dev nD) (a : Fin 16) (k : Fin 1024) : V m c main_v27 (ix3 a 0 k) = m ((c : Thread nD τ).loc main_arg2) (ix2 a k) := by
  unfold V; after_reads_at

theorem v28_at (c : Dev nD) (a : Fin 16) (k : Fin 1024) : V m c main_v28 (ix3 a 0 k) = m ((c : Thread nD τ).loc main_arg3) (ix2 a k) := by
  unfold V; after_reads_at

theorem v29_at (c : Dev nD) (k : Fin 1024) (f : Fin 3072) : V m c main_v29 (ix2 k f) = m ((c : Thread nD τ).loc main_arg4) (ix2 k f) := by
  unfold V; after_reads_at

theorem v20_at (c : Dev nD) (l : Fin 64) (f : Fin 128) : V m c main_v20 (ix2 l f) = Ideal.cos (Rows.angle 4096#32 l.val (f.val % 32)) := by
  unfold V; after_reads_at
  split_ifs <;> after_reads_at
  all_goals first
    | (simp only [Rows.angle, show f.val % 64 = f.val % 32 from by omega]; done)
    | simp only [Rows.angle, show f.val % 64 - 32 = f.val % 32 from by omega]

theorem v25_at (c : Dev nD) (l : Fin 64) (f : Fin 128) : V m c main_v25 (ix2 l f)
    = if f.val % 64 < 32 then -Ideal.sin (Rows.angle 4096#32 l.val (f.val % 32)) else Ideal.sin (Rows.angle 4096#32 l.val (f.val % 32)) := by
  unfold V; after_reads_at
  split_ifs <;> after_reads_at
  all_goals first
    | (simp only [Rows.angle, show f.val % 64 = f.val % 32 from by omega]; done)
    | simp only [Rows.angle, show f.val % 64 - 32 = f.val % 32 from by omega]

/-- Where each window's block stands, as the result's block moves. -/
theorem idx : ∀ t : Fin cfg0.N, win0_0.index t = win0_9.index t ∧ win0_1.index t = ![0, 0] ∧ win0_2.index t = ![win0_9.index t 0, 0, 0] ∧ win0_3.index t = ![win0_9.index t 0, 0, 0] ∧ win0_4.index t = ![0, 0] ∧ win0_5.index t = ![0, 0] ∧ win0_6.index t = ![0, 0] ∧ win0_7.index t = win0_9.index t ∧ win0_8.index t = win0_9.index t ∧ win0_10.index t = win0_9.index t ∧ win0_11.index t = win0_9.index t ∧ win0_9.index t 2 = 0 ∧ win0_9.index t 0 < 2 ∧ win0_9.index t 1 = 0 := by
  decide +kernel

/-- The sequence that row group `a` of grid point `t`'s block belongs to. -/
def seq (t : Fin cfg0.N) (a : Fin 8) : Fin 16 := ⟨8 * win0_9.index t 0 + a.val, by obtain ⟨e0, e1, e2, e3, e4, e5, e6, e7, e8, e10, e11, e9, b0, b1⟩ := idx t; omega⟩

/-- The stacked projection at position `l` of sequence `a`. -/
def proj (c : Dev nD) (a : Fin 16) (l : Fin 64) (j : Fin 3072) : EReal :=
  Rows.stacked (fun k => m ((c : Thread nD τ).loc main_arg0) (ix3 a l k))
      (fun k => m ((c : Thread nD τ).loc main_arg1) (ix1 k)) (fun k => m ((c : Thread nD τ).loc main_arg3) (ix2 a k)) (fun k => m ((c : Thread nD τ).loc main_arg2) (ix2 a k))
      (fun k j => m ((c : Thread nD τ).loc main_arg4) (ix2 k j)) j

theorem in0 (c : Dev nD) (t : Fin cfg0.N) (a : Fin 8) (r : Fin 64) (k : Fin 1024) : iblk m c 0 t (ix3 a r k) = m ((c : Thread nD τ).loc main_arg0) (ix3 (seq t a) r k) := by
  obtain ⟨e0, e1, e2, e3, e4, e5, e6, e7, e8, e10, e11, e9, b0, b1⟩ := idx t
  unfold seq
  blk_ext! [iblk, V_main_arg0, e0, e9]

theorem in1 (c : Dev nD) (t : Fin cfg0.N) (k : Fin 1024) : iblk m c 1 t (ix2 0 k) = m ((c : Thread nD τ).loc main_arg1) (ix1 k) := by
  obtain ⟨e0, e1, e2, e3, e4, e5, e6, e7, e8, e10, e11, e9, b0, b1⟩ := idx t
  refine Eq.trans ?_ (v26_at m c k); blk_ext! [iblk, e1]

theorem in2 (c : Dev nD) (t : Fin cfg0.N) (a : Fin 8) (k : Fin 1024) : iblk m c 2 t (ix3 a 0 k) = m ((c : Thread nD τ).loc main_arg2) (ix2 (seq t a) k) := by
  obtain ⟨e0, e1, e2, e3, e4, e5, e6, e7, e8, e10, e11, e9, b0, b1⟩ := idx t
  refine Eq.trans ?_ (v27_at m c _ k); unfold seq; blk_ext! [iblk, e2]

theorem in3 (c : Dev nD) (t : Fin cfg0.N) (a : Fin 8) (k : Fin 1024) : iblk m c 3 t (ix3 a 0 k) = m ((c : Thread nD τ).loc main_arg3) (ix2 (seq t a) k) := by
  obtain ⟨e0, e1, e2, e3, e4, e5, e6, e7, e8, e10, e11, e9, b0, b1⟩ := idx t
  refine Eq.trans ?_ (v28_at m c _ k); unfold seq; blk_ext! [iblk, e3]

theorem in4 (c : Dev nD) (t : Fin cfg0.N) (k : Fin 1024) (j : Fin 3072) : iblk m c 4 t (ix2 k j) = m ((c : Thread nD τ).loc main_arg4) (ix2 k j) := by
  obtain ⟨e0, e1, e2, e3, e4, e5, e6, e7, e8, e10, e11, e9, b0, b1⟩ := idx t
  refine Eq.trans ?_ (v29_at m c k j); blk_ext! [iblk, e4]

theorem in5 (c : Dev nD) (t : Fin cfg0.N) (r : Fin 64) (f : Fin 128) : iblk m c 5 t (ix2 r f) = Ideal.cos (Rows.angle 4096#32 r.val (f.val % 32)) := by
  obtain ⟨e0, e1, e2, e3, e4, e5, e6, e7, e8, e10, e11, e9, b0, b1⟩ := idx t
  refine Eq.trans ?_ (v20_at m c r f); blk_ext! [iblk, e5]

theorem in6 (c : Dev nD) (t : Fin cfg0.N) (r : Fin 64) (f : Fin 128) : iblk m c 6 t (ix2 r f)
    = if f.val % 64 < 32 then -Ideal.sin (Rows.angle 4096#32 r.val (f.val % 32)) else Ideal.sin (Rows.angle 4096#32 r.val (f.val % 32)) := by
  obtain ⟨e0, e1, e2, e3, e4, e5, e6, e7, e8, e10, e11, e9, b0, b1⟩ := idx t
  refine Eq.trans ?_ (v25_at m c r f); blk_ext! [iblk, e6]

theorem proj_at (c : Dev nD) (t : Fin cfg0.N) (a : Fin 8) (r : Fin 64) (j : Fin 3072) :
    stackedAt (iblk m c 0 t) (iblk m c 1 t) (iblk m c 2 t) (iblk m c 3 t) (iblk m c 4 t) a r j = proj m c (seq t a) r j := by
  unfold stackedAt proj
  congr 1
  · funext k; exact in0 m c t a r k
  · funext k; exact in1 m c t k
  · funext k; exact in3 m c t a k
  · funext k; exact in2 m c t a k
  · funext k j; exact in4 m c t k j

theorem turned_at (c : Dev nD) (t : Fin cfg0.N) (a : Fin 8) (r : Fin 64) (o : Fin 1024 → Fin 3072) (j : Fin 1024) :
    Rows.turned (fun j : Fin 1024 => stackedAt (iblk m c 0 t) (iblk m c 1 t) (iblk m c 2 t) (iblk m c 3 t) (iblk m c 4 t) a r (o j))
      (fun f => iblk m c 5 t (ix2 r f)) (fun f => iblk m c 6 t (ix2 r f)) j
      = Rows.rotated 4096#32 r.val (fun j => proj m c (seq t a) r (o j)) j := by
  unfold Rows.rotated
  rw [show (fun j : Fin 1024 => stackedAt (iblk m c 0 t) (iblk m c 1 t) (iblk m c 2 t) (iblk m c 3 t) (iblk m c 4 t) a r (o j))
      = fun j => proj m c (seq t a) r (o j) from funext fun j => proj_at m c t a r _,
    show (fun f : Fin 128 => iblk m c 5 t (ix2 r f)) = _ from funext fun f => in5 m c t r f,
    show (fun f : Fin 128 => iblk m c 6 t (ix2 r f)) = _ from funext fun f => in6 m c t r f]

theorem emb9 (t : Fin cfg0.N) (a : Fin 8) (r : Fin 64) (j : Fin 1024) : (win0_9.blk t).view.emb (ix3 a r j) = (ix3 (seq t a) r j : S16x64x1024.Idx) := by
  obtain ⟨e0, e1, e2, e3, e4, e5, e6, e7, e8, e10, e11, e9, b0, b1⟩ := idx t
  unfold seq
  blk_ext! [e9, e9, b1]

theorem emb10 (t : Fin cfg0.N) (a : Fin 8) (r : Fin 64) (j : Fin 1024) : (win0_10.blk t).view.emb (ix3 a r j) = (ix3 (seq t a) r j : S16x64x1024.Idx) := by
  obtain ⟨e0, e1, e2, e3, e4, e5, e6, e7, e8, e10, e11, e9, b0, b1⟩ := idx t
  unfold seq
  blk_ext! [e10, e9, b1]

theorem emb11 (t : Fin cfg0.N) (a : Fin 8) (r : Fin 64) (j : Fin 1024) : (win0_11.blk t).view.emb (ix3 a r j) = (ix3 (seq t a) r j : S16x64x1024.Idx) := by
  obtain ⟨e0, e1, e2, e3, e4, e5, e6, e7, e8, e10, e11, e9, b0, b1⟩ := idx t
  unfold seq
  blk_ext! [e11, e9, b1]

theorem emb7 (t : Fin cfg0.N) (a : Fin 8) (y : Fin 512) (j : Fin 128) : (win0_7.blk t).view.emb (ix3 a y j) = (ix3 (seq t a) y j : S16x512x128.Idx) := by
  obtain ⟨e0, e1, e2, e3, e4, e5, e6, e7, e8, e10, e11, e9, b0, b1⟩ := idx t
  unfold seq
  blk_ext! [e7, e9, b1]

theorem emb8 (t : Fin cfg0.N) (a : Fin 8) (y : Fin 512) (j : Fin 128) : (win0_8.blk t).view.emb (ix3 a y j) = (ix3 (seq t a) y j : S16x512x128.Idx) := by
  obtain ⟨e0, e1, e2, e3, e4, e5, e6, e7, e8, e10, e11, e9, b0, b1⟩ := idx t
  unfold seq
  blk_ext! [e8, e9, b1]

end Cert.KernelQkvSampleIdeal.Hand

end
-- ==== Proof.QkvSampleRef.lean ====
module

public import proofs.«01_k».proof.Defs
public import proofs.«01_k».proof.Proof.QkvRows
public import proofs.«01_k».proof.Proof.Gen.ReferenceQkvSampleIdeal.Run
public import Idealize.ShloMosaic.Lib.Pipeline.ValueKit
public import Idealize.ShloMosaic.Lib.Tactic.CleanTypes
public import Idealize.ShloMosaic.Lib.StableHlo.ReadAt
public import Idealize.ShloMosaic.Lib.Quiescent

/-! What the reference of the rotary projections computes for the sample batch, row by row. -/

@[expose] public section

set_option maxRecDepth 16384

noncomputable section

namespace Cert.ReferenceQkvSampleIdeal.Hand

open Cert.ReferenceQkvSampleIdeal Idealize.ShloMosaic Idealize.ShloMosaic.TcCoe Idealize.SL.Sem
open Cert Cert.ReferenceQkvSampleIdeal.Gen

/-- The rotation of a head, at one entry of it. -/
theorem head_at (X : FVec Ideal S16x64x16x64 .f32) (A : FVec Ideal S64x32 .f32) (a : Fin 16) (l : Fin 64) (h : Fin 16) (e : Fin 64) :
    (concatenate S16x64x16x64 3 [⟨S16x64x16x32, (subf (mulf (extractStridedSlice S16x64x16x32 ![0, 0, 0, 0] X slices_S16x64x16x64_S16x64x16x32_0_0_0_0) (broadcastInDim S16x64x16x32 ![0, 1, 2, 3] bcast_S1x64x1x32_S16x64x16x32_0_1_2_3 (broadcastInDim S1x64x1x32 ![1, 2, 3] bcast_S64x1x32_S1x64x1x32_1_2_3 (broadcastInDim S64x1x32 ![0, 2] bcast_S64x32_S64x1x32_0_2 (Host.cos A))))) (mulf (extractStridedSlice S16x64x16x32 ![0, 0, 0, 32] X slices_S16x64x16x64_S16x64x16x32_0_0_0_32) (broadcastInDim S16x64x16x32 ![0, 1, 2, 3] bcast_S1x64x1x32_S16x64x16x32_0_1_2_3 (broadcastInDim S1x64x1x32 ![1, 2, 3] bcast_S64x1x32_S1x64x1x32_1_2_3 (broadcastInDim S64x1x32 ![0, 2] bcast_S64x32_S64x1x32_0_2 (Host.sin A))))))⟩, ⟨S16x64x16x32, (addf (mulf (extractStridedSlice S16x64x16x32 ![0, 0, 0, 0] X slices_S16x64x16x64_S16x64x16x32_0_0_0_0) (broadcastInDim S16x64x16x32 ![0, 1, 2, 3] bcast_S1x64x1x32_S16x64x16x32_0_1_2_3 (broadcastInDim S1x64x1x32 ![1, 2, 3] bcast_S64x1x32_S1x64x1x32_1_2_3 (broadcastInDim S64x1x32 ![0, 2] bcast_S64x32_S64x1x32_0_2 (Host.sin A))))) (mulf (extractStridedSlice S16x64x16x32 ![0, 0, 0, 32] X slices_S16x64x16x64_S16x64x16x32_0_0_0_32) (broadcastInDim S16x64x16x32 ![0, 1, 2, 3] bcast_S1x64x1x32_S16x64x16x32_0_1_2_3 (broadcastInDim S1x64x1x32 ![1, 2, 3] bcast_S64x1x32_S1x64x1x32_1_2_3 (broadcastInDim S64x1x32 ![0, 2] bcast_S64x32_S64x1x32_0_2 (Host.cos A))))))⟩] concatenates_S16x64x16x32_S16x64x16x32_S16x64x16x64_d3) (ix4 a l h e)
      = if e.val < 32 then X (ix4 a l h e) * Ideal.cos (A (ix2 l ⟨e.val % 32, by omega⟩)) - X (ix4 a l h ⟨(e.val + 32) % 64, by omega⟩) * Ideal.sin (A (ix2 l ⟨e.val % 32, by omega⟩))
        else X (ix4 a l h ⟨(e.val + 32) % 64, by omega⟩) * Ideal.sin (A (ix2 l ⟨e.val % 32, by omega⟩)) + X (ix4 a l h e) * Ideal.cos (A (ix2 l ⟨e.val % 32, by omega⟩)) := by
  pointwise []
  split_ifs <;> blk_point

/-- The angles' table. -/
theorem angle_at (l : Fin 64) (e : Fin 32) : ((mulf (broadcastInDim S64x32 ![0, 1] bcast_S64x1_S64x32_0_1 (broadcastInDim S64x1 ![0] bcast_S64_S64x1_0 (sitofp .f32 (addi (broadcastInDim S64 ![] bcast_S_S64 (constantI S_ 32 4096#32)) (iotaInDim S64 32 0))))) (broadcastInDim S64x32 ![0, 1] bcast_S1x32_S64x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))) : FVec Ideal S64x32 .f32) (ix2 l e) = Rows.angle 4096#32 l.val e.val := by
  pointwise [Rows.angle]

theorem merge_at (Z : FVec Ideal S16x64x16x64 .f32) (a : Fin 16) (l : Fin 64) (j : Fin 1024) :
    shapeCast S16x64x1024 Z shapeCasts_S16x64x16x64_S16x64x1024 (ix3 a l j) = Z (ix4 a l ⟨j.val / 64, by omega⟩ ⟨j.val % 64, by omega⟩) := by
  pointwise []

theorem split_at' (Y : FVec Ideal S16x64x1024 .f32) (a : Fin 16) (l : Fin 64) (h : Fin 16) (e : Fin 64) :
    shapeCast S16x64x16x64 Y shapeCasts_S16x64x1024_S16x64x16x64 (ix4 a l h e) = Y (ix3 a l ⟨h.val * 64 + e.val, by omega⟩) := by
  pointwise []

theorem rows_at (Y : FVec Ideal S16x64x1024 .f32) (a : Fin 16) (y : Fin 512) (l : Fin 128) :
    shapeCast S16x512x128 Y shapeCasts_S16x64x1024_S16x512x128 (ix3 a y l) = Y (ix3 a ⟨y.val / 8, by omega⟩ ⟨y.val % 8 * 128 + l.val, by omega⟩) := by
  pointwise []

/-- The rotation of the whole row, at one entry. -/
theorem rope_at (Y : FVec Ideal S16x64x1024 .f32) (A : FVec Ideal S64x32 .f32) (hA : ∀ l e, A (ix2 l e) = Rows.angle 4096#32 l.val e.val) (a : Fin 16) (l : Fin 64) (j : Fin 1024) :
    (shapeCast S16x64x1024 (concatenate S16x64x16x64 3 [⟨S16x64x16x32, (subf (mulf (extractStridedSlice S16x64x16x32 ![0, 0, 0, 0] (shapeCast _ Y shapeCasts_S16x64x1024_S16x64x16x64) slices_S16x64x16x64_S16x64x16x32_0_0_0_0) (broadcastInDim S16x64x16x32 ![0, 1, 2, 3] bcast_S1x64x1x32_S16x64x16x32_0_1_2_3 (broadcastInDim S1x64x1x32 ![1, 2, 3] bcast_S64x1x32_S1x64x1x32_1_2_3 (broadcastInDim S64x1x32 ![0, 2] bcast_S64x32_S64x1x32_0_2 (Host.cos A))))) (mulf (extractStridedSlice S16x64x16x32 ![0, 0, 0, 32] (shapeCast _ Y shapeCasts_S16x64x1024_S16x64x16x64) slices_S16x64x16x64_S16x64x16x32_0_0_0_32) (broadcastInDim S16x64x16x32 ![0, 1, 2, 3] bcast_S1x64x1x32_S16x64x16x32_0_1_2_3 (broadcastInDim S1x64x1x32 ![1, 2, 3] bcast_S64x1x32_S1x64x1x32_1_2_3 (broadcastInDim S64x1x32 ![0, 2] bcast_S64x32_S64x1x32_0_2 (Host.sin A))))))⟩, ⟨S16x64x16x32, (addf (mulf (extractStridedSlice S16x64x16x32 ![0, 0, 0, 0] (shapeCast _ Y shapeCasts_S16x64x1024_S16x64x16x64) slices_S16x64x16x64_S16x64x16x32_0_0_0_0) (broadcastInDim S16x64x16x32 ![0, 1, 2, 3] bcast_S1x64x1x32_S16x64x16x32_0_1_2_3 (broadcastInDim S1x64x1x32 ![1, 2, 3] bcast_S64x1x32_S1x64x1x32_1_2_3 (broadcastInDim S64x1x32 ![0, 2] bcast_S64x32_S64x1x32_0_2 (Host.sin A))))) (mulf (extractStridedSlice S16x64x16x32 ![0, 0, 0, 32] (shapeCast _ Y shapeCasts_S16x64x1024_S16x64x16x64) slices_S16x64x16x64_S16x64x16x32_0_0_0_32) (broadcastInDim S16x64x16x32 ![0, 1, 2, 3] bcast_S1x64x1x32_S16x64x16x32_0_1_2_3 (broadcastInDim S1x64x1x32 ![1, 2, 3] bcast_S64x1x32_S1x64x1x32_1_2_3 (broadcastInDim S64x1x32 ![0, 2] bcast_S64x32_S64x1x32_0_2 (Host.cos A))))))⟩] concatenates_S16x64x16x32_S16x64x16x32_S16x64x16x64_d3) shapeCasts_S16x64x16x64_S16x64x1024) (ix3 a l j)
      = Rows.rotated 4096#32 l.val (fun j => Y (ix3 a l j)) j := by
  rw [Rows.rotated_eq]
  refine (merge_at _ a l j).trans ((head_at _ A a l _ _).trans ?_)
  have e1 : j.val / 64 * 64 + j.val % 64 = j.val := by omega
  have e2 : j.val % 64 % 32 = j.val % 32 := by omega
  simp only [hA, split_at', e1, e2]
  unfold Rows.rope
  split_ifs with h
  · have e3 : j.val / 64 * 64 + (j.val % 64 + 32) % 64 = (j.val + 32) % 1024 := by omega
    simp only [e3]
  · have e3 : j.val / 64 * 64 + (j.val % 64 + 32) % 64 = (j.val + 992) % 1024 := by omega
    simp only [e3]

/-- The stacked projection, at one entry. -/
theorem dot_at (m : (ℓ : Loc nD τ sig) → Buf (Elt Ideal) ℓ) (c : Dev nD) (a : Fin 16) (l : Fin 64) (j : Fin 3072) : ((Host.dotGeneral (φ₂ := .f32) dot_S16x64x1024_S1024x3072_S16x64x3072_2_0_01_1_n_n none (addf (mulf (mulf (mulf (m ((c.tc : Thread nD τ).loc main_arg0)) (broadcastInDim S16x64x1024 ![0, 1, 2] bcast_S16x64x1_S16x64x1024_0_1_2 (Host.rsqrt (addf (Host.divf (broadcastInDim S16x64x1 ![0, 1] bcast_S16x64_S16x64x1_0_1 (Host.reduceAdd (mulf (m ((c.tc : Thread nD τ).loc main_arg0)) (m ((c.tc : Thread nD τ).loc main_arg0))) (constant S_ .f32 0x00000000#32) reducesTo_S16x64x1024_S16x64_d2 h_S_)) (broadcastInDim S16x64x1 ![] bcast_S_S16x64x1 (constant S_ .f32 0x44800000#32))) (broadcastInDim S16x64x1 ![] bcast_S_S16x64x1 (constant S_ .f32 0x358637BD#32)))))) (broadcastInDim S16x64x1024 ![0, 1, 2] bcast_S1x1x1024_S16x64x1024_0_1_2 (broadcastInDim S1x1x1024 ![2] bcast_S1024_S1x1x1024_2 (m ((c.tc : Thread nD τ).loc main_arg1))))) (broadcastInDim S16x64x1024 ![0, 1, 2] bcast_S16x1x1024_S16x64x1024_0_1_2 (addf (broadcastInDim S16x1x1024 ![] bcast_S_S16x1x1024 (constant S_ .f32 0x3F800000#32)) (broadcastInDim S16x1x1024 ![0, 2] bcast_S16x1024_S16x1x1024_0_2 (m ((c.tc : Thread nD τ).loc main_arg3)))))) (broadcastInDim S16x64x1024 ![0, 1, 2] bcast_S16x1x1024_S16x64x1024_0_1_2 (broadcastInDim S16x1x1024 ![0, 2] bcast_S16x1024_S16x1x1024_0_2 (m ((c.tc : Thread nD τ).loc main_arg2))))) (m ((c.tc : Thread nD τ).loc main_arg4))) : FVec Ideal S16x64x3072 .f32) (ix3 a l j)
      = Rows.stacked (fun k => m ((c.tc : Thread nD τ).loc main_arg0) (ix3 a l k)) (fun k => m ((c.tc : Thread nD τ).loc main_arg1) (ix1 k))
          (fun k => m ((c.tc : Thread nD τ).loc main_arg3) (ix2 a k)) (fun k => m ((c.tc : Thread nD τ).loc main_arg2) (ix2 a k)) (fun k j => m ((c.tc : Thread nD τ).loc main_arg4) (ix2 k j)) j := by
  clean_types
  pointwise [Rows.stacked, Rows.modulated, Rows.norm]

theorem slice0_at (D : FVec Ideal S16x64x3072 .f32) (a : Fin 16) (l : Fin 64) (j : Fin 1024) :
    extractStridedSlice S16x64x1024 ![0, 0, 0] D slices_S16x64x3072_S16x64x1024_0_0_0 (ix3 a l j) = D (ix3 a l ⟨j.val, by omega⟩) := by
  pointwise []

theorem slice1024_at (D : FVec Ideal S16x64x3072 .f32) (a : Fin 16) (l : Fin 64) (j : Fin 1024) :
    extractStridedSlice S16x64x1024 ![0, 0, 1024] D slices_S16x64x3072_S16x64x1024_0_0_1024 (ix3 a l j) = D (ix3 a l ⟨1024 + j.val, by omega⟩) := by
  pointwise []

theorem slice2048_at (D : FVec Ideal S16x64x3072 .f32) (a : Fin 16) (l : Fin 64) (j : Fin 1024) :
    extractStridedSlice S16x64x1024 ![0, 0, 2048] D slices_S16x64x3072_S16x64x1024_0_0_2048 (ix3 a l j) = D (ix3 a l ⟨2048 + j.val, by omega⟩) := by
  pointwise []

theorem cast_at (Y : FVec Ideal S16x64x1024 .f32) (a : Fin 16) (l : Fin 64) (j : Fin 1024) :
    (truncf .bf16 Y bitsLt_bf16_f32 : FVec Ideal S16x64x1024 .bf16) (ix3 a l j) = Y (ix3 a l j) := by
  pointwise []

theorem scaled_at (Y : FVec Ideal S16x64x1024 .f32) (a : Fin 16) (l : Fin 64) (j : Fin 1024) :
    (truncf .bf16 (mulf Y (broadcastInDim S16x64x1024 ![] bcast_S_S16x64x1024 (constant S_ .f32 0x3E38AA3B#32))) bitsLt_bf16_f32 : FVec Ideal S16x64x1024 .bf16) (ix3 a l j)
      = Y (ix3 a l j) * Ideal.ofBits .f32 0x3E38AA3B#32 := by
  pointwise []

variable (m : (ℓ : Loc nD τ sig) → Buf (Elt Ideal) ℓ)

/-- The stacked projection at position `l` of sequence `a`. -/
def proj (c : Dev nD) (a : Fin 16) (l : Fin 64) (j : Fin 3072) : EReal :=
  Rows.stacked (fun k => m ((c.tc : Thread nD τ).loc main_arg0) (ix3 a l k)) (fun k => m ((c.tc : Thread nD τ).loc main_arg1) (ix1 k))
          (fun k => m ((c.tc : Thread nD τ).loc main_arg3) (ix2 a k)) (fun k => m ((c.tc : Thread nD τ).loc main_arg2) (ix2 a k)) (fun k j => m ((c.tc : Thread nD τ).loc main_arg4) (ix2 k j)) j

/-- The rotated keys, one row per head. -/
theorem result0 (c : Dev nD) : Value.res_out0 m c = fun i =>
    Rows.rotated 4096#32 ((i 1).val / 8) (fun j => proj m c (i 0) ⟨(i 1).val / 8, by have h : (i 1).val < 512 := (i 1).isLt; have h2 : (i 2).val < 128 := (i 2).isLt; omega⟩ ⟨1024 + j.val, by omega⟩) ⟨(i 1).val % 8 * 128 + (i 2).val, by have h : (i 1).val < 512 := (i 1).isLt; have h2 : (i 2).val < 128 := (i 2).isLt; omega⟩ := by
  unfold Value.res_out0 Value.res_main_v98
  funext i
  obtain ⟨a, y, l, rfl⟩ : ∃ (a : Fin 16) (b : Fin 512) (k : Fin 128), i = ix3 a b k := ⟨i 0, i 1, i 2, eq_ix3 i⟩
  refine (rows_at _ a y l).trans ((rope_at _ _ angle_at a _ _).trans ?_)
  exact congrArg (fun T => Rows.rotated 4096#32 (y.val / 8) T ⟨y.val % 8 * 128 + l.val, by omega⟩) (funext fun j => (slice1024_at _ a _ j).trans (dot_at m c a _ _))

/-- The rotated queries, scaled. -/
theorem result2 (c : Dev nD) : Value.res_out2 m c = fun i =>
    Rows.rotated 4096#32 (i 1).val (fun j => proj m c (i 0) (i 1) ⟨j.val, by omega⟩) (i 2) * Ideal.ofBits .f32 0x3E38AA3B#32 := by
  unfold Value.res_out2 Value.res_main_v102
  funext i
  obtain ⟨a, l, j, rfl⟩ : ∃ (a : Fin 16) (b : Fin 64) (k : Fin 1024), i = ix3 a b k := ⟨i 0, i 1, i 2, eq_ix3 i⟩
  refine (scaled_at _ a l j).trans (congrArg (· * Ideal.ofBits .f32 0x3E38AA3B#32) ((rope_at _ _ angle_at a l j).trans ?_))
  exact congrArg (fun T => Rows.rotated 4096#32 l.val T j) (funext fun j => (slice0_at _ a l j).trans (dot_at m c a l _))

/-- The rotated keys. -/
theorem result3 (c : Dev nD) : Value.res_out3 m c = fun i =>
    Rows.rotated 4096#32 (i 1).val (fun j => proj m c (i 0) (i 1) ⟨1024 + j.val, by omega⟩) (i 2) := by
  unfold Value.res_out3 Value.res_main_v103
  funext i
  obtain ⟨a, l, j, rfl⟩ : ∃ (a : Fin 16) (b : Fin 64) (k : Fin 1024), i = ix3 a b k := ⟨i 0, i 1, i 2, eq_ix3 i⟩
  refine (cast_at _ a l j).trans ((rope_at _ _ angle_at a l j).trans ?_)
  exact congrArg (fun T => Rows.rotated 4096#32 l.val T j) (funext fun j => (slice1024_at _ a l j).trans (dot_at m c a l _))

/-- The values, one row per head. -/
theorem result1 (c : Dev nD) : (shapeCast S16x512x128 (extractStridedSlice S16x64x1024 ![0, 0, 2048] (Host.dotGeneral (φ₂ := .f32) dot_S16x64x1024_S1024x3072_S16x64x3072_2_0_01_1_n_n none (addf (mulf (mulf (mulf (m ((c.tc : Thread nD τ).loc main_arg0)) (broadcastInDim S16x64x1024 ![0, 1, 2] bcast_S16x64x1_S16x64x1024_0_1_2 (Host.rsqrt (addf (Host.divf (broadcastInDim S16x64x1 ![0, 1] bcast_S16x64_S16x64x1_0_1 (Host.reduceAdd (mulf (m ((c.tc : Thread nD τ).loc main_arg0)) (m ((c.tc : Thread nD τ).loc main_arg0))) (constant S_ .f32 0x00000000#32) reducesTo_S16x64x1024_S16x64_d2 h_S_)) (broadcastInDim S16x64x1 ![] bcast_S_S16x64x1 (constant S_ .f32 0x44800000#32))) (broadcastInDim S16x64x1 ![] bcast_S_S16x64x1 (constant S_ .f32 0x358637BD#32)))))) (broadcastInDim S16x64x1024 ![0, 1, 2] bcast_S1x1x1024_S16x64x1024_0_1_2 (broadcastInDim S1x1x1024 ![2] bcast_S1024_S1x1x1024_2 (m ((c.tc : Thread nD τ).loc main_arg1))))) (broadcastInDim S16x64x1024 ![0, 1, 2] bcast_S16x1x1024_S16x64x1024_0_1_2 (addf (broadcastInDim S16x1x1024 ![] bcast_S_S16x1x1024 (constant S_ .f32 0x3F800000#32)) (broadcastInDim S16x1x1024 ![0, 2] bcast_S16x1024_S16x1x1024_0_2 (m ((c.tc : Thread nD τ).loc main_arg3)))))) (broadcastInDim S16x64x1024 ![0, 1, 2] bcast_S16x1x1024_S16x64x1024_0_1_2 (broadcastInDim S16x1x1024 ![0, 2] bcast_S16x1024_S16x1x1024_0_2 (m ((c.tc : Thread nD τ).loc main_arg2))))) (m ((c.tc : Thread nD τ).loc main_arg4))) slices_S16x64x3072_S16x64x1024_0_0_2048) shapeCasts_S16x64x1024_S16x512x128 : FVec Ideal S16x512x128 .f32) = fun i =>
    proj m c (i 0) ⟨(i 1).val / 8, by have h : (i 1).val < 512 := (i 1).isLt; have h2 : (i 2).val < 128 := (i 2).isLt; omega⟩ ⟨2048 + ((i 1).val % 8 * 128 + (i 2).val), by have h : (i 1).val < 512 := (i 1).isLt; have h2 : (i 2).val < 128 := (i 2).isLt; omega⟩ := by
  funext i
  obtain ⟨a, y, l, rfl⟩ : ∃ (a : Fin 16) (b : Fin 512) (k : Fin 128), i = ix3 a b k := ⟨i 0, i 1, i 2, eq_ix3 i⟩
  exact (rows_at _ a y l).trans ((slice2048_at _ a _ _).trans (dot_at m c a _ _))

/-- The values. -/
theorem result4 (c : Dev nD) : (truncf .bf16 (extractStridedSlice S16x64x1024 ![0, 0, 2048] (Host.dotGeneral (φ₂ := .f32) dot_S16x64x1024_S1024x3072_S16x64x3072_2_0_01_1_n_n none (addf (mulf (mulf (mulf (m ((c.tc : Thread nD τ).loc main_arg0)) (broadcastInDim S16x64x1024 ![0, 1, 2] bcast_S16x64x1_S16x64x1024_0_1_2 (Host.rsqrt (addf (Host.divf (broadcastInDim S16x64x1 ![0, 1] bcast_S16x64_S16x64x1_0_1 (Host.reduceAdd (mulf (m ((c.tc : Thread nD τ).loc main_arg0)) (m ((c.tc : Thread nD τ).loc main_arg0))) (constant S_ .f32 0x00000000#32) reducesTo_S16x64x1024_S16x64_d2 h_S_)) (broadcastInDim S16x64x1 ![] bcast_S_S16x64x1 (constant S_ .f32 0x44800000#32))) (broadcastInDim S16x64x1 ![] bcast_S_S16x64x1 (constant S_ .f32 0x358637BD#32)))))) (broadcastInDim S16x64x1024 ![0, 1, 2] bcast_S1x1x1024_S16x64x1024_0_1_2 (broadcastInDim S1x1x1024 ![2] bcast_S1024_S1x1x1024_2 (m ((c.tc : Thread nD τ).loc main_arg1))))) (broadcastInDim S16x64x1024 ![0, 1, 2] bcast_S16x1x1024_S16x64x1024_0_1_2 (addf (broadcastInDim S16x1x1024 ![] bcast_S_S16x1x1024 (constant S_ .f32 0x3F800000#32)) (broadcastInDim S16x1x1024 ![0, 2] bcast_S16x1024_S16x1x1024_0_2 (m ((c.tc : Thread nD τ).loc main_arg3)))))) (broadcastInDim S16x64x1024 ![0, 1, 2] bcast_S16x1x1024_S16x64x1024_0_1_2 (broadcastInDim S16x1x1024 ![0, 2] bcast_S16x1024_S16x1x1024_0_2 (m ((c.tc : Thread nD τ).loc main_arg2))))) (m ((c.tc : Thread nD τ).loc main_arg4))) slices_S16x64x3072_S16x64x1024_0_0_2048) bitsLt_bf16_f32 : FVec Ideal S16x64x1024 .bf16) = fun i =>
    proj m c (i 0) (i 1) ⟨2048 + (i 2).val, by have h2 : (i 2).val < 1024 := (i 2).isLt; omega⟩ := by
  funext i
  obtain ⟨a, l, j, rfl⟩ : ∃ (a : Fin 16) (b : Fin 64) (k : Fin 1024), i = ix3 a b k := ⟨i 0, i 1, i 2, eq_ix3 i⟩
  exact (cast_at _ a l j).trans ((slice2048_at _ a l j).trans (dot_at m c a l _))

end Cert.ReferenceQkvSampleIdeal.Hand

end
-- ==== Proof.QkvSample.lean ====
module

public import proofs.«01_k».proof.Defs
public import proofs.«01_k».proof.Proof.QkvSampleBlock
public import proofs.«01_k».proof.Proof.QkvSampleRef
public import proofs.«01_k».proof.Proof.KernelQkvSampleIdealFrame
public import Idealize.ShloMosaic.Lib.Pipeline.ValueKit
public import Idealize.ShloMosaic.Lib.Tactic.CleanTypes
public import Idealize.ShloMosaic.Lib.StableHlo.ReadAt
public import Idealize.ShloMosaic.Lib.Quiescent

/-! The rotary projections of the differential attention at the sample batch's shapes. -/

@[expose] public section

set_option maxRecDepth 16384

noncomputable section

namespace Cert.KernelQkvSampleIdeal.Hand

open Cert.KernelQkvSampleIdeal Cert.KernelQkvSampleIdeal.Gen Idealize.ShloMosaic Idealize.ShloMosaic.TcCoe Idealize.SL.Sem
open Idealize.ShloMosaic.Pipeline (Dat)
open Cert

variable (m : (ℓ : Loc nD τ sig) → Buf (Elt Ideal) ℓ)

/-! The five arrays that the run leaves. -/

/-- The rotated keys, one row per head. -/
def result7 (c : Dev nD) : Vec Ideal S16x512x128 .f32 := fun i =>
  Rows.rotated 4096#32 ((i 1).val / 8) (fun j => proj m c (i 0) ⟨(i 1).val / 8, by have h : (i 1).val < 512 := (i 1).isLt; have h2 : (i 2).val < 128 := (i 2).isLt; omega⟩ ⟨1024 + j.val, by omega⟩) ⟨(i 1).val % 8 * 128 + (i 2).val, by have h : (i 1).val < 512 := (i 1).isLt; have h2 : (i 2).val < 128 := (i 2).isLt; omega⟩

/-- The values, one row per head. -/
def result8 (c : Dev nD) : Vec Ideal S16x512x128 .f32 := fun i =>
  proj m c (i 0) ⟨(i 1).val / 8, by have h : (i 1).val < 512 := (i 1).isLt; have h2 : (i 2).val < 128 := (i 2).isLt; omega⟩ ⟨2048 + ((i 1).val % 8 * 128 + (i 2).val), by have h : (i 1).val < 512 := (i 1).isLt; have h2 : (i 2).val < 128 := (i 2).isLt; omega⟩

/-- The rotated queries, scaled. -/
def result9 (c : Dev nD) : Vec Ideal S16x64x1024 .bf16 := fun i =>
  Rows.rotated 4096#32 (i 1).val (fun j => proj m c (i 0) (i 1) ⟨j.val, by omega⟩) (i 2) * Ideal.ofBits .f32 0x3E38AA3B#32

/-- The rotated keys. -/
def result10 (c : Dev nD) : Vec Ideal S16x64x1024 .bf16 := fun i =>
  Rows.rotated 4096#32 (i 1).val (fun j => proj m c (i 0) (i 1) ⟨1024 + j.val, by omega⟩) (i 2)

/-- The values. -/
def result11 (c : Dev nD) : Vec Ideal S16x64x1024 .bf16 := fun i =>
  proj m c (i 0) (i 1) ⟨2048 + (i 2).val, by have h2 : (i 2).val < 1024 := (i 2).isLt; omega⟩

set_option maxHeartbeats 4000000 in
theorem final9 (c : Dev nD) : (dats m 0 c).arrAt 9 cfg0.N = result9 m c := by
  refine (dats m 0 c).arrAt_eq_of_covers 9 _ (by decide +kernel) fun t hf y => ?_
  blk_simp
  rw [after0_9]
  obtain ⟨a, r, j, rfl⟩ : ∃ (a : Fin 8) (b : Fin 64) (k : Fin 1024), y = ix3 a b k := ⟨y 0, y 1, y 2, eq_ix3 y⟩
  rw [out9_at]
  refine Eq.trans ?_ (congrArg (result9 m c) (emb9 t a r j)).symm
  unfold result9
  exact congrArg (· * Ideal.ofBits .f32 0x3E38AA3B#32) (turned_at m c t a r (fun j => ⟨j.val, by omega⟩) j)

set_option maxHeartbeats 4000000 in
theorem final10 (c : Dev nD) : (dats m 0 c).arrAt 10 cfg0.N = result10 m c := by
  refine (dats m 0 c).arrAt_eq_of_covers 10 _ (by decide +kernel) fun t hf y => ?_
  blk_simp
  rw [after0_10]
  obtain ⟨a, r, j, rfl⟩ : ∃ (a : Fin 8) (b : Fin 64) (k : Fin 1024), y = ix3 a b k := ⟨y 0, y 1, y 2, eq_ix3 y⟩
  rw [out10_at]
  refine Eq.trans ?_ (congrArg (result10 m c) (emb10 t a r j)).symm
  unfold result10
  exact turned_at m c t a r (fun j => ⟨1024 + j.val, by omega⟩) j

set_option maxHeartbeats 4000000 in
theorem final11 (c : Dev nD) : (dats m 0 c).arrAt 11 cfg0.N = result11 m c := by
  refine (dats m 0 c).arrAt_eq_of_covers 11 _ (by decide +kernel) fun t hf y => ?_
  blk_simp
  rw [after0_11]
  obtain ⟨a, r, j, rfl⟩ : ∃ (a : Fin 8) (b : Fin 64) (k : Fin 1024), y = ix3 a b k := ⟨y 0, y 1, y 2, eq_ix3 y⟩
  rw [out11_at]
  refine Eq.trans ?_ (congrArg (result11 m c) (emb11 t a r j)).symm
  unfold result11
  exact proj_at m c t a r _

set_option maxHeartbeats 4000000 in
theorem final7 (c : Dev nD) : (dats m 0 c).arrAt 7 cfg0.N = result7 m c := by
  refine (dats m 0 c).arrAt_eq_of_covers 7 _ (by decide +kernel) fun t hf y => ?_
  blk_simp
  rw [after0_7]
  obtain ⟨a, y, l, rfl⟩ : ∃ (a : Fin 8) (b : Fin 512) (k : Fin 128), y = ix3 a b k := ⟨y 0, y 1, y 2, eq_ix3 y⟩
  rw [out7_at]
  refine Eq.trans ?_ (congrArg (result7 m c) (emb7 t a y l)).symm
  unfold result7
  exact turned_at m c t a ⟨y.val / 8, by omega⟩ (fun j => ⟨1024 + j.val, by omega⟩) ⟨y.val % 8 * 128 + l.val, by omega⟩

set_option maxHeartbeats 4000000 in
theorem final8 (c : Dev nD) : (dats m 0 c).arrAt 8 cfg0.N = result8 m c := by
  refine (dats m 0 c).arrAt_eq_of_covers 8 _ (by decide +kernel) fun t hf y => ?_
  blk_simp
  rw [after0_8]
  obtain ⟨a, y, l, rfl⟩ : ∃ (a : Fin 8) (b : Fin 512) (k : Fin 128), y = ix3 a b k := ⟨y 0, y 1, y 2, eq_ix3 y⟩
  rw [out8_at]
  refine Eq.trans ?_ (congrArg (result8 m c) (emb8 t a y l)).symm
  unfold result8
  exact proj_at m c t a _ _

variable (ρ : Dev nD → PrngReg)

/-- The run, at the five arrays it leaves and the arguments it keeps. -/
theorem run_named : θ_run defs (onTc (τ := τ) (main (F := Ideal))) ⟨m, fun _ => 0, ρ⟩ fun r => ∀ c : Dev nD,
      r.2.mem ((c : Thread nD τ).loc main_v30_0) = (dats m 0 c).arrAt 7 cfg0.N
      ∧ r.2.mem ((c : Thread nD τ).loc main_v30_1) = (dats m 0 c).arrAt 8 cfg0.N
      ∧ r.2.mem ((c : Thread nD τ).loc main_v30_2) = (dats m 0 c).arrAt 9 cfg0.N
      ∧ r.2.mem ((c : Thread nD τ).loc main_v30_3) = (dats m 0 c).arrAt 10 cfg0.N
      ∧ r.2.mem ((c : Thread nD τ).loc main_v30_4) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 7, (h c).1 8, (h c).1 9, (h c).1 10, (h c).1 11,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelQkvSampleIdeal.Hand

namespace Cert.Proof.QkvSample

open Idealize.ShloMosaic Idealize.ShloMosaic.TcCoe Idealize.SL.Sem

/-- The kernel computes the reference's functions over the extended reals. -/
theorem algebraic : Cert.algebraic_KernelQkvSampleIdeal_ReferenceQkvSampleIdeal := by
  intro m ρ m' ρ' _ hag
  have hp : ∀ c, Cert.ReferenceQkvSampleIdeal.Hand.proj m' c = Cert.KernelQkvSampleIdeal.Hand.proj m c := by
    intro c
    obtain ⟨h0, h1, h2, h3, h4⟩ := hag c
    funext a l j
    unfold Cert.ReferenceQkvSampleIdeal.Hand.proj Cert.KernelQkvSampleIdeal.Hand.proj
    rw [h0, h1, h2, h3, h4]
  refine ⟨fun c => Cert.KernelQkvSampleIdeal.Hand.result7 m c, fun c => Cert.KernelQkvSampleIdeal.Hand.result8 m c, fun c => Cert.KernelQkvSampleIdeal.Hand.result9 m c, fun c => Cert.KernelQkvSampleIdeal.Hand.result10 m c, fun c => Cert.KernelQkvSampleIdeal.Hand.result11 m c,
    (θ_run _ _ _).mono (fun r h c => ⟨(h c).1.trans (Cert.KernelQkvSampleIdeal.Hand.final7 m c), (h c).2.1.trans (Cert.KernelQkvSampleIdeal.Hand.final8 m c), (h c).2.2.1.trans (Cert.KernelQkvSampleIdeal.Hand.final9 m c), (h c).2.2.2.1.trans (Cert.KernelQkvSampleIdeal.Hand.final10 m c), (h c).2.2.2.2.1.trans (Cert.KernelQkvSampleIdeal.Hand.final11 m c), (h c).2.2.2.2.2⟩) (Cert.KernelQkvSampleIdeal.Hand.run_named m ρ), ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.ReferenceQkvSampleIdeal.Value.run m' ρ')
  · refine (Cert.ReferenceQkvSampleIdeal.Hand.result0 m' c).trans ?_
    rw [hp]
    rfl
  · refine (Cert.ReferenceQkvSampleIdeal.Hand.result1 m' c).trans ?_
    rw [hp]
    rfl
  · refine (Cert.ReferenceQkvSampleIdeal.Hand.result2 m' c).trans ?_
    rw [hp]
    rfl
  · refine (Cert.ReferenceQkvSampleIdeal.Hand.result3 m' c).trans ?_
    rw [hp]
    rfl
  · refine (Cert.ReferenceQkvSampleIdeal.Hand.result4 m' c).trans ?_
    rw [hp]
    rfl

end Cert.Proof.QkvSample

end
-- ==== Proof.KernelMlaIdealFrame.lean ====
/- The run of `KernelMlaIdeal`: the host's arrays when its one call is entered, the body's triple, what each grid point
   leaves in each output block, and that every run ends with the argument arrays as they were. -/
module

public import proofs.«01_k».proof.Proof.Gen.KernelMlaIdeal.Launch
public import proofs.«01_k».proof.Proof.Gen.KernelMlaIdeal.Skeleton
public import proofs.«01_k».proof.Proof.Gen.KernelMlaIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelMlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

set_option maxHeartbeats 4000000 in
theorem V_kept (c : Dev nD) : V m c main_arg0 = m ((c : Thread nD τ).loc main_arg0)
    ∧ V m c main_arg1 = m ((c : Thread nD τ).loc main_arg1)
    ∧ V m c main_arg2 = m ((c : Thread nD τ).loc main_arg2)
    ∧ V m c main_arg3 = m ((c : Thread nD τ).loc main_arg3)
    ∧ V m c main_arg4 = m ((c : Thread nD τ).loc main_arg4)
    ∧ V m c main_arg5 = m ((c : Thread nD τ).loc main_arg5)
    ∧ V m c main_arg6 = m ((c : Thread nD τ).loc main_arg6)
    ∧ V m c main_arg7 = m ((c : Thread nD τ).loc main_arg7)
    ∧ V m c main_arg8 = m ((c : Thread nD τ).loc main_arg8)
    ∧ V m c main_arg9 = m ((c : Thread nD τ).loc main_arg9)
    ∧ V m c main_arg10 = m ((c : Thread nD τ).loc main_arg10) := by
  refine ⟨?_, ?_, ?_, ?_, ?_, ?_, ?_, ?_, ?_, ?_, ?_⟩ <;> exact StableHlo.after_of_forall_not_mem (b := Proc.devRef .tc _) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg0 (c : Dev nD) : V m c main_arg0 = m ((c : Thread nD τ).loc main_arg0) := (V_kept m c).1
theorem V_main_arg1 (c : Dev nD) : V m c main_arg1 = m ((c : Thread nD τ).loc main_arg1) := (V_kept m c).2.1
theorem V_main_arg2 (c : Dev nD) : V m c main_arg2 = m ((c : Thread nD τ).loc main_arg2) := (V_kept m c).2.2.1
theorem V_main_arg3 (c : Dev nD) : V m c main_arg3 = m ((c : Thread nD τ).loc main_arg3) := (V_kept m c).2.2.2.1
theorem V_main_arg4 (c : Dev nD) : V m c main_arg4 = m ((c : Thread nD τ).loc main_arg4) := (V_kept m c).2.2.2.2.1
theorem V_main_arg5 (c : Dev nD) : V m c main_arg5 = m ((c : Thread nD τ).loc main_arg5) := (V_kept m c).2.2.2.2.2.1
theorem V_main_arg6 (c : Dev nD) : V m c main_arg6 = m ((c : Thread nD τ).loc main_arg6) := (V_kept m c).2.2.2.2.2.2.1
theorem V_main_arg7 (c : Dev nD) : V m c main_arg7 = m ((c : Thread nD τ).loc main_arg7) := (V_kept m c).2.2.2.2.2.2.2.1
theorem V_main_arg8 (c : Dev nD) : V m c main_arg8 = m ((c : Thread nD τ).loc main_arg8) := (V_kept m c).2.2.2.2.2.2.2.2.1
theorem V_main_arg9 (c : Dev nD) : V m c main_arg9 = m ((c : Thread nD τ).loc main_arg9) := (V_kept m c).2.2.2.2.2.2.2.2.2.1
theorem V_main_arg10 (c : Dev nD) : V m c main_arg10 = m ((c : Thread nD τ).loc main_arg10) := (V_kept m c).2.2.2.2.2.2.2.2.2.2

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1440000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

abbrev r0_0 : Rect S1x512x1024 := Rect.unit (s := S1x512x1024) ![0, 0, 0] S1x512x1024.size inb_S1x512x1024_S1x512x1024_0_0_0
abbrev r0_1 : Rect S1x1024 := Rect.unit (s := S1x1024) ![0, 0] S1x1024.size inb_S1x1024_S1x1024_0_0
abbrev r0_2 : Rect S1x1x1024 := Rect.unit (s := S1x1x1024) ![0, 0, 0] S1x1x1024.size inb_S1x1x1024_S1x1x1024_0_0_0
abbrev r0_3 : Rect S1024x256 := Rect.unit (s := S1024x256) ![0, 0] S1024x256.size inb_S1024x256_S1024x256_0_0
abbrev r0_4 : Rect S1x256 := Rect.unit (s := S1x256) ![0, 0] S1x256.size inb_S1x256_S1x256_0_0
abbrev r0_5 : Rect S1024x128 := Rect.unit (s := S1024x128) ![0, 0] S1024x128.size inb_S1024x128_S1024x128_0_0
abbrev r0_6 : Rect S1x128 := Rect.unit (s := S1x128) ![0, 0] S1x128.size inb_S1x128_S1x128_0_0
abbrev r0_7 : Rect S1024x32 := Rect.unit (s := S1024x32) ![0, 0] S1024x32.size inb_S1024x32_S1024x32_0_0
abbrev r0_8 : Rect S512x32 := Rect.unit (s := S512x32) ![0, 0] S512x32.size inb_S512x32_S512x32_0_0
abbrev r0_9 : Rect S512x128 := Rect.unit (s := S512x128) ![0, 0] S512x128.size inb_S512x128_S512x128_0_0
abbrev r0_10 : Rect S256x2048 := Rect.unit (s := S256x2048) ![0, 0] S256x2048.size inb_S256x2048_S256x2048_0_0
abbrev r0_11 : Rect S1x512x2048 := Rect.unit (s := S1x512x2048) ![0, 0, 0] S1x512x2048.size inb_S1x512x2048_S1x512x2048_0_0_0
abbrev r0_12 : Rect S128x2048 := Rect.unit (s := S128x2048) ![0, 0] S128x2048.size inb_S128x2048_S128x2048_0_0
abbrev r0_13 : Rect S32x2048 := Rect.unit (s := S32x2048) ![0, 0] S32x2048.size inb_S32x2048_S32x2048_0_0
abbrev r0_14 : Rect S128x1024 := Rect.unit (s := S128x1024) ![0, 0] S128x1024.size inb_S128x1024_S128x1024_0_0
abbrev r0_15 : Rect S1x16x1x64x512 := Rect.unit (s := S1x16x1x64x512) ![0, 0, 0, 0, 0] S1x1x1x64x512.size inb_S1x16x1x64x512_S1x1x1x64x512_0_0_0_0_0
abbrev r0_16 : Rect S1x16x1x64x512 := Rect.unit (s := S1x16x1x64x512) ![0, 1, 0, 0, 0] S1x1x1x64x512.size inb_S1x16x1x64x512_S1x1x1x64x512_0_1_0_0_0
abbrev r0_17 : Rect S1x16x1x64x512 := Rect.unit (s := S1x16x1x64x512) ![0, 2, 0, 0, 0] S1x1x1x64x512.size inb_S1x16x1x64x512_S1x1x1x64x512_0_2_0_0_0
abbrev r0_18 : Rect S1x16x1x64x512 := Rect.unit (s := S1x16x1x64x512) ![0, 3, 0, 0, 0] S1x1x1x64x512.size inb_S1x16x1x64x512_S1x1x1x64x512_0_3_0_0_0
abbrev r0_19 : Rect S1x16x1x64x512 := Rect.unit (s := S1x16x1x64x512) ![0, 4, 0, 0, 0] S1x1x1x64x512.size inb_S1x16x1x64x512_S1x1x1x64x512_0_4_0_0_0
abbrev r0_20 : Rect S1x16x1x64x512 := Rect.unit (s := S1x16x1x64x512) ![0, 5, 0, 0, 0] S1x1x1x64x512.size inb_S1x16x1x64x512_S1x1x1x64x512_0_5_0_0_0
abbrev r0_21 : Rect S1x16x1x64x512 := Rect.unit (s := S1x16x1x64x512) ![0, 6, 0, 0, 0] S1x1x1x64x512.size inb_S1x16x1x64x512_S1x1x1x64x512_0_6_0_0_0
abbrev r0_22 : Rect S1x16x1x64x512 := Rect.unit (s := S1x16x1x64x512) ![0, 7, 0, 0, 0] S1x1x1x64x512.size inb_S1x16x1x64x512_S1x1x1x64x512_0_7_0_0_0
abbrev r0_23 : Rect S1x16x1x64x512 := Rect.unit (s := S1x16x1x64x512) ![0, 8, 0, 0, 0] S1x1x1x64x512.size inb_S1x16x1x64x512_S1x1x1x64x512_0_8_0_0_0
abbrev r0_24 : Rect S1x16x1x64x512 := Rect.unit (s := S1x16x1x64x512) ![0, 9, 0, 0, 0] S1x1x1x64x512.size inb_S1x16x1x64x512_S1x1x1x64x512_0_9_0_0_0
abbrev r0_25 : Rect S1x16x1x64x512 := Rect.unit (s := S1x16x1x64x512) ![0, 10, 0, 0, 0] S1x1x1x64x512.size inb_S1x16x1x64x512_S1x1x1x64x512_0_10_0_0_0
abbrev r0_26 : Rect S1x16x1x64x512 := Rect.unit (s := S1x16x1x64x512) ![0, 11, 0, 0, 0] S1x1x1x64x512.size inb_S1x16x1x64x512_S1x1x1x64x512_0_11_0_0_0
abbrev r0_27 : Rect S1x16x1x64x512 := Rect.unit (s := S1x16x1x64x512) ![0, 12, 0, 0, 0] S1x1x1x64x512.size inb_S1x16x1x64x512_S1x1x1x64x512_0_12_0_0_0
abbrev r0_28 : Rect S1x16x1x64x512 := Rect.unit (s := S1x16x1x64x512) ![0, 13, 0, 0, 0] S1x1x1x64x512.size inb_S1x16x1x64x512_S1x1x1x64x512_0_13_0_0_0
abbrev r0_29 : Rect S1x16x1x64x512 := Rect.unit (s := S1x16x1x64x512) ![0, 14, 0, 0, 0] S1x1x1x64x512.size inb_S1x16x1x64x512_S1x1x1x64x512_0_14_0_0_0
abbrev r0_30 : Rect S1x16x1x64x512 := Rect.unit (s := S1x16x1x64x512) ![0, 15, 0, 0, 0] S1x1x1x64x512.size inb_S1x16x1x64x512_S1x1x1x64x512_0_15_0_0_0
abbrev r0_31 : Rect S1x512x128 := Rect.unit (s := S1x512x128) ![0, 0, 0] S1x512x128.size inb_S1x512x128_S1x512x128_0_0_0
abbrev r0_32 : Rect S1x512x32 := Rect.unit (s := S1x512x32) ![0, 0, 0] S1x512x32.size inb_S1x512x32_S1x512x32_0_0_0

def k0_pay42 (x0 : Vec F S1x512x1024 .f32) (x1 : Vec F S1x1024 .f32) (x2 : Vec F S1x1x1024 .f32) (x3 : Vec F S1x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S512x32 .f32) (x11 : Vec F S512x32 .f32) (x12 : Vec F S256x2048 .bf16) (x13 : Vec F S256x2048 .bf16) (x14 : Vec F S512x128 .f32) (x15 : Vec F S512x128 .f32) (x16 : Vec F S128x2048 .bf16) (x17 : Vec F S32x2048 .bf16) (x18 : Vec F S128x1024 .bf16) : FVec F S512x1024 .bf16 :=
  k0_pay3 (View.ld x0 r0_0) (View.ld x1 r0_1) (View.ld x3 r0_2) (View.ld x2 r0_2) -- `v27`
def k0_pay43 (x0 : Vec F S1x512x1024 .f32) (x1 : Vec F S1x1024 .f32) (x2 : Vec F S1x1x1024 .f32) (x3 : Vec F S1x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S512x32 .f32) (x11 : Vec F S512x32 .f32) (x12 : Vec F S256x2048 .bf16) (x13 : Vec F S256x2048 .bf16) (x14 : Vec F S512x128 .f32) (x15 : Vec F S512x128 .f32) (x16 : Vec F S128x2048 .bf16) (x17 : Vec F S32x2048 .bf16) (x18 : Vec F S128x1024 .bf16) : FVec F S512x128 .f32 :=
  k0_pay8 (k0_pay42 x0 x1 x2 x3 x4 x5 x6 x7 x8 x9 x10 x11 x12 x13 x14 x15 x16 x17 x18) (View.ld x5 r0_5) (View.ld x9 r0_6) -- `v62`
def k0_pay44 (x0 : Vec F S1x512x1024 .f32) (x1 : Vec F S1x1024 .f32) (x2 : Vec F S1x1x1024 .f32) (x3 : Vec F S1x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S512x32 .f32) (x11 : Vec F S512x32 .f32) (x12 : Vec F S256x2048 .bf16) (x13 : Vec F S256x2048 .bf16) (x14 : Vec F S512x128 .f32) (x15 : Vec F S512x128 .f32) (x16 : Vec F S128x2048 .bf16) (x17 : Vec F S32x2048 .bf16) (x18 : Vec F S128x1024 .bf16) : FVec F S1x512x32 .f32 :=
  k0_pay9 (k0_pay42 x0 x1 x2 x3 x4 x5 x6 x7 x8 x9 x10 x11 x12 x13 x14 x15 x16 x17 x18) (View.ld x6 r0_7) (View.ld x10 r0_8) -- `v70`
def k0_pay45 (x0 : Vec F S1x512x1024 .f32) (x1 : Vec F S1x1024 .f32) (x2 : Vec F S1x1x1024 .f32) (x3 : Vec F S1x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S512x32 .f32) (x11 : Vec F S512x32 .f32) (x12 : Vec F S256x2048 .bf16) (x13 : Vec F S256x2048 .bf16) (x14 : Vec F S512x128 .f32) (x15 : Vec F S512x128 .f32) (x16 : Vec F S128x2048 .bf16) (x17 : Vec F S32x2048 .bf16) (x18 : Vec F S128x1024 .bf16) : FVec F S1x512x32 .f32 :=
  k0_pay10 (k0_pay42 x0 x1 x2 x3 x4 x5 x6 x7 x8 x9 x10 x11 x12 x13 x14 x15 x16 x17 x18) (View.ld x7 r0_7) -- `v74`
def k0_pay46 (x0 : Vec F S1x512x1024 .f32) (x1 : Vec F S1x1024 .f32) (x2 : Vec F S1x1x1024 .f32) (x3 : Vec F S1x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S512x32 .f32) (x11 : Vec F S512x32 .f32) (x12 : Vec F S256x2048 .bf16) (x13 : Vec F S256x2048 .bf16) (x14 : Vec F S512x128 .f32) (x15 : Vec F S512x128 .f32) (x16 : Vec F S128x2048 .bf16) (x17 : Vec F S32x2048 .bf16) (x18 : Vec F S128x1024 .bf16) : FVec F S512x32 .f32 :=
  k0_pay11 (View.ld x11 r0_8) -- `v76`
def k0_pay47 (x0 : Vec F S1x512x1024 .f32) (x1 : Vec F S1x1024 .f32) (x2 : Vec F S1x1x1024 .f32) (x3 : Vec F S1x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S512x32 .f32) (x11 : Vec F S512x32 .f32) (x12 : Vec F S256x2048 .bf16) (x13 : Vec F S256x2048 .bf16) (x14 : Vec F S512x128 .f32) (x15 : Vec F S512x128 .f32) (x16 : Vec F S128x2048 .bf16) (x17 : Vec F S32x2048 .bf16) (x18 : Vec F S128x1024 .bf16) : FVec F S512x128 .bf16 :=
  k0_pay14 (k0_pay43 x0 x1 x2 x3 x4 x5 x6 x7 x8 x9 x10 x11 x12 x13 x14 x15 x16 x17 x18) -- `v101`
def k0_pay48 (x0 : Vec F S1x512x1024 .f32) (x1 : Vec F S1x1024 .f32) (x2 : Vec F S1x1x1024 .f32) (x3 : Vec F S1x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S512x32 .f32) (x11 : Vec F S512x32 .f32) (x12 : Vec F S256x2048 .bf16) (x13 : Vec F S256x2048 .bf16) (x14 : Vec F S512x128 .f32) (x15 : Vec F S512x128 .f32) (x16 : Vec F S128x2048 .bf16) (x17 : Vec F S32x2048 .bf16) (x18 : Vec F S128x1024 .bf16) : FVec F S512x1024 .f32 :=
  k0_pay16 (k0_pay47 x0 x1 x2 x3 x4 x5 x6 x7 x8 x9 x10 x11 x12 x13 x14 x15 x16 x17 x18) (View.ld x18 r0_14) -- `v116`

def out0_19 (x0 : Vec F S1x512x1024 .f32) (x1 : Vec F S1x1024 .f32) (x2 : Vec F S1x1x1024 .f32) (x3 : Vec F S1x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S512x32 .f32) (x11 : Vec F S512x32 .f32) (x12 : Vec F S256x2048 .bf16) (x13 : Vec F S256x2048 .bf16) (x14 : Vec F S512x128 .f32) (x15 : Vec F S512x128 .f32) (x16 : Vec F S128x2048 .bf16) (x17 : Vec F S32x2048 .bf16) (x18 : Vec F S128x1024 .bf16) : Vec F S1x512x128 .f32 :=
  View.canon [⟨r0_31, k0_pay2 (k0_pay43 x0 x1 x2 x3 x4 x5 x6 x7 x8 x9 x10 x11 x12 x13 x14 x15 x16 x17 x18)⟩]

theorem cover0_19 (p0 : Vec F S1x512x128 .f32) (y : S1x512x128.Idx) :
    ∃ pc ∈ ([⟨r0_31, p0⟩] : List (View.Piece (Elt F) S1x512x128 .f32)), y ∈ pc.1.set :=
  View.cover_of_tiled [⟨r0_31, p0⟩] S1x512x128.size (by rfl) y

def out0_20 (x0 : Vec F S1x512x1024 .f32) (x1 : Vec F S1x1024 .f32) (x2 : Vec F S1x1x1024 .f32) (x3 : Vec F S1x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S512x32 .f32) (x11 : Vec F S512x32 .f32) (x12 : Vec F S256x2048 .bf16) (x13 : Vec F S256x2048 .bf16) (x14 : Vec F S512x128 .f32) (x15 : Vec F S512x128 .f32) (x16 : Vec F S128x2048 .bf16) (x17 : Vec F S32x2048 .bf16) (x18 : Vec F S128x1024 .bf16) : Vec F S1x512x32 .f32 :=
  View.canon [⟨r0_32, k0_pay12 (k0_pay44 x0 x1 x2 x3 x4 x5 x6 x7 x8 x9 x10 x11 x12 x13 x14 x15 x16 x17 x18) (k0_pay45 x0 x1 x2 x3 x4 x5 x6 x7 x8 x9 x10 x11 x12 x13 x14 x15 x16 x17 x18) (k0_pay46 x0 x1 x2 x3 x4 x5 x6 x7 x8 x9 x10 x11 x12 x13 x14 x15 x16 x17 x18)⟩]

theorem cover0_20 (p0 : Vec F S1x512x32 .f32) (y : S1x512x32.Idx) :
    ∃ pc ∈ ([⟨r0_32, p0⟩] : List (View.Piece (Elt F) S1x512x32 .f32)), y ∈ pc.1.set :=
  View.cover_of_tiled [⟨r0_32, p0⟩] S1x512x32.size (by rfl) y

def out0_21 (x0 : Vec F S1x512x1024 .f32) (x1 : Vec F S1x1024 .f32) (x2 : Vec F S1x1x1024 .f32) (x3 : Vec F S1x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S512x32 .f32) (x11 : Vec F S512x32 .f32) (x12 : Vec F S256x2048 .bf16) (x13 : Vec F S256x2048 .bf16) (x14 : Vec F S512x128 .f32) (x15 : Vec F S512x128 .f32) (x16 : Vec F S128x2048 .bf16) (x17 : Vec F S32x2048 .bf16) (x18 : Vec F S128x1024 .bf16) : Vec F S1x512x2048 .bf16 :=
  View.canon [⟨r0_11, k0_pay13 (k0_pay7 (k0_pay4 (View.ld x0 r0_0) (View.ld x1 r0_1) (View.ld x3 r0_2) (View.ld x2 r0_2) (View.ld x4 r0_3)) (k0_pay5 (View.ld x8 r0_4)) (k0_pay6 (View.ld x0 r0_0) (View.ld x1 r0_1) (View.ld x3 r0_2) (View.ld x2 r0_2) (View.ld x4 r0_3)) (Scalar.ofBits .f32 0x43800000#32)) (View.ld x14 r0_9) (View.ld x15 r0_9) (View.ld x12 r0_10) (View.ld x13 r0_10)⟩]

theorem cover0_21 (p0 : Vec F S1x512x2048 .bf16) (y : S1x512x2048.Idx) :
    ∃ pc ∈ ([⟨r0_11, p0⟩] : List (View.Piece (Elt F) S1x512x2048 .bf16)), y ∈ pc.1.set :=
  View.cover_of_tiled [⟨r0_11, p0⟩] S1x512x2048.size (by rfl) y

def out0_22 (x0 : Vec F S1x512x1024 .f32) (x1 : Vec F S1x1024 .f32) (x2 : Vec F S1x1x1024 .f32) (x3 : Vec F S1x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S512x32 .f32) (x11 : Vec F S512x32 .f32) (x12 : Vec F S256x2048 .bf16) (x13 : Vec F S256x2048 .bf16) (x14 : Vec F S512x128 .f32) (x15 : Vec F S512x128 .f32) (x16 : Vec F S128x2048 .bf16) (x17 : Vec F S32x2048 .bf16) (x18 : Vec F S128x1024 .bf16) : Vec F S1x512x2048 .bf16 :=
  View.canon [⟨r0_11, k0_pay15 (k0_pay43 x0 x1 x2 x3 x4 x5 x6 x7 x8 x9 x10 x11 x12 x13 x14 x15 x16 x17 x18) (k0_pay44 x0 x1 x2 x3 x4 x5 x6 x7 x8 x9 x10 x11 x12 x13 x14 x15 x16 x17 x18) (k0_pay45 x0 x1 x2 x3 x4 x5 x6 x7 x8 x9 x10 x11 x12 x13 x14 x15 x16 x17 x18) (k0_pay46 x0 x1 x2 x3 x4 x5 x6 x7 x8 x9 x10 x11 x12 x13 x14 x15 x16 x17 x18) (View.ld x16 r0_12) (View.ld x17 r0_13)⟩]

theorem cover0_22 (p0 : Vec F S1x512x2048 .bf16) (y : S1x512x2048.Idx) :
    ∃ pc ∈ ([⟨r0_11, p0⟩] : List (View.Piece (Elt F) S1x512x2048 .bf16)), y ∈ pc.1.set :=
  View.cover_of_tiled [⟨r0_11, p0⟩] S1x512x2048.size (by rfl) y

def out0_23 (x0 : Vec F S1x512x1024 .f32) (x1 : Vec F S1x1024 .f32) (x2 : Vec F S1x1x1024 .f32) (x3 : Vec F S1x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S512x32 .f32) (x11 : Vec F S512x32 .f32) (x12 : Vec F S256x2048 .bf16) (x13 : Vec F S256x2048 .bf16) (x14 : Vec F S512x128 .f32) (x15 : Vec F S512x128 .f32) (x16 : Vec F S128x2048 .bf16) (x17 : Vec F S32x2048 .bf16) (x18 : Vec F S128x1024 .bf16) : Vec F S1x16x1x64x512 .bf16 :=
  View.canon [⟨r0_30, k0_pay1 (k0_pay40 (k0_pay48 x0 x1 x2 x3 x4 x5 x6 x7 x8 x9 x10 x11 x12 x13 x14 x15 x16 x17 x18))⟩,
    ⟨r0_29, k0_pay41 (k0_pay48 x0 x1 x2 x3 x4 x5 x6 x7 x8 x9 x10 x11 x12 x13 x14 x15 x16 x17 x18)⟩,
    ⟨r0_28, k0_pay39 (k0_pay48 x0 x1 x2 x3 x4 x5 x6 x7 x8 x9 x10 x11 x12 x13 x14 x15 x16 x17 x18)⟩,
    ⟨r0_27, k0_pay38 (k0_pay48 x0 x1 x2 x3 x4 x5 x6 x7 x8 x9 x10 x11 x12 x13 x14 x15 x16 x17 x18)⟩,
    ⟨r0_26, k0_pay36 (k0_pay48 x0 x1 x2 x3 x4 x5 x6 x7 x8 x9 x10 x11 x12 x13 x14 x15 x16 x17 x18)⟩,
    ⟨r0_25, k0_pay35 (k0_pay48 x0 x1 x2 x3 x4 x5 x6 x7 x8 x9 x10 x11 x12 x13 x14 x15 x16 x17 x18)⟩,
    ⟨r0_24, k0_pay33 (k0_pay32 (k0_pay48 x0 x1 x2 x3 x4 x5 x6 x7 x8 x9 x10 x11 x12 x13 x14 x15 x16 x17 x18))⟩,
    ⟨r0_23, k0_pay31 (k0_pay48 x0 x1 x2 x3 x4 x5 x6 x7 x8 x9 x10 x11 x12 x13 x14 x15 x16 x17 x18)⟩,
    ⟨r0_22, k0_pay29 (k0_pay48 x0 x1 x2 x3 x4 x5 x6 x7 x8 x9 x10 x11 x12 x13 x14 x15 x16 x17 x18)⟩,
    ⟨r0_21, k0_pay28 (k0_pay48 x0 x1 x2 x3 x4 x5 x6 x7 x8 x9 x10 x11 x12 x13 x14 x15 x16 x17 x18)⟩,
    ⟨r0_20, k0_pay26 (k0_pay23 (k0_pay47 x0 x1 x2 x3 x4 x5 x6 x7 x8 x9 x10 x11 x12 x13 x14 x15 x16 x17 x18) (View.ld x18 r0_14))⟩,
    ⟨r0_19, k0_pay25 (k0_pay24 (k0_pay47 x0 x1 x2 x3 x4 x5 x6 x7 x8 x9 x10 x11 x12 x13 x14 x15 x16 x17 x18) (View.ld x18 r0_14))⟩,
    ⟨r0_18, k0_pay22 (k0_pay47 x0 x1 x2 x3 x4 x5 x6 x7 x8 x9 x10 x11 x12 x13 x14 x15 x16 x17 x18) (View.ld x18 r0_14)⟩,
    ⟨r0_17, k0_pay21 (k0_pay47 x0 x1 x2 x3 x4 x5 x6 x7 x8 x9 x10 x11 x12 x13 x14 x15 x16 x17 x18) (View.ld x18 r0_14)⟩,
    ⟨r0_16, k0_pay19 (k0_pay47 x0 x1 x2 x3 x4 x5 x6 x7 x8 x9 x10 x11 x12 x13 x14 x15 x16 x17 x18) (View.ld x18 r0_14)⟩,
    ⟨r0_15, k0_pay18 (k0_pay47 x0 x1 x2 x3 x4 x5 x6 x7 x8 x9 x10 x11 x12 x13 x14 x15 x16 x17 x18) (View.ld x18 r0_14)⟩]

theorem cover0_23 (p0 : Vec F S1x1x1x64x512 .bf16) (p1 : Vec F S1x1x1x64x512 .bf16) (p2 : Vec F S1x1x1x64x512 .bf16) (p3 : Vec F S1x1x1x64x512 .bf16) (p4 : Vec F S1x1x1x64x512 .bf16) (p5 : Vec F S1x1x1x64x512 .bf16) (p6 : Vec F S1x1x1x64x512 .bf16) (p7 : Vec F S1x1x1x64x512 .bf16) (p8 : Vec F S1x1x1x64x512 .bf16) (p9 : Vec F S1x1x1x64x512 .bf16) (p10 : Vec F S1x1x1x64x512 .bf16) (p11 : Vec F S1x1x1x64x512 .bf16) (p12 : Vec F S1x1x1x64x512 .bf16) (p13 : Vec F S1x1x1x64x512 .bf16) (p14 : Vec F S1x1x1x64x512 .bf16) (p15 : Vec F S1x1x1x64x512 .bf16) (y : S1x16x1x64x512.Idx) :
    ∃ pc ∈ ([⟨r0_30, p0⟩, ⟨r0_29, p1⟩, ⟨r0_28, p2⟩, ⟨r0_27, p3⟩, ⟨r0_26, p4⟩, ⟨r0_25, p5⟩, ⟨r0_24, p6⟩, ⟨r0_23, p7⟩, ⟨r0_22, p8⟩, ⟨r0_21, p9⟩, ⟨r0_20, p10⟩, ⟨r0_19, p11⟩, ⟨r0_18, p12⟩, ⟨r0_17, p13⟩, ⟨r0_16, p14⟩, ⟨r0_15, p15⟩] : List (View.Piece (Elt F) S1x16x1x64x512 .bf16)), y ∈ pc.1.set :=
  View.cover_of_tiled [⟨r0_30, p0⟩, ⟨r0_29, p1⟩, ⟨r0_28, p2⟩, ⟨r0_27, p3⟩, ⟨r0_26, p4⟩, ⟨r0_25, p5⟩, ⟨r0_24, p6⟩, ⟨r0_23, p7⟩, ⟨r0_22, p8⟩, ⟨r0_21, p9⟩, ⟨r0_20, p10⟩, ⟨r0_19, p11⟩, ⟨r0_18, p12⟩, ⟨r0_17, p13⟩, ⟨r0_16, p14⟩, ⟨r0_15, p15⟩] S1x1x1x64x512.size (by rfl) y

set_option maxHeartbeats 1000000 in
theorem sound_kernel (c : Dev nD) (E : Set ℕ) (i : grid0.Coords) (arg2 : Memref sig .tc .vmem S1x512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x256 .bf16) (harg6 : arg6.IsWhole) (arg7 : Memref sig .tc .vmem S1024x128 .bf16) (harg7 : arg7.IsWhole) (arg8 : Memref sig .tc .vmem S1024x32 .bf16) (harg8 : arg8.IsWhole) (arg9 : Memref sig .tc .vmem S1024x32 .bf16) (harg9 : arg9.IsWhole) (arg10 : Memref sig .tc .vmem S1x256 .f32) (harg10 : arg10.IsWhole) (arg11 : Memref sig .tc .vmem S1x128 .f32) (harg11 : arg11.IsWhole) (arg12 : Memref sig .tc .vmem S512x32 .f32) (harg12 : arg12.IsWhole) (arg13 : Memref sig .tc .vmem S512x32 .f32) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S128x2048 .bf16) (harg18 : arg18.IsWhole) (arg19 : Memref sig .tc .vmem S32x2048 .bf16) (harg19 : arg19.IsWhole) (arg20 : Memref sig .tc .vmem S128x1024 .bf16) (harg20 : arg20.IsWhole) (arg21 : Memref sig .tc .vmem S1x512x128 .f32) (harg21 : arg21.IsWhole) (arg22 : Memref sig .tc .vmem S1x512x32 .f32) (harg22 : arg22.IsWhole) (arg23 : Memref sig .tc .vmem S1x512x2048 .bf16) (harg23 : arg23.IsWhole) (arg24 : Memref sig .tc .vmem S1x512x2048 .bf16) (harg24 : arg24.IsWhole) (arg25 : Memref sig .tc .vmem S1x16x1x64x512 .bf16) (harg25 : arg25.IsWhole)
    (x0 : Vec F S1x512x1024 .f32) (x1 : Vec F S1x1024 .f32) (x2 : Vec F S1x1x1024 .f32) (x3 : Vec F S1x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S512x32 .f32) (x11 : Vec F S512x32 .f32) (x12 : Vec F S256x2048 .bf16) (x13 : Vec F S256x2048 .bf16) (x14 : Vec F S512x128 .f32) (x15 : Vec F S512x128 .f32) (x16 : Vec F S128x2048 .bf16) (x17 : Vec F S32x2048 .bf16) (x18 : Vec F S128x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare (out0_19 x0 x1 x2 x3 x4 x5 x6 x7 x8 x9 x10 x11 x12 x13 x14 x15 x16 x17 x18) ∗ owns (c : Thread nD τ) arg22 fullShare (out0_20 x0 x1 x2 x3 x4 x5 x6 x7 x8 x9 x10 x11 x12 x13 x14 x15 x16 x17 x18) ∗ owns (c : Thread nD τ) arg23 fullShare (out0_21 x0 x1 x2 x3 x4 x5 x6 x7 x8 x9 x10 x11 x12 x13 x14 x15 x16 x17 x18) ∗ owns (c : Thread nD τ) arg24 fullShare (out0_22 x0 x1 x2 x3 x4 x5 x6 x7 x8 x9 x10 x11 x12 x13 x14 x15 x16 x17 x18) ∗ owns (c : Thread nD τ) arg25 fullShare (out0_23 x0 x1 x2 x3 x4 x5 x6 x7 x8 x9 x10 x11 x12 x13 x14 x15 x16 x17 x18)) -∗ K ⟨⟩))
      ⊢ wp frame (wpE (defs₀ (F := F)) Variants.none c none) E (cc0_mla_project i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_mla_project_eq_skeleton]; unfold cc0_mla_project_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  iexists _; isplitr
  swap; · iexact H23
  ipureintro
  refine (View.read_writes_eq_canon _ _ _ (cover0_23 _ _ _ _ _ _ _ _ _ _ _ _ _ _ _ _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨_ + 24, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelMlaIdeal.Gen

end
-- ==== Proof.KernelMlaSampleIdealFrame.lean ====
/- The run of `KernelMlaSampleIdeal`: the host's arrays when its one call is entered, the body's triple, what each grid point
   leaves in each output block, and that every run ends with the argument arrays as they were. -/
module

public import proofs.«01_k».proof.Proof.Gen.KernelMlaSampleIdeal.Launch
public import proofs.«01_k».proof.Proof.Gen.KernelMlaSampleIdeal.Skeleton
public import proofs.«01_k».proof.Proof.Gen.KernelMlaSampleIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelMlaSampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

set_option maxHeartbeats 4000000 in
theorem V_kept (c : Dev nD) : V m c main_arg0 = m ((c : Thread nD τ).loc main_arg0)
    ∧ V m c main_arg1 = m ((c : Thread nD τ).loc main_arg1)
    ∧ V m c main_arg2 = m ((c : Thread nD τ).loc main_arg2)
    ∧ V m c main_arg3 = m ((c : Thread nD τ).loc main_arg3)
    ∧ V m c main_arg4 = m ((c : Thread nD τ).loc main_arg4)
    ∧ V m c main_arg5 = m ((c : Thread nD τ).loc main_arg5)
    ∧ V m c main_arg6 = m ((c : Thread nD τ).loc main_arg6)
    ∧ V m c main_arg7 = m ((c : Thread nD τ).loc main_arg7)
    ∧ V m c main_arg8 = m ((c : Thread nD τ).loc main_arg8)
    ∧ V m c main_arg9 = m ((c : Thread nD τ).loc main_arg9)
    ∧ V m c main_arg10 = m ((c : Thread nD τ).loc main_arg10) := by
  refine ⟨?_, ?_, ?_, ?_, ?_, ?_, ?_, ?_, ?_, ?_, ?_⟩ <;> exact StableHlo.after_of_forall_not_mem (b := Proc.devRef .tc _) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg0 (c : Dev nD) : V m c main_arg0 = m ((c : Thread nD τ).loc main_arg0) := (V_kept m c).1
theorem V_main_arg1 (c : Dev nD) : V m c main_arg1 = m ((c : Thread nD τ).loc main_arg1) := (V_kept m c).2.1
theorem V_main_arg2 (c : Dev nD) : V m c main_arg2 = m ((c : Thread nD τ).loc main_arg2) := (V_kept m c).2.2.1
theorem V_main_arg3 (c : Dev nD) : V m c main_arg3 = m ((c : Thread nD τ).loc main_arg3) := (V_kept m c).2.2.2.1
theorem V_main_arg4 (c : Dev nD) : V m c main_arg4 = m ((c : Thread nD τ).loc main_arg4) := (V_kept m c).2.2.2.2.1
theorem V_main_arg5 (c : Dev nD) : V m c main_arg5 = m ((c : Thread nD τ).loc main_arg5) := (V_kept m c).2.2.2.2.2.1
theorem V_main_arg6 (c : Dev nD) : V m c main_arg6 = m ((c : Thread nD τ).loc main_arg6) := (V_kept m c).2.2.2.2.2.2.1
theorem V_main_arg7 (c : Dev nD) : V m c main_arg7 = m ((c : Thread nD τ).loc main_arg7) := (V_kept m c).2.2.2.2.2.2.2.1
theorem V_main_arg8 (c : Dev nD) : V m c main_arg8 = m ((c : Thread nD τ).loc main_arg8) := (V_kept m c).2.2.2.2.2.2.2.2.1
theorem V_main_arg9 (c : Dev nD) : V m c main_arg9 = m ((c : Thread nD τ).loc main_arg9) := (V_kept m c).2.2.2.2.2.2.2.2.2.1
theorem V_main_arg10 (c : Dev nD) : V m c main_arg10 = m ((c : Thread nD τ).loc main_arg10) := (V_kept m c).2.2.2.2.2.2.2.2.2.2

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1200000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

abbrev r0_0 : Rect S8x64x1024 := Rect.unit (s := S8x64x1024) ![0, 0, 0] S8x64x1024.size inb_S8x64x1024_S8x64x1024_0_0_0
abbrev r0_1 : Rect S1x1024 := Rect.unit (s := S1x1024) ![0, 0] S1x1024.size inb_S1x1024_S1x1024_0_0
abbrev r0_2 : Rect S8x1x1024 := Rect.unit (s := S8x1x1024) ![0, 0, 0] S8x1x1024.size inb_S8x1x1024_S8x1x1024_0_0_0
abbrev r0_3 : Rect S1024x256 := Rect.unit (s := S1024x256) ![0, 0] S1024x256.size inb_S1024x256_S1024x256_0_0
abbrev r0_4 : Rect S1x256 := Rect.unit (s := S1x256) ![0, 0] S1x256.size inb_S1x256_S1x256_0_0
abbrev r0_5 : Rect S1024x128 := Rect.unit (s := S1024x128) ![0, 0] S1024x128.size inb_S1024x128_S1024x128_0_0
abbrev r0_6 : Rect S1x128 := Rect.unit (s := S1x128) ![0, 0] S1x128.size inb_S1x128_S1x128_0_0
abbrev r0_7 : Rect S1024x32 := Rect.unit (s := S1024x32) ![0, 0] S1024x32.size inb_S1024x32_S1024x32_0_0
abbrev r0_8 : Rect S64x32 := Rect.unit (s := S64x32) ![0, 0] S64x32.size inb_S64x32_S64x32_0_0
abbrev r0_9 : Rect S64x128 := Rect.unit (s := S64x128) ![0, 0] S64x128.size inb_S64x128_S64x128_0_0
abbrev r0_10 : Rect S256x2048 := Rect.unit (s := S256x2048) ![0, 0] S256x2048.size inb_S256x2048_S256x2048_0_0
abbrev r0_11 : Rect S16x128x256 := Rect.unit (s := S16x128x256) ![0, 0, 0] S1x128x256.size inb_S16x128x256_S1x128x256_0_0_0
abbrev r0_12 : Rect S8x16x64x256 := Rect.unit (s := S8x16x64x256) ![0, 0, 0, 0] S8x1x64x256.size inb_S8x16x64x256_S8x1x64x256_0_0_0_0
abbrev r0_13 : Rect S16x128x256 := Rect.unit (s := S16x128x256) ![1, 0, 0] S1x128x256.size inb_S16x128x256_S1x128x256_1_0_0
abbrev r0_14 : Rect S8x16x64x256 := Rect.unit (s := S8x16x64x256) ![0, 1, 0, 0] S8x1x64x256.size inb_S8x16x64x256_S8x1x64x256_0_1_0_0
abbrev r0_15 : Rect S16x128x256 := Rect.unit (s := S16x128x256) ![2, 0, 0] S1x128x256.size inb_S16x128x256_S1x128x256_2_0_0
abbrev r0_16 : Rect S8x16x64x256 := Rect.unit (s := S8x16x64x256) ![0, 2, 0, 0] S8x1x64x256.size inb_S8x16x64x256_S8x1x64x256_0_2_0_0
abbrev r0_17 : Rect S16x128x256 := Rect.unit (s := S16x128x256) ![3, 0, 0] S1x128x256.size inb_S16x128x256_S1x128x256_3_0_0
abbrev r0_18 : Rect S8x16x64x256 := Rect.unit (s := S8x16x64x256) ![0, 3, 0, 0] S8x1x64x256.size inb_S8x16x64x256_S8x1x64x256_0_3_0_0
abbrev r0_19 : Rect S16x128x256 := Rect.unit (s := S16x128x256) ![4, 0, 0] S1x128x256.size inb_S16x128x256_S1x128x256_4_0_0
abbrev r0_20 : Rect S8x16x64x256 := Rect.unit (s := S8x16x64x256) ![0, 4, 0, 0] S8x1x64x256.size inb_S8x16x64x256_S8x1x64x256_0_4_0_0
abbrev r0_21 : Rect S16x128x256 := Rect.unit (s := S16x128x256) ![5, 0, 0] S1x128x256.size inb_S16x128x256_S1x128x256_5_0_0
abbrev r0_22 : Rect S8x16x64x256 := Rect.unit (s := S8x16x64x256) ![0, 5, 0, 0] S8x1x64x256.size inb_S8x16x64x256_S8x1x64x256_0_5_0_0
abbrev r0_23 : Rect S16x128x256 := Rect.unit (s := S16x128x256) ![6, 0, 0] S1x128x256.size inb_S16x128x256_S1x128x256_6_0_0
abbrev r0_24 : Rect S8x16x64x256 := Rect.unit (s := S8x16x64x256) ![0, 6, 0, 0] S8x1x64x256.size inb_S8x16x64x256_S8x1x64x256_0_6_0_0
abbrev r0_25 : Rect S16x128x256 := Rect.unit (s := S16x128x256) ![7, 0, 0] S1x128x256.size inb_S16x128x256_S1x128x256_7_0_0
abbrev r0_26 : Rect S8x16x64x256 := Rect.unit (s := S8x16x64x256) ![0, 7, 0, 0] S8x1x64x256.size inb_S8x16x64x256_S8x1x64x256_0_7_0_0
abbrev r0_27 : Rect S16x128x256 := Rect.unit (s := S16x128x256) ![8, 0, 0] S1x128x256.size inb_S16x128x256_S1x128x256_8_0_0
abbrev r0_28 : Rect S8x16x64x256 := Rect.unit (s := S8x16x64x256) ![0, 8, 0, 0] S8x1x64x256.size inb_S8x16x64x256_S8x1x64x256_0_8_0_0
abbrev r0_29 : Rect S16x128x256 := Rect.unit (s := S16x128x256) ![9, 0, 0] S1x128x256.size inb_S16x128x256_S1x128x256_9_0_0
abbrev r0_30 : Rect S8x16x64x256 := Rect.unit (s := S8x16x64x256) ![0, 9, 0, 0] S8x1x64x256.size inb_S8x16x64x256_S8x1x64x256_0_9_0_0
abbrev r0_31 : Rect S16x128x256 := Rect.unit (s := S16x128x256) ![10, 0, 0] S1x128x256.size inb_S16x128x256_S1x128x256_10_0_0
abbrev r0_32 : Rect S8x16x64x256 := Rect.unit (s := S8x16x64x256) ![0, 10, 0, 0] S8x1x64x256.size inb_S8x16x64x256_S8x1x64x256_0_10_0_0
abbrev r0_33 : Rect S16x128x256 := Rect.unit (s := S16x128x256) ![11, 0, 0] S1x128x256.size inb_S16x128x256_S1x128x256_11_0_0
abbrev r0_34 : Rect S8x16x64x256 := Rect.unit (s := S8x16x64x256) ![0, 11, 0, 0] S8x1x64x256.size inb_S8x16x64x256_S8x1x64x256_0_11_0_0
abbrev r0_35 : Rect S16x128x256 := Rect.unit (s := S16x128x256) ![12, 0, 0] S1x128x256.size inb_S16x128x256_S1x128x256_12_0_0
abbrev r0_36 : Rect S8x16x64x256 := Rect.unit (s := S8x16x64x256) ![0, 12, 0, 0] S8x1x64x256.size inb_S8x16x64x256_S8x1x64x256_0_12_0_0
abbrev r0_37 : Rect S16x128x256 := Rect.unit (s := S16x128x256) ![13, 0, 0] S1x128x256.size inb_S16x128x256_S1x128x256_13_0_0
abbrev r0_38 : Rect S8x16x64x256 := Rect.unit (s := S8x16x64x256) ![0, 13, 0, 0] S8x1x64x256.size inb_S8x16x64x256_S8x1x64x256_0_13_0_0
abbrev r0_39 : Rect S16x128x256 := Rect.unit (s := S16x128x256) ![14, 0, 0] S1x128x256.size inb_S16x128x256_S1x128x256_14_0_0
abbrev r0_40 : Rect S8x16x64x256 := Rect.unit (s := S8x16x64x256) ![0, 14, 0, 0] S8x1x64x256.size inb_S8x16x64x256_S8x1x64x256_0_14_0_0
abbrev r0_41 : Rect S16x128x256 := Rect.unit (s := S16x128x256) ![15, 0, 0] S1x128x256.size inb_S16x128x256_S1x128x256_15_0_0
abbrev r0_42 : Rect S8x16x64x256 := Rect.unit (s := S8x16x64x256) ![0, 15, 0, 0] S8x1x64x256.size inb_S8x16x64x256_S8x1x64x256_0_15_0_0
abbrev r0_43 : Rect S8x64x128 := Rect.unit (s := S8x64x128) ![0, 0, 0] S8x64x128.size inb_S8x64x128_S8x64x128_0_0_0
abbrev r0_44 : Rect S8x64x32 := Rect.unit (s := S8x64x32) ![0, 0, 0] S8x64x32.size inb_S8x64x32_S8x64x32_0_0_0

def k0_pay33 (x0 : Vec F S8x64x1024 .f32) (x1 : Vec F S1x1024 .f32) (x2 : Vec F S8x1x1024 .f32) (x3 : Vec F S8x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S64x32 .f32) (x11 : Vec F S64x32 .f32) (x12 : Vec F S256x2048 .bf16) (x13 : Vec F S256x2048 .bf16) (x14 : Vec F S64x128 .f32) (x15 : Vec F S64x128 .f32) (x16 : Vec F S16x128x256 .bf16) : FVec F S512x1024 .bf16 :=
  k0_pay4 (View.ld x0 r0_0) (View.ld x1 r0_1) (View.ld x3 r0_2) (View.ld x2 r0_2) -- `v27`
def k0_pay34 (x0 : Vec F S8x64x1024 .f32) (x1 : Vec F S1x1024 .f32) (x2 : Vec F S8x1x1024 .f32) (x3 : Vec F S8x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S64x32 .f32) (x11 : Vec F S64x32 .f32) (x12 : Vec F S256x2048 .bf16) (x13 : Vec F S256x2048 .bf16) (x14 : Vec F S64x128 .f32) (x15 : Vec F S64x128 .f32) (x16 : Vec F S16x128x256 .bf16) : FVec F S512x256 .bf16 :=
  k0_pay8 (k0_pay5 (View.ld x0 r0_0) (View.ld x1 r0_1) (View.ld x3 r0_2) (View.ld x2 r0_2) (View.ld x4 r0_3)) (k0_pay6 (View.ld x8 r0_4)) (k0_pay7 (View.ld x0 r0_0) (View.ld x1 r0_1) (View.ld x3 r0_2) (View.ld x2 r0_2) (View.ld x4 r0_3)) (Scalar.ofBits .f32 0x43800000#32) -- `v45`
def k0_pay35 (x0 : Vec F S8x64x1024 .f32) (x1 : Vec F S1x1024 .f32) (x2 : Vec F S8x1x1024 .f32) (x3 : Vec F S8x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S64x32 .f32) (x11 : Vec F S64x32 .f32) (x12 : Vec F S256x2048 .bf16) (x13 : Vec F S256x2048 .bf16) (x14 : Vec F S64x128 .f32) (x15 : Vec F S64x128 .f32) (x16 : Vec F S16x128x256 .bf16) : FVec F S512x2048 .bf16 :=
  k0_pay13 (k0_pay34 x0 x1 x2 x3 x4 x5 x6 x7 x8 x9 x10 x11 x12 x13 x14 x15 x16) (View.ld x14 r0_9) (View.ld x15 r0_9) (View.ld x12 r0_10) (View.ld x13 r0_10) -- `v104`

def out0_17 (x0 : Vec F S8x64x1024 .f32) (x1 : Vec F S1x1024 .f32) (x2 : Vec F S8x1x1024 .f32) (x3 : Vec F S8x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S64x32 .f32) (x11 : Vec F S64x32 .f32) (x12 : Vec F S256x2048 .bf16) (x13 : Vec F S256x2048 .bf16) (x14 : Vec F S64x128 .f32) (x15 : Vec F S64x128 .f32) (x16 : Vec F S16x128x256 .bf16) : Vec F S8x64x128 .f32 :=
  View.canon [⟨r0_43, k0_pay3 (k0_pay9 (k0_pay33 x0 x1 x2 x3 x4 x5 x6 x7 x8 x9 x10 x11 x12 x13 x14 x15 x16) (View.ld x5 r0_5) (View.ld x9 r0_6))⟩]

theorem cover0_17 (p0 : Vec F S8x64x128 .f32) (y : S8x64x128.Idx) :
    ∃ pc ∈ ([⟨r0_43, p0⟩] : List (View.Piece (Elt F) S8x64x128 .f32)), y ∈ pc.1.set :=
  View.cover_of_tiled [⟨r0_43, p0⟩] S8x64x128.size (by rfl) y

def out0_18 (x0 : Vec F S8x64x1024 .f32) (x1 : Vec F S1x1024 .f32) (x2 : Vec F S8x1x1024 .f32) (x3 : Vec F S8x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S64x32 .f32) (x11 : Vec F S64x32 .f32) (x12 : Vec F S256x2048 .bf16) (x13 : Vec F S256x2048 .bf16) (x14 : Vec F S64x128 .f32) (x15 : Vec F S64x128 .f32) (x16 : Vec F S16x128x256 .bf16) : Vec F S8x64x32 .f32 :=
  View.canon [⟨r0_44, k0_pay12 (k0_pay10 (k0_pay33 x0 x1 x2 x3 x4 x5 x6 x7 x8 x9 x10 x11 x12 x13 x14 x15 x16) (View.ld x6 r0_7) (View.ld x10 r0_8)) (k0_pay11 (k0_pay33 x0 x1 x2 x3 x4 x5 x6 x7 x8 x9 x10 x11 x12 x13 x14 x15 x16) (View.ld x7 r0_7)) (View.ld x11 r0_8)⟩]

theorem cover0_18 (p0 : Vec F S8x64x32 .f32) (y : S8x64x32.Idx) :
    ∃ pc ∈ ([⟨r0_44, p0⟩] : List (View.Piece (Elt F) S8x64x32 .f32)), y ∈ pc.1.set :=
  View.cover_of_tiled [⟨r0_44, p0⟩] S8x64x32.size (by rfl) y

def out0_19 (x0 : Vec F S8x64x1024 .f32) (x1 : Vec F S1x1024 .f32) (x2 : Vec F S8x1x1024 .f32) (x3 : Vec F S8x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S64x32 .f32) (x11 : Vec F S64x32 .f32) (x12 : Vec F S256x2048 .bf16) (x13 : Vec F S256x2048 .bf16) (x14 : Vec F S64x128 .f32) (x15 : Vec F S64x128 .f32) (x16 : Vec F S16x128x256 .bf16) : Vec F S8x16x64x256 .bf16 :=
  View.canon [⟨r0_42, k0_pay2 (k0_pay35 x0 x1 x2 x3 x4 x5 x6 x7 x8 x9 x10 x11 x12 x13 x14 x15 x16) (View.ld x16 r0_41)⟩,
    ⟨r0_40, k0_pay1 (k0_pay32 (k0_pay35 x0 x1 x2 x3 x4 x5 x6 x7 x8 x9 x10 x11 x12 x13 x14 x15 x16) (View.ld x16 r0_39))⟩,
    ⟨r0_38, k0_pay31 (k0_pay35 x0 x1 x2 x3 x4 x5 x6 x7 x8 x9 x10 x11 x12 x13 x14 x15 x16) (View.ld x16 r0_37)⟩,
    ⟨r0_36, k0_pay30 (k0_pay35 x0 x1 x2 x3 x4 x5 x6 x7 x8 x9 x10 x11 x12 x13 x14 x15 x16) (View.ld x16 r0_35)⟩,
    ⟨r0_34, k0_pay29 (k0_pay28 (k0_pay35 x0 x1 x2 x3 x4 x5 x6 x7 x8 x9 x10 x11 x12 x13 x14 x15 x16)) (View.ld x16 r0_33)⟩,
    ⟨r0_32, k0_pay27 (k0_pay35 x0 x1 x2 x3 x4 x5 x6 x7 x8 x9 x10 x11 x12 x13 x14 x15 x16) (View.ld x16 r0_31)⟩,
    ⟨r0_30, k0_pay26 (k0_pay35 x0 x1 x2 x3 x4 x5 x6 x7 x8 x9 x10 x11 x12 x13 x14 x15 x16) (View.ld x16 r0_29)⟩,
    ⟨r0_28, k0_pay25 (k0_pay35 x0 x1 x2 x3 x4 x5 x6 x7 x8 x9 x10 x11 x12 x13 x14 x15 x16) (View.ld x16 r0_27)⟩,
    ⟨r0_26, k0_pay24 (k0_pay23 (k0_pay35 x0 x1 x2 x3 x4 x5 x6 x7 x8 x9 x10 x11 x12 x13 x14 x15 x16) (View.ld x16 r0_25))⟩,
    ⟨r0_24, k0_pay22 (k0_pay35 x0 x1 x2 x3 x4 x5 x6 x7 x8 x9 x10 x11 x12 x13 x14 x15 x16) (View.ld x16 r0_23)⟩,
    ⟨r0_22, k0_pay21 (k0_pay35 x0 x1 x2 x3 x4 x5 x6 x7 x8 x9 x10 x11 x12 x13 x14 x15 x16) (View.ld x16 r0_21)⟩,
    ⟨r0_20, k0_pay20 (k0_pay19 (k0_pay35 x0 x1 x2 x3 x4 x5 x6 x7 x8 x9 x10 x11 x12 x13 x14 x15 x16) (View.ld x16 r0_19))⟩,
    ⟨r0_18, k0_pay18 (k0_pay35 x0 x1 x2 x3 x4 x5 x6 x7 x8 x9 x10 x11 x12 x13 x14 x15 x16) (View.ld x16 r0_17)⟩,
    ⟨r0_16, k0_pay17 (k0_pay35 x0 x1 x2 x3 x4 x5 x6 x7 x8 x9 x10 x11 x12 x13 x14 x15 x16) (View.ld x16 r0_15)⟩,
    ⟨r0_14, k0_pay16 (k0_pay15 (k0_pay34 x0 x1 x2 x3 x4 x5 x6 x7 x8 x9 x10 x11 x12 x13 x14 x15 x16) (View.ld x14 r0_9) (View.ld x15 r0_9) (View.ld x12 r0_10) (View.ld x13 r0_10)) (View.ld x16 r0_13)⟩,
    ⟨r0_12, k0_pay14 (k0_pay34 x0 x1 x2 x3 x4 x5 x6 x7 x8 x9 x10 x11 x12 x13 x14 x15 x16) (View.ld x14 r0_9) (View.ld x15 r0_9) (View.ld x12 r0_10) (View.ld x13 r0_10) (View.ld x16 r0_11)⟩]

theorem cover0_19 (p0 : Vec F S8x1x64x256 .bf16) (p1 : Vec F S8x1x64x256 .bf16) (p2 : Vec F S8x1x64x256 .bf16) (p3 : Vec F S8x1x64x256 .bf16) (p4 : Vec F S8x1x64x256 .bf16) (p5 : Vec F S8x1x64x256 .bf16) (p6 : Vec F S8x1x64x256 .bf16) (p7 : Vec F S8x1x64x256 .bf16) (p8 : Vec F S8x1x64x256 .bf16) (p9 : Vec F S8x1x64x256 .bf16) (p10 : Vec F S8x1x64x256 .bf16) (p11 : Vec F S8x1x64x256 .bf16) (p12 : Vec F S8x1x64x256 .bf16) (p13 : Vec F S8x1x64x256 .bf16) (p14 : Vec F S8x1x64x256 .bf16) (p15 : Vec F S8x1x64x256 .bf16) (y : S8x16x64x256.Idx) :
    ∃ pc ∈ ([⟨r0_42, p0⟩, ⟨r0_40, p1⟩, ⟨r0_38, p2⟩, ⟨r0_36, p3⟩, ⟨r0_34, p4⟩, ⟨r0_32, p5⟩, ⟨r0_30, p6⟩, ⟨r0_28, p7⟩, ⟨r0_26, p8⟩, ⟨r0_24, p9⟩, ⟨r0_22, p10⟩, ⟨r0_20, p11⟩, ⟨r0_18, p12⟩, ⟨r0_16, p13⟩, ⟨r0_14, p14⟩, ⟨r0_12, p15⟩] : List (View.Piece (Elt F) S8x16x64x256 .bf16)), y ∈ pc.1.set :=
  View.cover_of_tiled [⟨r0_42, p0⟩, ⟨r0_40, p1⟩, ⟨r0_38, p2⟩, ⟨r0_36, p3⟩, ⟨r0_34, p4⟩, ⟨r0_32, p5⟩, ⟨r0_30, p6⟩, ⟨r0_28, p7⟩, ⟨r0_26, p8⟩, ⟨r0_24, p9⟩, ⟨r0_22, p10⟩, ⟨r0_20, p11⟩, ⟨r0_18, p12⟩, ⟨r0_16, p13⟩, ⟨r0_14, p14⟩, ⟨r0_12, p15⟩] S8x1x64x256.size (by rfl) y

set_option maxHeartbeats 1000000 in
theorem sound_kernel (c : Dev nD) (E : Set ℕ) (i : grid0.Coords) (arg2 : Memref sig .tc .vmem S8x64x1024 .f32) (harg2 : arg2.IsWhole) (arg3 : Memref sig .tc .vmem S1x1024 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S1024x256 .bf16) (harg6 : arg6.IsWhole) (arg7 : Memref sig .tc .vmem S1024x128 .bf16) (harg7 : arg7.IsWhole) (arg8 : Memref sig .tc .vmem S1024x32 .bf16) (harg8 : arg8.IsWhole) (arg9 : Memref sig .tc .vmem S1024x32 .bf16) (harg9 : arg9.IsWhole) (arg10 : Memref sig .tc .vmem S1x256 .f32) (harg10 : arg10.IsWhole) (arg11 : Memref sig .tc .vmem S1x128 .f32) (harg11 : arg11.IsWhole) (arg12 : Memref sig .tc .vmem S64x32 .f32) (harg12 : arg12.IsWhole) (arg13 : Memref sig .tc .vmem S64x32 .f32) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S64x128 .f32) (harg16 : arg16.IsWhole) (arg17 : Memref sig .tc .vmem S64x128 .f32) (harg17 : arg17.IsWhole) (arg18 : Memref sig .tc .vmem S16x128x256 .bf16) (harg18 : arg18.IsWhole) (arg19 : Memref sig .tc .vmem S8x64x128 .f32) (harg19 : arg19.IsWhole) (arg20 : Memref sig .tc .vmem S8x64x32 .f32) (harg20 : arg20.IsWhole) (arg21 : Memref sig .tc .vmem S8x16x64x256 .bf16) (harg21 : arg21.IsWhole)
    (x0 : Vec F S8x64x1024 .f32) (x1 : Vec F S1x1024 .f32) (x2 : Vec F S8x1x1024 .f32) (x3 : Vec F S8x1x1024 .f32) (x4 : Vec F S1024x256 .bf16) (x5 : Vec F S1024x128 .bf16) (x6 : Vec F S1024x32 .bf16) (x7 : Vec F S1024x32 .bf16) (x8 : Vec F S1x256 .f32) (x9 : Vec F S1x128 .f32) (x10 : Vec F S64x32 .f32) (x11 : Vec F S64x32 .f32) (x12 : Vec F S256x2048 .bf16) (x13 : Vec F S256x2048 .bf16) (x14 : Vec F S64x128 .f32) (x15 : Vec F S64x128 .f32) (x16 : Vec F S16x128x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare (out0_17 x0 x1 x2 x3 x4 x5 x6 x7 x8 x9 x10 x11 x12 x13 x14 x15 x16) ∗ owns (c : Thread nD τ) arg20 fullShare (out0_18 x0 x1 x2 x3 x4 x5 x6 x7 x8 x9 x10 x11 x12 x13 x14 x15 x16) ∗ owns (c : Thread nD τ) arg21 fullShare (out0_19 x0 x1 x2 x3 x4 x5 x6 x7 x8 x9 x10 x11 x12 x13 x14 x15 x16)) -∗ K ⟨⟩))
      ⊢ wp frame (wpE (defs₀ (F := F)) Variants.none c none) E (cc0_mla_project i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_mla_project_eq_skeleton]; unfold cc0_mla_project_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  iexists _; isplitr
  swap; · iexact H19
  ipureintro
  refine (View.read_writes_eq_canon _ _ _ (cover0_19 _ _ _ _ _ _ _ _ _ _ _ _ _ _ _ _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelMlaSampleIdeal.Gen

end
-- ==== Proof.MlaRows.lean ====
module

public import proofs.«01_k».proof.Proof.Rows

/-! Rows of the latent attention's compressed keys. -/

@[expose] public section

noncomputable section

namespace Cert.Rows

open Idealize.ShloMosaic

/-- The modulated row's projection, scaled to unit mean square, times the gain `gk`. -/
def latent (x g sc sh : Fin 1024 → EReal) (w : Fin 1024 → Fin 128 → EReal) (gk : Fin 128 → EReal) (j : Fin 128) : EReal :=
  norm (Ideal.ofBits .f32 0x43000000#32) (fun j => ∑ k, modulated x g sc sh k * w k j) gk j

end Cert.Rows

end
-- ==== Proof.Mla.lean ====
module

public import proofs.«01_k».proof.Defs
public import proofs.«01_k».proof.Proof.MlaRows
public import proofs.«01_k».proof.Proof.KernelMlaIdealFrame
public import proofs.«01_k».proof.Proof.Gen.ReferenceMlaIdeal.Run
public import Idealize.ShloMosaic.Lib.Pipeline.ValueKit
public import Idealize.ShloMosaic.Lib.Tactic.CleanTypes
public import Idealize.ShloMosaic.Lib.StableHlo.ReadAt
public import Idealize.ShloMosaic.Lib.Quiescent

/-! The compressed keys of the latent attention at the prompt's shapes. -/

@[expose] public section

set_option maxRecDepth 16384

noncomputable section

namespace Cert.KernelMlaIdeal.Hand

open Cert.KernelMlaIdeal Cert.KernelMlaIdeal.Gen Idealize.ShloMosaic Idealize.ShloMosaic.TcCoe Idealize.SL.Sem
open Idealize.ShloMosaic.Pipeline (Dat)
open Cert

/-- What a grid point leaves in its block of compressed keys, read at one row. -/
theorem out_at (x0 : Vec Ideal S1x512x1024 .f32) (x1 : Vec Ideal S1x1024 .f32) (x2 : Vec Ideal S1x1x1024 .f32) (x3 : Vec Ideal S1x1x1024 .f32) (x4 : Vec Ideal S1024x256 .bf16) (x5 : Vec Ideal S1024x128 .bf16) (x6 : Vec Ideal S1024x32 .bf16) (x7 : Vec Ideal S1024x32 .bf16) (x8 : Vec Ideal S1x256 .f32) (x9 : Vec Ideal S1x128 .f32) (x10 : Vec Ideal S512x32 .f32) (x11 : Vec Ideal S512x32 .f32) (x12 : Vec Ideal S256x2048 .bf16) (x13 : Vec Ideal S256x2048 .bf16) (x14 : Vec Ideal S512x128 .f32) (x15 : Vec Ideal S512x128 .f32) (x16 : Vec Ideal S128x2048 .bf16) (x17 : Vec Ideal S32x2048 .bf16) (x18 : Vec Ideal S128x1024 .bf16)
    (r : Fin 512) (j : Fin 128) :
    out0_19 x0 x1 x2 x3 x4 x5 x6 x7 x8 x9 x10 x11 x12 x13 x14 x15 x16 x17 x18 (ix3 0 r j)
      = Rows.latent (fun k => x0 (ix3 0 r k)) (fun k => x1 (ix2 0 k)) (fun k => x3 (ix3 0 0 k)) (fun k => x2 (ix3 0 0 k))
          (fun k j => x5 (ix2 k j)) (fun j => x9 (ix2 0 j)) j := by
  frame_out
  unfold_payloads
  pointwise [Rows.norm, Rows.modulated, Rows.latent]

variable (m : (ℓ : Loc nD τ sig) → Buf (Elt Ideal) ℓ)

/-- Every run leaves the first result at what the grid points wrote and the arguments as they were. -/
theorem run (ρ : Dev nD → PrngReg) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ ∀ c : Dev nD, r.2.mem ((c : Thread nD τ).loc main_v87_0) = (dats m 0 c).arrAt 19 cfg0.N) :=
  θ_run_and (unchanged m ρ) ((θ_run defs _ _).mono (fun r h c => (h c).1 19) (run_main m ρ))

theorem v84_at (c : Dev nD) (k : Fin 1024) : V m c main_v84 (ix2 0 k) = m ((c : Thread nD τ).loc main_arg1) (ix1 k) := by
  unfold V; after_reads_at

theorem v85_at (c : Dev nD) (a : Fin 4) (k : Fin 1024) : V m c main_v85 (ix3 a 0 k) = m ((c : Thread nD τ).loc main_arg2) (ix2 a k) := by
  unfold V; after_reads_at

theorem v86_at (c : Dev nD) (a : Fin 4) (k : Fin 1024) : V m c main_v86 (ix3 a 0 k) = m ((c : Thread nD τ).loc main_arg3) (ix2 a k) := by
  unfold V; after_reads_at

theorem v2_at (c : Dev nD) (k : Fin 1024) (j : Fin 128) : V m c main_v2 (ix2 k j) = m ((c : Thread nD τ).loc main_arg7) (ix2 k ⟨j.val, by omega⟩) := by
  unfold V; after_reads_at

theorem v11_at (c : Dev nD) (j : Fin 128) : V m c main_v11 (ix2 0 j) = m ((c : Thread nD τ).loc main_arg8) (ix1 j) := by
  unfold V; after_reads_at

/-- Where each window's block stands, as the result's block moves. -/
theorem idx : ∀ t : Fin cfg0.N, win0_0.index t = win0_19.index t ∧ win0_1.index t = ![0, 0] ∧ win0_2.index t = ![win0_19.index t 0, 0, 0] ∧ win0_3.index t = ![win0_19.index t 0, 0, 0] ∧ win0_5.index t = ![0, 0] ∧ win0_9.index t = ![0, 0] ∧ win0_19.index t 2 = 0 ∧ win0_19.index t 0 < 4 ∧ win0_19.index t 1 < 16 := by
  decide +kernel

/-- The compressed keys at position `l` of sequence `a`. -/
def latent (c : Dev nD) (a : Fin 4) (l : Fin 8192) (j : Fin 128) : EReal :=
  Rows.latent (fun k => m ((c : Thread nD τ).loc main_arg0) (ix3 a l k)) (fun k => m ((c : Thread nD τ).loc main_arg1) (ix1 k))
    (fun k => m ((c : Thread nD τ).loc main_arg3) (ix2 a k)) (fun k => m ((c : Thread nD τ).loc main_arg2) (ix2 a k))
    (fun k j => m ((c : Thread nD τ).loc main_arg7) (ix2 k ⟨j.val, by omega⟩)) (fun j => m ((c : Thread nD τ).loc main_arg8) (ix1 j)) j

/-- The sequence that grid point `t` works on. -/
def seq (t : Fin cfg0.N) : Fin 4 := ⟨win0_19.index t 0, by obtain ⟨e0, e1, e2, e3, e5, e6, e9, b0, b1⟩ := idx t; omega⟩

/-- The position that row `r` of grid point `t`'s block stands at. -/
def pos (t : Fin cfg0.N) (r : Fin 512) : Fin 8192 := ⟨512 * win0_19.index t 1 + r.val, by obtain ⟨e0, e1, e2, e3, e5, e6, e9, b0, b1⟩ := idx t; omega⟩

theorem in0 (c : Dev nD) (t : Fin cfg0.N) (r : Fin 512) (k : Fin 1024) : iblk m c 0 t (ix3 0 r k) = m ((c : Thread nD τ).loc main_arg0) (ix3 (seq t) (pos t r) k) := by
  obtain ⟨e0, e1, e2, e3, e5, e6, e9, b0, b1⟩ := idx t
  refine Eq.trans ?_ (congrFun (V_main_arg0 m c) _); unfold seq pos; blk_ext! [iblk, e0, e9]

theorem in1 (c : Dev nD) (t : Fin cfg0.N) (k : Fin 1024) : iblk m c 1 t (ix2 0 k) = m ((c : Thread nD τ).loc main_arg1) (ix1 k) := by
  obtain ⟨e0, e1, e2, e3, e5, e6, e9, b0, b1⟩ := idx t
  refine Eq.trans ?_ (v84_at m c k); blk_ext! [iblk, e1]

theorem in2 (c : Dev nD) (t : Fin cfg0.N) (k : Fin 1024) : iblk m c 2 t (ix3 0 0 k) = m ((c : Thread nD τ).loc main_arg2) (ix2 (seq t) k) := by
  obtain ⟨e0, e1, e2, e3, e5, e6, e9, b0, b1⟩ := idx t
  refine Eq.trans ?_ (v85_at m c _ k); unfold seq; blk_ext! [iblk, e2]

theorem in3 (c : Dev nD) (t : Fin cfg0.N) (k : Fin 1024) : iblk m c 3 t (ix3 0 0 k) = m ((c : Thread nD τ).loc main_arg3) (ix2 (seq t) k) := by
  obtain ⟨e0, e1, e2, e3, e5, e6, e9, b0, b1⟩ := idx t
  refine Eq.trans ?_ (v86_at m c _ k); unfold seq; blk_ext! [iblk, e3]

theorem in5 (c : Dev nD) (t : Fin cfg0.N) (k : Fin 1024) (j : Fin 128) : iblk m c 5 t (ix2 k j) = m ((c : Thread nD τ).loc main_arg7) (ix2 k ⟨j.val, by omega⟩) := by
  obtain ⟨e0, e1, e2, e3, e5, e6, e9, b0, b1⟩ := idx t
  refine Eq.trans ?_ (v2_at m c k j); blk_ext! [iblk, e5]

theorem in9 (c : Dev nD) (t : Fin cfg0.N) (j : Fin 128) : iblk m c 9 t (ix2 0 j) = m ((c : Thread nD τ).loc main_arg8) (ix1 j) := by
  obtain ⟨e0, e1, e2, e3, e5, e6, e9, b0, b1⟩ := idx t
  refine Eq.trans ?_ (v11_at m c j); blk_ext! [iblk, e6]

theorem emb (t : Fin cfg0.N) (r : Fin 512) (j : Fin 128) : (win0_19.blk t).view.emb (ix3 0 r j) = (ix3 (seq t) (pos t r) j : S4x8192x128.Idx) := by
  obtain ⟨e0, e1, e2, e3, e5, e6, e9, b0, b1⟩ := idx t
  unfold seq pos
  blk_ext! [e9, e9]

/-- The result array after the run, row by row. -/
def result (c : Dev nD) : Vec Ideal S4x8192x128 .f32 := fun i => latent m c (i 0) (i 1) (i 2)

set_option maxHeartbeats 4000000 in
theorem final (c : Dev nD) : (dats m 0 c).arrAt 19 cfg0.N = result m c := by
  refine (dats m 0 c).arrAt_eq_of_covers 19 _ (by decide +kernel) fun t hf y => ?_
  blk_simp
  rw [after0_19]
  obtain ⟨a, r, j, rfl⟩ : ∃ (a : Fin 1) (b : Fin 512) (k : Fin 128), y = ix3 a b k := ⟨y 0, y 1, y 2, eq_ix3 y⟩
  obtain rfl : a = 0 := Subsingleton.elim _ _
  rw [out_at]
  refine Eq.trans ?_ (congrArg (result m c) (emb t r j)).symm
  unfold result latent
  congr 1
  · funext k; exact in0 m c t r k
  · funext k; exact in1 m c t k
  · funext k; exact in3 m c t k
  · funext k; exact in2 m c t k
  · funext k j; exact in5 m c t k j
  · funext j; exact in9 m c t j

end Cert.KernelMlaIdeal.Hand

namespace Cert.ReferenceMlaIdeal.Hand

open Cert.ReferenceMlaIdeal Idealize.ShloMosaic Idealize.ShloMosaic.TcCoe Idealize.SL.Sem
open Cert

variable (m : (ℓ : Loc nD τ sig) → Buf (Elt Ideal) ℓ)

/-- The reference's result, row by row. -/
theorem result (c : Dev nD) : Value.res_out0 m c = fun i =>
  Rows.latent (fun k => m ((c : Thread nD τ).loc main_arg0) (ix3 (i 0) (i 1) k)) (fun k => m ((c : Thread nD τ).loc main_arg1) (ix1 k))
    (fun k => m ((c : Thread nD τ).loc main_arg3) (ix2 (i 0) k)) (fun k => m ((c : Thread nD τ).loc main_arg2) (ix2 (i 0) k))
    (fun k j => m ((c : Thread nD τ).loc main_arg7) (ix2 k ⟨j.val, by omega⟩)) (fun j => m ((c : Thread nD τ).loc main_arg8) (ix1 j)) (i 2) := by
  unfold Value.res_out0 Value.res_main_v35
  clean_types
  funext i
  obtain ⟨a, l, j, rfl⟩ : ∃ (a : Fin 4) (b : Fin 8192) (k : Fin 128), i = ix3 a b k := ⟨i 0, i 1, i 2, eq_ix3 i⟩
  pointwise [Rows.norm, Rows.modulated, Rows.latent]

end Cert.ReferenceMlaIdeal.Hand

namespace Cert.Proof.Mla

open Idealize.ShloMosaic Idealize.ShloMosaic.TcCoe Idealize.SL.Sem

/-- The kernel computes the reference's function over the extended reals. -/
theorem algebraic : Cert.algebraic_KernelMlaIdeal_ReferenceMlaIdeal := by
  intro m ρ m' ρ' _ hag
  refine ⟨fun c => Cert.KernelMlaIdeal.Hand.result m c,
    (θ_run _ _ _).mono (fun r h c => ⟨(h.2 c).trans (Cert.KernelMlaIdeal.Hand.final m c), h.1 c⟩) (Cert.KernelMlaIdeal.Hand.run m ρ), ?_⟩
  refine (θ_run _ _ _).mono (fun r h c => ⟨(h c).1.trans ?_, (h c).2⟩) (Cert.ReferenceMlaIdeal.Value.run m' ρ')
  refine (Cert.ReferenceMlaIdeal.Hand.result m' c).trans ?_
  obtain ⟨h0, h1, h2, h3, h4, h5, h6, h7, h8, h9, h10⟩ := hag c
  unfold Cert.KernelMlaIdeal.Hand.result Cert.KernelMlaIdeal.Hand.latent
  rw [h0, h1, h2, h3, h7, h8]
  rfl

end Cert.Proof.Mla

end
-- ==== Proof.MlaSample.lean ====
module

public import proofs.«01_k».proof.Defs
public import proofs.«01_k».proof.Proof.MlaRows
public import proofs.«01_k».proof.Proof.KernelMlaSampleIdealFrame
public import proofs.«01_k».proof.Proof.Gen.ReferenceMlaSampleIdeal.Run
public import Idealize.ShloMosaic.Lib.Pipeline.ValueKit
public import Idealize.ShloMosaic.Lib.Tactic.CleanTypes
public import Idealize.ShloMosaic.Lib.StableHlo.ReadAt
public import Idealize.ShloMosaic.Lib.Quiescent

/-! The compressed keys of the latent attention at the sample batch's shapes. -/

@[expose] public section

set_option maxRecDepth 16384

noncomputable section

namespace Cert.KernelMlaSampleIdeal.Hand

open Cert.KernelMlaSampleIdeal Cert.KernelMlaSampleIdeal.Gen Idealize.ShloMosaic Idealize.ShloMosaic.TcCoe Idealize.SL.Sem
open Idealize.ShloMosaic.Pipeline (Dat)
open Cert

/-- What a grid point leaves in its block of compressed keys, read at one row. -/
theorem out_at (x0 : Vec Ideal S8x64x1024 .f32) (x1 : Vec Ideal S1x1024 .f32) (x2 : Vec Ideal S8x1x1024 .f32) (x3 : Vec Ideal S8x1x1024 .f32) (x4 : Vec Ideal S1024x256 .bf16) (x5 : Vec Ideal S1024x128 .bf16) (x6 : Vec Ideal S1024x32 .bf16) (x7 : Vec Ideal S1024x32 .bf16) (x8 : Vec Ideal S1x256 .f32) (x9 : Vec Ideal S1x128 .f32) (x10 : Vec Ideal S64x32 .f32) (x11 : Vec Ideal S64x32 .f32) (x12 : Vec Ideal S256x2048 .bf16) (x13 : Vec Ideal S256x2048 .bf16) (x14 : Vec Ideal S64x128 .f32) (x15 : Vec Ideal S64x128 .f32) (x16 : Vec Ideal S16x128x256 .bf16)
    (a : Fin 8) (r : Fin 64) (j : Fin 128) :
    out0_17 x0 x1 x2 x3 x4 x5 x6 x7 x8 x9 x10 x11 x12 x13 x14 x15 x16 (ix3 a r j)
      = Rows.latent (fun k => x0 (ix3 a r k)) (fun k => x1 (ix2 0 k)) (fun k => x3 (ix3 a 0 k)) (fun k => x2 (ix3 a 0 k))
          (fun k j => x5 (ix2 k j)) (fun j => x9 (ix2 0 j)) j := by
  frame_out
  unfold_payloads
  pointwise [Rows.norm, Rows.modulated, Rows.latent]

variable (m : (ℓ : Loc nD τ sig) → Buf (Elt Ideal) ℓ)

/-- Every run leaves the first result at what the grid points wrote and the arguments as they were. -/
theorem run (ρ : Dev nD → PrngReg) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ ∀ c : Dev nD, r.2.mem ((c : Thread nD τ).loc main_v87_0) = (dats m 0 c).arrAt 17 cfg0.N) :=
  θ_run_and (unchanged m ρ) ((θ_run defs _ _).mono (fun r h c => (h c).1 17) (run_main m ρ))

theorem v84_at (c : Dev nD) (k : Fin 1024) : V m c main_v84 (ix2 0 k) = m ((c : Thread nD τ).loc main_arg1) (ix1 k) := by
  unfold V; after_reads_at

theorem v85_at (c : Dev nD) (a : Fin 16) (k : Fin 1024) : V m c main_v85 (ix3 a 0 k) = m ((c : Thread nD τ).loc main_arg2) (ix2 a k) := by
  unfold V; after_reads_at

theorem v86_at (c : Dev nD) (a : Fin 16) (k : Fin 1024) : V m c main_v86 (ix3 a 0 k) = m ((c : Thread nD τ).loc main_arg3) (ix2 a k) := by
  unfold V; after_reads_at

theorem v2_at (c : Dev nD) (k : Fin 1024) (j : Fin 128) : V m c main_v2 (ix2 k j) = m ((c : Thread nD τ).loc main_arg7) (ix2 k ⟨j.val, by omega⟩) := by
  unfold V; after_reads_at

theorem v11_at (c : Dev nD) (j : Fin 128) : V m c main_v11 (ix2 0 j) = m ((c : Thread nD τ).loc main_arg8) (ix1 j) := by
  unfold V; after_reads_at

/-- Where each window's block stands, as the result's block moves. -/
theorem idx : ∀ t : Fin cfg0.N, win0_0.index t = win0_17.index t ∧ win0_1.index t = ![0, 0] ∧ win0_2.index t = ![win0_17.index t 0, 0, 0] ∧ win0_3.index t = ![win0_17.index t 0, 0, 0] ∧ win0_5.index t = ![0, 0] ∧ win0_9.index t = ![0, 0] ∧ win0_17.index t 2 = 0 ∧ win0_17.index t 0 < 2 ∧ win0_17.index t 1 < 1 := by
  decide +kernel

/-- The compressed keys at position `l` of sequence `a`. -/
def latent (c : Dev nD) (a : Fin 16) (l : Fin 64) (j : Fin 128) : EReal :=
  Rows.latent (fun k => m ((c : Thread nD τ).loc main_arg0) (ix3 a l k)) (fun k => m ((c : Thread nD τ).loc main_arg1) (ix1 k))
    (fun k => m ((c : Thread nD τ).loc main_arg3) (ix2 a k)) (fun k => m ((c : Thread nD τ).loc main_arg2) (ix2 a k))
    (fun k j => m ((c : Thread nD τ).loc main_arg7) (ix2 k ⟨j.val, by omega⟩)) (fun j => m ((c : Thread nD τ).loc main_arg8) (ix1 j)) j

/-- The sequence that row group `a` of grid point `t`'s block belongs to. -/
def seq (t : Fin cfg0.N) (a : Fin 8) : Fin 16 := ⟨8 * win0_17.index t 0 + a.val, by obtain ⟨e0, e1, e2, e3, e5, e6, e9, b0, b1⟩ := idx t; omega⟩

theorem in0 (c : Dev nD) (t : Fin cfg0.N) (a : Fin 8) (r : Fin 64) (k : Fin 1024) : iblk m c 0 t (ix3 a r k) = m ((c : Thread nD τ).loc main_arg0) (ix3 (seq t a) r k) := by
  obtain ⟨e0, e1, e2, e3, e5, e6, e9, b0, b1⟩ := idx t
  have b1 : win0_17.index t 1 = 0 := by omega
  refine Eq.trans ?_ (congrFun (V_main_arg0 m c) _); unfold seq; blk_ext! [iblk, e0, e9, b1]

theorem in1 (c : Dev nD) (t : Fin cfg0.N) (k : Fin 1024) : iblk m c 1 t (ix2 0 k) = m ((c : Thread nD τ).loc main_arg1) (ix1 k) := by
  obtain ⟨e0, e1, e2, e3, e5, e6, e9, b0, b1⟩ := idx t
  refine Eq.trans ?_ (v84_at m c k); blk_ext! [iblk, e1]

theorem in2 (c : Dev nD) (t : Fin cfg0.N) (a : Fin 8) (k : Fin 1024) : iblk m c 2 t (ix3 a 0 k) = m ((c : Thread nD τ).loc main_arg2) (ix2 (seq t a) k) := by
  obtain ⟨e0, e1, e2, e3, e5, e6, e9, b0, b1⟩ := idx t
  refine Eq.trans ?_ (v85_at m c _ k); unfold seq; blk_ext! [iblk, e2]

theorem in3 (c : Dev nD) (t : Fin cfg0.N) (a : Fin 8) (k : Fin 1024) : iblk m c 3 t (ix3 a 0 k) = m ((c : Thread nD τ).loc main_arg3) (ix2 (seq t a) k) := by
  obtain ⟨e0, e1, e2, e3, e5, e6, e9, b0, b1⟩ := idx t
  refine Eq.trans ?_ (v86_at m c _ k); unfold seq; blk_ext! [iblk, e3]

theorem in5 (c : Dev nD) (t : Fin cfg0.N) (k : Fin 1024) (j : Fin 128) : iblk m c 5 t (ix2 k j) = m ((c : Thread nD τ).loc main_arg7) (ix2 k ⟨j.val, by omega⟩) := by
  obtain ⟨e0, e1, e2, e3, e5, e6, e9, b0, b1⟩ := idx t
  refine Eq.trans ?_ (v2_at m c k j); blk_ext! [iblk, e5]

theorem in9 (c : Dev nD) (t : Fin cfg0.N) (j : Fin 128) : iblk m c 9 t (ix2 0 j) = m ((c : Thread nD τ).loc main_arg8) (ix1 j) := by
  obtain ⟨e0, e1, e2, e3, e5, e6, e9, b0, b1⟩ := idx t
  refine Eq.trans ?_ (v11_at m c j); blk_ext! [iblk, e6]

theorem emb (t : Fin cfg0.N) (a : Fin 8) (r : Fin 64) (j : Fin 128) : (win0_17.blk t).view.emb (ix3 a r j) = (ix3 (seq t a) r j : S16x64x128.Idx) := by
  obtain ⟨e0, e1, e2, e3, e5, e6, e9, b0, b1⟩ := idx t
  have b1 : win0_17.index t 1 = 0 := by omega
  unfold seq
  blk_ext! [e9, e9, b1]

/-- The result array after the run, row by row. -/
def result (c : Dev nD) : Vec Ideal S16x64x128 .f32 := fun i => latent m c (i 0) (i 1) (i 2)

set_option maxHeartbeats 4000000 in
theorem final (c : Dev nD) : (dats m 0 c).arrAt 17 cfg0.N = result m c := by
  refine (dats m 0 c).arrAt_eq_of_covers 17 _ (by decide +kernel) fun t hf y => ?_
  blk_simp
  rw [after0_17]
  obtain ⟨a, r, j, rfl⟩ : ∃ (a : Fin 8) (b : Fin 64) (k : Fin 128), y = ix3 a b k := ⟨y 0, y 1, y 2, eq_ix3 y⟩
  rw [out_at]
  refine Eq.trans ?_ (congrArg (result m c) (emb t a r j)).symm
  unfold result latent
  congr 1
  · funext k; exact in0 m c t a r k
  · funext k; exact in1 m c t k
  · funext k; exact in3 m c t a k
  · funext k; exact in2 m c t a k
  · funext k j; exact in5 m c t k j
  · funext j; exact in9 m c t j

end Cert.KernelMlaSampleIdeal.Hand

namespace Cert.ReferenceMlaSampleIdeal.Hand

open Cert.ReferenceMlaSampleIdeal Idealize.ShloMosaic Idealize.ShloMosaic.TcCoe Idealize.SL.Sem
open Cert

variable (m : (ℓ : Loc nD τ sig) → Buf (Elt Ideal) ℓ)

/-- The reference's result, row by row. -/
theorem result (c : Dev nD) : Value.res_out0 m c = fun i =>
  Rows.latent (fun k => m ((c : Thread nD τ).loc main_arg0) (ix3 (i 0) (i 1) k)) (fun k => m ((c : Thread nD τ).loc main_arg1) (ix1 k))
    (fun k => m ((c : Thread nD τ).loc main_arg3) (ix2 (i 0) k)) (fun k => m ((c : Thread nD τ).loc main_arg2) (ix2 (i 0) k))
    (fun k j => m ((c : Thread nD τ).loc main_arg7) (ix2 k ⟨j.val, by omega⟩)) (fun j => m ((c : Thread nD τ).loc main_arg8) (ix1 j)) (i 2) := by
  unfold Value.res_out0 Value.res_main_v35
  clean_types
  funext i
  obtain ⟨a, l, j, rfl⟩ : ∃ (a : Fin 16) (b : Fin 64) (k : Fin 128), i = ix3 a b k := ⟨i 0, i 1, i 2, eq_ix3 i⟩
  pointwise [Rows.norm, Rows.modulated, Rows.latent]

end Cert.ReferenceMlaSampleIdeal.Hand

namespace Cert.Proof.MlaSample

open Idealize.ShloMosaic Idealize.ShloMosaic.TcCoe Idealize.SL.Sem

/-- The kernel computes the reference's function over the extended reals. -/
theorem algebraic : Cert.algebraic_KernelMlaSampleIdeal_ReferenceMlaSampleIdeal := by
  intro m ρ m' ρ' _ hag
  refine ⟨fun c => Cert.KernelMlaSampleIdeal.Hand.result m c,
    (θ_run _ _ _).mono (fun r h c => ⟨(h.2 c).trans (Cert.KernelMlaSampleIdeal.Hand.final m c), h.1 c⟩) (Cert.KernelMlaSampleIdeal.Hand.run m ρ), ?_⟩
  refine (θ_run _ _ _).mono (fun r h c => ⟨(h c).1.trans ?_, (h c).2⟩) (Cert.ReferenceMlaSampleIdeal.Value.run m' ρ')
  refine (Cert.ReferenceMlaSampleIdeal.Hand.result m' c).trans ?_
  obtain ⟨h0, h1, h2, h3, h4, h5, h6, h7, h8, h9, h10⟩ := hag c
  unfold Cert.KernelMlaSampleIdeal.Hand.result Cert.KernelMlaSampleIdeal.Hand.latent
  rw [h0, h1, h2, h3, h7, h8]
  rfl

end Cert.Proof.MlaSample

end
-- ==== Proof.lean ====
module

public import proofs.«01_k».proof.Defs
public import proofs.«01_k».proof.Proof.Gen.KernelLast
public import proofs.«01_k».proof.Proof.Gen.KernelLast.Skeleton
public import proofs.«01_k».proof.Proof.Gen.KernelLast.Launch
public import proofs.«01_k».proof.Proof.Gen.KernelLast.Points
public import proofs.«01_k».proof.Proof.Gen.KernelLast.Frame
public import proofs.«01_k».proof.Proof.Gen.KernelLastIdeal
public import proofs.«01_k».proof.Proof.Gen.KernelLastIdeal.Skeleton
public import proofs.«01_k».proof.Proof.Gen.KernelLastIdeal.Launch
public import proofs.«01_k».proof.Proof.Gen.KernelLastIdeal.Points
public import proofs.«01_k».proof.Proof.Gen.KernelLastIdeal.Frame
public import proofs.«01_k».proof.Proof.Gen.KernelLastIdeal.Value
public import proofs.«01_k».proof.Proof.Gen.ReferenceLastIdeal
public import proofs.«01_k».proof.Proof.Gen.ReferenceLastIdeal.Run
public import proofs.«01_k».proof.Proof.Gen.KernelProj
public import proofs.«01_k».proof.Proof.Gen.KernelProj.Skeleton
public import proofs.«01_k».proof.Proof.Gen.KernelProj.Launch
public import proofs.«01_k».proof.Proof.Gen.KernelProj.Points
public import proofs.«01_k».proof.Proof.Gen.KernelProj.Frame
public import proofs.«01_k».proof.Proof.Gen.KernelProjIdeal
public import proofs.«01_k».proof.Proof.Gen.KernelProjIdeal.Skeleton
public import proofs.«01_k».proof.Proof.Gen.KernelProjIdeal.Launch
public import proofs.«01_k».proof.Proof.Gen.KernelProjIdeal.Points
public import proofs.«01_k».proof.Proof.Gen.KernelProjIdeal.Frame
public import proofs.«01_k».proof.Proof.Gen.KernelProjIdeal.Value
public import proofs.«01_k».proof.Proof.Gen.ReferenceProjIdeal
public import proofs.«01_k».proof.Proof.Gen.ReferenceProjIdeal.Run
public import proofs.«01_k».proof.Proof.Gen.KernelGlu
public import proofs.«01_k».proof.Proof.Gen.KernelGlu.Skeleton
public import proofs.«01_k».proof.Proof.Gen.KernelGlu.Launch
public import proofs.«01_k».proof.Proof.Gen.KernelGlu.Points
public import proofs.«01_k».proof.Proof.Gen.KernelGlu.Frame
public import proofs.«01_k».proof.Proof.Gen.KernelGluIdeal
public import proofs.«01_k».proof.Proof.Gen.KernelGluIdeal.Skeleton
public import proofs.«01_k».proof.Proof.Gen.KernelGluIdeal.Launch
public import proofs.«01_k».proof.Proof.Gen.KernelGluIdeal.Points
public import proofs.«01_k».proof.Proof.Gen.KernelGluIdeal.Frame
public import proofs.«01_k».proof.Proof.Gen.KernelGluIdeal.Value
public import proofs.«01_k».proof.Proof.Gen.ReferenceGluIdeal
public import proofs.«01_k».proof.Proof.Gen.ReferenceGluIdeal.Run
public import proofs.«01_k».proof.Proof.Last
public import proofs.«01_k».proof.Proof.Proj
public import proofs.«01_k».proof.Proof.Glu
public import proofs.«01_k».proof.Proof.Sgu
public import proofs.«01_k».proof.Proof.LastSample
public import proofs.«01_k».proof.Proof.SguSample
public import proofs.«01_k».proof.Proof.KernelQkvFrame
public import proofs.«01_k».proof.Proof.KernelQkvIdealFrame
public import proofs.«01_k».proof.Proof.Qkv
public import proofs.«01_k».proof.Proof.KernelQkvSampleFrame
public import proofs.«01_k».proof.Proof.KernelQkvSampleIdealFrame
public import proofs.«01_k».proof.Proof.QkvSample
public import proofs.«01_k».proof.Proof.Gen.KernelSguIdeal
public import proofs.«01_k».proof.Proof.Gen.KernelSgu
public import proofs.«01_k».proof.Proof.Gen.KernelSguIdeal.Frame
public import proofs.«01_k».proof.Proof.Gen.KernelSgu.Frame
public import proofs.«01_k».proof.Proof.Gen.KernelSguIdeal.Value
public import proofs.«01_k».proof.Proof.Gen.ReferenceSguIdeal
public import proofs.«01_k».proof.Proof.Gen.ReferenceSguIdeal.Run
public import proofs.«01_k».proof.Proof.Gen.KernelLastSampleIdeal
public import proofs.«01_k».proof.Proof.Gen.KernelLastSample
public import proofs.«01_k».proof.Proof.Gen.KernelLastSampleIdeal.Frame
public import proofs.«01_k».proof.Proof.Gen.KernelLastSample.Frame
public import proofs.«01_k».proof.Proof.Gen.KernelLastSampleIdeal.Value
public import proofs.«01_k».proof.Proof.Gen.ReferenceLastSampleIdeal
public import proofs.«01_k».proof.Proof.Gen.ReferenceLastSampleIdeal.Run
public import proofs.«01_k».proof.Proof.Gen.KernelSguSampleIdeal
public import proofs.«01_k».proof.Proof.Gen.KernelSguSample
public import proofs.«01_k».proof.Proof.Gen.KernelSguSampleIdeal.Frame
public import proofs.«01_k».proof.Proof.Gen.KernelSguSample.Frame
public import proofs.«01_k».proof.Proof.Gen.ReferenceSguSampleIdeal
public import proofs.«01_k».proof.Proof.Gen.ReferenceSguSampleIdeal.Run
public import proofs.«01_k».proof.Proof.Gen.KernelQkvIdeal
public import proofs.«01_k».proof.Proof.Gen.KernelQkv
public import proofs.«01_k».proof.Proof.Gen.KernelQkvIdeal.Points
public import proofs.«01_k».proof.Proof.Gen.KernelQkv.Points
public import proofs.«01_k».proof.Proof.Gen.KernelQkvIdeal.Launch
public import proofs.«01_k».proof.Proof.Gen.KernelQkv.Launch
public import proofs.«01_k».proof.Proof.Gen.ReferenceQkvIdeal
public import proofs.«01_k».proof.Proof.Gen.ReferenceQkvIdeal.Run
public import proofs.«01_k».proof.Proof.Gen.KernelQkvSampleIdeal
public import proofs.«01_k».proof.Proof.Gen.KernelQkvSample
public import proofs.«01_k».proof.Proof.Gen.KernelQkvSampleIdeal.Points
public import proofs.«01_k».proof.Proof.Gen.KernelQkvSample.Points
public import proofs.«01_k».proof.Proof.Gen.KernelQkvSampleIdeal.Launch
public import proofs.«01_k».proof.Proof.Gen.KernelQkvSample.Launch
public import proofs.«01_k».proof.Proof.Gen.ReferenceQkvSampleIdeal
public import proofs.«01_k».proof.Proof.Gen.ReferenceQkvSampleIdeal.Run
public import proofs.«01_k».proof.Proof.Gen.KernelQkvIdeal.Skeleton
public import proofs.«01_k».proof.Proof.Gen.KernelQkv.Skeleton
public import proofs.«01_k».proof.Proof.Gen.KernelQkvIdeal.Frame
public import proofs.«01_k».proof.Proof.Gen.KernelQkv.Frame
public import proofs.«01_k».proof.Proof.Gen.KernelQkvSampleIdeal.Skeleton
public import proofs.«01_k».proof.Proof.Gen.KernelQkvSample.Skeleton
public import proofs.«01_k».proof.Proof.Gen.KernelQkvSampleIdeal.Frame
public import proofs.«01_k».proof.Proof.Gen.KernelQkvSample.Frame
public import proofs.«01_k».proof.Proof.Gen.KernelMla
public import proofs.«01_k».proof.Proof.Gen.KernelMla.Skeleton
public import proofs.«01_k».proof.Proof.Gen.KernelMla.Launch
public import proofs.«01_k».proof.Proof.Gen.KernelMla.Points
public import proofs.«01_k».proof.Proof.Gen.KernelMlaIdeal
public import proofs.«01_k».proof.Proof.Gen.KernelMlaIdeal.Skeleton
public import proofs.«01_k».proof.Proof.Gen.KernelMlaIdeal.Launch
public import proofs.«01_k».proof.Proof.Gen.KernelMlaIdeal.Points
public import proofs.«01_k».proof.Proof.Gen.ReferenceMlaIdeal
public import proofs.«01_k».proof.Proof.Gen.ReferenceMlaIdeal.Run
public import proofs.«01_k».proof.Proof.Gen.KernelMlaSample
public import proofs.«01_k».proof.Proof.Gen.KernelMlaSample.Skeleton
public import proofs.«01_k».proof.Proof.Gen.KernelMlaSample.Launch
public import proofs.«01_k».proof.Proof.Gen.KernelMlaSample.Points
public import proofs.«01_k».proof.Proof.Gen.KernelMlaSampleIdeal
public import proofs.«01_k».proof.Proof.Gen.KernelMlaSampleIdeal.Skeleton
public import proofs.«01_k».proof.Proof.Gen.KernelMlaSampleIdeal.Launch
public import proofs.«01_k».proof.Proof.Gen.KernelMlaSampleIdeal.Points
public import proofs.«01_k».proof.Proof.Gen.ReferenceMlaSampleIdeal
public import proofs.«01_k».proof.Proof.Gen.ReferenceMlaSampleIdeal.Run
public import proofs.«01_k».proof.Proof.KernelMlaFrame
public import proofs.«01_k».proof.Proof.KernelMlaIdealFrame
public import proofs.«01_k».proof.Proof.KernelMlaSampleFrame
public import proofs.«01_k».proof.Proof.KernelMlaSampleIdealFrame
public import proofs.«01_k».proof.Proof.Mla
public import proofs.«01_k».proof.Proof.MlaSample
public import Idealize.ShloMosaic.Adequacy
public import Idealize.ShloMosaic.Init
public import Idealize.ShloMosaic.Lib.Quiescent

@[expose] public section

noncomputable section

namespace Cert.Proof

open Idealize.ShloMosaic Idealize.SL.Sem

/-- The frames of the `Last` programs. -/
theorem frameLast : Cert.quiescent_KernelLast := fun m ρ _ => Cert.KernelLast.Gen.frame m ρ

theorem frameLastIdeal : Cert.quiescent_KernelLastIdeal := fun m ρ _ => Cert.KernelLastIdeal.Gen.frame m ρ

theorem frameReferenceLast : Cert.quiescent_ReferenceLastIdeal := fun m ρ _ =>
  (θ_run _ _ _).mono (fun r h => ⟨fun c => (h c).2, Idealize.ShloMosaic.sem_eq_zero_of_no_sems (by decide) r.2⟩)
    (Cert.ReferenceLastIdeal.Value.run m ρ)

/-- The frames of the `Proj` programs. -/
theorem frameProj : Cert.quiescent_KernelProj := fun m ρ _ => Cert.KernelProj.Gen.frame m ρ

theorem frameProjIdeal : Cert.quiescent_KernelProjIdeal := fun m ρ _ => Cert.KernelProjIdeal.Gen.frame m ρ

theorem frameReferenceProj : Cert.quiescent_ReferenceProjIdeal := fun m ρ _ =>
  (θ_run _ _ _).mono (fun r h => ⟨fun c => (h c).2, Idealize.ShloMosaic.sem_eq_zero_of_no_sems (by decide) r.2⟩)
    (Cert.ReferenceProjIdeal.Value.run m ρ)

/-- The frames of the `Glu` programs. -/
theorem frameGlu : Cert.quiescent_KernelGlu := fun m ρ _ => Cert.KernelGlu.Gen.frame m ρ

theorem frameGluIdeal : Cert.quiescent_KernelGluIdeal := fun m ρ _ => Cert.KernelGluIdeal.Gen.frame m ρ

theorem frameReferenceGlu : Cert.quiescent_ReferenceGluIdeal := fun m ρ _ =>
  (θ_run _ _ _).mono (fun r h => ⟨fun c => (h c).2, Idealize.ShloMosaic.sem_eq_zero_of_no_sems (by decide) r.2⟩)
    (Cert.ReferenceGluIdeal.Value.run m ρ)

/-- The frames of the `Sgu` programs. -/
theorem frameSgu : Cert.quiescent_KernelSgu := fun m ρ _ => Cert.KernelSgu.Gen.frame m ρ

theorem frameSguIdeal : Cert.quiescent_KernelSguIdeal := fun m ρ _ => Cert.KernelSguIdeal.Gen.frame m ρ

theorem frameReferenceSgu : Cert.quiescent_ReferenceSguIdeal := fun m ρ _ =>
  (θ_run _ _ _).mono (fun r h => ⟨fun c => (h c).2, Idealize.ShloMosaic.sem_eq_zero_of_no_sems (by decide) r.2⟩)
    (Cert.ReferenceSguIdeal.Value.run m ρ)

/-- The frames of the `LastSample` programs. -/
theorem frameLastSample : Cert.quiescent_KernelLastSample := fun m ρ _ => Cert.KernelLastSample.Gen.frame m ρ

theorem frameLastSampleIdeal : Cert.quiescent_KernelLastSampleIdeal := fun m ρ _ => Cert.KernelLastSampleIdeal.Gen.frame m ρ

theorem frameReferenceLastSample : Cert.quiescent_ReferenceLastSampleIdeal := fun m ρ _ =>
  (θ_run _ _ _).mono (fun r h => ⟨fun c => (h c).2, Idealize.ShloMosaic.sem_eq_zero_of_no_sems (by decide) r.2⟩)
    (Cert.ReferenceLastSampleIdeal.Value.run m ρ)

/-- The frames of the `SguSample` programs. -/
theorem frameSguSample : Cert.quiescent_KernelSguSample := fun m ρ _ => Cert.KernelSguSample.Gen.frame m ρ

theorem frameSguSampleIdeal : Cert.quiescent_KernelSguSampleIdeal := fun m ρ _ => Cert.KernelSguSampleIdeal.Gen.frame m ρ

theorem frameReferenceSguSample : Cert.quiescent_ReferenceSguSampleIdeal := fun m ρ _ =>
  (θ_run _ _ _).mono (fun r h => ⟨fun c => (h c).2.2, Idealize.ShloMosaic.sem_eq_zero_of_no_sems (by decide) r.2⟩)
    (Cert.ReferenceSguSampleIdeal.Value.run m ρ)

/-- The frames of the `Qkv` programs. -/
theorem frameQkv : Cert.quiescent_KernelQkv := fun m ρ _ => Cert.KernelQkv.Gen.frame m ρ

theorem frameQkvIdeal : Cert.quiescent_KernelQkvIdeal := fun m ρ _ => Cert.KernelQkvIdeal.Gen.frame m ρ

theorem frameReferenceQkv : Cert.quiescent_ReferenceQkvIdeal := fun m ρ _ =>
  (θ_run _ _ _).mono (fun r h => ⟨fun c => (h c).2.2.2.2.2, Idealize.ShloMosaic.sem_eq_zero_of_no_sems (by decide) r.2⟩)
    (Cert.ReferenceQkvIdeal.Value.run m ρ)

/-- The frames of the `QkvSample` programs. -/
theorem frameQkvSample : Cert.quiescent_KernelQkvSample := fun m ρ _ => Cert.KernelQkvSample.Gen.frame m ρ

theorem frameQkvSampleIdeal : Cert.quiescent_KernelQkvSampleIdeal := fun m ρ _ => Cert.KernelQkvSampleIdeal.Gen.frame m ρ

theorem frameReferenceQkvSample : Cert.quiescent_ReferenceQkvSampleIdeal := fun m ρ _ =>
  (θ_run _ _ _).mono (fun r h => ⟨fun c => (h c).2.2.2.2.2, Idealize.ShloMosaic.sem_eq_zero_of_no_sems (by decide) r.2⟩)
    (Cert.ReferenceQkvSampleIdeal.Value.run m ρ)

/-- The frames of the `Mla` programs. -/
theorem frameMla : Cert.quiescent_KernelMla := fun m ρ _ => Cert.KernelMla.Gen.frame m ρ

theorem frameMlaIdeal : Cert.quiescent_KernelMlaIdeal := fun m ρ _ => Cert.KernelMlaIdeal.Gen.frame m ρ

theorem frameReferenceMla : Cert.quiescent_ReferenceMlaIdeal := fun m ρ _ =>
  (θ_run _ _ _).mono (fun r h => ⟨fun c => (h c).2, Idealize.ShloMosaic.sem_eq_zero_of_no_sems (by decide) r.2⟩)
    (Cert.ReferenceMlaIdeal.Value.run m ρ)

/-- The frames of the `MlaSample` programs. -/
theorem frameMlaSample : Cert.quiescent_KernelMlaSample := fun m ρ _ => Cert.KernelMlaSample.Gen.frame m ρ

theorem frameMlaSampleIdeal : Cert.quiescent_KernelMlaSampleIdeal := fun m ρ _ => Cert.KernelMlaSampleIdeal.Gen.frame m ρ

theorem frameReferenceMlaSample : Cert.quiescent_ReferenceMlaSampleIdeal := fun m ρ _ =>
  (θ_run _ _ _).mono (fun r h => ⟨fun c => (h c).2, Idealize.ShloMosaic.sem_eq_zero_of_no_sems (by decide) r.2⟩)
    (Cert.ReferenceMlaSampleIdeal.Value.run m ρ)

theorem claim : Cert.Claim :=
  ⟨Cert.KernelLast.Gen.facts, Cert.KernelLastIdeal.Gen.facts, Cert.ReferenceLastIdeal.Gen.facts,
    Cert.KernelProj.Gen.facts, Cert.KernelProjIdeal.Gen.facts, Cert.ReferenceProjIdeal.Gen.facts,
    Cert.KernelGlu.Gen.facts, Cert.KernelGluIdeal.Gen.facts, Cert.ReferenceGluIdeal.Gen.facts,
    Cert.KernelSgu.Gen.facts, Cert.KernelSguIdeal.Gen.facts, Cert.ReferenceSguIdeal.Gen.facts,
    Cert.KernelQkv.Gen.facts, Cert.KernelQkvIdeal.Gen.facts, Cert.ReferenceQkvIdeal.Gen.facts,
    Cert.KernelLastSample.Gen.facts, Cert.KernelLastSampleIdeal.Gen.facts, Cert.ReferenceLastSampleIdeal.Gen.facts,
    Cert.KernelSguSample.Gen.facts, Cert.KernelSguSampleIdeal.Gen.facts, Cert.ReferenceSguSampleIdeal.Gen.facts,
    Cert.KernelQkvSample.Gen.facts, Cert.KernelQkvSampleIdeal.Gen.facts, Cert.ReferenceQkvSampleIdeal.Gen.facts,
    Cert.KernelMla.Gen.facts, Cert.KernelMlaIdeal.Gen.facts, Cert.ReferenceMlaIdeal.Gen.facts,
    Cert.KernelMlaSample.Gen.facts, Cert.KernelMlaSampleIdeal.Gen.facts, Cert.ReferenceMlaSampleIdeal.Gen.facts,
    frameLast, frameLastIdeal, frameReferenceLast,
    frameProj, frameProjIdeal, frameReferenceProj,
    frameGlu, frameGluIdeal, frameReferenceGlu,
    frameSgu, frameSguIdeal, frameReferenceSgu,
    frameQkv, frameQkvIdeal, frameReferenceQkv,
    frameLastSample, frameLastSampleIdeal, frameReferenceLastSample,
    frameSguSample, frameSguSampleIdeal, frameReferenceSguSample,
    frameQkvSample, frameQkvSampleIdeal, frameReferenceQkvSample,
    frameMla, frameMlaIdeal, frameReferenceMla,
    frameMlaSample, frameMlaSampleIdeal, frameReferenceMlaSample,
    trivial, Last.algebraic,
    trivial, Proj.algebraic,
    trivial, Glu.algebraic,
    trivial, Sgu.algebraic,
    trivial, Qkv.algebraic,
    trivial, LastSample.algebraic,
    trivial, SguSample.algebraic,
    trivial, QkvSample.algebraic,
    trivial, Mla.algebraic,
    trivial, MlaSample.algebraic⟩

end Cert.Proof

end
